-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InMain (m : (ℓ : Loc Cert.InMain.nD Cert.InMain.τ Cert.InMain.sig) → Buf (Elt Bits) ℓ) : Prop :=
  True

def Pre_InMainIdeal (m : (ℓ : Loc Cert.InMainIdeal.nD Cert.InMainIdeal.τ Cert.InMainIdeal.sig) → Buf (Elt Ideal) ℓ) : Prop :=
  True

def Pre_InMainRefIdeal (m : (ℓ : Loc Cert.InMainRefIdeal.nD Cert.InMainRefIdeal.τ Cert.InMainRefIdeal.sig) → Buf (Elt Ideal) ℓ) : Prop :=
  True

def Pre_InIdx (m : (ℓ : Loc Cert.InIdx.nD Cert.InIdx.τ Cert.InIdx.sig) → Buf (Elt Bits) ℓ) : Prop :=
  True

def Pre_InIdxIdeal (m : (ℓ : Loc Cert.InIdxIdeal.nD Cert.InIdxIdeal.τ Cert.InIdxIdeal.sig) → Buf (Elt Ideal) ℓ) : Prop :=
  True

def Pre_InIdxRefIdeal (m : (ℓ : Loc Cert.InIdxRefIdeal.nD Cert.InIdxRefIdeal.τ Cert.InIdxRefIdeal.sig) → Buf (Elt Ideal) ℓ) : Prop :=
  True

def Pre_InMla (m : (ℓ : Loc Cert.InMla.nD Cert.InMla.τ Cert.InMla.sig) → Buf (Elt Bits) ℓ) : Prop :=
  True

def Pre_InMlaIdeal (m : (ℓ : Loc Cert.InMlaIdeal.nD Cert.InMlaIdeal.τ Cert.InMlaIdeal.sig) → Buf (Elt Ideal) ℓ) : Prop :=
  True

def Pre_InMlaRefIdeal (m : (ℓ : Loc Cert.InMlaRefIdeal.nD Cert.InMlaRefIdeal.τ Cert.InMlaRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Moe [hPre_experts_exist : Cert.Pre_experts_exist.Facts] (m : (ℓ : Loc Cert.Moe.nD Cert.Moe.τ Cert.Moe.sig) → Buf (Elt Bits) ℓ) : Prop :=
  ∀ c : Dev Cert.Moe.nD,
    (Cert.Pre_experts_exist.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_experts_exist : Cert.Pre_experts_exist.Facts] (m : (ℓ : Loc Cert.MoeIdeal.nD Cert.MoeIdeal.τ Cert.MoeIdeal.sig) → Buf (Elt Ideal) ℓ) : Prop :=
  ∀ c : Dev Cert.MoeIdeal.nD,
    (Cert.Pre_experts_exist.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_experts_exist [hPre_experts_exist : Cert.Pre_experts_exist.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_exist.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesRefIdeal (m : (ℓ : Loc Cert.ValuesRefIdeal.nD Cert.ValuesRefIdeal.τ Cert.ValuesRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_InMain [hInMain : Cert.InMain.Facts] : Prop :=
  ∀ (m : (ℓ : Loc Cert.InMain.nD Cert.InMain.τ Cert.InMain.sig) → Buf (Elt Bits) ℓ) (g : Dev Cert.InMain.nD → PrngReg), Pre_InMain m →
    θ_run (Cert.InMain.defs (F := Bits)) (onTc (τ := Cert.InMain.τ) (Cert.InMain.main (F := Bits))) ⟨m, fun _ => 0, g⟩ (fun r => (∀ c : Dev Cert.InMain.nD,
      r.2.mem ((c.tc : Thread Cert.InMain.nD Cert.InMain.τ).loc Cert.InMain.main_arg0) = m ((c.tc : Thread Cert.InMain.nD Cert.InMain.τ).loc Cert.InMain.main_arg0)
      ∧ r.2.mem ((c.tc : Thread Cert.InMain.nD Cert.InMain.τ).loc Cert.InMain.main_arg1) = m ((c.tc : Thread Cert.InMain.nD Cert.InMain.τ).loc Cert.InMain.main_arg1))
      ∧ r.2.sem = fun _ => 0)

def quiescent_InMainIdeal [hInMainIdeal : Cert.InMainIdeal.Facts] : Prop :=
  ∀ (m : (ℓ : Loc Cert.InMainIdeal.nD Cert.InMainIdeal.τ Cert.InMainIdeal.sig) → Buf (Elt Ideal) ℓ) (g : Dev Cert.InMainIdeal.nD → PrngReg), Pre_InMainIdeal m →
    θ_run (Cert.InMainIdeal.defs (F := Ideal)) (onTc (τ := Cert.InMainIdeal.τ) (Cert.InMainIdeal.main (F := Ideal))) ⟨m, fun _ => 0, g⟩ (fun r => (∀ c : Dev Cert.InMainIdeal.nD,
      r.2.mem ((c.tc : Thread Cert.InMainIdeal.nD Cert.InMainIdeal.τ).loc Cert.InMainIdeal.main_arg0) = m ((c.tc : Thread Cert.InMainIdeal.nD Cert.InMainIdeal.τ).loc Cert.InMainIdeal.main_arg0)
      ∧ r.2.mem ((c.tc : Thread Cert.InMainIdeal.nD Cert.InMainIdeal.τ).loc Cert.InMainIdeal.main_arg1) = m ((c.tc : Thread Cert.InMainIdeal.nD Cert.InMainIdeal.τ).loc Cert.InMainIdeal.main_arg1))
      ∧ r.2.sem = fun _ => 0)

def quiescent_InMainRefIdeal [hInMainRefIdeal : Cert.InMainRefIdeal.Facts] : Prop :=
  ∀ (m : (ℓ : Loc Cert.InMainRefIdeal.nD Cert.InMainRefIdeal.τ Cert.InMainRefIdeal.sig) → Buf (Elt Ideal) ℓ) (g : Dev Cert.InMainRefIdeal.nD → PrngReg), Pre_InMainRefIdeal m →
    θ_run (Cert.InMainRefIdeal.defs (F := Ideal)) (onTc (τ := Cert.InMainRefIdeal.τ) (Cert.InMainRefIdeal.main (F := Ideal))) ⟨m, fun _ => 0, g⟩ (fun r => (∀ c : Dev Cert.InMainRefIdeal.nD,
      r.2.mem ((c.tc : Thread Cert.InMainRefIdeal.nD Cert.InMainRefIdeal.τ).loc Cert.InMainRefIdeal.main_arg0) = m ((c.tc : Thread Cert.InMainRefIdeal.nD Cert.InMainRefIdeal.τ).loc Cert.InMainRefIdeal.main_arg0)
      ∧ r.2.mem ((c.tc : Thread Cert.InMainRefIdeal.nD Cert.InMainRefIdeal.τ).loc Cert.InMainRefIdeal.main_arg1) = m ((c.tc : Thread Cert.InMainRefIdeal.nD Cert.InMainRefIdeal.τ).loc Cert.InMainRefIdeal.main_arg1))
      ∧ r.2.sem = fun _ => 0)

def quiescent_InIdx [hInIdx : Cert.InIdx.Facts] : Prop :=
  ∀ (m : (ℓ : Loc Cert.InIdx.nD Cert.InIdx.τ Cert.InIdx.sig) → Buf (Elt Bits) ℓ) (g : Dev Cert.InIdx.nD → PrngReg), Pre_InIdx m →
    θ_run (Cert.InIdx.defs (F := Bits)) (onTc (τ := Cert.InIdx.τ) (Cert.InIdx.main (F := Bits))) ⟨m, fun _ => 0, g⟩ (fun r => (∀ c : Dev Cert.InIdx.nD,
      r.2.mem ((c.tc : Thread Cert.InIdx.nD Cert.InIdx.τ).loc Cert.InIdx.main_arg0) = m ((c.tc : Thread Cert.InIdx.nD Cert.InIdx.τ).loc Cert.InIdx.main_arg0)
      ∧ r.2.mem ((c.tc : Thread Cert.InIdx.nD Cert.InIdx.τ).loc Cert.InIdx.main_arg1) = m ((c.tc : Thread Cert.InIdx.nD Cert.InIdx.τ).loc Cert.InIdx.main_arg1))
      ∧ r.2.sem = fun _ => 0)

def quiescent_InIdxIdeal [hInIdxIdeal : Cert.InIdxIdeal.Facts] : Prop :=
  ∀ (m : (ℓ : Loc Cert.InIdxIdeal.nD Cert.InIdxIdeal.τ Cert.InIdxIdeal.sig) → Buf (Elt Ideal) ℓ) (g : Dev Cert.InIdxIdeal.nD → PrngReg), Pre_InIdxIdeal m →
    θ_run (Cert.InIdxIdeal.defs (F := Ideal)) (onTc (τ := Cert.InIdxIdeal.τ) (Cert.InIdxIdeal.main (F := Ideal))) ⟨m, fun _ => 0, g⟩ (fun r => (∀ c : Dev Cert.InIdxIdeal.nD,
      r.2.mem ((c.tc : Thread Cert.InIdxIdeal.nD Cert.InIdxIdeal.τ).loc Cert.InIdxIdeal.main_arg0) = m ((c.tc : Thread Cert.InIdxIdeal.nD Cert.InIdxIdeal.τ).loc Cert.InIdxIdeal.main_arg0)
      ∧ r.2.mem ((c.tc : Thread Cert.InIdxIdeal.nD Cert.InIdxIdeal.τ).loc Cert.InIdxIdeal.main_arg1) = m ((c.tc : Thread Cert.InIdxIdeal.nD Cert.InIdxIdeal.τ).loc Cert.InIdxIdeal.main_arg1))
      ∧ r.2.sem = fun _ => 0)

def quiescent_InIdxRefIdeal [hInIdxRefIdeal : Cert.InIdxRefIdeal.Facts] : Prop :=
  ∀ (m : (ℓ : Loc Cert.InIdxRefIdeal.nD Cert.InIdxRefIdeal.τ Cert.InIdxRefIdeal.sig) → Buf (Elt Ideal) ℓ) (g : Dev Cert.InIdxRefIdeal.nD → PrngReg), Pre_InIdxRefIdeal m →
    θ_run (Cert.InIdxRefIdeal.defs (F := Ideal)) (onTc (τ := Cert.InIdxRefIdeal.τ) (Cert.InIdxRefIdeal.main (F := Ideal))) ⟨m, fun _ => 0, g⟩ (fun r => (∀ c : Dev Cert.InIdxRefIdeal.nD,
      r.2.mem ((c.tc : Thread Cert.InIdxRefIdeal.nD Cert.InIdxRefIdeal.τ).loc Cert.InIdxRefIdeal.main_arg0) = m ((c.tc : Thread Cert.InIdxRefIdeal.nD Cert.InIdxRefIdeal.τ).loc Cert.InIdxRefIdeal.main_arg0)
      ∧ r.2.mem ((c.tc : Thread Cert.InIdxRefIdeal.nD Cert.InIdxRefIdeal.τ).loc Cert.InIdxRefIdeal.main_arg1) = m ((c.tc : Thread Cert.InIdxRefIdeal.nD Cert.InIdxRefIdeal.τ).loc Cert.InIdxRefIdeal.main_arg1))
      ∧ r.2.sem = fun _ => 0)

def quiescent_InMla [hInMla : Cert.InMla.Facts] : Prop :=
  ∀ (m : (ℓ : Loc Cert.InMla.nD Cert.InMla.τ Cert.InMla.sig) → Buf (Elt Bits) ℓ) (g : Dev Cert.InMla.nD → PrngReg), Pre_InMla m →
    θ_run (Cert.InMla.defs (F := Bits)) (onTc (τ := Cert.InMla.τ) (Cert.InMla.main (F := Bits))) ⟨m, fun _ => 0, g⟩ (fun r => (∀ c : Dev Cert.InMla.nD,
      r.2.mem ((c.tc : Thread Cert.InMla.nD Cert.InMla.τ).loc Cert.InMla.main_arg0) = m ((c.tc : Thread Cert.InMla.nD Cert.InMla.τ).loc Cert.InMla.main_arg0)
      ∧ r.2.mem ((c.tc : Thread Cert.InMla.nD Cert.InMla.τ).loc Cert.InMla.main_arg1) = m ((c.tc : Thread Cert.InMla.nD Cert.InMla.τ).loc Cert.InMla.main_arg1))
      ∧ r.2.sem = fun _ => 0)

def quiescent_InMlaIdeal [hInMlaIdeal : Cert.InMlaIdeal.Facts] : Prop :=
  ∀ (m : (ℓ : Loc Cert.InMlaIdeal.nD Cert.InMlaIdeal.τ Cert.InMlaIdeal.sig) → Buf (Elt Ideal) ℓ) (g : Dev Cert.InMlaIdeal.nD → PrngReg), Pre_InMlaIdeal m →
    θ_run (Cert.InMlaIdeal.defs (F := Ideal)) (onTc (τ := Cert.InMlaIdeal.τ) (Cert.InMlaIdeal.main (F := Ideal))) ⟨m, fun _ => 0, g⟩ (fun r => (∀ c : Dev Cert.InMlaIdeal.nD,
      r.2.mem ((c.tc : Thread Cert.InMlaIdeal.nD Cert.InMlaIdeal.τ).loc Cert.InMlaIdeal.main_arg0) = m ((c.tc : Thread Cert.InMlaIdeal.nD Cert.InMlaIdeal.τ).loc Cert.InMlaIdeal.main_arg0)
      ∧ r.2.mem ((c.tc : Thread Cert.InMlaIdeal.nD Cert.InMlaIdeal.τ).loc Cert.InMlaIdeal.main_arg1) = m ((c.tc : Thread Cert.InMlaIdeal.nD Cert.InMlaIdeal.τ).loc Cert.InMlaIdeal.main_arg1))
      ∧ r.2.sem = fun _ => 0)

def quiescent_InMlaRefIdeal [hInMlaRefIdeal : Cert.InMlaRefIdeal.Facts] : Prop :=
  ∀ (m : (ℓ : Loc Cert.InMlaRefIdeal.nD Cert.InMlaRefIdeal.τ Cert.InMlaRefIdeal.sig) → Buf (Elt Ideal) ℓ) (g : Dev Cert.InMlaRefIdeal.nD → PrngReg), Pre_InMlaRefIdeal m →
    θ_run (Cert.InMlaRefIdeal.defs (F := Ideal)) (onTc (τ := Cert.InMlaRefIdeal.τ) (Cert.InMlaRefIdeal.main (F := Ideal))) ⟨m, fun _ => 0, g⟩ (fun r => (∀ c : Dev Cert.InMlaRefIdeal.nD,
      r.2.mem ((c.tc : Thread Cert.InMlaRefIdeal.nD Cert.InMlaRefIdeal.τ).loc Cert.InMlaRefIdeal.main_arg0) = m ((c.tc : Thread Cert.InMlaRefIdeal.nD Cert.InMlaRefIdeal.τ).loc Cert.InMlaRefIdeal.main_arg0)
      ∧ r.2.mem ((c.tc : Thread Cert.InMlaRefIdeal.nD Cert.InMlaRefIdeal.τ).loc Cert.InMlaRefIdeal.main_arg1) = m ((c.tc : Thread Cert.InMlaRefIdeal.nD Cert.InMlaRefIdeal.τ).loc Cert.InMlaRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Moe [hMoe : Cert.Moe.Facts] [hPre_experts_exist : Cert.Pre_experts_exist.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_experts_exist : Cert.Pre_experts_exist.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_experts_exist [hMoeRefIdeal : Cert.MoeRefIdeal.Facts] [hPre_experts_exist : Cert.Pre_experts_exist.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_experts_exist m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesRefIdeal [hValuesRefIdeal : Cert.ValuesRefIdeal.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def preserves_Attn_AttnIdeal : Prop :=
  IdealRules.named_const.Statement Cert.AttnIdeal.κ "scale_log2e" .f32 0x3DD53B95#32 (((Real.sqrt 192)⁻¹ * (Real.log 2)⁻¹ : ℝ) : EReal)

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v30) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v19) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_InMain_InMainIdeal : Prop :=
  True

def algebraic_InMainIdeal_InMainRefIdeal [hInMainIdeal : Cert.InMainIdeal.Facts] [hInMainRefIdeal : Cert.InMainRefIdeal.Facts] : Prop :=
  ∀ (m : (ℓ : Loc Cert.InMainIdeal.nD Cert.InMainIdeal.τ Cert.InMainIdeal.sig) → Buf (Elt Ideal) ℓ) (g : Dev Cert.InMainIdeal.nD → PrngReg)
    (m' : (ℓ : Loc Cert.InMainRefIdeal.nD Cert.InMainRefIdeal.τ Cert.InMainRefIdeal.sig) → Buf (Elt Ideal) ℓ) (g' : Dev Cert.InMainRefIdeal.nD → PrngReg), Pre_InMainIdeal m →
    (∀ c : Dev Cert.InMainIdeal.nD,
      m' ((c.tc : Thread Cert.InMainRefIdeal.nD Cert.InMainRefIdeal.τ).loc Cert.InMainRefIdeal.main_arg0) = m ((c.tc : Thread Cert.InMainIdeal.nD Cert.InMainIdeal.τ).loc Cert.InMainIdeal.main_arg0)
      ∧ m' ((c.tc : Thread Cert.InMainRefIdeal.nD Cert.InMainRefIdeal.τ).loc Cert.InMainRefIdeal.main_arg1) = m ((c.tc : Thread Cert.InMainIdeal.nD Cert.InMainIdeal.τ).loc Cert.InMainIdeal.main_arg1)) →
    ∃ (v0 : (c : Dev Cert.InMainIdeal.nD) → Buf (Elt Ideal) ((c.tc : Thread Cert.InMainIdeal.nD Cert.InMainIdeal.τ).loc Cert.InMainIdeal.main_v0)),
      θ_run (Cert.InMainIdeal.defs (F := Ideal)) (onTc (τ := Cert.InMainIdeal.τ) (Cert.InMainIdeal.main (F := Ideal))) ⟨m, fun _ => 0, g⟩ (fun r => ∀ c : Dev Cert.InMainIdeal.nD,
          r.2.mem ((c.tc : Thread Cert.InMainIdeal.nD Cert.InMainIdeal.τ).loc Cert.InMainIdeal.main_v0) = v0 c
          ∧ r.2.mem ((c.tc : Thread Cert.InMainIdeal.nD Cert.InMainIdeal.τ).loc Cert.InMainIdeal.main_arg0) = m ((c.tc : Thread Cert.InMainIdeal.nD Cert.InMainIdeal.τ).loc Cert.InMainIdeal.main_arg0)
          ∧ r.2.mem ((c.tc : Thread Cert.InMainIdeal.nD Cert.InMainIdeal.τ).loc Cert.InMainIdeal.main_arg1) = m ((c.tc : Thread Cert.InMainIdeal.nD Cert.InMainIdeal.τ).loc Cert.InMainIdeal.main_arg1))
      ∧ θ_run (Cert.InMainRefIdeal.defs (F := Ideal)) (onTc (τ := Cert.InMainRefIdeal.τ) (Cert.InMainRefIdeal.main (F := Ideal))) ⟨m', fun _ => 0, g'⟩ (fun r => ∀ c : Dev Cert.InMainRefIdeal.nD,
          r.2.mem ((c.tc : Thread Cert.InMainRefIdeal.nD Cert.InMainRefIdeal.τ).loc Cert.InMainRefIdeal.main_v3) = v0 c
          ∧ r.2.mem ((c.tc : Thread Cert.InMainRefIdeal.nD Cert.InMainRefIdeal.τ).loc Cert.InMainRefIdeal.main_arg0) = m' ((c.tc : Thread Cert.InMainRefIdeal.nD Cert.InMainRefIdeal.τ).loc Cert.InMainRefIdeal.main_arg0)
          ∧ r.2.mem ((c.tc : Thread Cert.InMainRefIdeal.nD Cert.InMainRefIdeal.τ).loc Cert.InMainRefIdeal.main_arg1) = m' ((c.tc : Thread Cert.InMainRefIdeal.nD Cert.InMainRefIdeal.τ).loc Cert.InMainRefIdeal.main_arg1))

def preserves_InIdx_InIdxIdeal : Prop :=
  True

def algebraic_InIdxIdeal_InIdxRefIdeal [hInIdxIdeal : Cert.InIdxIdeal.Facts] [hInIdxRefIdeal : Cert.InIdxRefIdeal.Facts] : Prop :=
  ∀ (m : (ℓ : Loc Cert.InIdxIdeal.nD Cert.InIdxIdeal.τ Cert.InIdxIdeal.sig) → Buf (Elt Ideal) ℓ) (g : Dev Cert.InIdxIdeal.nD → PrngReg)
    (m' : (ℓ : Loc Cert.InIdxRefIdeal.nD Cert.InIdxRefIdeal.τ Cert.InIdxRefIdeal.sig) → Buf (Elt Ideal) ℓ) (g' : Dev Cert.InIdxRefIdeal.nD → PrngReg), Pre_InIdxIdeal m →
    (∀ c : Dev Cert.InIdxIdeal.nD,
      m' ((c.tc : Thread Cert.InIdxRefIdeal.nD Cert.InIdxRefIdeal.τ).loc Cert.InIdxRefIdeal.main_arg0) = m ((c.tc : Thread Cert.InIdxIdeal.nD Cert.InIdxIdeal.τ).loc Cert.InIdxIdeal.main_arg0)
      ∧ m' ((c.tc : Thread Cert.InIdxRefIdeal.nD Cert.InIdxRefIdeal.τ).loc Cert.InIdxRefIdeal.main_arg1) = m ((c.tc : Thread Cert.InIdxIdeal.nD Cert.InIdxIdeal.τ).loc Cert.InIdxIdeal.main_arg1)) →
    ∃ (v0 : (c : Dev Cert.InIdxIdeal.nD) → Buf (Elt Ideal) ((c.tc : Thread Cert.InIdxIdeal.nD Cert.InIdxIdeal.τ).loc Cert.InIdxIdeal.main_v0)),
      θ_run (Cert.InIdxIdeal.defs (F := Ideal)) (onTc (τ := Cert.InIdxIdeal.τ) (Cert.InIdxIdeal.main (F := Ideal))) ⟨m, fun _ => 0, g⟩ (fun r => ∀ c : Dev Cert.InIdxIdeal.nD,
          r.2.mem ((c.tc : Thread Cert.InIdxIdeal.nD Cert.InIdxIdeal.τ).loc Cert.InIdxIdeal.main_v0) = v0 c
          ∧ r.2.mem ((c.tc : Thread Cert.InIdxIdeal.nD Cert.InIdxIdeal.τ).loc Cert.InIdxIdeal.main_arg0) = m ((c.tc : Thread Cert.InIdxIdeal.nD Cert.InIdxIdeal.τ).loc Cert.InIdxIdeal.main_arg0)
          ∧ r.2.mem ((c.tc : Thread Cert.InIdxIdeal.nD Cert.InIdxIdeal.τ).loc Cert.InIdxIdeal.main_arg1) = m ((c.tc : Thread Cert.InIdxIdeal.nD Cert.InIdxIdeal.τ).loc Cert.InIdxIdeal.main_arg1))
      ∧ θ_run (Cert.InIdxRefIdeal.defs (F := Ideal)) (onTc (τ := Cert.InIdxRefIdeal.τ) (Cert.InIdxRefIdeal.main (F := Ideal))) ⟨m', fun _ => 0, g'⟩ (fun r => ∀ c : Dev Cert.InIdxRefIdeal.nD,
          r.2.mem ((c.tc : Thread Cert.InIdxRefIdeal.nD Cert.InIdxRefIdeal.τ).loc Cert.InIdxRefIdeal.main_v3) = v0 c
          ∧ r.2.mem ((c.tc : Thread Cert.InIdxRefIdeal.nD Cert.InIdxRefIdeal.τ).loc Cert.InIdxRefIdeal.main_arg0) = m' ((c.tc : Thread Cert.InIdxRefIdeal.nD Cert.InIdxRefIdeal.τ).loc Cert.InIdxRefIdeal.main_arg0)
          ∧ r.2.mem ((c.tc : Thread Cert.InIdxRefIdeal.nD Cert.InIdxRefIdeal.τ).loc Cert.InIdxRefIdeal.main_arg1) = m' ((c.tc : Thread Cert.InIdxRefIdeal.nD Cert.InIdxRefIdeal.τ).loc Cert.InIdxRefIdeal.main_arg1))

def preserves_InMla_InMlaIdeal : Prop :=
  True

def algebraic_InMlaIdeal_InMlaRefIdeal [hInMlaIdeal : Cert.InMlaIdeal.Facts] [hInMlaRefIdeal : Cert.InMlaRefIdeal.Facts] : Prop :=
  ∀ (m : (ℓ : Loc Cert.InMlaIdeal.nD Cert.InMlaIdeal.τ Cert.InMlaIdeal.sig) → Buf (Elt Ideal) ℓ) (g : Dev Cert.InMlaIdeal.nD → PrngReg)
    (m' : (ℓ : Loc Cert.InMlaRefIdeal.nD Cert.InMlaRefIdeal.τ Cert.InMlaRefIdeal.sig) → Buf (Elt Ideal) ℓ) (g' : Dev Cert.InMlaRefIdeal.nD → PrngReg), Pre_InMlaIdeal m →
    (∀ c : Dev Cert.InMlaIdeal.nD,
      m' ((c.tc : Thread Cert.InMlaRefIdeal.nD Cert.InMlaRefIdeal.τ).loc Cert.InMlaRefIdeal.main_arg0) = m ((c.tc : Thread Cert.InMlaIdeal.nD Cert.InMlaIdeal.τ).loc Cert.InMlaIdeal.main_arg0)
      ∧ m' ((c.tc : Thread Cert.InMlaRefIdeal.nD Cert.InMlaRefIdeal.τ).loc Cert.InMlaRefIdeal.main_arg1) = m ((c.tc : Thread Cert.InMlaIdeal.nD Cert.InMlaIdeal.τ).loc Cert.InMlaIdeal.main_arg1)) →
    ∃ (v0 : (c : Dev Cert.InMlaIdeal.nD) → Buf (Elt Ideal) ((c.tc : Thread Cert.InMlaIdeal.nD Cert.InMlaIdeal.τ).loc Cert.InMlaIdeal.main_v0)),
      θ_run (Cert.InMlaIdeal.defs (F := Ideal)) (onTc (τ := Cert.InMlaIdeal.τ) (Cert.InMlaIdeal.main (F := Ideal))) ⟨m, fun _ => 0, g⟩ (fun r => ∀ c : Dev Cert.InMlaIdeal.nD,
          r.2.mem ((c.tc : Thread Cert.InMlaIdeal.nD Cert.InMlaIdeal.τ).loc Cert.InMlaIdeal.main_v0) = v0 c
          ∧ r.2.mem ((c.tc : Thread Cert.InMlaIdeal.nD Cert.InMlaIdeal.τ).loc Cert.InMlaIdeal.main_arg0) = m ((c.tc : Thread Cert.InMlaIdeal.nD Cert.InMlaIdeal.τ).loc Cert.InMlaIdeal.main_arg0)
          ∧ r.2.mem ((c.tc : Thread Cert.InMlaIdeal.nD Cert.InMlaIdeal.τ).loc Cert.InMlaIdeal.main_arg1) = m ((c.tc : Thread Cert.InMlaIdeal.nD Cert.InMlaIdeal.τ).loc Cert.InMlaIdeal.main_arg1))
      ∧ θ_run (Cert.InMlaRefIdeal.defs (F := Ideal)) (onTc (τ := Cert.InMlaRefIdeal.τ) (Cert.InMlaRefIdeal.main (F := Ideal))) ⟨m', fun _ => 0, g'⟩ (fun r => ∀ c : Dev Cert.InMlaRefIdeal.nD,
          r.2.mem ((c.tc : Thread Cert.InMlaRefIdeal.nD Cert.InMlaRefIdeal.τ).loc Cert.InMlaRefIdeal.main_v3) = v0 c
          ∧ r.2.mem ((c.tc : Thread Cert.InMlaRefIdeal.nD Cert.InMlaRefIdeal.τ).loc Cert.InMlaRefIdeal.main_arg0) = m' ((c.tc : Thread Cert.InMlaRefIdeal.nD Cert.InMlaRefIdeal.τ).loc Cert.InMlaRefIdeal.main_arg0)
          ∧ r.2.mem ((c.tc : Thread Cert.InMlaRefIdeal.nD Cert.InMlaRefIdeal.τ).loc Cert.InMlaRefIdeal.main_arg1) = m' ((c.tc : Thread Cert.InMlaRefIdeal.nD Cert.InMlaRefIdeal.τ).loc Cert.InMlaRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v12) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Moe_MoeIdeal : Prop :=
  True

def algebraic_MoeIdeal_MoeRefIdeal [hMoeIdeal : Cert.MoeIdeal.Facts] [hMoeRefIdeal : Cert.MoeRefIdeal.Facts] [hPre_experts_exist : Cert.Pre_experts_exist.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v33) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v2)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v2) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v12) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4))

def preserves_Values_ValuesIdeal : Prop :=
  True

def algebraic_ValuesIdeal_ValuesRefIdeal [hValuesIdeal : Cert.ValuesIdeal.Facts] [hValuesRefIdeal : Cert.ValuesRefIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesRefIdeal.nD Cert.ValuesRefIdeal.τ Cert.ValuesRefIdeal.sig) → Buf (Elt Ideal) ℓ) (g' : Dev Cert.ValuesRefIdeal.nD → PrngReg), Pre_ValuesIdeal m →
    (∀ c : Dev Cert.ValuesIdeal.nD,
      m' ((c.tc : Thread Cert.ValuesRefIdeal.nD Cert.ValuesRefIdeal.τ).loc Cert.ValuesRefIdeal.main_arg0) = m ((c.tc : Thread Cert.ValuesIdeal.nD Cert.ValuesIdeal.τ).loc Cert.ValuesIdeal.main_arg0)
      ∧ m' ((c.tc : Thread Cert.ValuesRefIdeal.nD Cert.ValuesRefIdeal.τ).loc Cert.ValuesRefIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v0)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v0) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesRefIdeal.defs (F := Ideal)) (onTc (τ := Cert.ValuesRefIdeal.τ) (Cert.ValuesRefIdeal.main (F := Ideal))) ⟨m', fun _ => 0, g'⟩ (fun r => ∀ c : Dev Cert.ValuesRefIdeal.nD,
          r.2.mem ((c.tc : Thread Cert.ValuesRefIdeal.nD Cert.ValuesRefIdeal.τ).loc Cert.ValuesRefIdeal.main_v6) = v0 c
          ∧ r.2.mem ((c.tc : Thread Cert.ValuesRefIdeal.nD Cert.ValuesRefIdeal.τ).loc Cert.ValuesRefIdeal.main_arg0) = m' ((c.tc : Thread Cert.ValuesRefIdeal.nD Cert.ValuesRefIdeal.τ).loc Cert.ValuesRefIdeal.main_arg0)
          ∧ r.2.mem ((c.tc : Thread Cert.ValuesRefIdeal.nD Cert.ValuesRefIdeal.τ).loc Cert.ValuesRefIdeal.main_arg1) = m' ((c.tc : Thread Cert.ValuesRefIdeal.nD Cert.ValuesRefIdeal.τ).loc Cert.ValuesRefIdeal.main_arg1))

def preserves_Prep_PrepIdeal : Prop :=
  IdealRules.named_const.Statement Cert.PrepIdeal.κ "inv_mla_qk" .f32 0x3BAAAAAB#32 ((192⁻¹ : ℝ) : EReal)

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)) →
    ∃ (v0 : (c : Dev Cert.PrepIdeal.nD) → Buf (Elt Ideal) ((c.tc : Thread Cert.PrepIdeal.nD Cert.PrepIdeal.τ).loc Cert.PrepIdeal.main_v46_0)) (v1 : (c : Dev Cert.PrepIdeal.nD) → Buf (Elt Ideal) ((c.tc : Thread Cert.PrepIdeal.nD Cert.PrepIdeal.τ).loc Cert.PrepIdeal.main_v46_1)) (v2 : (c : Dev Cert.PrepIdeal.nD) → Buf (Elt Ideal) ((c.tc : Thread Cert.PrepIdeal.nD Cert.PrepIdeal.τ).loc Cert.PrepIdeal.main_v46_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v46_0) = v0 c
          ∧ r.2.mem ((c.tc : Thread Cert.PrepIdeal.nD Cert.PrepIdeal.τ).loc Cert.PrepIdeal.main_v46_1) = v1 c
          ∧ r.2.mem ((c.tc : Thread Cert.PrepIdeal.nD Cert.PrepIdeal.τ).loc Cert.PrepIdeal.main_v46_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v135) = v0 c
          ∧ r.2.mem ((c.tc : Thread Cert.PrepRefIdeal.nD Cert.PrepRefIdeal.τ).loc Cert.PrepRefIdeal.main_v138) = v1 c
          ∧ r.2.mem ((c.tc : Thread Cert.PrepRefIdeal.nD Cert.PrepRefIdeal.τ).loc Cert.PrepRefIdeal.main_v141) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7))

def Claim : Prop :=
  ∃ (hAttn : Cert.Attn.Facts) (hAttnIdeal : Cert.AttnIdeal.Facts) (hAttnRefIdeal : Cert.AttnRefIdeal.Facts) (hMerge : Cert.Merge.Facts) (hMergeIdeal : Cert.MergeIdeal.Facts) (hMergeRefIdeal : Cert.MergeRefIdeal.Facts) (hInMain : Cert.InMain.Facts) (hInMainIdeal : Cert.InMainIdeal.Facts) (hInMainRefIdeal : Cert.InMainRefIdeal.Facts) (hInIdx : Cert.InIdx.Facts) (hInIdxIdeal : Cert.InIdxIdeal.Facts) (hInIdxRefIdeal : Cert.InIdxRefIdeal.Facts) (hInMla : Cert.InMla.Facts) (hInMlaIdeal : Cert.InMlaIdeal.Facts) (hInMlaRefIdeal : Cert.InMlaRefIdeal.Facts) (hOut : Cert.Out.Facts) (hOutIdeal : Cert.OutIdeal.Facts) (hOutRefIdeal : Cert.OutRefIdeal.Facts) (hPle : Cert.Ple.Facts) (hPleIdeal : Cert.PleIdeal.Facts) (hPleRefIdeal : Cert.PleRefIdeal.Facts) (hMoe : Cert.Moe.Facts) (hMoeIdeal : Cert.MoeIdeal.Facts) (hMoeRefIdeal : Cert.MoeRefIdeal.Facts) (hDense : Cert.Dense.Facts) (hDenseIdeal : Cert.DenseIdeal.Facts) (hDenseRefIdeal : Cert.DenseRefIdeal.Facts) (hValues : Cert.Values.Facts) (hValuesIdeal : Cert.ValuesIdeal.Facts) (hValuesRefIdeal : Cert.ValuesRefIdeal.Facts) (hPrep : Cert.Prep.Facts) (hPrepIdeal : Cert.PrepIdeal.Facts) (hPrepRefIdeal : Cert.PrepRefIdeal.Facts) (hPre_finite_qk : Cert.Pre_finite_qk.Facts) (hPre_experts_exist : Cert.Pre_experts_exist.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Merge (hMerge := hMerge)
    ∧ quiescent_MergeIdeal (hMergeIdeal := hMergeIdeal)
    ∧ quiescent_MergeRefIdeal (hMergeRefIdeal := hMergeRefIdeal)
    ∧ quiescent_InMain (hInMain := hInMain)
    ∧ quiescent_InMainIdeal (hInMainIdeal := hInMainIdeal)
    ∧ quiescent_InMainRefIdeal (hInMainRefIdeal := hInMainRefIdeal)
    ∧ quiescent_InIdx (hInIdx := hInIdx)
    ∧ quiescent_InIdxIdeal (hInIdxIdeal := hInIdxIdeal)
    ∧ quiescent_InIdxRefIdeal (hInIdxRefIdeal := hInIdxRefIdeal)
    ∧ quiescent_InMla (hInMla := hInMla)
    ∧ quiescent_InMlaIdeal (hInMlaIdeal := hInMlaIdeal)
    ∧ quiescent_InMlaRefIdeal (hInMlaRefIdeal := hInMlaRefIdeal)
    ∧ quiescent_Out (hOut := hOut)
    ∧ quiescent_OutIdeal (hOutIdeal := hOutIdeal)
    ∧ quiescent_OutRefIdeal (hOutRefIdeal := hOutRefIdeal)
    ∧ quiescent_Ple (hPle := hPle)
    ∧ quiescent_PleIdeal (hPleIdeal := hPleIdeal)
    ∧ quiescent_PleRefIdeal (hPleRefIdeal := hPleRefIdeal)
    ∧ quiescent_Moe (hMoe := hMoe) (hPre_experts_exist := hPre_experts_exist)
    ∧ quiescent_MoeIdeal (hMoeIdeal := hMoeIdeal) (hPre_experts_exist := hPre_experts_exist)
    ∧ quiescent_MoeRefIdeal (hMoeRefIdeal := hMoeRefIdeal)
    ∧ quiescent_MoeRefIdeal_pre_experts_exist (hMoeRefIdeal := hMoeRefIdeal) (hPre_experts_exist := hPre_experts_exist)
    ∧ quiescent_Dense (hDense := hDense)
    ∧ quiescent_DenseIdeal (hDenseIdeal := hDenseIdeal)
    ∧ quiescent_DenseRefIdeal (hDenseRefIdeal := hDenseRefIdeal)
    ∧ quiescent_Values (hValues := hValues)
    ∧ quiescent_ValuesIdeal (hValuesIdeal := hValuesIdeal)
    ∧ quiescent_ValuesRefIdeal (hValuesRefIdeal := hValuesRefIdeal)
    ∧ quiescent_Prep (hPrep := hPrep)
    ∧ quiescent_PrepIdeal (hPrepIdeal := hPrepIdeal)
    ∧ quiescent_PrepRefIdeal (hPrepRefIdeal := hPrepRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Merge_MergeIdeal
    ∧ algebraic_MergeIdeal_MergeRefIdeal (hMergeIdeal := hMergeIdeal) (hMergeRefIdeal := hMergeRefIdeal)
    ∧ preserves_InMain_InMainIdeal
    ∧ algebraic_InMainIdeal_InMainRefIdeal (hInMainIdeal := hInMainIdeal) (hInMainRefIdeal := hInMainRefIdeal)
    ∧ preserves_InIdx_InIdxIdeal
    ∧ algebraic_InIdxIdeal_InIdxRefIdeal (hInIdxIdeal := hInIdxIdeal) (hInIdxRefIdeal := hInIdxRefIdeal)
    ∧ preserves_InMla_InMlaIdeal
    ∧ algebraic_InMlaIdeal_InMlaRefIdeal (hInMlaIdeal := hInMlaIdeal) (hInMlaRefIdeal := hInMlaRefIdeal)
    ∧ preserves_Out_OutIdeal
    ∧ algebraic_OutIdeal_OutRefIdeal (hOutIdeal := hOutIdeal) (hOutRefIdeal := hOutRefIdeal)
    ∧ preserves_Ple_PleIdeal
    ∧ algebraic_PleIdeal_PleRefIdeal (hPleIdeal := hPleIdeal) (hPleRefIdeal := hPleRefIdeal)
    ∧ preserves_Moe_MoeIdeal
    ∧ algebraic_MoeIdeal_MoeRefIdeal (hMoeIdeal := hMoeIdeal) (hMoeRefIdeal := hMoeRefIdeal) (hPre_experts_exist := hPre_experts_exist)
    ∧ preserves_Dense_DenseIdeal
    ∧ algebraic_DenseIdeal_DenseRefIdeal (hDenseIdeal := hDenseIdeal) (hDenseRefIdeal := hDenseRefIdeal)
    ∧ preserves_Values_ValuesIdeal
    ∧ algebraic_ValuesIdeal_ValuesRefIdeal (hValuesIdeal := hValuesIdeal) (hValuesRefIdeal := hValuesRefIdeal)
    ∧ preserves_Prep_PrepIdeal
    ∧ algebraic_PrepIdeal_PrepRefIdeal (hPrepIdeal := hPrepIdeal) (hPrepRefIdeal := hPrepRefIdeal)
-- ==== Pre_experts_exist.lean ====
abbrev S23040x2048 : Shape := ⟨2, ![23040, 2048]⟩
abbrev S8x2048x7168 : Shape := ⟨3, ![8, 2048, 7168]⟩
abbrev S8x7168x2048 : Shape := ⟨3, ![8, 7168, 2048]⟩
abbrev S30 : Shape := ⟨1, ![30]⟩
abbrev S1 : Shape := ⟨1, ![1]⟩
abbrev S_ : Shape := ⟨0, ![]⟩

class Facts : Prop where
  bcast_S_S30 : S_.BroadcastsInDim S30 (![] : Fin 0 → Fin S30.rank)
  reducesTo_S30_S_d0 : S30.ReducesTo [0] S_
  h_S_ : 0 < S_.numel

variable [Facts]

def fn {F : FTy → Type} [FloatOps F] (main_arg0 : FVec F S23040x2048 .f32) (main_arg1 : FVec F S8x2048x7168 .f32) (main_arg2 : FVec F S8x2048x7168 .f32) (main_arg3 : FVec F S8x7168x2048 .f32) (main_arg4 : IVec S30 32) (main_arg5 : IVec S1 32) : IVec S_ 1 :=
  let main_c : IVec S_ 32 := constantI S_ 32 0#32
  let main_v0 : IVec S30 32 := broadcastInDim S30 ![] bcast_S_S30 main_c
  let main_v1 : IVec S30 1 := cmpi .sge main_arg4 main_v0
  let main_c_0 : IVec S_ 1 := constantI S_ 1 1#1
  let main_v2 : IVec S_ 1 := (fun x v => Host.reduce IntOp.andi x v reducesTo_S30_S_d0 h_S_) main_v1 main_c_0
  let main_c_1 : IVec S_ 32 := constantI S_ 32 8#32
  let main_v3 : IVec S30 32 := broadcastInDim S30 ![] bcast_S_S30 main_c_1
  let main_v4 : IVec S30 1 := cmpi .slt main_arg4 main_v3
  let main_c_2 : IVec S_ 1 := constantI S_ 1 1#1
  let main_v5 : IVec S_ 1 := (fun x v => Host.reduce IntOp.andi x v reducesTo_S30_S_d0 h_S_) main_v4 main_c_2
  let main_v6 : IVec S_ 1 := andi main_v2 main_v5
  main_v6
-- ==== Pre_finite_qk.lean ====
abbrev S4x8x2048x256 : Shape := ⟨4, ![4, 8, 2048, 256]⟩
abbrev S4x8x8x128x256 : Shape := ⟨5, ![4, 8, 8, 128, 256]⟩
abbrev S_ : Shape := ⟨0, ![]⟩

class Facts : Prop where
  bitsLt_bf16_f32 : FTy.bits .bf16 < FTy.bits .f32
  bcast_S_S4x8x2048x256 : S_.BroadcastsInDim S4x8x2048x256 (![] : Fin 0 → Fin S4x8x2048x256.rank)
  reducesTo_S4x8x2048x256_S_d0_1_2_3 : S4x8x2048x256.ReducesTo [0, 1, 2, 3] S_
  h_S_ : 0 < S_.numel

variable [Facts]

def fn {F : FTy → Type} [FloatOps F] (main_arg0 : FVec F S4x8x2048x256 .bf16) (main_arg1 : FVec F S4x8x2048x256 .bf16) (main_arg2 : FVec F S4x8x8x128x256 .bf16) : IVec S_ 1 :=
  let main_v0 : FVec F S4x8x2048x256 .f32 := (extf .f32 · bitsLt_bf16_f32) main_arg0
  let main_v1 : FVec F S4x8x2048x256 .f32 := Host.absf main_v0
  let main_cst : FVec F S_ .f32 := constant S_ .f32 0x7F800000#32
  let main_v2 : FVec F S4x8x2048x256 .f32 := broadcastInDim S4x8x2048x256 ![] bcast_S_S4x8x2048x256 main_cst
  let main_v3 : IVec S4x8x2048x256 1 := cmpf .olt main_v1 main_v2
  let main_c : IVec S_ 1 := constantI S_ 1 1#1
  let main_v4 : IVec S_ 1 := (fun x v => Host.reduce IntOp.andi x v reducesTo_S4x8x2048x256_S_d0_1_2_3 h_S_) main_v3 main_c
  let main_v5 : FVec F S4x8x2048x256 .f32 := (extf .f32 · bitsLt_bf16_f32) main_arg1
  let main_v6 : FVec F S4x8x2048x256 .f32 := Host.absf main_v5
  let main_cst_0 : FVec F S_ .f32 := constant S_ .f32 0x7F800000#32
  let main_v7 : FVec F S4x8x2048x256 .f32 := broadcastInDim S4x8x2048x256 ![] bcast_S_S4x8x2048x256 main_cst_0
  let main_v8 : IVec S4x8x2048x256 1 := cmpf .olt main_v6 main_v7
  let main_c_1 : IVec S_ 1 := constantI S_ 1 1#1
  let main_v9 : IVec S_ 1 := (fun x v => Host.reduce IntOp.andi x v reducesTo_S4x8x2048x256_S_d0_1_2_3 h_S_) main_v8 main_c_1
  let main_v10 : IVec S_ 1 := andi main_v4 main_v9
  main_v10
-- ==== Attn.lean ====
abbrev S4x8x2048x256 : Shape := ⟨4, ![4, 8, 2048, 256]⟩
abbrev S4x8x8x128x256 : Shape := ⟨5, ![4, 8, 8, 128, 256]⟩
abbrev S8192x1024 : Shape := ⟨2, ![8192, 1024]⟩
abbrev S1x8x256x256 : Shape := ⟨4, ![1, 8, 256, 256]⟩
abbrev S1x8x2048x256 : Shape := ⟨4, ![1, 8, 2048, 256]⟩
abbrev S1x8x8x128x256 : Shape := ⟨5, ![1, 8, 8, 128, 256]⟩
abbrev S256x1024 : Shape := ⟨2, ![256, 1024]⟩
abbrev S8x1x256 : Shape := ⟨3, ![8, 1, 256]⟩
abbrev S8x128x256 : Shape := ⟨3, ![8, 128, 256]⟩
abbrev S256x256 : Shape := ⟨2, ![256, 256]⟩
abbrev S1x1x256x256 : Shape := ⟨4, ![1, 1, 256, 256]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩
abbrev S128x256 : Shape := ⟨2, ![128, 256]⟩
abbrev S1x1x1x128x256 : Shape := ⟨5, ![1, 1, 1, 128, 256]⟩
abbrev S256x128 : Shape := ⟨2, ![256, 128]⟩

abbrev nBuf : Space → Nat
  | .hbm => 4
  | .vmem => 11
  | .smem => 0
  | _ => 0

abbrev bufTy : (tb : Table) → Fin (tcTables nBuf tb) → BufTy
  | .hbm, ⟨0, _⟩ => ⟨S4x8x2048x256, .bf16⟩
  | .hbm, ⟨1, _⟩ => ⟨S4x8x2048x256, .bf16⟩
  | .hbm, ⟨2, _⟩ => ⟨S4x8x8x128x256, .bf16⟩
  | .hbm, ⟨3, _⟩ => ⟨S8192x1024, .bf16⟩
  | .local _ .vmem, ⟨0, _⟩ => ⟨S1x8x256x256, .bf16⟩
  | .local _ .vmem, ⟨1, _⟩ => ⟨S1x8x256x256, .bf16⟩
  | .local _ .vmem, ⟨2, _⟩ => ⟨S1x8x2048x256, .bf16⟩
  | .local _ .vmem, ⟨3, _⟩ => ⟨S1x8x2048x256, .bf16⟩
  | .local _ .vmem, ⟨4, _⟩ => ⟨S1x8x8x128x256, .bf16⟩
  | .local _ .vmem, ⟨5, _⟩ => ⟨S1x8x8x128x256, .bf16⟩
  | .local _ .vmem, ⟨6, _⟩ => ⟨S256x1024, .bf16⟩
  | .local _ .vmem, ⟨7, _⟩ => ⟨S256x1024, .bf16⟩
  | .local _ .vmem, ⟨8, _⟩ => ⟨S8x1x256, .f32⟩
  | .local _ .vmem, ⟨9, _⟩ => ⟨S8x1x256, .f32⟩
  | .local _ .vmem, ⟨10, _⟩ => ⟨S8x128x256, .f32⟩
  | _, _ => ⟨S4x8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_11 : BitVec 32 := 1#32
  ⟨c0_i32_10, v18, c1_i32_11⟩
def k0_mult1 (i : grid0.Coords) (k0_t1 : Fin (k0_t1_loop i).trips) : BitVec 32 :=
  let c0_i32_10 : BitVec 32 := 0#32
  let c1_i32_11 : BitVec 32 := 1#32
  let arg9 : BitVec 32 := Scf.iv c0_i32_10 c1_i32_11 k0_t1
  let c256_i32_361 : BitVec 32 := 256#32
  let v492 : BitVec 32 := Scalar.muli arg9 c256_i32_361
  v492
def k0_off1 (i : grid0.Coords) (k0_t1 : Fin (k0_t1_loop i).trips) : Fin 4 → Nat :=
  let c0_362 : Index := 0#32
  let c0_363 : Index := 0#32
  let c0_i32_10 : BitVec 32 := 0#32
  let c1_i32_11 : BitVec 32 := 1#32
  let arg9 : BitVec 32 := Scf.iv c0_i32_10 c1_i32_11 k0_t1
  let c256_i32_361 : BitVec 32 := 256#32
  let v492 : BitVec 32 := Scalar.muli arg9 c256_i32_361
  let v493 : BitVec 32 := v492
  let v494 : Index := Scalar.indexCast v493
  let c0_364 : Index := 0#32
  ![0, 0, v494.toNat, 0]
def k0_off2 (i : grid0.Coords) (k0_t1 : Fin (k0_t1_loop i).trips) : Fin 4 → Nat :=
  let c0_370 : Index := 0#32
  let c1_371 : Index := 1#32
  let c0_i32_10 : BitVec 32 := 0#32
  let c1_i32_11 : BitVec 32 := 1#32
  let arg9 : BitVec 32 := Scf.iv c0_i32_10 c1_i32_11 k0_t1
  let c256_i32_361 : BitVec 32 := 256#32
  let v492 : BitVec 32 := Scalar.muli arg9 c256_i32_361
  let v493 : BitVec 32 := v492
  let v500 : Index := Scalar.indexCast v493
  let c0_372 : Index := 0#32
  ![0, 1, v500.toNat, 0]
def k0_off3 (i : grid0.Coords) (k0_t1 : Fin (k0_t1_loop i).trips) : Fin 4 → Nat :=
  let c0_378 : Index := 0#32
  let c2_379 : Index := 2#32
  let c0_i32_10 : BitVec 32 := 0#32
  let c1_i32_11 : BitVec 32 := 1#32
  let arg9 : BitVec 32 := Scf.iv c0_i32_10 c1_i32_11 k0_t1
  let c256_i32_361 : BitVec 32 := 256#32
  let v492 : BitVec 32 := Scalar.muli arg9 c256_i32_361
  let v493 : BitVec 32 := v492
  let v506 : Index := Scalar.indexCast v493
  let c0_380 : Index := 0#32
  ![0, 2, v506.toNat, 0]
def k0_off4 (i : grid0.Coords) (k0_t1 : Fin (k0_t1_loop i).trips) : Fin 4 → Nat :=
  let c0_386 : Index := 0#32
  let c3_387 : Index := 3#32
  let c0_i32_10 : BitVec 32 := 0#32
  let c1_i32_11 : BitVec 32 := 1#32
  let arg9 : BitVec 32 := Scf.iv c0_i32_10 c1_i32_11 k0_t1
  let c256_i32_361 : BitVec 32 := 256#32
  let v492 : BitVec 32 := Scalar.muli arg9 c256_i32_361
  let v493 : BitVec 32 := v492
  let v512 : Index := Scalar.indexCast v493
  let c0_388 : Index := 0#32
  ![0, 3, v512.toNat, 0]
def k0_off5 (i : grid0.Coords) (k0_t1 : Fin (k0_t1_loop i).trips) : Fin 4 → Nat :=
  let c0_395 : Index := 0#32
  let c4_396 : Index := 4#32
  let c0_i32_10 : BitVec 32 := 0#32
  let c1_i32_11 : BitVec 32 := 1#32
  let arg9 : BitVec 32 := Scf.iv c0_i32_10 c1_i32_11 k0_t1
  let c256_i32_361 : BitVec 32 := 256#32
  let v492 : BitVec 32 := Scalar.muli arg9 c256_i32_361
  let v493 : BitVec 32 := v492
  let v520 : Index := Scalar.indexCast v493
  let c0_397 : Index := 0#32
  ![0, 4, v520.toNat, 0]
def k0_off6 (i : grid0.Coords) (k0_t1 : Fin (k0_t1_loop i).trips) : Fin 5 → Nat :=
  let c0_419 : Index := 0#32
  let c0_420 : Index := 0#32
  let c0_i32_10 : BitVec 32 := 0#32
  let c1_i32_11 : BitVec 32 := 1#32
  let arg9 : BitVec 32 := Scf.iv c0_i32_10 c1_i32_11 k0_t1
  let v553 : Index := Scalar.indexCast arg9
  let c0_421 : Index := 0#32
  let c0_422 : Index := 0#32
  ![0, 0, v553.toNat, 0, 0]
def k0_off7 (i : grid0.Coords) (k0_t1 : Fin (k0_t1_loop i).trips) : Fin 4 → Nat :=
  let c0_431 : Index := 0#32
  let c5_432 : Index := 5#32
  let c0_i32_10 : BitVec 32 := 0#32
  let c1_i32_11 : BitVec 32 := 1#32
  let arg9 : BitVec 32 := Scf.iv c0_i32_10 c1_i32_11 k0_t1
  let c256_i32_361 : BitVec 32 := 256#32
  let v492 : BitVec 32 := Scalar.muli arg9 c256_i32_361
  let v493 : BitVec 32 := v492
  let v567 : Index := Scalar.indexCast v493
  let c0_433 : Index := 0#32
  ![0, 5, v567.toNat, 0]
def k0_off8 (i : grid0.Coords) (k0_t1 : Fin (k0_t1_loop i).trips) : Fin 5 → Nat :=
  let c0_455 : Index := 0#32
  let c1_456 : Index := 1#32
  let c0_i32_10 : BitVec 32 := 0#32
  let c1_i32_11 : BitVec 32 := 1#32
  let arg9 : BitVec 32 := Scf.iv c0_i32_10 c1_i32_11 k0_t1
  let v600 : Index := Scalar.indexCast arg9
  let c0_457 : Index := 0#32
  let c0_458 : Index := 0#32
  ![0, 1, v600.toNat, 0, 0]
def k0_off9 (i : grid0.Coords) (k0_t1 : Fin (k0_t1_loop i).trips) : Fin 4 → Nat :=
  let c0_467 : Index := 0#32
  let c6_468 : Index := 6#32
  let c0_i32_10 : BitVec 32 := 0#32
  let c1_i32_11 : BitVec 32 := 1#32
  let arg9 : BitVec 32 := Scf.iv c0_i32_10 c1_i32_11 k0_t1
  let c256_i32_361 : BitVec 32 := 256#32
  let v492 : BitVec 32 := Scalar.muli arg9 c256_i32_361
  let v493 : BitVec 32 := v492
  let v614 : Index := Scalar.indexCast v493
  let c0_469 : Index := 0#32
  ![0, 6, v614.toNat, 0]
def k0_off10 (i : grid0.Coords) (k0_t1 : Fin (k0_t1_loop i).trips) : Fin 5 → Nat :=
  let c0_491 : Index := 0#32
  let c2_492 : Index := 2#32
  let c0_i32_10 : BitVec 32 := 0#32
  let c1_i32_11 : BitVec 32 := 1#32
  let arg9 : BitVec 32 := Scf.iv c0_i32_10 c1_i32_11 k0_t1
  let v647 : Index := Scalar.indexCast arg9
  let c0_493 : Index := 0#32
  let c0_494 : Index := 0#32
  ![0, 2, v647.toNat, 0, 0]
def k0_off11 (i : grid0.Coords) (k0_t1 : Fin (k0_t1_loop i).trips) : Fin 4 → Nat :=
  let c0_503 : Index := 0#32
  let c7_504 : Index := 7#32
  let c0_i32_10 : BitVec 32 := 0#32
  let c1_i32_11 : BitVec 32 := 1#32
  let arg9 : BitVec 32 := Scf.iv c0_i32_10 c1_i32_11 k0_t1
  let c256_i32_361 : BitVec 32 := 256#32
  let v492 : BitVec 32 := Scalar.muli arg9 c256_i32_361
  let v493 : BitVec 32 := v492
  let v661 : Index := Scalar.indexCast v493
  let c0_505 : Index := 0#32
  ![0, 7, v661.toNat, 0]
def k0_off12 (i : grid0.Coords) (k0_t1 : Fin (k0_t1_loop i).trips) : Fin 5 → Nat :=
  let c0_527 : Index := 0#32
  let c3_528 : Index := 3#32
  let c0_i32_10 : BitVec 32 := 0#32
  let c1_i32_11 : BitVec 32 := 1#32
  let arg9 : BitVec 32 := Scf.iv c0_i32_10 c1_i32_11 k0_t1
  let v694 : Index := Scalar.indexCast arg9
  let c0_529 : Index := 0#32
  let c0_530 : Index := 0#32
  ![0, 3, v694.toNat, 0, 0]
def k0_off13 (i : grid0.Coords) (k0_t1 : Fin (k0_t1_loop i).trips) : Fin 5 → Nat :=
  let c0_555 : Index := 0#32
  let c4_556 : Index := 4#32
  let c0_i32_10 : BitVec 32 := 0#32
  let c1_i32_11 : BitVec 32 := 1#32
  let arg9 : BitVec 32 := Scf.iv c0_i32_10 c1_i32_11 k0_t1
  let v735 : Index := Scalar.indexCast arg9
  let c0_557 : Index := 0#32
  let c0_558 : Index := 0#32
  ![0, 4, v735.toNat, 0, 0]
def k0_off14 (i : grid0.Coords) (k0_t1 : Fin (k0_t1_loop i).trips) : Fin 5 → Nat :=
  let c0_583 : Index := 0#32
  let c5_584 : Index := 5#32
  let c0_i32_10 : BitVec 32 := 0#32
  let c1_i32_11 : BitVec 32 := 1#32
  let arg9 : BitVec 32 := Scf.iv c0_i32_10 c1_i32_11 k0_t1
  let v776 : Index := Scalar.indexCast arg9
  let c0_585 : Index := 0#32
  let c0_586 : Index := 0#32
  ![0, 5, v776.toNat, 0, 0]
def k0_off15 (i : grid0.Coords) (k0_t1 : Fin (k0_t1_loop i).trips) : Fin 5 → Nat :=
  let c0_611 : Index := 0#32
  let c6_612 : Index := 6#32
  let c0_i32_10 : BitVec 32 := 0#32
  let c1_i32_11 : BitVec 32 := 1#32
  let arg9 : BitVec 32 := Scf.iv c0_i32_10 c1_i32_11 k0_t1
  let v817 : Index := Scalar.indexCast arg9
  let c0_613 : Index := 0#32
  let c0_614 : Index := 0#32
  ![0, 6, v817.toNat, 0, 0]
def k0_off16 (i : grid0.Coords) (k0_t1 : Fin (k0_t1_loop i).trips) : Fin 5 → Nat :=
  let c0_639 : Index := 0#32
  let c7_640 : Index := 7#32
  let c0_i32_10 : BitVec 32 := 0#32
  let c1_i32_11 : BitVec 32 := 1#32
  let arg9 : BitVec 32 := Scf.iv c0_i32_10 c1_i32_11 k0_t1
  let v858 : Index := Scalar.indexCast arg9
  let c0_641 : Index := 0#32
  let c0_642 : Index := 0#32
  ![0, 7, v858.toNat, 0, 0]
@[reducible] def k0_t2_loop (i : grid0.Coords) : Scf.Loop 32 :=
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let v15 : BitVec 32 := Scalar.addi c0_i32_10 v14
  let c1_i32_12 : BitVec 32 := 1#32
  ⟨v18, v15, c1_i32_12⟩
def k0_mult2 (i : grid0.Coords) (k0_t2 : Fin (k0_t2_loop i).trips) : BitVec 32 :=
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let c256_i32_361 : BitVec 32 := 256#32
  let v492 : BitVec 32 := Scalar.muli arg9 c256_i32_361
  v492
def k0_off17 (i : grid0.Coords) (k0_t2 : Fin (k0_t2_loop i).trips) : Fin 4 → Nat :=
  let c0_362 : Index := 0#32
  let c0_363 : Index := 0#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let c256_i32_361 : BitVec 32 := 256#32
  let v492 : BitVec 32 := Scalar.muli arg9 c256_i32_361
  let v493 : BitVec 32 := v492
  let v494 : Index := Scalar.indexCast v493
  let c0_364 : Index := 0#32
  ![0, 0, v494.toNat, 0]
def k0_off18 (i : grid0.Coords) (k0_t2 : Fin (k0_t2_loop i).trips) : Fin 4 → Nat :=
  let c0_370 : Index := 0#32
  let c1_371 : Index := 1#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let c256_i32_361 : BitVec 32 := 256#32
  let v492 : BitVec 32 := Scalar.muli arg9 c256_i32_361
  let v493 : BitVec 32 := v492
  let v500 : Index := Scalar.indexCast v493
  let c0_372 : Index := 0#32
  ![0, 1, v500.toNat, 0]
def k0_off19 (i : grid0.Coords) (k0_t2 : Fin (k0_t2_loop i).trips) : Fin 4 → Nat :=
  let c0_378 : Index := 0#32
  let c2_379 : Index := 2#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let c256_i32_361 : BitVec 32 := 256#32
  let v492 : BitVec 32 := Scalar.muli arg9 c256_i32_361
  let v493 : BitVec 32 := v492
  let v506 : Index := Scalar.indexCast v493
  let c0_380 : Index := 0#32
  ![0, 2, v506.toNat, 0]
def k0_off20 (i : grid0.Coords) (k0_t2 : Fin (k0_t2_loop i).trips) : Fin 4 → Nat :=
  let c0_386 : Index := 0#32
  let c3_387 : Index := 3#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let c256_i32_361 : BitVec 32 := 256#32
  let v492 : BitVec 32 := Scalar.muli arg9 c256_i32_361
  let v493 : BitVec 32 := v492
  let v512 : Index := Scalar.indexCast v493
  let c0_388 : Index := 0#32
  ![0, 3, v512.toNat, 0]
def k0_off21 (i : grid0.Coords) (k0_t2 : Fin (k0_t2_loop i).trips) : Fin 4 → Nat :=
  let c0_395 : Index := 0#32
  let c4_396 : Index := 4#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let c256_i32_361 : BitVec 32 := 256#32
  let v492 : BitVec 32 := Scalar.muli arg9 c256_i32_361
  let v493 : BitVec 32 := v492
  let v520 : Index := Scalar.indexCast v493
  let c0_397 : Index := 0#32
  ![0, 4, v520.toNat, 0]
def k0_off22 (i : grid0.Coords) (k0_t2 : Fin (k0_t2_loop i).trips) : Fin 5 → Nat :=
  let c0_419 : Index := 0#32
  let c0_420 : Index := 0#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let v553 : Index := Scalar.indexCast arg9
  let c0_421 : Index := 0#32
  let c0_422 : Index := 0#32
  ![0, 0, v553.toNat, 0, 0]
def k0_off23 (i : grid0.Coords) (k0_t2 : Fin (k0_t2_loop i).trips) : Fin 4 → Nat :=
  let c0_431 : Index := 0#32
  let c5_432 : Index := 5#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let c256_i32_361 : BitVec 32 := 256#32
  let v492 : BitVec 32 := Scalar.muli arg9 c256_i32_361
  let v493 : BitVec 32 := v492
  let v567 : Index := Scalar.indexCast v493
  let c0_433 : Index := 0#32
  ![0, 5, v567.toNat, 0]
def k0_off24 (i : grid0.Coords) (k0_t2 : Fin (k0_t2_loop i).trips) : Fin 5 → Nat :=
  let c0_455 : Index := 0#32
  let c1_456 : Index := 1#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let v600 : Index := Scalar.indexCast arg9
  let c0_457 : Index := 0#32
  let c0_458 : Index := 0#32
  ![0, 1, v600.toNat, 0, 0]
def k0_off25 (i : grid0.Coords) (k0_t2 : Fin (k0_t2_loop i).trips) : Fin 4 → Nat :=
  let c0_467 : Index := 0#32
  let c6_468 : Index := 6#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let c256_i32_361 : BitVec 32 := 256#32
  let v492 : BitVec 32 := Scalar.muli arg9 c256_i32_361
  let v493 : BitVec 32 := v492
  let v614 : Index := Scalar.indexCast v493
  let c0_469 : Index := 0#32
  ![0, 6, v614.toNat, 0]
def k0_off26 (i : grid0.Coords) (k0_t2 : Fin (k0_t2_loop i).trips) : Fin 5 → Nat :=
  let c0_491 : Index := 0#32
  let c2_492 : Index := 2#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let v647 : Index := Scalar.indexCast arg9
  let c0_493 : Index := 0#32
  let c0_494 : Index := 0#32
  ![0, 2, v647.toNat, 0, 0]
def k0_off27 (i : grid0.Coords) (k0_t2 : Fin (k0_t2_loop i).trips) : Fin 4 → Nat :=
  let c0_503 : Index := 0#32
  let c7_504 : Index := 7#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let c256_i32_361 : BitVec 32 := 256#32
  let v492 : BitVec 32 := Scalar.muli arg9 c256_i32_361
  let v493 : BitVec 32 := v492
  let v661 : Index := Scalar.indexCast v493
  let c0_505 : Index := 0#32
  ![0, 7, v661.toNat, 0]
def k0_off28 (i : grid0.Coords) (k0_t2 : Fin (k0_t2_loop i).trips) : Fin 5 → Nat :=
  let c0_527 : Index := 0#32
  let c3_528 : Index := 3#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let v694 : Index := Scalar.indexCast arg9
  let c0_529 : Index := 0#32
  let c0_530 : Index := 0#32
  ![0, 3, v694.toNat, 0, 0]
def k0_off29 (i : grid0.Coords) (k0_t2 : Fin (k0_t2_loop i).trips) : Fin 5 → Nat :=
  let c0_555 : Index := 0#32
  let c4_556 : Index := 4#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let v735 : Index := Scalar.indexCast arg9
  let c0_557 : Index := 0#32
  let c0_558 : Index := 0#32
  ![0, 4, v735.toNat, 0, 0]
def k0_off30 (i : grid0.Coords) (k0_t2 : Fin (k0_t2_loop i).trips) : Fin 5 → Nat :=
  let c0_583 : Index := 0#32
  let c5_584 : Index := 5#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let v776 : Index := Scalar.indexCast arg9
  let c0_585 : Index := 0#32
  let c0_586 : Index := 0#32
  ![0, 5, v776.toNat, 0, 0]
def k0_off31 (i : grid0.Coords) (k0_t2 : Fin (k0_t2_loop i).trips) : Fin 5 → Nat :=
  let c0_611 : Index := 0#32
  let c6_612 : Index := 6#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let v817 : Index := Scalar.indexCast arg9
  let c0_613 : Index := 0#32
  let c0_614 : Index := 0#32
  ![0, 6, v817.toNat, 0, 0]
def k0_off32 (i : grid0.Coords) (k0_t2 : Fin (k0_t2_loop i).trips) : Fin 5 → Nat :=
  let c0_639 : Index := 0#32
  let c7_640 : Index := 7#32
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg9 : BitVec 32 := Scf.iv v18 c1_i32_12 k0_t2
  let v858 : Index := Scalar.indexCast arg9
  let c0_641 : Index := 0#32
  let c0_642 : Index := 0#32
  ![0, 7, v858.toNat, 0, 0]
def k0_mult3 (i : grid0.Coords) : BitVec 32 :=
  let arg1 : BitVec 32 := BitVec.ofNat 32 (i 1).val
  let c256_i32 : BitVec 32 := 256#32
  let v19 : BitVec 32 := Scalar.muli arg1 c256_i32
  v19
def k0_off33 (i : grid0.Coords) : Fin 4 → Nat :=
  let c0_15 : Index := 0#32
  let c0_16 : Index := 0#32
  let arg1 : BitVec 32 := BitVec.ofNat 32 (i 1).val
  let c256_i32 : BitVec 32 := 256#32
  let v19 : BitVec 32 := Scalar.muli arg1 c256_i32
  let v20 : BitVec 32 := v19
  let v28 : Index := Scalar.indexCast v20
  let c0_17 : Index := 0#32
  ![0, 0, v28.toNat, 0]
def k0_off34 (i : grid0.Coords) : Fin 4 → Nat :=
  let c0_23 : Index := 0#32
  let c1 : Index := 1#32
  let arg1 : BitVec 32 := BitVec.ofNat 32 (i 1).val
  let c256_i32 : BitVec 32 := 256#32
  let v19 : BitVec 32 := Scalar.muli arg1 c256_i32
  let v20 : BitVec 32 := v19
  let v34 : Index := Scalar.indexCast v20
  let c0_24 : Index := 0#32
  ![0, 1, v34.toNat, 0]
def k0_off35 (i : grid0.Coords) : Fin 4 → Nat :=
  let c0_30 : Index := 0#32
  let c2 : Index := 2#32
  let arg1 : BitVec 32 := BitVec.ofNat 32 (i 1).val
  let c256_i32 : BitVec 32 := 256#32
  let v19 : BitVec 32 := Scalar.muli arg1 c256_i32
  let v20 : BitVec 32 := v19
  let v40 : Index := Scalar.indexCast v20
  let c0_31 : Index := 0#32
  ![0, 2, v40.toNat, 0]
def k0_off36 (i : grid0.Coords) : Fin 4 → Nat :=
  let c0_37 : Index := 0#32
  let c3 : Index := 3#32
  let arg1 : BitVec 32 := BitVec.ofNat 32 (i 1).val
  let c256_i32 : BitVec 32 := 256#32
  let v19 : BitVec 32 := Scalar.muli arg1 c256_i32
  let v20 : BitVec 32 := v19
  let v46 : Index := Scalar.indexCast v20
  let c0_38 : Index := 0#32
  ![0, 3, v46.toNat, 0]
def k0_off37 (i : grid0.Coords) : Fin 4 → Nat :=
  let c0_45 : Index := 0#32
  let c4 : Index := 4#32
  let arg1 : BitVec 32 := BitVec.ofNat 32 (i 1).val
  let c256_i32 : BitVec 32 := 256#32
  let v19 : BitVec 32 := Scalar.muli arg1 c256_i32
  let v20 : BitVec 32 := v19
  let v54 : Index := Scalar.indexCast v20
  let c0_46 : Index := 0#32
  ![0, 4, v54.toNat, 0]
def k0_off38 (i : grid0.Coords) : Fin 5 → Nat :=
  let c0_69 : Index := 0#32
  let c0_70 : Index := 0#32
  let arg1 : BitVec 32 := BitVec.ofNat 32 (i 1).val
  let v89 : Index := Scalar.indexCast arg1
  let c0_71 : Index := 0#32
  let c0_72 : Index := 0#32
  ![0, 0, v89.toNat, 0, 0]
def k0_off39 (i : grid0.Coords) : Fin 4 → Nat :=
  let c0_81 : Index := 0#32
  let c5 : Index := 5#32
  let arg1 : BitVec 32 := BitVec.ofNat 32 (i 1).val
  let c256_i32 : BitVec 32 := 256#32
  let v19 : BitVec 32 := Scalar.muli arg1 c256_i32
  let v20 : BitVec 32 := v19
  let v103 : Index := Scalar.indexCast v20
  let c0_82 : Index := 0#32
  ![0, 5, v103.toNat, 0]
def k0_off40 (i : grid0.Coords) : Fin 5 → Nat :=
  let c0_105 : Index := 0#32
  let c1_106 : Index := 1#32
  let arg1 : BitVec 32 := BitVec.ofNat 32 (i 1).val
  let v138 : Index := Scalar.indexCast arg1
  let c0_107 : Index := 0#32
  let c0_108 : Index := 0#32
  ![0, 1, v138.toNat, 0, 0]
def k0_off41 (i : grid0.Coords) : Fin 4 → Nat :=
  let c0_117 : Index := 0#32
  let c6 : Index := 6#32
  let arg1 : BitVec 32 := BitVec.ofNat 32 (i 1).val
  let c256_i32 : BitVec 32 := 256#32
  let v19 : BitVec 32 := Scalar.muli arg1 c256_i32
  let v20 : BitVec 32 := v19
  let v152 : Index := Scalar.indexCast v20
  let c0_118 : Index := 0#32
  ![0, 6, v152.toNat, 0]
def k0_off42 (i : grid0.Coords) : Fin 5 → Nat :=
  let c0_141 : Index := 0#32
  let c2_142 : Index := 2#32
  let arg1 : BitVec 32 := BitVec.ofNat 32 (i 1).val
  let v187 : Index := Scalar.indexCast arg1
  let c0_143 : Index := 0#32
  let c0_144 : Index := 0#32
  ![0, 2, v187.toNat, 0, 0]
def k0_off43 (i : grid0.Coords) : Fin 4 → Nat :=
  let c0_153 : Index := 0#32
  let c7 : Index := 7#32
  let arg1 : BitVec 32 := BitVec.ofNat 32 (i 1).val
  let c256_i32 : BitVec 32 := 256#32
  let v19 : BitVec 32 := Scalar.muli arg1 c256_i32
  let v20 : BitVec 32 := v19
  let v201 : Index := Scalar.indexCast v20
  let c0_154 : Index := 0#32
  ![0, 7, v201.toNat, 0]
def k0_off44 (i : grid0.Coords) : Fin 5 → Nat :=
  let c0_177 : Index := 0#32
  let c3_178 : Index := 3#32
  let arg1 : BitVec 32 := BitVec.ofNat 32 (i 1).val
  let v236 : Index := Scalar.indexCast arg1
  let c0_179 : Index := 0#32
  let c0_180 : Index := 0#32
  ![0, 3, v236.toNat, 0, 0]
def k0_off45 (i : grid0.Coords) : Fin 5 → Nat :=
  let c0_206 : Index := 0#32
  let c4_207 : Index := 4#32
  let arg1 : BitVec 32 := BitVec.ofNat 32 (i 1).val
  let v279 : Index := Scalar.indexCast arg1
  let c0_208 : Index := 0#32
  let c0_209 : Index := 0#32
  ![0, 4, v279.toNat, 0, 0]
def k0_off46 (i : grid0.Coords) : Fin 5 → Nat :=
  let c0_235 : Index := 0#32
  let c5_236 : Index := 5#32
  let arg1 : BitVec 32 := BitVec.ofNat 32 (i 1).val
  let v322 : Index := Scalar.indexCast arg1
  let c0_237 : Index := 0#32
  let c0_238 : Index := 0#32
  ![0, 5, v322.toNat, 0, 0]
def k0_off47 (i : grid0.Coords) : Fin 5 → Nat :=
  let c0_264 : Index := 0#32
  let c6_265 : Index := 6#32
  let arg1 : BitVec 32 := BitVec.ofNat 32 (i 1).val
  let v365 : Index := Scalar.indexCast arg1
  let c0_266 : Index := 0#32
  let c0_267 : Index := 0#32
  ![0, 6, v365.toNat, 0, 0]
def k0_off48 (i : grid0.Coords) : Fin 5 → Nat :=
  let c0_293 : Index := 0#32
  let c7_294 : Index := 7#32
  let arg1 : BitVec 32 := BitVec.ofNat 32 (i 1).val
  let v408 : Index := Scalar.indexCast arg1
  let c0_295 : Index := 0#32
  let c0_296 : Index := 0#32
  ![0, 7, v408.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnIdeal.lean ====
variable {F : FTy → Type} [FloatOps F] [Named F]
def κ : String → Option EReal := fun
  | "scale_log2e" => some (((Real.sqrt 192)⁻¹ * (Real.log 2)⁻¹ : ℝ) : EReal)
  | _ => none
-- ==== AttnRefIdeal.lean ====
abbrev S4x8x2048x256 : Shape := ⟨4, ![4, 8, 2048, 256]⟩
abbrev S4x8x8x128x256 : Shape := ⟨5, ![4, 8, 8, 128, 256]⟩
abbrev S4x8x8x256x128 : Shape := ⟨5, ![4, 8, 8, 256, 128]⟩
abbrev S4x8x2048x128 : Shape := ⟨4, ![4, 8, 2048, 128]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x2048x8x128 : Shape := ⟨4, ![4, 2048, 8, 128]⟩
abbrev S8192x1024 : Shape := ⟨2, ![8192, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x8x2048x256, .bf16⟩
  | .hbm, ⟨1, _⟩ => ⟨S4x8x2048x256, .bf16⟩
  | .hbm, ⟨2, _⟩ => ⟨S4x8x8x128x256, .bf16⟩
  | .hbm, ⟨3, _⟩ => ⟨S4x8x8x128x256, .f32⟩
  | .hbm, ⟨4, _⟩ => ⟨S4x8x8x256x128, .f32⟩
  | .hbm, ⟨5, _⟩ => ⟨S4x8x2048x128, .f32⟩
  | .hbm, ⟨6, _⟩ => ⟨S4x8x2048x256, .f32⟩
  | .hbm, ⟨7, _⟩ => ⟨S4x8x2048x256, .f32⟩
  | .hbm, ⟨8, _⟩ => ⟨S4x8x2048x2048, .f32⟩
  | .hbm, ⟨9, _⟩ => ⟨S_, .f32⟩
  | .hbm, ⟨10, _⟩ => ⟨S_, .f32⟩
  | .hbm, ⟨11, _⟩ => ⟨S4x8x2048x2048, .f32⟩
  | .hbm, ⟨12, _⟩ => ⟨S4x8x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S4x8x2048x2048, .i1⟩
  | .hbm, ⟨22, _⟩ => ⟨S4x8x2048x2048, .f32⟩
  | .hbm, ⟨23, _⟩ => ⟨S4x8x2048x2048, .f32⟩
  | .hbm, ⟨24, _⟩ => ⟨S_, .f32⟩
  | .hbm, ⟨25, _⟩ => ⟨S4x8x2048, .f32⟩
  | .hbm, ⟨26, _⟩ => ⟨S_, .f32⟩
  | .hbm, ⟨27, _⟩ => ⟨S4x8x2048, .f32⟩
  | .hbm, ⟨28, _⟩ => ⟨S4x8x2048, .f32⟩
  | .hbm, ⟨29, _⟩ => ⟨S4x8x2048x1, .f32⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S_, .f32⟩
  | .hbm, ⟨34, _⟩ => ⟨S4x8x2048, .f32⟩
  | .hbm, ⟨35, _⟩ => ⟨S4x8x2048x1, .f32⟩
  | .hbm, ⟨36, _⟩ => ⟨S4x8x2048x2048, .f32⟩
  | .hbm, ⟨37, _⟩ => ⟨S4x8x2048x2048, .f32⟩
  | .hbm, ⟨38, _⟩ => ⟨S4x8x128x2048, .f32⟩
  | .hbm, ⟨39, _⟩ => ⟨S4x2048x8x128, .f32⟩
  | .hbm, ⟨40, _⟩ => ⟨S8192x1024, .f32⟩
  | .hbm, ⟨41, _⟩ => ⟨S8192x1024, .bf16⟩
  | _, _ => ⟨S4x8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Merge.lean ====
abbrev S8192x2048 : Shape := ⟨2, ![8192, 2048]⟩
abbrev S8192x1024 : Shape := ⟨2, ![8192, 1024]⟩
abbrev S3x2048x2048 : Shape := ⟨3, ![3, 2048, 2048]⟩
abbrev S3x1024x2048 : Shape := ⟨3, ![3, 1024, 2048]⟩
abbrev S512x2048 : Shape := ⟨2, ![512, 2048]⟩
abbrev S512x1024 : Shape := ⟨2, ![512, 1024]⟩
abbrev S3x512x2048 : Shape := ⟨3, ![3, 512, 2048]⟩
abbrev S3x1024x512 : Shape := ⟨3, ![3, 1024, 512]⟩
abbrev S512x512 : Shape := ⟨2, ![512, 512]⟩
abbrev S1x512x2048 : Shape := ⟨3, ![1, 512, 2048]⟩
abbrev S1x1024x512 : Shape := ⟨3, ![1, 1024, 512]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S3x2048x2048, .bf16⟩
  | .hbm, ⟨5, _⟩ => ⟨S3x1024x2048, .bf16⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S3x512x2048, .bf16⟩
  | .local _ .vmem, ⟨9, _⟩ => ⟨S3x512x2048, .bf16⟩
  | .local _ .vmem, ⟨10, _⟩ => ⟨S3x1024x512, .bf16⟩
  | .local _ .vmem, ⟨11, _⟩ => ⟨S3x1024x512, .bf16⟩
  | .local _ .vmem, ⟨12, _⟩ => ⟨S512x512, .bf16⟩
  | .local _ .vmem, ⟨13, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x2048 : Shape := ⟨2, ![8192, 2048]⟩
abbrev S8192x1024 : Shape := ⟨2, ![8192, 1024]⟩
abbrev S3x2048x2048 : Shape := ⟨3, ![3, 2048, 2048]⟩
abbrev S3x1024x2048 : Shape := ⟨3, ![3, 1024, 2048]⟩
abbrev S8192x3x2048 : Shape := ⟨3, ![8192, 3, 2048]⟩
abbrev S_ : Shape := ⟨0, ![]⟩
abbrev S8192x1x1024 : Shape := ⟨3, ![8192, 1, 1024]⟩
abbrev S8192x3x1024 : Shape := ⟨3, ![8192, 3, 1024]⟩
abbrev S3x2048x8192 : Shape := ⟨3, ![3, 2048, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S3x2048x2048, .bf16⟩
  | .hbm, ⟨5, _⟩ => ⟨S3x1024x2048, .bf16⟩
  | .hbm, ⟨6, _⟩ => ⟨S8192x2048, .f32⟩
  | .hbm, ⟨7, _⟩ => ⟨S3x2048x2048, .f32⟩
  | .hbm, ⟨8, _⟩ => ⟨S8192x3x2048, .f32⟩
  | .hbm, ⟨9, _⟩ => ⟨S8192x3x2048, .f32⟩
  | .hbm, ⟨10, _⟩ => ⟨S8192x3x2048, .f32⟩
  | .hbm, ⟨11, _⟩ => ⟨S_, .f32⟩
  | .hbm, ⟨12, _⟩ => ⟨S8192x3x2048, .f32⟩
  | .hbm, ⟨13, _⟩ => ⟨S8192x3x2048, .f32⟩
  | .hbm, ⟨14, _⟩ => ⟨S_, .f32⟩
  | .hbm, ⟨15, _⟩ => ⟨S8192x3x2048, .f32⟩
  | .hbm, ⟨16, _⟩ => ⟨S8192x3x2048, .f32⟩
  | .hbm, ⟨17, _⟩ => ⟨S8192x1x1024, .bf16⟩
  | .hbm, ⟨18, _⟩ => ⟨S8192x1x1024, .bf16⟩
  | .hbm, ⟨19, _⟩ => ⟨S8192x1x1024, .bf16⟩
  | .hbm, ⟨20, _⟩ => ⟨S8192x3x1024, .bf16⟩
  | .hbm, ⟨21, _⟩ => ⟨S8192x3x1024, .f32⟩
  | .hbm, ⟨22, _⟩ => ⟨S3x1024x2048, .f32⟩
  | .hbm, ⟨23, _⟩ => ⟨S3x2048x8192, .f32⟩
  | .hbm, ⟨24, _⟩ => ⟨S8192x3x2048, .f32⟩
  | .hbm, ⟨25, _⟩ => ⟨S8192x3x2048, .f32⟩
  | .hbm, ⟨26, _⟩ => ⟨S_, .f32⟩
  | .hbm, ⟨27, _⟩ => ⟨S8192x2048, .f32⟩
  | .hbm, ⟨28, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== InMain.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InMainRefIdeal.lean ====
abbrev S8192x2048 : Shape := ⟨2, ![8192, 2048]⟩
abbrev S4096x2048 : Shape := ⟨2, ![4096, 2048]⟩
abbrev S2048x4096 : Shape := ⟨2, ![2048, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x2048, .f32⟩
  | .hbm, ⟨3, _⟩ => ⟨S4096x2048, .f32⟩
  | .hbm, ⟨4, _⟩ => ⟨S2048x4096, .f32⟩
  | .hbm, ⟨5, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InIdx.lean ====
abbrev S8192x2048 : Shape := ⟨2, ![8192, 2048]⟩
abbrev S1152x2048 : Shape := ⟨2, ![1152, 2048]⟩
abbrev S8192x1152 : Shape := ⟨2, ![8192, 1152]⟩
abbrev S1024x2048 : Shape := ⟨2, ![1024, 2048]⟩
abbrev S1024x1152 : Shape := ⟨2, ![1024, 1152]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1152x2048, .bf16⟩
  | .hbm, ⟨2, _⟩ => ⟨S8192x1152, .f32⟩
  | .local _ .vmem, ⟨0, _⟩ => ⟨S1024x2048, .bf16⟩
  | .local _ .vmem, ⟨1, _⟩ => ⟨S1024x2048, .bf16⟩
  | .local _ .vmem, ⟨2, _⟩ => ⟨S1152x2048, .bf16⟩
  | .local _ .vmem, ⟨3, _⟩ => ⟨S1024x1152, .f32⟩
  | .local _ .vmem, ⟨4, _⟩ => ⟨S1024x1152, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1152x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InIdxIdeal.lean ====
abbrev S8192x2048 : Shape := ⟨2, ![8192, 2048]⟩
abbrev S1152x2048 : Shape := ⟨2, ![1152, 2048]⟩
abbrev S8192x1152 : Shape := ⟨2, ![8192, 1152]⟩
abbrev S1024x2048 : Shape := ⟨2, ![1024, 2048]⟩
abbrev S1024x1152 : Shape := ⟨2, ![1024, 1152]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1152x2048, .bf16⟩
  | .hbm, ⟨2, _⟩ => ⟨S8192x1152, .f32⟩
  | .local _ .vmem, ⟨0, _⟩ => ⟨S1024x2048, .bf16⟩
  | .local _ .vmem, ⟨1, _⟩ => ⟨S1024x2048, .bf16⟩
  | .local _ .vmem, ⟨2, _⟩ => ⟨S1152x2048, .bf16⟩
  | .local _ .vmem, ⟨3, _⟩ => ⟨S1024x1152, .f32⟩
  | .local _ .vmem, ⟨4, _⟩ => ⟨S1024x1152, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1152x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InIdxRefIdeal.lean ====
abbrev S8192x2048 : Shape := ⟨2, ![8192, 2048]⟩
abbrev S1152x2048 : Shape := ⟨2, ![1152, 2048]⟩
abbrev S2048x1152 : Shape := ⟨2, ![2048, 1152]⟩
abbrev S8192x1152 : Shape := ⟨2, ![8192, 1152]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1152x2048, .bf16⟩
  | .hbm, ⟨2, _⟩ => ⟨S8192x2048, .f32⟩
  | .hbm, ⟨3, _⟩ => ⟨S1152x2048, .f32⟩
  | .hbm, ⟨4, _⟩ => ⟨S2048x1152, .f32⟩
  | .hbm, ⟨5, _⟩ => ⟨S8192x1152, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InMla.lean ====
abbrev S8192x2048 : Shape := ⟨2, ![8192, 2048]⟩
abbrev S1408x2048 : Shape := ⟨2, ![1408, 2048]⟩
abbrev S8192x1408 : Shape := ⟨2, ![8192, 1408]⟩
abbrev S1024x2048 : Shape := ⟨2, ![1024, 2048]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1408x2048, .bf16⟩
  | .hbm, ⟨2, _⟩ => ⟨S8192x1408, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1024x1408, .f32⟩
  | .local _ .vmem, ⟨4, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1408x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InMlaRefIdeal.lean ====
abbrev S8192x2048 : Shape := ⟨2, ![8192, 2048]⟩
abbrev S1408x2048 : Shape := ⟨2, ![1408, 2048]⟩
abbrev S2048x1408 : Shape := ⟨2, ![2048, 1408]⟩
abbrev S8192x1408 : Shape := ⟨2, ![8192, 1408]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1408x2048, .bf16⟩
  | .hbm, ⟨2, _⟩ => ⟨S8192x2048, .f32⟩
  | .hbm, ⟨3, _⟩ => ⟨S1408x2048, .f32⟩
  | .hbm, ⟨4, _⟩ => ⟨S2048x1408, .f32⟩
  | .hbm, ⟨5, _⟩ => ⟨S8192x1408, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ple.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S1024x1024 : Shape := ⟨2, ![1024, 1024]⟩
abbrev S1024x2048 : Shape := ⟨2, ![1024, 2048]⟩
abbrev S1024x256 : Shape := ⟨2, ![1024, 256]⟩
abbrev S2048x1024 : Shape := ⟨2, ![2048, 1024]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x256, .f32⟩
  | .hbm, ⟨3, _⟩ => ⟨S2048x2048, .bf16⟩
  | .hbm, ⟨4, _⟩ => ⟨S256x2048, .bf16⟩
  | .hbm, ⟨5, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S1024x256, .f32⟩
  | .local _ .vmem, ⟨5, _⟩ => ⟨S1024x256, .f32⟩
  | .local _ .vmem, ⟨6, _⟩ => ⟨S2048x1024, .bf16⟩
  | .local _ .vmem, ⟨7, _⟩ => ⟨S2048x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .f32⟩
  | .local _ .vmem, ⟨11, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleRefIdeal.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x256, .f32⟩
  | .hbm, ⟨3, _⟩ => ⟨S2048x2048, .bf16⟩
  | .hbm, ⟨4, _⟩ => ⟨S256x2048, .bf16⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S256x2048, .f32⟩
  | .hbm, ⟨17, _⟩ => ⟨S8192x2048, .f32⟩
  | .hbm, ⟨18, _⟩ => ⟨S8192x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Moe.lean ====
abbrev S23040x2048 : Shape := ⟨2, ![23040, 2048]⟩
abbrev S8x2048x7168 : Shape := ⟨3, ![8, 2048, 7168]⟩
abbrev S8x7168x2048 : Shape := ⟨3, ![8, 7168, 2048]⟩
abbrev S30 : Shape := ⟨1, ![30]⟩
abbrev S1 : Shape := ⟨1, ![1]⟩
abbrev S768x2048 : Shape := ⟨2, ![768, 2048]⟩
abbrev S1x2048x512 : Shape := ⟨3, ![1, 2048, 512]⟩
abbrev S1x512x2048 : Shape := ⟨3, ![1, 512, 2048]⟩
abbrev S2048x512 : Shape := ⟨2, ![2048, 512]⟩
abbrev S768x512 : Shape := ⟨2, ![768, 512]⟩
abbrev S512x2048 : Shape := ⟨2, ![512, 2048]⟩

abbrev nBuf : Space → Nat
  | .hbm => 5
  | .vmem => 8
  | .smem => 2
  | _ => 0

abbrev bufTy : (tb : Table) → Fin (tcTables nBuf tb) → BufTy
  | .hbm, ⟨0, _⟩ => ⟨S23040x2048, .f32⟩
  | .hbm, ⟨1, _⟩ => ⟨S8x2048x7168, .f32⟩
  | .hbm, ⟨2, _⟩ => ⟨S8x2048x7168, .f32⟩
  | .hbm, ⟨3, _⟩ => ⟨S8x7168x2048, .f32⟩
  | .hbm, ⟨4, _⟩ => ⟨S23040x2048, .f32⟩
  | .local _ .vmem, ⟨0, _⟩ => ⟨S768x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S768x2048, .f32⟩
  | .local _ .smem, ⟨0, _⟩ => ⟨S30, .i32⟩
  | .local _ .smem, ⟨1, _⟩ => ⟨S1, .i32⟩
  | _, _ => ⟨S23040x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![30, 14], ![false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S30.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S30) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c13_i32 : BitVec 32 := 13#32
  let v4 : BitVec 32 := Scalar.select v3 arg1 c13_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S30.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S30) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c13_i32 : BitVec 32 := 13#32
  let v4 : BitVec 32 := Scalar.select v3 arg1 c13_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S30.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S30) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c13_i32 : BitVec 32 := 13#32
  let v4 : BitVec 32 := Scalar.select v3 arg1 c13_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S768x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S768x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== MoeRefIdeal.lean ====
abbrev S23040x2048 : Shape := ⟨2, ![23040, 2048]⟩
abbrev S8x2048x7168 : Shape := ⟨3, ![8, 2048, 7168]⟩
abbrev S8x7168x2048 : Shape := ⟨3, ![8, 7168, 2048]⟩
abbrev S30 : Shape := ⟨1, ![30]⟩
abbrev S1 : Shape := ⟨1, ![1]⟩
abbrev S30x768x2048 : Shape := ⟨3, ![30, 768, 2048]⟩
abbrev S_ : Shape := ⟨0, ![]⟩
abbrev S30x1 : Shape := ⟨2, ![30, 1]⟩
abbrev S30x2048x7168 : Shape := ⟨3, ![30, 2048, 7168]⟩
abbrev S30x768x7168 : Shape := ⟨3, ![30, 768, 7168]⟩
abbrev S30x7168x2048 : Shape := ⟨3, ![30, 7168, 2048]⟩
abbrev S30x1x1 : Shape := ⟨3, ![30, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S23040x2048, .f32⟩
  | .hbm, ⟨1, _⟩ => ⟨S8x2048x7168, .f32⟩
  | .hbm, ⟨2, _⟩ => ⟨S8x2048x7168, .f32⟩
  | .hbm, ⟨3, _⟩ => ⟨S8x7168x2048, .f32⟩
  | .hbm, ⟨4, _⟩ => ⟨S30, .i32⟩
  | .hbm, ⟨5, _⟩ => ⟨S1, .i32⟩
  | .hbm, ⟨6, _⟩ => ⟨S30x768x2048, .f32⟩
  | .hbm, ⟨7, _⟩ => ⟨S_, .i32⟩
  | .hbm, ⟨8, _⟩ => ⟨S30, .i32⟩
  | .hbm, ⟨9, _⟩ => ⟨S30, .i1⟩
  | .hbm, ⟨10, _⟩ => ⟨S_, .i32⟩
  | .hbm, ⟨11, _⟩ => ⟨S30, .i32⟩
  | .hbm, ⟨12, _⟩ => ⟨S30, .i32⟩
  | .hbm, ⟨13, _⟩ => ⟨S30, .i32⟩
  | .hbm, ⟨14, _⟩ => ⟨S30x1, .i32⟩
  | .hbm, ⟨15, _⟩ => ⟨S30x2048x7168, .f32⟩
  | .hbm, ⟨16, _⟩ => ⟨S30x768x7168, .f32⟩
  | .hbm, ⟨17, _⟩ => ⟨S_, .i32⟩
  | .hbm, ⟨18, _⟩ => ⟨S30, .i32⟩
  | .hbm, ⟨19, _⟩ => ⟨S30, .i1⟩
  | .hbm, ⟨20, _⟩ => ⟨S_, .i32⟩
  | .hbm, ⟨21, _⟩ => ⟨S30, .i32⟩
  | .hbm, ⟨22, _⟩ => ⟨S30, .i32⟩
  | .hbm, ⟨23, _⟩ => ⟨S30, .i32⟩
  | .hbm, ⟨24, _⟩ => ⟨S30x1, .i32⟩
  | .hbm, ⟨25, _⟩ => ⟨S30x2048x7168, .f32⟩
  | .hbm, ⟨26, _⟩ => ⟨S30x768x7168, .f32⟩
  | .hbm, ⟨27, _⟩ => ⟨S30x768x7168, .f32⟩
  | .hbm, ⟨28, _⟩ => ⟨S30x768x7168, .f32⟩
  | .hbm, ⟨29, _⟩ => ⟨S_, .f32⟩
  | .hbm, ⟨30, _⟩ => ⟨S30x768x7168, .f32⟩
  | .hbm, ⟨31, _⟩ => ⟨S30x768x7168, .f32⟩
  | .hbm, ⟨32, _⟩ => ⟨S_, .f32⟩
  | .hbm, ⟨33, _⟩ => ⟨S30x768x7168, .f32⟩
  | .hbm, ⟨34, _⟩ => ⟨S30x768x7168, .f32⟩
  | .hbm, ⟨35, _⟩ => ⟨S30x768x7168, .f32⟩
  | .hbm, ⟨36, _⟩ => ⟨S30x768x7168, .f32⟩
  | .hbm, ⟨37, _⟩ => ⟨S_, .i32⟩
  | .hbm, ⟨38, _⟩ => ⟨S30, .i32⟩
  | .hbm, ⟨39, _⟩ => ⟨S30, .i1⟩
  | .hbm, ⟨40, _⟩ => ⟨S_, .i32⟩
  | .hbm, ⟨41, _⟩ => ⟨S30, .i32⟩
  | .hbm, ⟨42, _⟩ => ⟨S30, .i32⟩
  | .hbm, ⟨43, _⟩ => ⟨S30, .i32⟩
  | .hbm, ⟨44, _⟩ => ⟨S30x1, .i32⟩
  | .hbm, ⟨45, _⟩ => ⟨S30x7168x2048, .f32⟩
  | .hbm, ⟨46, _⟩ => ⟨S30x768x2048, .f32⟩
  | .hbm, ⟨47, _⟩ => ⟨S30, .i32⟩
  | .hbm, ⟨48, _⟩ => ⟨S_, .i32⟩
  | .hbm, ⟨49, _⟩ => ⟨S30, .i32⟩
  | .hbm, ⟨50, _⟩ => ⟨S30, .i1⟩
  | .hbm, ⟨51, _⟩ => ⟨S30x1x1, .i1⟩
  | .hbm, ⟨52, _⟩ => ⟨S_, .f32⟩
  | .hbm, ⟨53, _⟩ => ⟨S_, .f32⟩
  | .hbm, ⟨54, _⟩ => ⟨S30x768x2048, .i1⟩
  | .hbm, ⟨55, _⟩ => ⟨S30x768x2048, .f32⟩
  | .hbm, ⟨56, _⟩ => ⟨S30x768x2048, .f32⟩
  | .hbm, ⟨57, _⟩ => ⟨S23040x2048, .f32⟩
  | _, _ => ⟨S23040x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Dense.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S_ : Shape := ⟨0, ![]⟩
abbrev S16 : Shape := ⟨1, ![16]⟩
abbrev S1 : Shape := ⟨1, ![1]⟩
abbrev S512x2048 : Shape := ⟨2, ![512, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩

abbrev nBuf : Space → Nat
  | .hbm => 8
  | .vmem => 12
  | .smem => 2
  | _ => 0

abbrev bufTy : (tb : Table) → Fin (tcTables nBuf tb) → BufTy
  | .hbm, ⟨0, _⟩ => ⟨S8192x2048, .bf16⟩
  | .hbm, ⟨1, _⟩ => ⟨S1x2048x5632, .bf16⟩
  | .hbm, ⟨2, _⟩ => ⟨S1x2048x5632, .bf16⟩
  | .hbm, ⟨3, _⟩ => ⟨S1x5632x2048, .bf16⟩
  | .hbm, ⟨4, _⟩ => ⟨S8192x2048, .f32⟩
  | .hbm, ⟨5, _⟩ => ⟨S_, .i32⟩
  | .hbm, ⟨6, _⟩ => ⟨S_, .i32⟩
  | .hbm, ⟨7, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .smem, ⟨0, _⟩ => ⟨S16, .i32⟩
  | .local _ .smem, ⟨1, _⟩ => ⟨S1, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v2 : Ref sig .tc := ⟨.hbm, 7, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 11], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DenseRefIdeal.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S8192x5632 : Shape := ⟨2, ![8192, 5632]⟩
abbrev S_ : Shape := ⟨0, ![]⟩
abbrev S5632x2048 : Shape := ⟨2, ![5632, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x5632, .bf16⟩
  | .hbm, ⟨2, _⟩ => ⟨S1x2048x5632, .bf16⟩
  | .hbm, ⟨3, _⟩ => ⟨S1x5632x2048, .bf16⟩
  | .hbm, ⟨4, _⟩ => ⟨S8192x2048, .f32⟩
  | .hbm, ⟨5, _⟩ => ⟨S8192x2048, .f32⟩
  | .hbm, ⟨6, _⟩ => ⟨S2048x5632, .bf16⟩
  | .hbm, ⟨7, _⟩ => ⟨S2048x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S2048x5632, .bf16⟩
  | .hbm, ⟨19, _⟩ => ⟨S2048x5632, .f32⟩
  | .hbm, ⟨20, _⟩ => ⟨S8192x5632, .f32⟩
  | .hbm, ⟨21, _⟩ => ⟨S8192x5632, .f32⟩
  | .hbm, ⟨22, _⟩ => ⟨S5632x2048, .bf16⟩
  | .hbm, ⟨23, _⟩ => ⟨S5632x2048, .f32⟩
  | .hbm, ⟨24, _⟩ => ⟨S8192x2048, .f32⟩
  | .hbm, ⟨25, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]
-- ==== Values.lean ====
abbrev S8192x2048 : Shape := ⟨2, ![8192, 2048]⟩
abbrev S1024x2048 : Shape := ⟨2, ![1024, 2048]⟩
abbrev S4x8x8x128x256 : Shape := ⟨5, ![4, 8, 8, 128, 256]⟩
abbrev S256x2048 : Shape := ⟨2, ![256, 2048]⟩
abbrev S1x8x1x128x256 : Shape := ⟨5, ![1, 8, 1, 128, 256]⟩
abbrev S1024x256 : Shape := ⟨2, ![1024, 256]⟩
abbrev S128x256 : Shape := ⟨2, ![128, 256]⟩
abbrev S1x1x1x128x256 : Shape := ⟨5, ![1, 1, 1, 128, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S4x8x8x128x256, .bf16⟩
  | .local _ .vmem, ⟨0, _⟩ => ⟨S256x2048, .bf16⟩
  | .local _ .vmem, ⟨1, _⟩ => ⟨S256x2048, .bf16⟩
  | .local _ .vmem, ⟨2, _⟩ => ⟨S1024x2048, .bf16⟩
  | .local _ .vmem, ⟨3, _⟩ => ⟨S1x8x1x128x256, .bf16⟩
  | .local _ .vmem, ⟨4, _⟩ => ⟨S1x8x1x128x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValuesRefIdeal.lean ====
abbrev S8192x2048 : Shape := ⟨2, ![8192, 2048]⟩
abbrev S1024x2048 : Shape := ⟨2, ![1024, 2048]⟩
abbrev S2048x1024 : Shape := ⟨2, ![2048, 1024]⟩
abbrev S8192x1024 : Shape := ⟨2, ![8192, 1024]⟩
abbrev S4x8x256x8x128 : Shape := ⟨5, ![4, 8, 256, 8, 128]⟩
abbrev S4x8x8x128x256 : Shape := ⟨5, ![4, 8, 8, 128, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .f32⟩
  | .hbm, ⟨3, _⟩ => ⟨S1024x2048, .f32⟩
  | .hbm, ⟨4, _⟩ => ⟨S2048x1024, .f32⟩
  | .hbm, ⟨5, _⟩ => ⟨S8192x1024, .f32⟩
  | .hbm, ⟨6, _⟩ => ⟨S4x8x256x8x128, .f32⟩
  | .hbm, ⟨7, _⟩ => ⟨S4x8x8x128x256, .f32⟩
  | .hbm, ⟨8, _⟩ => ⟨S4x8x8x128x256, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Prep.lean ====
abbrev S8192x1408 : Shape := ⟨2, ![8192, 1408]⟩
abbrev S8192x1 : Shape := ⟨2, ![8192, 1]⟩
abbrev S768 : Shape := ⟨1, ![768]⟩
abbrev S512 : Shape := ⟨1, ![512]⟩
abbrev S768x1536 : Shape := ⟨2, ![768, 1536]⟩
abbrev S512x2048 : Shape := ⟨2, ![512, 2048]⟩
abbrev S192 : Shape := ⟨1, ![192]⟩
abbrev S768x8x192 : Shape := ⟨3, ![768, 8, 192]⟩
abbrev S768x8x128 : Shape := ⟨3, ![768, 8, 128]⟩
abbrev S768x1024 : Shape := ⟨2, ![768, 1024]⟩
abbrev S768x8x64 : Shape := ⟨3, ![768, 8, 64]⟩
abbrev S768x512 : Shape := ⟨2, ![768, 512]⟩
abbrev S512x8x256 : Shape := ⟨3, ![512, 8, 256]⟩
abbrev S512x8x128 : Shape := ⟨3, ![512, 8, 128]⟩
abbrev S512x1024 : Shape := ⟨2, ![512, 1024]⟩
abbrev S1024x512 : Shape := ⟨2, ![1024, 512]⟩
abbrev S32 : Shape := ⟨1, ![32]⟩
abbrev S_ : Shape := ⟨0, ![]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x768 : Shape := ⟨2, ![1, 768]⟩
abbrev S1x512 : Shape := ⟨2, ![1, 512]⟩
abbrev S4x8x2048x256 : Shape := ⟨4, ![4, 8, 2048, 256]⟩
abbrev S4x8x8x128x256 : Shape := ⟨5, ![4, 8, 8, 128, 256]⟩
abbrev S256x1408 : Shape := ⟨2, ![256, 1408]⟩
abbrev S256x1 : Shape := ⟨2, ![256, 1]⟩
abbrev S1x8x256x256 : Shape := ⟨4, ![1, 8, 256, 256]⟩
abbrev S1x8x1x128x256 : Shape := ⟨5, ![1, 8, 1, 128, 256]⟩
abbrev S256x128 : Shape := ⟨2, ![256, 128]⟩
abbrev S256x768 : Shape := ⟨2, ![256, 768]⟩
abbrev S256 : Shape := ⟨1, ![256]⟩
abbrev S256x512 : Shape := ⟨2, ![256, 512]⟩
abbrev S256x1536 : Shape := ⟨2, ![256, 1536]⟩
abbrev S256x1024 : Shape := ⟨2, ![256, 1024]⟩
abbrev S1024x256 : Shape := ⟨2, ![1024, 256]⟩
abbrev S128x256 : Shape := ⟨2, ![128, 256]⟩
abbrev S1x1x1x128x256 : Shape := ⟨5, ![1, 1, 1, 128, 256]⟩
abbrev S1x1x256x128 : Shape := ⟨4, ![1, 1, 256, 128]⟩

abbrev nBuf : Space → Nat
  | .hbm => 61
  | .vmem => 20
  | .smem => 0
  | _ => 0

abbrev bufTy : (tb : Table) → Fin (tcTables nBuf tb) → BufTy
  | .hbm, ⟨0, _⟩ => ⟨S8192x1408, .f32⟩
  | .hbm, ⟨1, _⟩ => ⟨S8192x1, .i32⟩
  | .hbm, ⟨2, _⟩ => ⟨S768, .f32⟩
  | .hbm, ⟨3, _⟩ => ⟨S512, .f32⟩
  | .hbm, ⟨4, _⟩ => ⟨S768x1536, .f32⟩
  | .hbm, ⟨5, _⟩ => ⟨S512x2048, .f32⟩
  | .hbm, ⟨6, _⟩ => ⟨S192, .f32⟩
  | .hbm, ⟨7, _⟩ => ⟨S192, .f32⟩
  | .hbm, ⟨8, _⟩ => ⟨S768x8x192, .f32⟩
  | .hbm, ⟨9, _⟩ => ⟨S768x8x128, .f32⟩
  | .hbm, ⟨10, _⟩ => ⟨S768x1024, .f32⟩
  | .hbm, ⟨11, _⟩ => ⟨S768x8x64, .f32⟩
  | .hbm, ⟨12, _⟩ => ⟨S768x512, .f32⟩
  | .hbm, ⟨13, _⟩ => ⟨S768x1536, .f32⟩
  | .hbm, ⟨14, _⟩ => ⟨S768x1536, .bf16⟩
  | .hbm, ⟨15, _⟩ => ⟨S512x8x256, .f32⟩
  | .hbm, ⟨16, _⟩ => ⟨S512x8x128, .f32⟩
  | .hbm, ⟨17, _⟩ => ⟨S512x1024, .f32⟩
  | .hbm, ⟨18, _⟩ => ⟨S512x1024, .bf16⟩
  | .hbm, ⟨19, _⟩ => ⟨S512x8x128, .f32⟩
  | .hbm, ⟨20, _⟩ => ⟨S512x1024, .f32⟩
  | .hbm, ⟨21, _⟩ => ⟨S1024x512, .f32⟩
  | .hbm, ⟨22, _⟩ => ⟨S1024x512, .bf16⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S64, .f32⟩
  | .hbm, ⟨38, _⟩ => ⟨S1x64, .f32⟩
  | .hbm, ⟨39, _⟩ => ⟨S2x64, .f32⟩
  | .hbm, ⟨40, _⟩ => ⟨S128, .f32⟩
  | .hbm, ⟨41, _⟩ => ⟨S1x128, .f32⟩
  | .hbm, ⟨42, _⟩ => ⟨S1x768, .f32⟩
  | .hbm, ⟨43, _⟩ => ⟨S1x512, .f32⟩
  | .hbm, ⟨44, _⟩ => ⟨S128, .f32⟩
  | .hbm, ⟨45, _⟩ => ⟨S1x128, .f32⟩
  | .hbm, ⟨46, _⟩ => ⟨S64, .f32⟩
  | .hbm, ⟨47, _⟩ => ⟨S1x64, .f32⟩
  | .hbm, ⟨48, _⟩ => ⟨S2x64, .f32⟩
  | .hbm, ⟨49, _⟩ => ⟨S128, .f32⟩
  | .hbm, ⟨50, _⟩ => ⟨S1x128, .f32⟩
  | .hbm, ⟨51, _⟩ => ⟨S128, .f32⟩
  | .hbm, ⟨52, _⟩ => ⟨S1x128, .f32⟩
  | .hbm, ⟨53, _⟩ => ⟨S64, .f32⟩
  | .hbm, ⟨54, _⟩ => ⟨S1x64, .f32⟩
  | .hbm, ⟨55, _⟩ => ⟨S2x64, .f32⟩
  | .hbm, ⟨56, _⟩ => ⟨S128, .f32⟩
  | .hbm, ⟨57, _⟩ => ⟨S1x128, .f32⟩
  | .hbm, ⟨58, _⟩ => ⟨S4x8x2048x256, .bf16⟩
  | .hbm, ⟨59, _⟩ => ⟨S4x8x2048x256, .bf16⟩
  | .hbm, ⟨60, _⟩ => ⟨S4x8x8x128x256, .bf16⟩
  | .local _ .vmem, ⟨0, _⟩ => ⟨S256x1408, .f32⟩
  | .local _ .vmem, ⟨1, _⟩ => ⟨S256x1408, .f32⟩
  | .local _ .vmem, ⟨2, _⟩ => ⟨S256x1, .i32⟩
  | .local _ .vmem, ⟨3, _⟩ => ⟨S256x1, .i32⟩
  | .local _ .vmem, ⟨4, _⟩ => ⟨S1x128, .f32⟩
  | .local _ .vmem, ⟨5, _⟩ => ⟨S1x768, .f32⟩
  | .local _ .vmem, ⟨6, _⟩ => ⟨S1x512, .f32⟩
  | .local _ .vmem, ⟨7, _⟩ => ⟨S768x1536, .bf16⟩
  | .local _ .vmem, ⟨8, _⟩ => ⟨S512x1024, .bf16⟩
  | .local _ .vmem, ⟨9, _⟩ => ⟨S1024x512, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x8x256x256, .bf16⟩
  | .local _ .vmem, ⟨15, _⟩ => ⟨S1x8x256x256, .bf16⟩
  | .local _ .vmem, ⟨16, _⟩ => ⟨S1x8x256x256, .bf16⟩
  | .local _ .vmem, ⟨17, _⟩ => ⟨S1x8x256x256, .bf16⟩
  | .local _ .vmem, ⟨18, _⟩ => ⟨S1x8x1x128x256, .bf16⟩
  | .local _ .vmem, ⟨19, _⟩ => ⟨S1x8x1x128x256, .bf16⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46_0 : Ref sig .tc := ⟨.hbm, 58, rfl⟩
abbrev main_v46_1 : Ref sig .tc := ⟨.hbm, 59, rfl⟩
abbrev main_v46_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x1x128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== PrepIdeal.lean ====
variable {F : FTy → Type} [FloatOps F] [Named F]
def κ : String → Option EReal := fun
  | "inv_mla_qk" => some ((192⁻¹ : ℝ) : EReal)
  | _ => none
-- ==== PrepRefIdeal.lean ====
abbrev S8192x1408 : Shape := ⟨2, ![8192, 1408]⟩
abbrev S8192x1 : Shape := ⟨2, ![8192, 1]⟩
abbrev S768 : Shape := ⟨1, ![768]⟩
abbrev S512 : Shape := ⟨1, ![512]⟩
abbrev S768x1536 : Shape := ⟨2, ![768, 1536]⟩
abbrev S512x2048 : Shape := ⟨2, ![512, 2048]⟩
abbrev S192 : Shape := ⟨1, ![192]⟩
abbrev S8192x768 : Shape := ⟨2, ![8192, 768]⟩
abbrev S8192x512 : Shape := ⟨2, ![8192, 512]⟩
abbrev S8192x64 : Shape := ⟨2, ![8192, 64]⟩
abbrev S_ : Shape := ⟨0, ![]⟩
abbrev S8192 : Shape := ⟨1, ![8192]⟩
abbrev S1x768 : Shape := ⟨2, ![1, 768]⟩
abbrev S8192x1536 : Shape := ⟨2, ![8192, 1536]⟩
abbrev S8192x8x192 : Shape := ⟨3, ![8192, 8, 192]⟩
abbrev S1x512 : Shape := ⟨2, ![1, 512]⟩
abbrev S8192x2048 : Shape := ⟨2, ![8192, 2048]⟩
abbrev S8192x8x256 : Shape := ⟨3, ![8192, 8, 256]⟩
abbrev S8192x8x128 : Shape := ⟨3, ![8192, 8, 128]⟩
abbrev S8192x1x64 : Shape := ⟨3, ![8192, 1, 64]⟩
abbrev S8192x8x64 : Shape := ⟨3, ![8192, 8, 64]⟩
abbrev S8192x8 : Shape := ⟨2, ![8192, 8]⟩
abbrev S8192x8x1 : Shape := ⟨3, ![8192, 8, 1]⟩
abbrev S1x1x192 : Shape := ⟨3, ![1, 1, 192]⟩
abbrev S32 : Shape := ⟨1, ![32]⟩
abbrev S8192x1x1 : Shape := ⟨3, ![8192, 1, 1]⟩
abbrev S1x1x32 : Shape := ⟨3, ![1, 1, 32]⟩
abbrev S8192x1x32 : Shape := ⟨3, ![8192, 1, 32]⟩
abbrev S8192x8x32 : Shape := ⟨3, ![8192, 8, 32]⟩
abbrev S4x2048x8x256 : Shape := ⟨4, ![4, 2048, 8, 256]⟩
abbrev S4x8x2048x256 : Shape := ⟨4, ![4, 8, 2048, 256]⟩
abbrev S4x8x256x8x128 : Shape := ⟨5, ![4, 8, 256, 8, 128]⟩
abbrev S4x8x8x128x256 : Shape := ⟨5, ![4, 8, 8, 128, 256]⟩

abbrev nBuf : Space → Nat
  | .hbm => 171
  | .vmem => 0
  | .smem => 0
  | _ => 0

abbrev hbmTy0_0 (i : Nat) : BufTy := match i % 128 with
  | 0 => ⟨S8192x1408, .f32⟩
  | 1 => ⟨S8192x1, .i32⟩
  | 2 => ⟨S768, .f32⟩
  | 3 => ⟨S512, .f32⟩
  | 4 => ⟨S768x1536, .f32⟩
  | 5 => ⟨S512x2048, .f32⟩
  | 6 => ⟨S192, .f32⟩
  | 7 => ⟨S192, .f32⟩
  | 8 => ⟨S8192x768, .f32⟩
  | 9 => ⟨S8192x512, .f32⟩
  | 10 => ⟨S8192x64, .f32⟩
  | 11 => ⟨S8192x768, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x768, .f32⟩
  | 23 => ⟨S8192x768, .f32⟩
  | 24 => ⟨S1x768, .f32⟩
  | 25 => ⟨S8192x768, .f32⟩
  | 26 => ⟨S8192x768, .f32⟩
  | 27 => ⟨S8192x1536, .f32⟩
  | 28 => ⟨S8192x8x192, .f32⟩
  | 29 => ⟨S8192x512, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1, .f32⟩
  | 40 => ⟨S8192x512, .f32⟩
  | 41 => ⟨S8192x512, .f32⟩
  | 42 => ⟨S1x512, .f32⟩
  | 43 => ⟨S8192x512, .f32⟩
  | 44 => ⟨S8192x512, .f32⟩
  | 45 => ⟨S8192x2048, .f32⟩
  | 46 => ⟨S8192x8x256, .f32⟩
  | 47 => ⟨S8192x8x128, .f32⟩
  | 48 => ⟨S8192x8x128, .f32⟩
  | 49 => ⟨S8192x1x64, .f32⟩
  | 50 => ⟨S8192x8x64, .f32⟩
  | 51 => ⟨S8192x8x192, .f32⟩
  | 52 => ⟨S8192x8x192, .f32⟩
  | 53 => ⟨S_, .f32⟩
  | 54 => ⟨S8192x8, .f32⟩
  | 55 => ⟨S8192x8x1, .f32⟩
  | 56 => ⟨S_, .f32⟩
  | 57 => ⟨S8192x8x1, .f32⟩
  | 58 => ⟨S8192x8x1, .f32⟩
  | 59 => ⟨S_, .f32⟩
  | 60 => ⟨S8192x8x1, .f32⟩
  | 61 => ⟨S8192x8x1, .f32⟩
  | 62 => ⟨S8192x8x1, .f32⟩
  | 63 => ⟨S8192x8x192, .f32⟩
  | 64 => ⟨S8192x8x192, .f32⟩
  | 65 => ⟨S1x1x192, .f32⟩
  | 66 => ⟨S8192x8x192, .f32⟩
  | 67 => ⟨S8192x8x192, .f32⟩
  | 68 => ⟨S8192x8x192, .f32⟩
  | 69 => ⟨S_, .f32⟩
  | 70 => ⟨S8192x8, .f32⟩
  | 71 => ⟨S8192x8x1, .f32⟩
  | 72 => ⟨S_, .f32⟩
  | 73 => ⟨S8192x8x1, .f32⟩
  | 74 => ⟨S8192x8x1, .f32⟩
  | 75 => ⟨S_, .f32⟩
  | 76 => ⟨S8192x8x1, .f32⟩
  | 77 => ⟨S8192x8x1, .f32⟩
  | 78 => ⟨S8192x8x1, .f32⟩
  | 79 => ⟨S8192x8x192, .f32⟩
  | 80 => ⟨S8192x8x192, .f32⟩
  | 81 => ⟨S1x1x192, .f32⟩
  | 82 => ⟨S8192x8x192, .f32⟩
  | 83 => ⟨S8192x8x192, .f32⟩
  | 84 => ⟨S_, .f32⟩
  | 85 => ⟨S8192x8x64, .f32⟩
  | 86 => ⟨S8192x8x128, .f32⟩
  | 87 => ⟨S8192x8x64, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S8192x1, .f32⟩
  | 103 => ⟨S8192x1x1, .f32⟩
  | 104 => ⟨S1x1x32, .f32⟩
  | 105 => ⟨S8192x1x32, .f32⟩
  | 106 => ⟨S8192x1x32, .f32⟩
  | 107 => ⟨S8192x1x32, .f32⟩
  | 108 => ⟨S8192x1x32, .f32⟩
  | 109 => ⟨S8192x1x32, .f32⟩
  | 110 => ⟨S8192x8x32, .f32⟩
  | 111 => ⟨S8192x8x32, .f32⟩
  | 112 => ⟨S8192x8x32, .f32⟩
  | 113 => ⟨S8192x8x32, .f32⟩
  | 114 => ⟨S8192x8x32, .f32⟩
  | 115 => ⟨S8192x8x32, .f32⟩
  | 116 => ⟨S8192x8x32, .f32⟩
  | 117 => ⟨S8192x8x32, .f32⟩
  | 118 => ⟨S8192x8x32, .f32⟩
  | 119 => ⟨S8192x8x32, .f32⟩
  | 120 => ⟨S8192x8x32, .f32⟩
  | 121 => ⟨S8192x8x32, .f32⟩
  | 122 => ⟨S8192x8x64, .f32⟩
  | 123 => ⟨S8192x8x256, .f32⟩
  | 124 => ⟨S8192x8x128, .f32⟩
  | 125 => ⟨S8192x8x64, .f32⟩
  | 126 => ⟨S32, .f32⟩
  | 127 => ⟨S_, .f32⟩
  | _ => ⟨S8192x1408, .f32⟩

abbrev hbmTy0_1 (i : Nat) : BufTy := match i % 128 with
  | 0 => ⟨S32, .f32⟩
  | 1 => ⟨S32, .f32⟩
  | 2 => ⟨S_, .f32⟩
  | 3 => ⟨S32, .f32⟩
  | 4 => ⟨S32, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S8192x1, .f32⟩
  | 13 => ⟨S8192x1x1, .f32⟩
  | 14 => ⟨S1x1x32, .f32⟩
  | 15 => ⟨S8192x1x32, .f32⟩
  | 16 => ⟨S8192x1x32, .f32⟩
  | 17 => ⟨S8192x1x32, .f32⟩
  | 18 => ⟨S8192x1x32, .f32⟩
  | 19 => ⟨S8192x1x32, .f32⟩
  | 20 => ⟨S8192x8x32, .f32⟩
  | 21 => ⟨S8192x8x32, .f32⟩
  | 22 => ⟨S8192x8x32, .f32⟩
  | 23 => ⟨S8192x8x32, .f32⟩
  | 24 => ⟨S8192x8x32, .f32⟩
  | 25 => ⟨S8192x8x32, .f32⟩
  | 26 => ⟨S8192x8x32, .f32⟩
  | 27 => ⟨S8192x8x32, .f32⟩
  | 28 => ⟨S8192x8x32, .f32⟩
  | 29 => ⟨S8192x8x32, .f32⟩
  | 30 => ⟨S8192x8x32, .f32⟩
  | 31 => ⟨S8192x8x32, .f32⟩
  | 32 => ⟨S8192x8x64, .f32⟩
  | 33 => ⟨S8192x8x256, .f32⟩
  | 34 => ⟨S4x2048x8x256, .f32⟩
  | 35 => ⟨S4x8x2048x256, .f32⟩
  | 36 => ⟨S4x8x2048x256, .bf16⟩
  | 37 => ⟨S4x2048x8x256, .f32⟩
  | 38 => ⟨S4x8x2048x256, .f32⟩
  | 39 => ⟨S4x8x2048x256, .bf16⟩
  | 40 => ⟨S4x8x256x8x128, .f32⟩
  | 41 => ⟨S4x8x8x128x256, .f32⟩
  | 42 => ⟨S4x8x8x128x256, .bf16⟩
  | _ => ⟨S8192x1408, .f32⟩

abbrev hbmTy (i : Nat) : BufTy := match i / 128 with
  | 0 => hbmTy0_0 i
  | 1 => hbmTy0_1 i
  | _ => ⟨S8192x1408, .f32⟩

abbrev bufTy : (tb : Table) → Fin (tcTables nBuf tb) → BufTy
  | .hbm, ⟨i, _⟩ => hbmTy i
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_cst_15 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_16 : Ref sig .tc := ⟨.hbm, 127, rfl⟩
abbrev main_v102 : Ref sig .tc := ⟨.hbm, 128, rfl⟩
abbrev main_v103 : Ref sig .tc := ⟨.hbm, 129, rfl⟩
abbrev main_cst_17 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_18 : Ref sig .tc := ⟨.hbm, 134, rfl⟩
abbrev main_v107 : Ref sig .tc := ⟨.hbm, 135, rfl⟩
abbrev main_v108 : Ref sig .tc := ⟨.hbm, 136, rfl⟩
abbrev main_cst_19 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩

abbrev nD : Nat := 1
abbrev τ : Topo := Topo.v7x

variable {F : FTy → Type} [FloatOps F]
-- ==== Proof.AttnStep.lean ====
/- One online-softmax step of one head of the dense attention, and what one trip of the kernel's loop over key chunks stores: that step, for each of the eight heads. -/
module

public import proofs.«01_k».proof.Proof.Gen.AttnIdeal.Value
public import Idealize.ShloMosaic.Lib.VecWindow

@[expose] public section

set_option maxRecDepth 16384

noncomputable section

namespace Cert.AttnStep

open Cert.AttnIdeal Cert.AttnIdeal.Gen Idealize.ShloMosaic Idealize.ShloMosaic.TcCoe Idealize.ShloMosaic.Tactic

variable {F : FTy → Type} [FloatOps F] [Named F]

/-! ## The step of one head -/

/-- The scaled scores of one head, keys by queries: keys times queries, times the softmax scale. -/
def score (k q : Vec F S1x1x256x256 .bf16) : FVec F S256x256 .f32 :=
  mulf (matmul dot_S256x256_S256x256_S256x256_1_1_0_0_n_n none (shapeCast S256x256 k shapeCasts_S1x1x256x256_S256x256)
    (shapeCast S256x256 q shapeCasts_S1x1x256x256_S256x256) (constant S256x256 .f32 0x00000000#32)) (broadcast S256x256 (Named.named κ "scale_log2e" 0x3DD53B95#32))

/-- The scores of the diagonal chunk, those of a key after the query replaced by `−∞`. -/
def masked (i : grid0.Coords) (x : FVec F S256x256 .f32) : FVec F S256x256 .f32 :=
  select (k0_pay179 i) x (broadcast S256x256 (Scalar.ofBits .f32 0xFF800000#32))

/-- The new running maximum, a row. -/
def mRow (x : FVec F S256x256 .f32) (mo : Vec F S1x1x256 .f32) : FVec F S1x256 .f32 :=
  maximumf (shapeCast S1x256 mo shapeCasts_S1x1x256_S1x256)
    (shapeCast S1x256 (multiReduction .maximumf [0] S256 x 0xFF800000#32 reduces_S256x256_S256 (.inl rfl) rfl) shapeCasts_S256_S1x256)

/-- What the exponents are taken relative to: the new maximum, or zero where that is `−∞`. -/
def mRef (x : FVec F S256x256 .f32) (mo : Vec F S1x1x256 .f32) : FVec F S1x256 .f32 :=
  select (cmpf .oeq (mRow x mo) (broadcast S1x256 (Scalar.ofBits .f32 0xFF800000#32))) (broadcast S1x256 (Scalar.ofBits .f32 0x00000000#32)) (mRow x mo)

/-- What the earlier sums are rescaled by. -/
def alpha (x : FVec F S256x256 .f32) (mo : Vec F S1x1x256 .f32) : FVec F S1x256 .f32 :=
  exp2 (subf (shapeCast S1x256 mo shapeCasts_S1x1x256_S1x256) (mRef x mo))

/-- The chunk's exponentials. -/
def prob (x : FVec F S256x256 .f32) (mo : Vec F S1x1x256 .f32) : FVec F S256x256 .f32 :=
  exp2 (subf x (broadcastTo S256x256 (mRef x mo) broadcasts_S1x256_S256x256))

/-- The new running maximum, as stored. -/
def mNew (x : FVec F S256x256 .f32) (mo : Vec F S1x1x256 .f32) : FVec F S1x1x256 .f32 :=
  shapeCast S1x1x256 (mRow x mo) shapeCasts_S1x256_S1x1x256

/-- The new running denominator. -/
def lNew (x : FVec F S256x256 .f32) (mo lo : Vec F S1x1x256 .f32) : FVec F S1x1x256 .f32 :=
  shapeCast S1x1x256 (addf (mulf (alpha x mo) (shapeCast S1x256 lo shapeCasts_S1x1x256_S1x256))
    (shapeCast S1x256 (multiReduction .add [0] S256 (prob x mo) 0x00000000#32 reduces_S256x256_S256 (.inl rfl) rfl) shapeCasts_S256_S1x256))
    shapeCasts_S1x256_S1x1x256

/-- The new running numerator. -/
def aNew (x : FVec F S256x256 .f32) (mo : Vec F S1x1x256 .f32) (ao : Vec F S1x128x256 .f32) (v : Vec F S1x1x1x128x256 .bf16) : FVec F S1x128x256 .f32 :=
  shapeCast S1x128x256 (addf (mulf (broadcastTo S128x256 (alpha x mo) broadcasts_S1x256_S128x256) (shapeCast S128x256 ao shapeCasts_S1x128x256_S128x256))
    (matmul dot_S128x256_S256x256_S128x256_1_0_0_1_n_n none (shapeCast S128x256 v shapeCasts_S1x1x1x128x256_S128x256)
      (truncf .bf16 (prob x mo) bitsLt_bf16_f32) (constant S128x256 .f32 0x00000000#32))) shapeCasts_S128x256_S1x128x256

/-- What is written out for one head: numerator over denominator, queries by features. -/
def outHead (a : Vec F S1x128x256 .f32) (l : Vec F S1x1x256 .f32) : FVec F S256x128 .bf16 :=
  truncf .bf16 (transpose S256x128 [1, 0] (divf (shapeCast S128x256 a shapeCasts_S1x128x256_S128x256)
    (broadcastTo S128x256 (shapeCast S1x256 l shapeCasts_S1x1x256_S1x256) broadcasts_S1x256_S128x256)) transposes_S128x256_p1_0_S256x128) bitsLt_bf16_f32

/-- The running state of one head: maximum, denominator, numerator. -/
structure Head (F : FTy → Type) where
  m : S1x1x256.Idx → F .f32
  l : S1x1x256.Idx → F .f32
  a : S1x128x256.Idx → F .f32

/-- One step of one head on a chunk's scores and values. -/
def Head.step (s : Head F) (x : FVec F S256x256 .f32) (v : Vec F S1x1x1x128x256 .bf16) : Head F :=
  ⟨mNew x s.m, lNew x s.m s.l, aNew x s.m s.a v⟩

/-! ## The rectangles of one head -/

/-- Head `h`'s row of the maxima and of the denominators. -/
abbrev rM (h : Fin 8) : Rect S8x1x256 :=
  Rect.unit ![h.val, 0, 0] S1x1x256.size (by intro a; fin_cases a <;> simp [S1x1x256, S8x1x256] <;> omega)

/-- Head `h`'s numerators. -/
abbrev rA (h : Fin 8) : Rect S8x128x256 :=
  Rect.unit ![h.val, 0, 0] S1x128x256.size (by intro a; fin_cases a <;> simp [S1x128x256, S8x128x256] <;> omega)

theorem inbQ (h : Fin 8) : ∀ a, (![0, h.val, 0, 0] : Fin 4 → ℕ) a + S1x1x256x256.size a ≤ S1x8x256x256.size a := by
  intro a; fin_cases a <;> simp [S1x1x256x256, S1x8x256x256] <;> omega

theorem inbK (h c : Fin 8) : ∀ a, (![0, h.val, 256 * c.val, 0] : Fin 4 → ℕ) a + S1x1x256x256.size a ≤ S1x8x2048x256.size a := by
  intro a; fin_cases a <;> simp [S1x1x256x256, S1x8x2048x256] <;> omega

theorem inbV (h c : Fin 8) : ∀ a, (![0, h.val, c.val, 0, 0] : Fin 5 → ℕ) a + S1x1x1x128x256.size a ≤ S1x8x8x128x256.size a := by
  intro a; fin_cases a <;> simp [S1x1x1x128x256, S1x8x8x128x256] <;> omega

/-- Head `h`'s queries in the query block. -/
def qWin (x0 : S1x8x256x256.Idx → F .bf16) (h : Fin 8) : Vec F S1x1x256x256 .bf16 := VecWindow.window x0 ![0, h.val, 0, 0] S1x1x256x256.size (inbQ h)

/-- Head `h`'s keys of chunk `c` in the key block. -/
def kWin (x1 : S1x8x2048x256.Idx → F .bf16) (h c : Fin 8) : Vec F S1x1x256x256 .bf16 := VecWindow.window x1 ![0, h.val, 256 * c.val, 0] S1x1x256x256.size (inbK h c)

/-- Head `h`'s values of chunk `c` in the value block. -/
def vWin (x2 : S1x8x8x128x256.Idx → F .bf16) (h c : Fin 8) : Vec F S1x1x1x128x256 .bf16 := VecWindow.window x2 ![0, h.val, c.val, 0, 0] S1x1x1x128x256.size (inbV h c)

/-! ## One trip -/

/-- The loop makes at most seven trips. -/
theorem trips_le (i : grid0.Coords) : (k0_t1_loop i).trips ≤ 7 := (k0_t1_abs i).2.1

/-- The loop makes as many trips as the query block has chunks before it. -/
theorem trips_eq : ∀ i : grid0.Coords, (k0_t1_loop i).trips = (i 1).val := by decide +kernel

/-- A trip as a chunk number. -/
def chunk {i : grid0.Coords} (k : Fin (k0_t1_loop i).trips) : Fin 8 := ⟨k.val, by have := k.isLt; have := trips_le i; omega⟩

variable (c : Dev nD) (i : grid0.Coords)
  (arg2 : Memref sig .tc .vmem S1x8x256x256 .bf16) (harg2 : arg2.IsWhole) (arg3 : Memref sig .tc .vmem S1x8x2048x256 .bf16) (harg3 : arg3.IsWhole)
  (arg4 : Memref sig .tc .vmem S1x8x8x128x256 .bf16) (harg4 : arg4.IsWhole) (arg5 : Memref sig .tc .vmem S256x1024 .bf16) (harg5 : arg5.IsWhole)
  (arg6 : Memref sig .tc .vmem S8x1x256 .f32) (harg6 : arg6.IsWhole) (arg7 : Memref sig .tc .vmem S8x1x256 .f32) (harg7 : arg7.IsWhole)
  (arg8 : Memref sig .tc .vmem S8x128x256 .f32) (harg8 : arg8.IsWhole)

/-- Head `h`'s queries, as a load of the query buffer. -/
def qLd (X2 : BufTy.Contents (Elt F) arg2.view.ty) (h : Fin 8) : Vec F S1x1x256x256 .bf16 :=
  arg2.view.readAt (Elt F) (Rect.unit (s := S1x8x256x256) ![0, h.val, 0, 0] S1x1x256x256.size (inbQ h)).toLoadRect X2

/-- Head `h`'s keys of trip `k`, as a load of the key buffer. -/
def kLd (X3 : BufTy.Contents (Elt F) arg3.view.ty) (k : Fin (k0_t1_loop i).trips) : Fin 8 → Vec F S1x1x256x256 .bf16 :=
  ![arg3.view.readAt (Elt F) (Rect.unit (s := S1x8x2048x256) (k0_off1 i k) S1x1x256x256.size (k0_off1_inb i k)).toLoadRect X3,
    arg3.view.readAt (Elt F) (Rect.unit (s := S1x8x2048x256) (k0_off2 i k) S1x1x256x256.size (k0_off2_inb i k)).toLoadRect X3,
    arg3.view.readAt (Elt F) (Rect.unit (s := S1x8x2048x256) (k0_off3 i k) S1x1x256x256.size (k0_off3_inb i k)).toLoadRect X3,
    arg3.view.readAt (Elt F) (Rect.unit (s := S1x8x2048x256) (k0_off4 i k) S1x1x256x256.size (k0_off4_inb i k)).toLoadRect X3,
    arg3.view.readAt (Elt F) (Rect.unit (s := S1x8x2048x256) (k0_off5 i k) S1x1x256x256.size (k0_off5_inb i k)).toLoadRect X3,
    arg3.view.readAt (Elt F) (Rect.unit (s := S1x8x2048x256) (k0_off7 i k) S1x1x256x256.size (k0_off7_inb i k)).toLoadRect X3,
    arg3.view.readAt (Elt F) (Rect.unit (s := S1x8x2048x256) (k0_off9 i k) S1x1x256x256.size (k0_off9_inb i k)).toLoadRect X3,
    arg3.view.readAt (Elt F) (Rect.unit (s := S1x8x2048x256) (k0_off11 i k) S1x1x256x256.size (k0_off11_inb i k)).toLoadRect X3]

/-- Head `h`'s values of trip `k`, as a load of the value buffer. -/
def vLd (X4 : BufTy.Contents (Elt F) arg4.view.ty) (k : Fin (k0_t1_loop i).trips) : Fin 8 → Vec F S1x1x1x128x256 .bf16 :=
  ![arg4.view.readAt (Elt F) (Rect.unit (s := S1x8x8x128x256) (k0_off6 i k) S1x1x1x128x256.size (k0_off6_inb i k)).toLoadRect X4,
    arg4.view.readAt (Elt F) (Rect.unit (s := S1x8x8x128x256) (k0_off8 i k) S1x1x1x128x256.size (k0_off8_inb i k)).toLoadRect X4,
    arg4.view.readAt (Elt F) (Rect.unit (s := S1x8x8x128x256) (k0_off10 i k) S1x1x1x128x256.size (k0_off10_inb i k)).toLoadRect X4,
    arg4.view.readAt (Elt F) (Rect.unit (s := S1x8x8x128x256) (k0_off12 i k) S1x1x1x128x256.size (k0_off12_inb i k)).toLoadRect X4,
    arg4.view.readAt (Elt F) (Rect.unit (s := S1x8x8x128x256) (k0_off13 i k) S1x1x1x128x256.size (k0_off13_inb i k)).toLoadRect X4,
    arg4.view.readAt (Elt F) (Rect.unit (s := S1x8x8x128x256) (k0_off14 i k) S1x1x1x128x256.size (k0_off14_inb i k)).toLoadRect X4,
    arg4.view.readAt (Elt F) (Rect.unit (s := S1x8x8x128x256) (k0_off15 i k) S1x1x1x128x256.size (k0_off15_inb i k)).toLoadRect X4,
    arg4.view.readAt (Elt F) (Rect.unit (s := S1x8x8x128x256) (k0_off16 i k) S1x1x1x128x256.size (k0_off16_inb i k)).toLoadRect X4]

theorem qLd_eq (x0 : S1x8x256x256.Idx → F .bf16) (h : Fin 8) : qLd arg2 (harg2.unread x0) h = qWin x0 h := by
  unfold qLd qWin; rw [View.readAt_unit _ _ _ rfl (inbQ h), Memref.IsWhole.read_unread]

theorem kLd_eq (x1 : S1x8x2048x256.Idx → F .bf16) (k : Fin (k0_t1_loop i).trips) (h : Fin 8) :
    kLd i arg3 (harg3.unread x1) k h = kWin x1 h (chunk k) := by
  have key : ∀ (off : Fin 4 → ℕ) (inb : ∀ a, off a + S1x1x256x256.size a ≤ S1x8x2048x256.size a), off = ![0, h.val, 256 * (chunk k).val, 0] →
      arg3.view.readAt (Elt F) (Rect.unit (s := S1x8x2048x256) off S1x1x256x256.size inb).toLoadRect (harg3.unread x1) = kWin x1 h (chunk k) := by
    intro off inb e; unfold kWin; rw [View.readAt_unit _ _ _ e (inbK h (chunk k)), Memref.IsWhole.read_unread]
  fin_cases h
  · exact key _ _ (k0_off1_eq i k)
  · exact key _ _ (k0_off2_eq i k)
  · exact key _ _ (k0_off3_eq i k)
  · exact key _ _ (k0_off4_eq i k)
  · exact key _ _ (k0_off5_eq i k)
  · exact key _ _ (k0_off7_eq i k)
  · exact key _ _ (k0_off9_eq i k)
  · exact key _ _ (k0_off11_eq i k)

theorem vLd_eq (x2 : S1x8x8x128x256.Idx → F .bf16) (k : Fin (k0_t1_loop i).trips) (h : Fin 8) :
    vLd i arg4 (harg4.unread x2) k h = vWin x2 h (chunk k) := by
  have key : ∀ (off : Fin 5 → ℕ) (inb : ∀ a, off a + S1x1x1x128x256.size a ≤ S1x8x8x128x256.size a), off = ![0, h.val, (chunk k).val, 0, 0] →
      arg4.view.readAt (Elt F) (Rect.unit (s := S1x8x8x128x256) off S1x1x1x128x256.size inb).toLoadRect (harg4.unread x2) = vWin x2 h (chunk k) := by
    intro off inb e; unfold vWin; rw [View.readAt_unit _ _ _ e (inbV h (chunk k)), Memref.IsWhole.read_unread]
  fin_cases h
  · exact key _ _ (k0_off6_eq i k)
  · exact key _ _ (k0_off8_eq i k)
  · exact key _ _ (k0_off10_eq i k)
  · exact key _ _ (k0_off12_eq i k)
  · exact key _ _ (k0_off13_eq i k)
  · exact key _ _ (k0_off14_eq i k)
  · exact key _ _ (k0_off15_eq i k)
  · exact key _ _ (k0_off16_eq i k)

/-- The heads in the order their stores are listed, the last first. -/
def heads : List (Fin 8) := [7, 6, 5, 4, 3, 2, 1, 0]

/-- Head `h`'s running state in the scratch buffers. -/
def headAt (f6 : BufTy.Contents (Elt F) arg6.view.ty) (f7 : BufTy.Contents (Elt F) arg7.view.ty) (f8 : BufTy.Contents (Elt F) arg8.view.ty) (h : Fin 8) : Head F :=
  ⟨arg6.view.readAt (Elt F) (rM h).toLoadRect f6, arg7.view.readAt (Elt F) (rM h).toLoadRect f7, arg8.view.readAt (Elt F) (rA h).toLoadRect f8⟩

/-- One trip stores, for each head, the step of that head from what the buffers held at the trip's start. -/
theorem trip_eq (X2 : BufTy.Contents (Elt F) arg2.view.ty) (X3 : BufTy.Contents (Elt F) arg3.view.ty) (X4 : BufTy.Contents (Elt F) arg4.view.ty)
    (k : Fin (k0_t1_loop i).trips) (f6 : BufTy.Contents (Elt F) arg6.view.ty) (f7 : BufTy.Contents (Elt F) arg7.view.ty) (f8 : BufTy.Contents (Elt F) arg8.view.ty) :
    tripL_k0_t1 (F := F) Variants.none c none i arg2 harg2 arg3 harg3 arg4 harg4 arg5 harg5 arg6 harg6 arg7 harg7 arg8 harg8 X2 X3 X4 k f6 f7 f8 =
      (heads.map fun h => ⟨rM h, ((headAt arg6 arg7 arg8 f6 f7 f8 h).step (score (kLd i arg3 X3 k h) (qLd arg2 X2 h)) (vLd i arg4 X4 k h)).m⟩,
       heads.map fun h => ⟨rM h, ((headAt arg6 arg7 arg8 f6 f7 f8 h).step (score (kLd i arg3 X3 k h) (qLd arg2 X2 h)) (vLd i arg4 X4 k h)).l⟩,
       heads.map fun h => ⟨rA h, ((headAt arg6 arg7 arg8 f6 f7 f8 h).step (score (kLd i arg3 X3 k h) (qLd arg2 X2 h)) (vLd i arg4 X4 k h)).a⟩) := by
  unfold tripL_k0_t1 trip_k0_t1
  dsimp only
  sl_unfold_words
  refine Prod.ext rfl (Prod.ext rfl rfl)

end Cert.AttnStep

end
-- ==== Proof.AttnHeads.lean ====
/- The dense attention's body, head by head: what the scratch buffers hold after the loop over earlier chunks, and what the step on the diagonal chunk leaves in them. -/
module

public import proofs.«01_k».proof.Proof.AttnStep

@[expose] public section

set_option maxRecDepth 16384

noncomputable section

namespace Cert.AttnHeads

open Cert.AttnIdeal Cert.AttnIdeal.Gen Cert.AttnIdeal.Gen.kernelRun0_A Cert.AttnStep
open Idealize.ShloMosaic Idealize.ShloMosaic.TcCoe Idealize.ShloMosaic.Tactic

variable {F : FTy → Type} [FloatOps F] [Named F]

/-! ## Reading one rectangle of a list of stores -/

section Rd

variable {s : Shape} {e : EltTy}

/-- What a list of stores leaves in a rectangle. -/
def rd (r : Rect s) (L : List (View.Piece (Elt F) s e)) : r.shape.Idx → Elt F e := fun j => View.canon L (r.emb j)

theorem readCov_rd {sig' : RefSig} {κ' : Kind} {sp : Space} (v : View sig' κ' sp s e) (r : Rect s) (L : List (View.Piece (Elt F) s e)) :
    v.readCov L r.toLoadRect = rd r L := View.readCov_eq_canon' v L r.toLoadRect

theorem readAt_rd {sig' : RefSig} {κ' : Kind} {sp : Space} (v : View sig' κ' sp s e) (r : Rect s) (L : List (View.Piece (Elt F) s e)) :
    v.readAt (Elt F) r.toLoadRect (v.writes (Elt F) v.junk L) = rd r L := View.readAt_writes_junk_eq_canon v L r.toLoadRect

theorem rd_self (r : Rect s) (w : r.shape.Idx → Elt F e) (L : List (View.Piece (Elt F) s e)) : rd r (⟨r, w⟩ :: L) = w :=
  funext fun j => View.canon_cons_emb r w L j

theorem rd_ne (r r' : Rect s) (w : r'.shape.Idx → Elt F e) (L : List (View.Piece (Elt F) s e)) (h : ∀ j, r.emb j ∉ r'.set) :
    rd r (⟨r', w⟩ :: L) = rd r L :=
  funext fun j => View.canon_cons_of_not_mem ⟨r', w⟩ L (h j)

/-- A store of the whole shape leaves its payload. -/
theorem canon_full (w : s.Idx → Elt F e) {off : Fin s.rank → ℕ} (inb : ∀ a, off a + s.size a ≤ s.size a) (y : s.Idx) :
    View.canon (Val := Elt F) [⟨Rect.unit off s.size inb, w⟩] y = w y := by
  have h := View.canon_cons_emb (Val := Elt F) (Rect.unit off s.size inb) w [] y
  rwa [Rect.emb_unit_full] at h

/-- A family of stores at disjoint rectangles leaves each one's payload, if it is in the list; -/
theorem rd_map_mem {ι : Type} [DecidableEq ι] (r : ι → Rect s) (w : (h : ι) → (r h).shape.Idx → Elt F e) (B : List (View.Piece (Elt F) s e))
    (hd : ∀ h h', h ≠ h' → ∀ j, (r h).emb j ∉ (r h').set) (h : ι) : ∀ hs : List ι, h ∈ hs → rd (r h) (hs.map (fun h => ⟨r h, w h⟩) ++ B) = w h
  | [], hm => absurd hm List.not_mem_nil
  | h' :: hs, hm => by
    by_cases e : h = h'
    · subst e; exact rd_self _ _ _
    · exact (rd_ne _ _ _ _ (hd h h' e)).trans (rd_map_mem r w B hd h hs ((List.mem_cons.mp hm).resolve_left e))

/-- and what was there before, if it is not. -/
theorem rd_map_not_mem {ι : Type} [DecidableEq ι] (r : ι → Rect s) (w : (h : ι) → (r h).shape.Idx → Elt F e) (B : List (View.Piece (Elt F) s e))
    (hd : ∀ h h', h ≠ h' → ∀ j, (r h).emb j ∉ (r h').set) (h : ι) : ∀ hs : List ι, h ∉ hs → rd (r h) (hs.map (fun h => ⟨r h, w h⟩) ++ B) = rd (r h) B
  | [], _ => rfl
  | h' :: hs, hm => (rd_ne _ _ _ _ (hd h h' (fun e => hm (e ▸ List.mem_cons_self)))).trans
      (rd_map_not_mem r w B hd h hs (fun hm' => hm (List.mem_cons_of_mem _ hm')))

end Rd

theorem rM_disj (h h' : Fin 8) (hne : h ≠ h') (j : (rM h).shape.Idx) : (rM h).emb j ∉ (rM h').set := by
  intro hm
  obtain ⟨j', hj'⟩ := (rM h').exists_idx_of_mem hm
  have h0 := congrArg Fin.val (congrFun hj' 0)
  have hj1 : (j' 0).val < 1 := (j' 0).isLt
  have hj2 : (j 0).val < 1 := (j 0).isLt
  have e : h'.val + 1 * (j' 0).val = h.val + 1 * (j 0).val := h0
  exact hne (Fin.ext (by omega))

theorem rA_disj (h h' : Fin 8) (hne : h ≠ h') (j : (rA h).shape.Idx) : (rA h).emb j ∉ (rA h').set := by
  intro hm
  obtain ⟨j', hj'⟩ := (rA h').exists_idx_of_mem hm
  have h0 := congrArg Fin.val (congrFun hj' 0)
  have hj1 : (j' 0).val < 1 := (j' 0).isLt
  have hj2 : (j 0).val < 1 := (j 0).isLt
  have e : h'.val + 1 * (j' 0).val = h.val + 1 * (j 0).val := h0
  exact hne (Fin.ext (by omega))

theorem mem_heads (h : Fin 8) : h ∈ heads := by fin_cases h <;> decide

/-! ## The state of one head over the chunks -/

/-- A head's state before any chunk: maximum `−∞`, sums zero. -/
def start : Head F := ⟨fun _ => Scalar.ofBits .f32 0xFF800000#32, fun _ => Scalar.ofBits .f32 0x00000000#32, fun _ => Scalar.ofBits .f32 0x00000000#32⟩

/-- Head `h`'s state after the first `n` chunks. -/
def after (x0 : S1x8x256x256.Idx → F .bf16) (x1 : S1x8x2048x256.Idx → F .bf16) (x2 : S1x8x8x128x256.Idx → F .bf16) (h : Fin 8) : ℕ → Head F
  | 0 => start
  | n + 1 => if hn : n < 8 then (after x0 x1 x2 h n).step (score (kWin x1 h ⟨n, hn⟩) (qWin x0 h)) (vWin x2 h ⟨n, hn⟩) else after x0 x1 x2 h n

/-- The query block's own chunk. -/
def diag (i : grid0.Coords) : Fin 8 := ⟨(i 1).val, (i 1).isLt⟩

/-- Head `h`'s state after the chunks before the diagonal and the diagonal one. -/
def last (i : grid0.Coords) (x0 : S1x8x256x256.Idx → F .bf16) (x1 : S1x8x2048x256.Idx → F .bf16) (x2 : S1x8x8x128x256.Idx → F .bf16) (h : Fin 8) : Head F :=
  (after x0 x1 x2 h (i 1).val).step (masked i (score (kWin x1 h (diag i)) (qWin x0 h))) (vWin x2 h (diag i))

variable (c : Dev nD) (i : grid0.Coords)
  (arg2 : Memref sig .tc .vmem S1x8x256x256 .bf16) (harg2 : arg2.IsWhole) (arg3 : Memref sig .tc .vmem S1x8x2048x256 .bf16) (harg3 : arg3.IsWhole)
  (arg4 : Memref sig .tc .vmem S1x8x8x128x256 .bf16) (harg4 : arg4.IsWhole) (arg5 : Memref sig .tc .vmem S256x1024 .bf16) (harg5 : arg5.IsWhole)
  (arg6 : Memref sig .tc .vmem S8x1x256 .f32) (harg6 : arg6.IsWhole) (arg7 : Memref sig .tc .vmem S8x1x256 .f32) (harg7 : arg7.IsWhole)
  (arg8 : Memref sig .tc .vmem S8x128x256 .f32) (harg8 : arg8.IsWhole)
  (x0 : S1x8x256x256.Idx → F .bf16) (x1 : S1x8x2048x256.Idx → F .bf16) (x2 : S1x8x8x128x256.Idx → F .bf16)

/-! ## The loop over the chunks before the diagonal -/

/-- Head `h`'s row of the maxima or denominators that a list of stores leaves. -/
def rdM (h : Fin 8) (L : List (View.Piece (Elt F) S8x1x256 .f32)) : S1x1x256.Idx → F .f32 := rd (rM h) L

/-- Head `h`'s numerators that a list of stores leaves. -/
def rdA (h : Fin 8) (L : List (View.Piece (Elt F) S8x128x256 .f32)) : S1x128x256.Idx → F .f32 := rd (rA h) L

/-- Before the loop the scratch buffers hold every head's starting state. -/
theorem start_eq (h : Fin 8) : (⟨rdM h sl.HS0_1, rdM h sl.HS1_1, rdA h sl.HS2_1⟩ : Head F) = start := by
  have e0 : rdM (F := F) h sl.HS0_1 = fun _ => Scalar.ofBits .f32 0xFF800000#32 := funext fun j => canon_full (F := F) (e := .f32) (k0_pay172 (F := F)) _ ((rM h).emb j)
  have e1 : rdM (F := F) h sl.HS1_1 = fun _ => Scalar.ofBits .f32 0x00000000#32 := funext fun j => canon_full (F := F) (e := .f32) (k0_pay173 (F := F)) _ ((rM h).emb j)
  have e2 : rdA (F := F) h sl.HS2_1 = fun _ => Scalar.ofBits .f32 0x00000000#32 := funext fun j => canon_full (F := F) (e := .f32) (k0_pay174 (F := F)) _ ((rA h).emb j)
  rw [e0, e1, e2]; rfl

/-- After `k` trips every head's scratch holds its state after the first `k` chunks. -/
theorem loop_eq (h : Fin 8) : ∀ k ≤ (k0_t1_loop i).trips,
    (⟨rdM h ((pb_k0_t1 (F := F) Variants.none c none i arg2 harg2 arg3 harg3 arg4 harg4 arg5 harg5 arg6 harg6 arg7 harg7 arg8 harg8 (harg2.unread x0) (harg3.unread x1) (harg4.unread x2)
      (arg6.view.writes (Elt F) arg6.view.junk sl.HS0_1) (arg7.view.writes (Elt F) arg7.view.junk sl.HS1_1) (arg8.view.writes (Elt F) arg8.view.junk sl.HS2_1) k).1 ++ sl.HS0_1),
      rdM h ((pb_k0_t1 (F := F) Variants.none c none i arg2 harg2 arg3 harg3 arg4 harg4 arg5 harg5 arg6 harg6 arg7 harg7 arg8 harg8 (harg2.unread x0) (harg3.unread x1) (harg4.unread x2)
      (arg6.view.writes (Elt F) arg6.view.junk sl.HS0_1) (arg7.view.writes (Elt F) arg7.view.junk sl.HS1_1) (arg8.view.writes (Elt F) arg8.view.junk sl.HS2_1) k).2.1 ++ sl.HS1_1),
      rdA h ((pb_k0_t1 (F := F) Variants.none c none i arg2 harg2 arg3 harg3 arg4 harg4 arg5 harg5 arg6 harg6 arg7 harg7 arg8 harg8 (harg2.unread x0) (harg3.unread x1) (harg4.unread x2)
      (arg6.view.writes (Elt F) arg6.view.junk sl.HS0_1) (arg7.view.writes (Elt F) arg7.view.junk sl.HS1_1) (arg8.view.writes (Elt F) arg8.view.junk sl.HS2_1) k).2.2 ++ sl.HS2_1)⟩ : Head F) = after x0 x1 x2 h k := by
  intro k
  induction k with
  | zero => intro _; exact start_eq h
  | succ k ih =>
    intro hk
    have ihk := ih (by omega)
    have hk8 : k < 8 := by have := trips_le i; omega
    rw [pb_k0_t1_succ (F := F) Variants.none c none i arg2 harg2 arg3 harg3 arg4 harg4 arg5 harg5 arg6 harg6 arg7 harg7 arg8 harg8 (harg2.unread x0) (harg3.unread x1) (harg4.unread x2)
      (arg6.view.writes (Elt F) arg6.view.junk sl.HS0_1) (arg7.view.writes (Elt F) arg7.view.junk sl.HS1_1) (arg8.view.writes (Elt F) arg8.view.junk sl.HS2_1) ⟨k, hk⟩, trip_eq]
    have hat : headAt arg6 arg7 arg8
        (arg6.view.writes (Elt F) (arg6.view.writes (Elt F) arg6.view.junk sl.HS0_1) (pb_k0_t1 (F := F) Variants.none c none i arg2 harg2 arg3 harg3 arg4 harg4 arg5 harg5 arg6 harg6 arg7 harg7 arg8 harg8 (harg2.unread x0) (harg3.unread x1) (harg4.unread x2)
      (arg6.view.writes (Elt F) arg6.view.junk sl.HS0_1) (arg7.view.writes (Elt F) arg7.view.junk sl.HS1_1) (arg8.view.writes (Elt F) arg8.view.junk sl.HS2_1) k).1)
        (arg7.view.writes (Elt F) (arg7.view.writes (Elt F) arg7.view.junk sl.HS1_1) (pb_k0_t1 (F := F) Variants.none c none i arg2 harg2 arg3 harg3 arg4 harg4 arg5 harg5 arg6 harg6 arg7 harg7 arg8 harg8 (harg2.unread x0) (harg3.unread x1) (harg4.unread x2)
      (arg6.view.writes (Elt F) arg6.view.junk sl.HS0_1) (arg7.view.writes (Elt F) arg7.view.junk sl.HS1_1) (arg8.view.writes (Elt F) arg8.view.junk sl.HS2_1) k).2.1)
        (arg8.view.writes (Elt F) (arg8.view.writes (Elt F) arg8.view.junk sl.HS2_1) (pb_k0_t1 (F := F) Variants.none c none i arg2 harg2 arg3 harg3 arg4 harg4 arg5 harg5 arg6 harg6 arg7 harg7 arg8 harg8 (harg2.unread x0) (harg3.unread x1) (harg4.unread x2)
      (arg6.view.writes (Elt F) arg6.view.junk sl.HS0_1) (arg7.view.writes (Elt F) arg7.view.junk sl.HS1_1) (arg8.view.writes (Elt F) arg8.view.junk sl.HS2_1) k).2.2) h
        = after x0 x1 x2 h k := by
      rw [← ihk]
      unfold headAt
      rw [← View.writes_append, ← View.writes_append, ← View.writes_append, readAt_rd, readAt_rd, readAt_rd]
      rfl
    have hs : (after x0 x1 x2 h k).step (score (kLd i arg3 (harg3.unread x1) ⟨k, hk⟩ h) (qLd arg2 (harg2.unread x0) h)) (vLd i arg4 (harg4.unread x2) ⟨k, hk⟩ h)
        = after x0 x1 x2 h (k + 1) := by
      rw [qLd_eq, kLd_eq, vLd_eq, after, dif_pos hk8]; rfl
    rw [← hs, ← hat]
    dsimp only
    unfold rdM rdA
    rw [List.append_assoc, List.append_assoc, List.append_assoc,
      rd_map_mem rM _ _ rM_disj h heads (mem_heads h), rd_map_mem rM _ _ rM_disj h heads (mem_heads h), rd_map_mem rA _ _ rA_disj h heads (mem_heads h)]

/-! ## The diagonal chunk -/

/-- The stores made to the maxima before the diagonal chunk; -/
def before6 : List (View.Piece (Elt F) S8x1x256 .f32) := (sl.HS0_1_1 c i arg2 harg2 arg3 harg3 arg4 harg4 arg5 harg5 arg6 harg6 arg7 harg7 arg8 harg8 x0 x1 x2).tail
/-- to the denominators; -/
def before7 : List (View.Piece (Elt F) S8x1x256 .f32) := (sl.HS1_1_1 c i arg2 harg2 arg3 harg3 arg4 harg4 arg5 harg5 arg6 harg6 arg7 harg7 arg8 harg8 x0 x1 x2).tail
/-- to the numerators. -/
def before8 : List (View.Piece (Elt F) S8x128x256 .f32) := (sl.HS2_1_1 c i arg2 harg2 arg3 harg3 arg4 harg4 arg5 harg5 arg6 harg6 arg7 harg7 arg8 harg8 x0 x1 x2).tail

/-- Before the diagonal chunk every head's scratch holds its state after the earlier chunks. -/
theorem before_eq (h : Fin 8) : (⟨rdM h (before6 c i arg2 harg2 arg3 harg3 arg4 harg4 arg5 harg5 arg6 harg6 arg7 harg7 arg8 harg8 x0 x1 x2), rdM h (before7 c i arg2 harg2 arg3 harg3 arg4 harg4 arg5 harg5 arg6 harg6 arg7 harg7 arg8 harg8 x0 x1 x2), rdA h (before8 c i arg2 harg2 arg3 harg3 arg4 harg4 arg5 harg5 arg6 harg6 arg7 harg7 arg8 harg8 x0 x1 x2)⟩ : Head F) = after x0 x1 x2 h (i 1).val := by
  have h2 : Scf.trips (k0_t2_loop i).lb (k0_t2_loop i).ub (k0_t2_loop i).st = 0 := Nat.le_zero.mp (k0_t2_abs i).2.1
  rw [← trips_eq i, ← loop_eq c i arg2 harg2 arg3 harg3 arg4 harg4 arg5 harg5 arg6 harg6 arg7 harg7 arg8 harg8 x0 x1 x2 h _ le_rfl]
  unfold before6 before7 before8 sl.HS0_1_1 sl.HS1_1_1 sl.HS2_1_1
  rw [h2]
  rfl

/-- Head `h`'s keys of the diagonal chunk, as a load of the key buffer. -/
def kDiag (X3 : BufTy.Contents (Elt F) arg3.view.ty) : Fin 8 → Vec F S1x1x256x256 .bf16 :=
  ![arg3.view.readAt (Elt F) (Rect.unit (s := S1x8x2048x256) (k0_off33 i) S1x1x256x256.size (k0_off33_inb i)).toLoadRect X3,
    arg3.view.readAt (Elt F) (Rect.unit (s := S1x8x2048x256) (k0_off34 i) S1x1x256x256.size (k0_off34_inb i)).toLoadRect X3,
    arg3.view.readAt (Elt F) (Rect.unit (s := S1x8x2048x256) (k0_off35 i) S1x1x256x256.size (k0_off35_inb i)).toLoadRect X3,
    arg3.view.readAt (Elt F) (Rect.unit (s := S1x8x2048x256) (k0_off36 i) S1x1x256x256.size (k0_off36_inb i)).toLoadRect X3,
    arg3.view.readAt (Elt F) (Rect.unit (s := S1x8x2048x256) (k0_off37 i) S1x1x256x256.size (k0_off37_inb i)).toLoadRect X3,
    arg3.view.readAt (Elt F) (Rect.unit (s := S1x8x2048x256) (k0_off39 i) S1x1x256x256.size (k0_off39_inb i)).toLoadRect X3,
    arg3.view.readAt (Elt F) (Rect.unit (s := S1x8x2048x256) (k0_off41 i) S1x1x256x256.size (k0_off41_inb i)).toLoadRect X3,
    arg3.view.readAt (Elt F) (Rect.unit (s := S1x8x2048x256) (k0_off43 i) S1x1x256x256.size (k0_off43_inb i)).toLoadRect X3]

/-- Head `h`'s values of the diagonal chunk, as a load of the value buffer. -/
def vDiag (X4 : BufTy.Contents (Elt F) arg4.view.ty) : Fin 8 → Vec F S1x1x1x128x256 .bf16 :=
  ![arg4.view.readAt (Elt F) (Rect.unit (s := S1x8x8x128x256) (k0_off38 i) S1x1x1x128x256.size (k0_off38_inb i)).toLoadRect X4,
    arg4.view.readAt (Elt F) (Rect.unit (s := S1x8x8x128x256) (k0_off40 i) S1x1x1x128x256.size (k0_off40_inb i)).toLoadRect X4,
    arg4.view.readAt (Elt F) (Rect.unit (s := S1x8x8x128x256) (k0_off42 i) S1x1x1x128x256.size (k0_off42_inb i)).toLoadRect X4,
    arg4.view.readAt (Elt F) (Rect.unit (s := S1x8x8x128x256) (k0_off44 i) S1x1x1x128x256.size (k0_off44_inb i)).toLoadRect X4,
    arg4.view.readAt (Elt F) (Rect.unit (s := S1x8x8x128x256) (k0_off45 i) S1x1x1x128x256.size (k0_off45_inb i)).toLoadRect X4,
    arg4.view.readAt (Elt F) (Rect.unit (s := S1x8x8x128x256) (k0_off46 i) S1x1x1x128x256.size (k0_off46_inb i)).toLoadRect X4,
    arg4.view.readAt (Elt F) (Rect.unit (s := S1x8x8x128x256) (k0_off47 i) S1x1x1x128x256.size (k0_off47_inb i)).toLoadRect X4,
    arg4.view.readAt (Elt F) (Rect.unit (s := S1x8x8x128x256) (k0_off48 i) S1x1x1x128x256.size (k0_off48_inb i)).toLoadRect X4]

theorem kDiag_eq (h : Fin 8) : kDiag i arg3 (harg3.unread x1) h = kWin x1 h (diag i) := by
  have key : ∀ (off : Fin 4 → ℕ) (inb : ∀ a, off a + S1x1x256x256.size a ≤ S1x8x2048x256.size a), off = ![0, h.val, 256 * (diag i).val, 0] →
      arg3.view.readAt (Elt F) (Rect.unit (s := S1x8x2048x256) off S1x1x256x256.size inb).toLoadRect (harg3.unread x1) = kWin x1 h (diag i) := by
    intro off inb e; unfold kWin; rw [View.readAt_unit _ _ _ e (inbK h (diag i)), Memref.IsWhole.read_unread]
  fin_cases h
  · exact key _ _ (k0_off33_eq i)
  · exact key _ _ (k0_off34_eq i)
  · exact key _ _ (k0_off35_eq i)
  · exact key _ _ (k0_off36_eq i)
  · exact key _ _ (k0_off37_eq i)
  · exact key _ _ (k0_off39_eq i)
  · exact key _ _ (k0_off41_eq i)
  · exact key _ _ (k0_off43_eq i)

theorem vDiag_eq (h : Fin 8) : vDiag i arg4 (harg4.unread x2) h = vWin x2 h (diag i) := by
  have key : ∀ (off : Fin 5 → ℕ) (inb : ∀ a, off a + S1x1x1x128x256.size a ≤ S1x8x8x128x256.size a), off = ![0, h.val, (diag i).val, 0, 0] →
      arg4.view.readAt (Elt F) (Rect.unit (s := S1x8x8x128x256) off S1x1x1x128x256.size inb).toLoadRect (harg4.unread x2) = vWin x2 h (diag i) := by
    intro off inb e; unfold vWin; rw [View.readAt_unit _ _ _ e (inbV h (diag i)), Memref.IsWhole.read_unread]
  fin_cases h
  · exact key _ _ (k0_off38_eq i)
  · exact key _ _ (k0_off40_eq i)
  · exact key _ _ (k0_off42_eq i)
  · exact key _ _ (k0_off44_eq i)
  · exact key _ _ (k0_off45_eq i)
  · exact key _ _ (k0_off46_eq i)
  · exact key _ _ (k0_off47_eq i)
  · exact key _ _ (k0_off48_eq i)

/-- The step of head `h` on the diagonal chunk, as the loads give it. -/
def diagStep (s : Head F) (h : Fin 8) : Head F :=
  s.step (masked i (score (kDiag i arg3 (harg3.unread x1) h) (qLd arg2 (harg2.unread x0) h))) (vDiag i arg4 (harg4.unread x2) h)

theorem diagStep_eq (h : Fin 8) : diagStep i arg2 harg2 arg3 harg3 arg4 harg4 x0 x1 x2 (after x0 x1 x2 h (i 1).val) h = last i x0 x1 x2 h := by
  unfold diagStep last; rw [qLd_eq, kDiag_eq, vDiag_eq]

/-- The stores made so far on the diagonal chunk, by the heads `hs`, to the maxima; -/
def st6 (hs : List (Fin 8)) : List (View.Piece (Elt F) S8x1x256 .f32) := hs.map (fun h => ⟨rM h, (last i x0 x1 x2 h).m⟩) ++ before6 c i arg2 harg2 arg3 harg3 arg4 harg4 arg5 harg5 arg6 harg6 arg7 harg7 arg8 harg8 x0 x1 x2
/-- to the denominators; -/
def st7 (hs : List (Fin 8)) : List (View.Piece (Elt F) S8x1x256 .f32) := hs.map (fun h => ⟨rM h, (last i x0 x1 x2 h).l⟩) ++ before7 c i arg2 harg2 arg3 harg3 arg4 harg4 arg5 harg5 arg6 harg6 arg7 harg7 arg8 harg8 x0 x1 x2
/-- to the numerators. -/
def st8 (hs : List (Fin 8)) : List (View.Piece (Elt F) S8x128x256 .f32) := hs.map (fun h => ⟨rA h, (last i x0 x1 x2 h).a⟩) ++ before8 c i arg2 harg2 arg3 harg3 arg4 harg4 arg5 harg5 arg6 harg6 arg7 harg7 arg8 harg8 x0 x1 x2

/-- A head not yet stepped still reads its state after the earlier chunks: its maximum, -/
theorem read6 (h : Fin 8) (hs : List (Fin 8)) (hm : h ∉ hs) : arg6.view.readCov (st6 c i arg2 harg2 arg3 harg3 arg4 harg4 arg5 harg5 arg6 harg6 arg7 harg7 arg8 harg8 x0 x1 x2 hs) (rM h).toLoadRect = (after x0 x1 x2 h (i 1).val).m := by
  rw [readCov_rd, st6, rd_map_not_mem rM _ _ rM_disj h hs hm, ← before_eq c i arg2 harg2 arg3 harg3 arg4 harg4 arg5 harg5 arg6 harg6 arg7 harg7 arg8 harg8 x0 x1 x2 h]; rfl
/-- its denominator, -/
theorem read7 (h : Fin 8) (hs : List (Fin 8)) (hm : h ∉ hs) : arg7.view.readCov (st7 c i arg2 harg2 arg3 harg3 arg4 harg4 arg5 harg5 arg6 harg6 arg7 harg7 arg8 harg8 x0 x1 x2 hs) (rM h).toLoadRect = (after x0 x1 x2 h (i 1).val).l := by
  rw [readCov_rd, st7, rd_map_not_mem rM _ _ rM_disj h hs hm, ← before_eq c i arg2 harg2 arg3 harg3 arg4 harg4 arg5 harg5 arg6 harg6 arg7 harg7 arg8 harg8 x0 x1 x2 h]; rfl
/-- its numerator. -/
theorem read8 (h : Fin 8) (hs : List (Fin 8)) (hm : h ∉ hs) : arg8.view.readCov (st8 c i arg2 harg2 arg3 harg3 arg4 harg4 arg5 harg5 arg6 harg6 arg7 harg7 arg8 harg8 x0 x1 x2 hs) (rA h).toLoadRect = (after x0 x1 x2 h (i 1).val).a := by
  rw [readCov_rd, st8, rd_map_not_mem rA _ _ rA_disj h hs hm, ← before_eq c i arg2 harg2 arg3 harg3 arg4 harg4 arg5 harg5 arg6 harg6 arg7 harg7 arg8 harg8 x0 x1 x2 h]; rfl

/-- A head that was stepped reads its last state: its denominator, -/
theorem done7 (h : Fin 8) (hs : List (Fin 8)) (hm : h ∈ hs) : arg7.view.readCov (st7 c i arg2 harg2 arg3 harg3 arg4 harg4 arg5 harg5 arg6 harg6 arg7 harg7 arg8 harg8 x0 x1 x2 hs) (rM h).toLoadRect = (last i x0 x1 x2 h).l := by
  rw [readCov_rd, st7, rd_map_mem rM _ _ rM_disj h hs hm]
/-- its numerator. -/
theorem done8 (h : Fin 8) (hs : List (Fin 8)) (hm : h ∈ hs) : arg8.view.readCov (st8 c i arg2 harg2 arg3 harg3 arg4 harg4 arg5 harg5 arg6 harg6 arg7 harg7 arg8 harg8 x0 x1 x2 hs) (rA h).toLoadRect = (last i x0 x1 x2 h).a := by
  rw [readCov_rd, st8, rd_map_mem rA _ _ rA_disj h hs hm]

/-- The first head reads its state after the earlier chunks and stores its last one. -/
theorem head0 : sl.HS0_1_1 c i arg2 harg2 arg3 harg3 arg4 harg4 arg5 harg5 arg6 harg6 arg7 harg7 arg8 harg8 x0 x1 x2 = st6 c i arg2 harg2 arg3 harg3 arg4 harg4 arg5 harg5 arg6 harg6 arg7 harg7 arg8 harg8 x0 x1 x2 [0] ∧
    sl.HS1_1_1 c i arg2 harg2 arg3 harg3 arg4 harg4 arg5 harg5 arg6 harg6 arg7 harg7 arg8 harg8 x0 x1 x2 = st7 c i arg2 harg2 arg3 harg3 arg4 harg4 arg5 harg5 arg6 harg6 arg7 harg7 arg8 harg8 x0 x1 x2 [0] ∧
    sl.HS2_1_1 c i arg2 harg2 arg3 harg3 arg4 harg4 arg5 harg5 arg6 harg6 arg7 harg7 arg8 harg8 x0 x1 x2 = st8 c i arg2 harg2 arg3 harg3 arg4 harg4 arg5 harg5 arg6 harg6 arg7 harg7 arg8 harg8 x0 x1 x2 [0] := by
  have em : sl.v62 c i arg2 harg2 arg3 harg3 arg4 harg4 arg5 harg5 arg6 harg6 arg7 harg7 arg8 harg8 x0 x1 x2 = (after x0 x1 x2 0 (i 1).val).m := (read6 c i arg2 harg2 arg3 harg3 arg4 harg4 arg5 harg5 arg6 harg6 arg7 harg7 arg8 harg8 x0 x1 x2 0 [] (by decide))
  have el : sl.v76 c i arg2 harg2 arg3 harg3 arg4 harg4 arg5 harg5 arg6 harg6 arg7 harg7 arg8 harg8 x0 x1 x2 = (after x0 x1 x2 0 (i 1).val).l := (read7 c i arg2 harg2 arg3 harg3 arg4 harg4 arg5 harg5 arg6 harg6 arg7 harg7 arg8 harg8 x0 x1 x2 0 [] (by decide))
  have ea : sl.v85 c i arg2 harg2 arg3 harg3 arg4 harg4 arg5 harg5 arg6 harg6 arg7 harg7 arg8 harg8 x0 x1 x2 = (after x0 x1 x2 0 (i 1).val).a := (read8 c i arg2 harg2 arg3 harg3 arg4 harg4 arg5 harg5 arg6 harg6 arg7 harg7 arg8 harg8 x0 x1 x2 0 [] (by decide))
  have es := diagStep_eq i arg2 harg2 arg3 harg3 arg4 harg4 x0 x1 x2 0
  have e : diagStep i arg2 harg2 arg3 harg3 arg4 harg4 x0 x1 x2 ⟨sl.v62 c i arg2 harg2 arg3 harg3 arg4 harg4 arg5 harg5 arg6 harg6 arg7 harg7 arg8 harg8 x0 x1 x2, sl.v76 c i arg2 harg2 arg3 harg3 arg4 harg4 arg5 harg5 arg6 harg6 arg7 harg7 arg8 harg8 x0 x1 x2, sl.v85 c i arg2 harg2 arg3 harg3 arg4 harg4 arg5 harg5 arg6 harg6 arg7 harg7 arg8 harg8 x0 x1 x2⟩ 0 = last i x0 x1 x2 0 := by rw [em, el, ea]; exact es
  refine ⟨?_, ?_, ?_⟩
  · unfold st6; rw [List.map_cons, ← e]; rfl
  · unfold st7; rw [List.map_cons, ← e]; rfl
  · unfold st8; rw [List.map_cons, ← e]; rfl

/-- The second head reads its state after the earlier chunks and stores its last one. -/
theorem head1 : sl.HS0_2 c i arg2 harg2 arg3 harg3 arg4 harg4 arg5 harg5 arg6 harg6 arg7 harg7 arg8 harg8 x0 x1 x2 = st6 c i arg2 harg2 arg3 harg3 arg4 harg4 arg5 harg5 arg6 harg6 arg7 harg7 arg8 harg8 x0 x1 x2 [1, 0] ∧
    sl.HS1_2 c i arg2 harg2 arg3 harg3 arg4 harg4 arg5 harg5 arg6 harg6 arg7 harg7 arg8 harg8 x0 x1 x2 = st7 c i arg2 harg2 arg3 harg3 arg4 harg4 arg5 harg5 arg6 harg6 arg7 harg7 arg8 harg8 x0 x1 x2 [1, 0] ∧
    sl.HS2_2 c i arg2 harg2 arg3 harg3 arg4 harg4 arg5 harg5 arg6 harg6 arg7 harg7 arg8 harg8 x0 x1 x2 = st8 c i arg2 harg2 arg3 harg3 arg4 harg4 arg5 harg5 arg6 harg6 arg7 harg7 arg8 harg8 x0 x1 x2 [1, 0] := by
  obtain ⟨e6, e7, e8⟩ := head0 c i arg2 harg2 arg3 harg3 arg4 harg4 arg5 harg5 arg6 harg6 arg7 harg7 arg8 harg8 x0 x1 x2
  have em : sl.v111 c i arg2 harg2 arg3 harg3 arg4 harg4 arg5 harg5 arg6 harg6 arg7 harg7 arg8 harg8 x0 x1 x2 = (after x0 x1 x2 1 (i 1).val).m := (congrArg (fun L => arg6.view.readCov L (rM 1).toLoadRect) e6).trans (read6 c i arg2 harg2 arg3 harg3 arg4 harg4 arg5 harg5 arg6 harg6 arg7 harg7 arg8 harg8 x0 x1 x2 1 [0] (by decide))
  have el : sl.v125 c i arg2 harg2 arg3 harg3 arg4 harg4 arg5 harg5 arg6 harg6 arg7 harg7 arg8 harg8 x0 x1 x2 = (after x0 x1 x2 1 (i 1).val).l := (congrArg (fun L => arg7.view.readCov L (rM 1).toLoadRect) e7).trans (read7 c i arg2 harg2 arg3 harg3 arg4 harg4 arg5 harg5 arg6 harg6 arg7 harg7 arg8 harg8 x0 x1 x2 1 [0] (by decide))
  have ea : sl.v134 c i arg2 harg2 arg3 harg3 arg4 harg4 arg5 harg5 arg6 harg6 arg7 harg7 arg8 harg8 x0 x1 x2 = (after x0 x1 x2 1 (i 1).val).a := (congrArg (fun L => arg8.view.readCov L (rA 1).toLoadRect) e8).trans (read8 c i arg2 harg2 arg3 harg3 arg4 harg4 arg5 harg5 arg6 harg6 arg7 harg7 arg8 harg8 x0 x1 x2 1 [0] (by decide))
  have es := diagStep_eq i arg2 harg2 arg3 harg3 arg4 harg4 x0 x1 x2 1
  have e : diagStep i arg2 harg2 arg3 harg3 arg4 harg4 x0 x1 x2 ⟨sl.v111 c i arg2 harg2 arg3 harg3 arg4 harg4 arg5 harg5 arg6 harg6 arg7 harg7 arg8 harg8 x0 x1 x2, sl.v125 c i arg2 harg2 arg3 harg3 arg4 harg4 arg5 harg5 arg6 harg6 arg7 harg7 arg8 harg8 x0 x1 x2, sl.v134 c i arg2 harg2 arg3 harg3 arg4 harg4 arg5 harg5 arg6 harg6 arg7 harg7 arg8 harg8 x0 x1 x2⟩ 1 = last i x0 x1 x2 1 := by rw [em, el, ea]; exact es
  refine ⟨?_, ?_, ?_⟩
  · unfold st6; rw [List.map_cons, ← e]; rw [List.cons_append]; exact congrArg (List.cons _) e6
  · unfold st7; rw [List.map_cons, ← e]; rw [List.cons_append]; exact congrArg (List.cons _) e7
  · unfold st8; rw [List.map_cons, ← e]; rw [List.cons_append]; exact congrArg (List.cons _) e8

/-- The third head reads its state after the earlier chunks and stores its last one. -/
theorem head2 : sl.HS0_3 c i arg2 harg2 arg3 harg3 arg4 harg4 arg5 harg5 arg6 harg6 arg7 harg7 arg8 harg8 x0 x1 x2 = st6 c i arg2 harg2 arg3 harg3 arg4 harg4 arg5 harg5 arg6 harg6 arg7 harg7 arg8 harg8 x0 x1 x2 [2, 1, 0] ∧
    sl.HS1_3 c i arg2 harg2 arg3 harg3 arg4 harg4 arg5 harg5 arg6 harg6 arg7 harg7 arg8 harg8 x0 x1 x2 = st7 c i arg2 harg2 arg3 harg3 arg4 harg4 arg5 harg5 arg6 harg6 arg7 harg7 arg8 harg8 x0 x1 x2 [2, 1, 0] ∧
    sl.HS2_3 c i arg2 harg2 arg3 harg3 arg4 harg4 arg5 harg5 arg6 harg6 arg7 harg7 arg8 harg8 x0 x1 x2 = st8 c i arg2 harg2 arg3 harg3 arg4 harg4 arg5 harg5 arg6 harg6 arg7 harg7 arg8 harg8 x0 x1 x2 [2, 1, 0] := by
  obtain ⟨e6, e7, e8⟩ := head1 c i arg2 harg2 arg3 harg3 arg4 harg4 arg5 harg5 arg6 harg6 arg7 harg7 arg8 harg8 x0 x1 x2
  have em : sl.v160 c i arg2 harg2 arg3 harg3 arg4 harg4 arg5 harg5 arg6 harg6 arg7 harg7 arg8 harg8 x0 x1 x2 = (after x0 x1 x2 2 (i 1).val).m := (congrArg (fun L => arg6.view.readCov L (rM 2).toLoadRect) e6).trans (read6 c i arg2 harg2 arg3 harg3 arg4 harg4 arg5 harg5 arg6 harg6 arg7 harg7 arg8 harg8 x0 x1 x2 2 [1, 0] (by decide))
  have el : sl.v174 c i arg2 harg2 arg3 harg3 arg4 harg4 arg5 harg5 arg6 harg6 arg7 harg7 arg8 harg8 x0 x1 x2 = (after x0 x1 x2 2 (i 1).val).l := (congrArg (fun L => arg7.view.readCov L (rM 2).toLoadRect) e7).trans (read7 c i arg2 harg2 arg3 harg3 arg4 harg4 arg5 harg5 arg6 harg6 arg7 harg7 arg8 harg8 x0 x1 x2 2 [1, 0] (by decide))
  have ea : sl.v183 c i arg2 harg2 arg3 harg3 arg4 harg4 arg5 harg5 arg6 harg6 arg7 harg7 arg8 harg8 x0 x1 x2 = (after x0 x1 x2 2 (i 1).val).a := (congrArg (fun L => arg8.view.readCov L (rA 2).toLoadRect) e8).trans (read8 c i arg2 harg2 arg3 harg3 arg4 harg4 arg5 harg5 arg6 harg6 arg7 harg7 arg8 harg8 x0 x1 x2 2 [1, 0] (by decide))
  have es := diagStep_eq i arg2 harg2 arg3 harg3 arg4 harg4 x0 x1 x2 2
  have e : diagStep i arg2 harg2 arg3 harg3 arg4 harg4 x0 x1 x2 ⟨sl.v160 c i arg2 harg2 arg3 harg3 arg4 harg4 arg5 harg5 arg6 harg6 arg7 harg7 arg8 harg8 x0 x1 x2, sl.v174 c i arg2 harg2 arg3 harg3 arg4 harg4 arg5 harg5 arg6 harg6 arg7 harg7 arg8 harg8 x0 x1 x2, sl.v183 c i arg2 harg2 arg3 harg3 arg4 harg4 arg5 harg5 arg6 harg6 arg7 harg7 arg8 harg8 x0 x1 x2⟩ 2 = last i x0 x1 x2 2 := by rw [em, el, ea]; exact es
  refine ⟨?_, ?_, ?_⟩
  · unfold st6; rw [List.map_cons, ← e]; rw [List.cons_append]; exact congrArg (List.cons _) e6
  · unfold st7; rw [List.map_cons, ← e]; rw [List.cons_append]; exact congrArg (List.cons _) e7
  · unfold st8; rw [List.map_cons, ← e]; rw [List.cons_append]; exact congrArg (List.cons _) e8

/-- The fourth head reads its state after the earlier chunks and stores its last one. -/
theorem head3 : sl.HS0_4 c i arg2 harg2 arg3 harg3 arg4 harg4 arg5 harg5 arg6 harg6 arg7 harg7 arg8 harg8 x0 x1 x2 = st6 c i arg2 harg2 arg3 harg3 arg4 harg4 arg5 harg5 arg6 harg6 arg7 harg7 arg8 harg8 x0 x1 x2 [3, 2, 1, 0] ∧
    sl.HS1_4 c i arg2 harg2 arg3 harg3 arg4 harg4 arg5 harg5 arg6 harg6 arg7 harg7 arg8 harg8 x0 x1 x2 = st7 c i arg2 harg2 arg3 harg3 arg4 harg4 arg5 harg5 arg6 harg6 arg7 harg7 arg8 harg8 x0 x1 x2 [3, 2, 1, 0] ∧
    sl.HS2_4 c i arg2 harg2 arg3 harg3 arg4 harg4 arg5 harg5 arg6 harg6 arg7 harg7 arg8 harg8 x0 x1 x2 = st8 c i arg2 harg2 arg3 harg3 arg4 harg4 arg5 harg5 arg6 harg6 arg7 harg7 arg8 harg8 x0 x1 x2 [3, 2, 1, 0] := by
  obtain ⟨e6, e7, e8⟩ := head2 c i arg2 harg2 arg3 harg3 arg4 harg4 arg5 harg5 arg6 harg6 arg7 harg7 arg8 harg8 x0 x1 x2
  have em : sl.v209 c i arg2 harg2 arg3 harg3 arg4 harg4 arg5 harg5 arg6 harg6 arg7 harg7 arg8 harg8 x0 x1 x2 = (after x0 x1 x2 3 (i 1).val).m := (congrArg (fun L => arg6.view.readCov L (rM 3).toLoadRect) e6).trans (read6 c i arg2 harg2 arg3 harg3 arg4 harg4 arg5 harg5 arg6 harg6 arg7 harg7 arg8 harg8 x0 x1 x2 3 [2, 1, 0] (by decide))
  have el : sl.v223 c i arg2 harg2 arg3 harg3 arg4 harg4 arg5 harg5 arg6 harg6 arg7 harg7 arg8 harg8 x0 x1 x2 = (after x0 x1 x2 3 (i 1).val).l := (congrArg (fun L => arg7.view.readCov L (rM 3).toLoadRect) e7).trans (read7 c i arg2 harg2 arg3 harg3 arg4 harg4 arg5 harg5 arg6 harg6 arg7 harg7 arg8 harg8 x0 x1 x2 3 [2, 1, 0] (by decide))
  have ea : sl.v232 c i arg2 harg2 arg3 harg3 arg4 harg4 arg5 harg5 arg6 harg6 arg7 harg7 arg8 harg8 x0 x1 x2 = (after x0 x1 x2 3 (i 1).val).a := (congrArg (fun L => arg8.view.readCov L (rA 3).toLoadRect) e8).trans (read8 c i arg2 harg2 arg3 harg3 arg4 harg4 arg5 harg5 arg6 harg6 arg7 harg7 arg8 harg8 x0 x1 x2 3 [2, 1, 0] (by decide))
  have es := diagStep_eq i arg2 harg2 arg3 harg3 arg4 harg4 x0 x1 x2 3
  have e : diagStep i arg2 harg2 arg3 harg3 arg4 harg4 x0 x1 x2 ⟨sl.v209 c i arg2 harg2 arg3 harg3 arg4 harg4 arg5 harg5 arg6 harg6 arg7 harg7 arg8 harg8 x0 x1 x2, sl.v223 c i arg2 harg2 arg3 harg3 arg4 harg4 arg5 harg5 arg6 harg6 arg7 harg7 arg8 harg8 x0 x1 x2, sl.v232 c i arg2 harg2 arg3 harg3 arg4 harg4 arg5 harg5 arg6 harg6 arg7 harg7 arg8 harg8 x0 x1 x2⟩ 3 = last i x0 x1 x2 3 := by rw [em, el, ea]; exact es
  refine ⟨?_, ?_, ?_⟩
  · unfold st6; rw [List.map_cons, ← e]; rw [List.cons_append]; exact congrArg (List.cons _) e6
  · unfold st7; rw [List.map_cons, ← e]; rw [List.cons_append]; exact congrArg (List.cons _) e7
  · unfold st8; rw [List.map_cons, ← e]; rw [List.cons_append]; exact congrArg (List.cons _) e8

/-- The fifth head reads its state after the earlier chunks and stores its last one. -/
theorem head4 : sl.HS0_5 c i arg2 harg2 arg3 harg3 arg4 harg4 arg5 harg5 arg6 harg6 arg7 harg7 arg8 harg8 x0 x1 x2 = st6 c i arg2 harg2 arg3 harg3 arg4 harg4 arg5 harg5 arg6 harg6 arg7 harg7 arg8 harg8 x0 x1 x2 [4, 3, 2, 1, 0] ∧
    sl.HS1_5 c i arg2 harg2 arg3 harg3 arg4 harg4 arg5 harg5 arg6 harg6 arg7 harg7 arg8 harg8 x0 x1 x2 = st7 c i arg2 harg2 arg3 harg3 arg4 harg4 arg5 harg5 arg6 harg6 arg7 harg7 arg8 harg8 x0 x1 x2 [4, 3, 2, 1, 0] ∧
    sl.HS2_5 c i arg2 harg2 arg3 harg3 arg4 harg4 arg5 harg5 arg6 harg6 arg7 harg7 arg8 harg8 x0 x1 x2 = st8 c i arg2 harg2 arg3 harg3 arg4 harg4 arg5 harg5 arg6 harg6 arg7 harg7 arg8 harg8 x0 x1 x2 [4, 3, 2, 1, 0] := by
  obtain ⟨e6, e7, e8⟩ := head3 c i arg2 harg2 arg3 harg3 arg4 harg4 arg5 harg5 arg6 harg6 arg7 harg7 arg8 harg8 x0 x1 x2
  have em : sl.v252 c i arg2 harg2 arg3 harg3 arg4 harg4 arg5 harg5 arg6 harg6 arg7 harg7 arg8 harg8 x0 x1 x2 = (after x0 x1 x2 4 (i 1).val).m := (congrArg (fun L => arg6.view.readCov L (rM 4).toLoadRect) e6).trans (read6 c i arg2 harg2 arg3 harg3 arg4 harg4 arg5 harg5 arg6 harg6 arg7 harg7 arg8 harg8 x0 x1 x2 4 [3, 2, 1, 0] (by decide))
  have el : sl.v266 c i arg2 harg2 arg3 harg3 arg4 harg4 arg5 harg5 arg6 harg6 arg7 harg7 arg8 harg8 x0 x1 x2 = (after x0 x1 x2 4 (i 1).val).l := (congrArg (fun L => arg7.view.readCov L (rM 4).toLoadRect) e7).trans (read7 c i arg2 harg2 arg3 harg3 arg4 harg4 arg5 harg5 arg6 harg6 arg7 harg7 arg8 harg8 x0 x1 x2 4 [3, 2, 1, 0] (by decide))
  have ea : sl.v275 c i arg2 harg2 arg3 harg3 arg4 harg4 arg5 harg5 arg6 harg6 arg7 harg7 arg8 harg8 x0 x1 x2 = (after x0 x1 x2 4 (i 1).val).a := (congrArg (fun L => arg8.view.readCov L (rA 4).toLoadRect) e8).trans (read8 c i arg2 harg2 arg3 harg3 arg4 harg4 arg5 harg5 arg6 harg6 arg7 harg7 arg8 harg8 x0 x1 x2 4 [3, 2, 1, 0] (by decide))
  have es := diagStep_eq i arg2 harg2 arg3 harg3 arg4 harg4 x0 x1 x2 4
  have e : diagStep i arg2 harg2 arg3 harg3 arg4 harg4 x0 x1 x2 ⟨sl.v252 c i arg2 harg2 arg3 harg3 arg4 harg4 arg5 harg5 arg6 harg6 arg7 harg7 arg8 harg8 x0 x1 x2, sl.v266 c i arg2 harg2 arg3 harg3 arg4 harg4 arg5 harg5 arg6 harg6 arg7 harg7 arg8 harg8 x0 x1 x2, sl.v275 c i arg2 harg2 arg3 harg3 arg4 harg4 arg5 harg5 arg6 harg6 arg7 harg7 arg8 harg8 x0 x1 x2⟩ 4 = last i x0 x1 x2 4 := by rw [em, el, ea]; exact es
  refine ⟨?_, ?_, ?_⟩
  · unfold st6; rw [List.map_cons, ← e]; rw [List.cons_append]; exact congrArg (List.cons _) e6
  · unfold st7; rw [List.map_cons, ← e]; rw [List.cons_append]; exact congrArg (List.cons _) e7
  · unfold st8; rw [List.map_cons, ← e]; rw [List.cons_append]; exact congrArg (List.cons _) e8

/-- The sixth head reads its state after the earlier chunks and stores its last one. -/
theorem head5 : sl.HS0_6 c i arg2 harg2 arg3 harg3 arg4 harg4 arg5 harg5 arg6 harg6 arg7 harg7 arg8 harg8 x0 x1 x2 = st6 c i arg2 harg2 arg3 harg3 arg4 harg4 arg5 harg5 arg6 harg6 arg7 harg7 arg8 harg8 x0 x1 x2 [5, 4, 3, 2, 1, 0] ∧
    sl.HS1_6 c i arg2 harg2 arg3 harg3 arg4 harg4 arg5 harg5 arg6 harg6 arg7 harg7 arg8 harg8 x0 x1 x2 = st7 c i arg2 harg2 arg3 harg3 arg4 harg4 arg5 harg5 arg6 harg6 arg7 harg7 arg8 harg8 x0 x1 x2 [5, 4, 3, 2, 1, 0] ∧
    sl.HS2_6 c i arg2 harg2 arg3 harg3 arg4 harg4 arg5 harg5 arg6 harg6 arg7 harg7 arg8 harg8 x0 x1 x2 = st8 c i arg2 harg2 arg3 harg3 arg4 harg4 arg5 harg5 arg6 harg6 arg7 harg7 arg8 harg8 x0 x1 x2 [5, 4, 3, 2, 1, 0] := by
  obtain ⟨e6, e7, e8⟩ := head4 c i arg2 harg2 arg3 harg3 arg4 harg4 arg5 harg5 arg6 harg6 arg7 harg7 arg8 harg8 x0 x1 x2
  have em : sl.v295 c i arg2 harg2 arg3 harg3 arg4 harg4 arg5 harg5 arg6 harg6 arg7 harg7 arg8 harg8 x0 x1 x2 = (after x0 x1 x2 5 (i 1).val).m := (congrArg (fun L => arg6.view.readCov L (rM 5).toLoadRect) e6).trans (read6 c i arg2 harg2 arg3 harg3 arg4 harg4 arg5 harg5 arg6 harg6 arg7 harg7 arg8 harg8 x0 x1 x2 5 [4, 3, 2, 1, 0] (by decide))
  have el : sl.v309 c i arg2 harg2 arg3 harg3 arg4 harg4 arg5 harg5 arg6 harg6 arg7 harg7 arg8 harg8 x0 x1 x2 = (after x0 x1 x2 5 (i 1).val).l := (congrArg (fun L => arg7.view.readCov L (rM 5).toLoadRect) e7).trans (read7 c i arg2 harg2 arg3 harg3 arg4 harg4 arg5 harg5 arg6 harg6 arg7 harg7 arg8 harg8 x0 x1 x2 5 [4, 3, 2, 1, 0] (by decide))
  have ea : sl.v318 c i arg2 harg2 arg3 harg3 arg4 harg4 arg5 harg5 arg6 harg6 arg7 harg7 arg8 harg8 x0 x1 x2 = (after x0 x1 x2 5 (i 1).val).a := (congrArg (fun L => arg8.view.readCov L (rA 5).toLoadRect) e8).trans (read8 c i arg2 harg2 arg3 harg3 arg4 harg4 arg5 harg5 arg6 harg6 arg7 harg7 arg8 harg8 x0 x1 x2 5 [4, 3, 2, 1, 0] (by decide))
  have es := diagStep_eq i arg2 harg2 arg3 harg3 arg4 harg4 x0 x1 x2 5
  have e : diagStep i arg2 harg2 arg3 harg3 arg4 harg4 x0 x1 x2 ⟨sl.v295 c i arg2 harg2 arg3 harg3 arg4 harg4 arg5 harg5 arg6 harg6 arg7 harg7 arg8 harg8 x0 x1 x2, sl.v309 c i arg2 harg2 arg3 harg3 arg4 harg4 arg5 harg5 arg6 harg6 arg7 harg7 arg8 harg8 x0 x1 x2, sl.v318 c i arg2 harg2 arg3 harg3 arg4 harg4 arg5 harg5 arg6 harg6 arg7 harg7 arg8 harg8 x0 x1 x2⟩ 5 = last i x0 x1 x2 5 := by rw [em, el, ea]; exact es
  refine ⟨?_, ?_, ?_⟩
  · unfold st6; rw [List.map_cons, ← e]; rw [List.cons_append]; exact congrArg (List.cons _) e6
  · unfold st7; rw [List.map_cons, ← e]; rw [List.cons_append]; exact congrArg (List.cons _) e7
  · unfold st8; rw [List.map_cons, ← e]; rw [List.cons_append]; exact congrArg (List.cons _) e8

/-- The seventh head reads its state after the earlier chunks and stores its last one. -/
theorem head6 : sl.HS0_7 c i arg2 harg2 arg3 harg3 arg4 harg4 arg5 harg5 arg6 harg6 arg7 harg7 arg8 harg8 x0 x1 x2 = st6 c i arg2 harg2 arg3 harg3 arg4 harg4 arg5 harg5 arg6 harg6 arg7 harg7 arg8 harg8 x0 x1 x2 [6, 5, 4, 3, 2, 1, 0] ∧
    sl.HS1_7 c i arg2 harg2 arg3 harg3 arg4 harg4 arg5 harg5 arg6 harg6 arg7 harg7 arg8 harg8 x0 x1 x2 = st7 c i arg2 harg2 arg3 harg3 arg4 harg4 arg5 harg5 arg6 harg6 arg7 harg7 arg8 harg8 x0 x1 x2 [6, 5, 4, 3, 2, 1, 0] ∧
    sl.HS2_7 c i arg2 harg2 arg3 harg3 arg4 harg4 arg5 harg5 arg6 harg6 arg7 harg7 arg8 harg8 x0 x1 x2 = st8 c i arg2 harg2 arg3 harg3 arg4 harg4 arg5 harg5 arg6 harg6 arg7 harg7 arg8 harg8 x0 x1 x2 [6, 5, 4, 3, 2, 1, 0] := by
  obtain ⟨e6, e7, e8⟩ := head5 c i arg2 harg2 arg3 harg3 arg4 harg4 arg5 harg5 arg6 harg6 arg7 harg7 arg8 harg8 x0 x1 x2
  have em : sl.v338 c i arg2 harg2 arg3 harg3 arg4 harg4 arg5 harg5 arg6 harg6 arg7 harg7 arg8 harg8 x0 x1 x2 = (after x0 x1 x2 6 (i 1).val).m := (congrArg (fun L => arg6.view.readCov L (rM 6).toLoadRect) e6).trans (read6 c i arg2 harg2 arg3 harg3 arg4 harg4 arg5 harg5 arg6 harg6 arg7 harg7 arg8 harg8 x0 x1 x2 6 [5, 4, 3, 2, 1, 0] (by decide))
  have el : sl.v352 c i arg2 harg2 arg3 harg3 arg4 harg4 arg5 harg5 arg6 harg6 arg7 harg7 arg8 harg8 x0 x1 x2 = (after x0 x1 x2 6 (i 1).val).l := (congrArg (fun L => arg7.view.readCov L (rM 6).toLoadRect) e7).trans (read7 c i arg2 harg2 arg3 harg3 arg4 harg4 arg5 harg5 arg6 harg6 arg7 harg7 arg8 harg8 x0 x1 x2 6 [5, 4, 3, 2, 1, 0] (by decide))
  have ea : sl.v361 c i arg2 harg2 arg3 harg3 arg4 harg4 arg5 harg5 arg6 harg6 arg7 harg7 arg8 harg8 x0 x1 x2 = (after x0 x1 x2 6 (i 1).val).a := (congrArg (fun L => arg8.view.readCov L (rA 6).toLoadRect) e8).trans (read8 c i arg2 harg2 arg3 harg3 arg4 harg4 arg5 harg5 arg6 harg6 arg7 harg7 arg8 harg8 x0 x1 x2 6 [5, 4, 3, 2, 1, 0] (by decide))
  have es := diagStep_eq i arg2 harg2 arg3 harg3 arg4 harg4 x0 x1 x2 6
  have e : diagStep i arg2 harg2 arg3 harg3 arg4 harg4 x0 x1 x2 ⟨sl.v338 c i arg2 harg2 arg3 harg3 arg4 harg4 arg5 harg5 arg6 harg6 arg7 harg7 arg8 harg8 x0 x1 x2, sl.v352 c i arg2 harg2 arg3 harg3 arg4 harg4 arg5 harg5 arg6 harg6 arg7 harg7 arg8 harg8 x0 x1 x2, sl.v361 c i arg2 harg2 arg3 harg3 arg4 harg4 arg5 harg5 arg6 harg6 arg7 harg7 arg8 harg8 x0 x1 x2⟩ 6 = last i x0 x1 x2 6 := by rw [em, el, ea]; exact es
  refine ⟨?_, ?_, ?_⟩
  · unfold st6; rw [List.map_cons, ← e]; rw [List.cons_append]; exact congrArg (List.cons _) e6
  · unfold st7; rw [List.map_cons, ← e]; rw [List.cons_append]; exact congrArg (List.cons _) e7
  · unfold st8; rw [List.map_cons, ← e]; rw [List.cons_append]; exact congrArg (List.cons _) e8

/-- The eighth head reads its state after the earlier chunks and stores its last one. -/
theorem head7 : sl.HS1_8 c i arg2 harg2 arg3 harg3 arg4 harg4 arg5 harg5 arg6 harg6 arg7 harg7 arg8 harg8 x0 x1 x2 = st7 c i arg2 harg2 arg3 harg3 arg4 harg4 arg5 harg5 arg6 harg6 arg7 harg7 arg8 harg8 x0 x1 x2 [7, 6, 5, 4, 3, 2, 1, 0] ∧
    sl.HS2_8 c i arg2 harg2 arg3 harg3 arg4 harg4 arg5 harg5 arg6 harg6 arg7 harg7 arg8 harg8 x0 x1 x2 = st8 c i arg2 harg2 arg3 harg3 arg4 harg4 arg5 harg5 arg6 harg6 arg7 harg7 arg8 harg8 x0 x1 x2 [7, 6, 5, 4, 3, 2, 1, 0] := by
  obtain ⟨e6, e7, e8⟩ := head6 c i arg2 harg2 arg3 harg3 arg4 harg4 arg5 harg5 arg6 harg6 arg7 harg7 arg8 harg8 x0 x1 x2
  have em : sl.v381 c i arg2 harg2 arg3 harg3 arg4 harg4 arg5 harg5 arg6 harg6 arg7 harg7 arg8 harg8 x0 x1 x2 = (after x0 x1 x2 7 (i 1).val).m := (congrArg (fun L => arg6.view.readCov L (rM 7).toLoadRect) e6).trans (read6 c i arg2 harg2 arg3 harg3 arg4 harg4 arg5 harg5 arg6 harg6 arg7 harg7 arg8 harg8 x0 x1 x2 7 [6, 5, 4, 3, 2, 1, 0] (by decide))
  have el : sl.v395 c i arg2 harg2 arg3 harg3 arg4 harg4 arg5 harg5 arg6 harg6 arg7 harg7 arg8 harg8 x0 x1 x2 = (after x0 x1 x2 7 (i 1).val).l := (congrArg (fun L => arg7.view.readCov L (rM 7).toLoadRect) e7).trans (read7 c i arg2 harg2 arg3 harg3 arg4 harg4 arg5 harg5 arg6 harg6 arg7 harg7 arg8 harg8 x0 x1 x2 7 [6, 5, 4, 3, 2, 1, 0] (by decide))
  have ea : sl.v404 c i arg2 harg2 arg3 harg3 arg4 harg4 arg5 harg5 arg6 harg6 arg7 harg7 arg8 harg8 x0 x1 x2 = (after x0 x1 x2 7 (i 1).val).a := (congrArg (fun L => arg8.view.readCov L (rA 7).toLoadRect) e8).trans (read8 c i arg2 harg2 arg3 harg3 arg4 harg4 arg5 harg5 arg6 harg6 arg7 harg7 arg8 harg8 x0 x1 x2 7 [6, 5, 4, 3, 2, 1, 0] (by decide))
  have es := diagStep_eq i arg2 harg2 arg3 harg3 arg4 harg4 x0 x1 x2 7
  have e : diagStep i arg2 harg2 arg3 harg3 arg4 harg4 x0 x1 x2 ⟨sl.v381 c i arg2 harg2 arg3 harg3 arg4 harg4 arg5 harg5 arg6 harg6 arg7 harg7 arg8 harg8 x0 x1 x2, sl.v395 c i arg2 harg2 arg3 harg3 arg4 harg4 arg5 harg5 arg6 harg6 arg7 harg7 arg8 harg8 x0 x1 x2, sl.v404 c i arg2 harg2 arg3 harg3 arg4 harg4 arg5 harg5 arg6 harg6 arg7 harg7 arg8 harg8 x0 x1 x2⟩ 7 = last i x0 x1 x2 7 := by rw [em, el, ea]; exact es
  refine ⟨?_, ?_⟩
  · unfold st7; rw [List.map_cons, ← e]; rw [List.cons_append]; exact congrArg (List.cons _) e7
  · unfold st8; rw [List.map_cons, ← e]; rw [List.cons_append]; exact congrArg (List.cons _) e8

end Cert.AttnHeads

end
-- ==== Proof.AttnOut.lean ====
/- The block the dense attention's body writes: for each head, its last numerator over its last denominator. -/
module

public import proofs.«01_k».proof.Proof.AttnHeads

@[expose] public section

set_option maxRecDepth 16384

noncomputable section

namespace Cert.AttnOut

open Cert.AttnIdeal Cert.AttnIdeal.Gen Cert.AttnIdeal.Gen.kernelRun0_A Cert.AttnStep Cert.AttnHeads
open Idealize.ShloMosaic Idealize.ShloMosaic.TcCoe Idealize.ShloMosaic.Tactic

variable {F : FTy → Type} [FloatOps F] [Named F]

/-- Head `h`'s columns of the output block. -/
abbrev rO (h : Fin 8) : Rect S256x1024 :=
  Rect.unit ![0, 128 * h.val] S256x128.size (by intro a; fin_cases a <;> simp [S256x128, S256x1024] <;> omega)

theorem rO_disj (h h' : Fin 8) (hne : h ≠ h') (j : (rO h).shape.Idx) : (rO h).emb j ∉ (rO h').set := by
  intro hm
  obtain ⟨j', hj'⟩ := (rO h').exists_idx_of_mem hm
  have h0 := congrArg Fin.val (congrFun hj' 1)
  have hj1 : (j' 1).val < 128 := (j' 1).isLt
  have hj2 : (j 1).val < 128 := (j 1).isLt
  have e : 128 * h'.val + 1 * (j' 1).val = 128 * h.val + 1 * (j 1).val := h0
  exact hne (Fin.ext (by omega))

variable (c : Dev nD) (i : grid0.Coords)
  (arg2 : Memref sig .tc .vmem S1x8x256x256 .bf16) (harg2 : arg2.IsWhole) (arg3 : Memref sig .tc .vmem S1x8x2048x256 .bf16) (harg3 : arg3.IsWhole)
  (arg4 : Memref sig .tc .vmem S1x8x8x128x256 .bf16) (harg4 : arg4.IsWhole) (arg5 : Memref sig .tc .vmem S256x1024 .bf16) (harg5 : arg5.IsWhole)
  (arg6 : Memref sig .tc .vmem S8x1x256 .f32) (harg6 : arg6.IsWhole) (arg7 : Memref sig .tc .vmem S8x1x256 .f32) (harg7 : arg7.IsWhole)
  (arg8 : Memref sig .tc .vmem S8x128x256 .f32) (harg8 : arg8.IsWhole)
  (x0 : S1x8x256x256.Idx → F .bf16) (x1 : S1x8x2048x256.Idx → F .bf16) (x2 : S1x8x8x128x256.Idx → F .bf16)

/-- After the diagonal chunk, the final reads give each head's last denominator and numerator. -/
theorem final :
    sl.v422 c i arg2 harg2 arg3 harg3 arg4 harg4 arg5 harg5 arg6 harg6 arg7 harg7 arg8 harg8 x0 x1 x2 = (last i x0 x1 x2 0).l ∧
    sl.v420 c i arg2 harg2 arg3 harg3 arg4 harg4 arg5 harg5 arg6 harg6 arg7 harg7 arg8 harg8 x0 x1 x2 = (last i x0 x1 x2 0).a ∧
    sl.v431 c i arg2 harg2 arg3 harg3 arg4 harg4 arg5 harg5 arg6 harg6 arg7 harg7 arg8 harg8 x0 x1 x2 = (last i x0 x1 x2 1).l ∧
    sl.v429 c i arg2 harg2 arg3 harg3 arg4 harg4 arg5 harg5 arg6 harg6 arg7 harg7 arg8 harg8 x0 x1 x2 = (last i x0 x1 x2 1).a ∧
    sl.v440 c i arg2 harg2 arg3 harg3 arg4 harg4 arg5 harg5 arg6 harg6 arg7 harg7 arg8 harg8 x0 x1 x2 = (last i x0 x1 x2 2).l ∧
    sl.v438 c i arg2 harg2 arg3 harg3 arg4 harg4 arg5 harg5 arg6 harg6 arg7 harg7 arg8 harg8 x0 x1 x2 = (last i x0 x1 x2 2).a ∧
    sl.v449 c i arg2 harg2 arg3 harg3 arg4 harg4 arg5 harg5 arg6 harg6 arg7 harg7 arg8 harg8 x0 x1 x2 = (last i x0 x1 x2 3).l ∧
    sl.v447 c i arg2 harg2 arg3 harg3 arg4 harg4 arg5 harg5 arg6 harg6 arg7 harg7 arg8 harg8 x0 x1 x2 = (last i x0 x1 x2 3).a ∧
    sl.v458 c i arg2 harg2 arg3 harg3 arg4 harg4 arg5 harg5 arg6 harg6 arg7 harg7 arg8 harg8 x0 x1 x2 = (last i x0 x1 x2 4).l ∧
    sl.v456 c i arg2 harg2 arg3 harg3 arg4 harg4 arg5 harg5 arg6 harg6 arg7 harg7 arg8 harg8 x0 x1 x2 = (last i x0 x1 x2 4).a ∧
    sl.v467 c i arg2 harg2 arg3 harg3 arg4 harg4 arg5 harg5 arg6 harg6 arg7 harg7 arg8 harg8 x0 x1 x2 = (last i x0 x1 x2 5).l ∧
    sl.v465 c i arg2 harg2 arg3 harg3 arg4 harg4 arg5 harg5 arg6 harg6 arg7 harg7 arg8 harg8 x0 x1 x2 = (last i x0 x1 x2 5).a ∧
    sl.v476 c i arg2 harg2 arg3 harg3 arg4 harg4 arg5 harg5 arg6 harg6 arg7 harg7 arg8 harg8 x0 x1 x2 = (last i x0 x1 x2 6).l ∧
    sl.v474 c i arg2 harg2 arg3 harg3 arg4 harg4 arg5 harg5 arg6 harg6 arg7 harg7 arg8 harg8 x0 x1 x2 = (last i x0 x1 x2 6).a ∧
    sl.v485 c i arg2 harg2 arg3 harg3 arg4 harg4 arg5 harg5 arg6 harg6 arg7 harg7 arg8 harg8 x0 x1 x2 = (last i x0 x1 x2 7).l ∧
    sl.v483 c i arg2 harg2 arg3 harg3 arg4 harg4 arg5 harg5 arg6 harg6 arg7 harg7 arg8 harg8 x0 x1 x2 = (last i x0 x1 x2 7).a := by
  obtain ⟨e7, e8⟩ := head7 c i arg2 harg2 arg3 harg3 arg4 harg4 arg5 harg5 arg6 harg6 arg7 harg7 arg8 harg8 x0 x1 x2
  refine ⟨?_, ?_, ?_, ?_, ?_, ?_, ?_, ?_, ?_, ?_, ?_, ?_, ?_, ?_, ?_, ?_⟩
  · exact (congrArg (fun L => arg7.view.readCov L (rM 0).toLoadRect) e7).trans (done7 c i arg2 harg2 arg3 harg3 arg4 harg4 arg5 harg5 arg6 harg6 arg7 harg7 arg8 harg8 x0 x1 x2 0 _ (by decide))
  · exact (congrArg (fun L => arg8.view.readCov L (rA 0).toLoadRect) e8).trans (done8 c i arg2 harg2 arg3 harg3 arg4 harg4 arg5 harg5 arg6 harg6 arg7 harg7 arg8 harg8 x0 x1 x2 0 _ (by decide))
  · exact (congrArg (fun L => arg7.view.readCov L (rM 1).toLoadRect) e7).trans (done7 c i arg2 harg2 arg3 harg3 arg4 harg4 arg5 harg5 arg6 harg6 arg7 harg7 arg8 harg8 x0 x1 x2 1 _ (by decide))
  · exact (congrArg (fun L => arg8.view.readCov L (rA 1).toLoadRect) e8).trans (done8 c i arg2 harg2 arg3 harg3 arg4 harg4 arg5 harg5 arg6 harg6 arg7 harg7 arg8 harg8 x0 x1 x2 1 _ (by decide))
  · exact (congrArg (fun L => arg7.view.readCov L (rM 2).toLoadRect) e7).trans (done7 c i arg2 harg2 arg3 harg3 arg4 harg4 arg5 harg5 arg6 harg6 arg7 harg7 arg8 harg8 x0 x1 x2 2 _ (by decide))
  · exact (congrArg (fun L => arg8.view.readCov L (rA 2).toLoadRect) e8).trans (done8 c i arg2 harg2 arg3 harg3 arg4 harg4 arg5 harg5 arg6 harg6 arg7 harg7 arg8 harg8 x0 x1 x2 2 _ (by decide))
  · exact (congrArg (fun L => arg7.view.readCov L (rM 3).toLoadRect) e7).trans (done7 c i arg2 harg2 arg3 harg3 arg4 harg4 arg5 harg5 arg6 harg6 arg7 harg7 arg8 harg8 x0 x1 x2 3 _ (by decide))
  · exact (congrArg (fun L => arg8.view.readCov L (rA 3).toLoadRect) e8).trans (done8 c i arg2 harg2 arg3 harg3 arg4 harg4 arg5 harg5 arg6 harg6 arg7 harg7 arg8 harg8 x0 x1 x2 3 _ (by decide))
  · exact (congrArg (fun L => arg7.view.readCov L (rM 4).toLoadRect) e7).trans (done7 c i arg2 harg2 arg3 harg3 arg4 harg4 arg5 harg5 arg6 harg6 arg7 harg7 arg8 harg8 x0 x1 x2 4 _ (by decide))
  · exact (congrArg (fun L => arg8.view.readCov L (rA 4).toLoadRect) e8).trans (done8 c i arg2 harg2 arg3 harg3 arg4 harg4 arg5 harg5 arg6 harg6 arg7 harg7 arg8 harg8 x0 x1 x2 4 _ (by decide))
  · exact (congrArg (fun L => arg7.view.readCov L (rM 5).toLoadRect) e7).trans (done7 c i arg2 harg2 arg3 harg3 arg4 harg4 arg5 harg5 arg6 harg6 arg7 harg7 arg8 harg8 x0 x1 x2 5 _ (by decide))
  · exact (congrArg (fun L => arg8.view.readCov L (rA 5).toLoadRect) e8).trans (done8 c i arg2 harg2 arg3 harg3 arg4 harg4 arg5 harg5 arg6 harg6 arg7 harg7 arg8 harg8 x0 x1 x2 5 _ (by decide))
  · exact (congrArg (fun L => arg7.view.readCov L (rM 6).toLoadRect) e7).trans (done7 c i arg2 harg2 arg3 harg3 arg4 harg4 arg5 harg5 arg6 harg6 arg7 harg7 arg8 harg8 x0 x1 x2 6 _ (by decide))
  · exact (congrArg (fun L => arg8.view.readCov L (rA 6).toLoadRect) e8).trans (done8 c i arg2 harg2 arg3 harg3 arg4 harg4 arg5 harg5 arg6 harg6 arg7 harg7 arg8 harg8 x0 x1 x2 6 _ (by decide))
  · exact (congrArg (fun L => arg7.view.readCov L (rM 7).toLoadRect) e7).trans (done7 c i arg2 harg2 arg3 harg3 arg4 harg4 arg5 harg5 arg6 harg6 arg7 harg7 arg8 harg8 x0 x1 x2 7 _ (by decide))
  · exact (congrArg (fun L => arg8.view.readCov L (rA 7).toLoadRect) e8).trans (done8 c i arg2 harg2 arg3 harg3 arg4 harg4 arg5 harg5 arg6 harg6 arg7 harg7 arg8 harg8 x0 x1 x2 7 _ (by decide))

/-- The stores the body makes to the output block, one per head. -/
theorem pieces_eq : (kernelRun0_A (F := F) c i arg2 harg2 arg3 harg3 arg4 harg4 arg5 harg5 arg6 harg6 arg7 harg7 arg8 harg8 x0 x1 x2).1 = heads.map fun h => ⟨rO h, outHead (last i x0 x1 x2 h).a (last i x0 x1 x2 h).l⟩ := by
  obtain ⟨l0, a0, l1, a1, l2, a2, l3, a3, l4, a4, l5, a5, l6, a6, l7, a7⟩ := final c i arg2 harg2 arg3 harg3 arg4 harg4 arg5 harg5 arg6 harg6 arg7 harg7 arg8 harg8 x0 x1 x2
  have e : (kernelRun0_A (F := F) c i arg2 harg2 arg3 harg3 arg4 harg4 arg5 harg5 arg6 harg6 arg7 harg7 arg8 harg8 x0 x1 x2).1 = [⟨rO 7, outHead (sl.v483 c i arg2 harg2 arg3 harg3 arg4 harg4 arg5 harg5 arg6 harg6 arg7 harg7 arg8 harg8 x0 x1 x2) (sl.v485 c i arg2 harg2 arg3 harg3 arg4 harg4 arg5 harg5 arg6 harg6 arg7 harg7 arg8 harg8 x0 x1 x2)⟩,
      ⟨rO 6, outHead (sl.v474 c i arg2 harg2 arg3 harg3 arg4 harg4 arg5 harg5 arg6 harg6 arg7 harg7 arg8 harg8 x0 x1 x2) (sl.v476 c i arg2 harg2 arg3 harg3 arg4 harg4 arg5 harg5 arg6 harg6 arg7 harg7 arg8 harg8 x0 x1 x2)⟩,
      ⟨rO 5, outHead (sl.v465 c i arg2 harg2 arg3 harg3 arg4 harg4 arg5 harg5 arg6 harg6 arg7 harg7 arg8 harg8 x0 x1 x2) (sl.v467 c i arg2 harg2 arg3 harg3 arg4 harg4 arg5 harg5 arg6 harg6 arg7 harg7 arg8 harg8 x0 x1 x2)⟩,
      ⟨rO 4, outHead (sl.v456 c i arg2 harg2 arg3 harg3 arg4 harg4 arg5 harg5 arg6 harg6 arg7 harg7 arg8 harg8 x0 x1 x2) (sl.v458 c i arg2 harg2 arg3 harg3 arg4 harg4 arg5 harg5 arg6 harg6 arg7 harg7 arg8 harg8 x0 x1 x2)⟩,
      ⟨rO 3, outHead (sl.v447 c i arg2 harg2 arg3 harg3 arg4 harg4 arg5 harg5 arg6 harg6 arg7 harg7 arg8 harg8 x0 x1 x2) (sl.v449 c i arg2 harg2 arg3 harg3 arg4 harg4 arg5 harg5 arg6 harg6 arg7 harg7 arg8 harg8 x0 x1 x2)⟩,
      ⟨rO 2, outHead (sl.v438 c i arg2 harg2 arg3 harg3 arg4 harg4 arg5 harg5 arg6 harg6 arg7 harg7 arg8 harg8 x0 x1 x2) (sl.v440 c i arg2 harg2 arg3 harg3 arg4 harg4 arg5 harg5 arg6 harg6 arg7 harg7 arg8 harg8 x0 x1 x2)⟩,
      ⟨rO 1, outHead (sl.v429 c i arg2 harg2 arg3 harg3 arg4 harg4 arg5 harg5 arg6 harg6 arg7 harg7 arg8 harg8 x0 x1 x2) (sl.v431 c i arg2 harg2 arg3 harg3 arg4 harg4 arg5 harg5 arg6 harg6 arg7 harg7 arg8 harg8 x0 x1 x2)⟩,
      ⟨rO 0, outHead (sl.v420 c i arg2 harg2 arg3 harg3 arg4 harg4 arg5 harg5 arg6 harg6 arg7 harg7 arg8 harg8 x0 x1 x2) (sl.v422 c i arg2 harg2 arg3 harg3 arg4 harg4 arg5 harg5 arg6 harg6 arg7 harg7 arg8 harg8 x0 x1 x2)⟩] := by
    unfold kernelRun0_A
    rfl
  rw [e, l0, a0, l1, a1, l2, a2, l3, a3, l4, a4, l5, a5, l6, a6, l7, a7]
  rfl

/-- At head `h`'s columns the output block is that head's numerator over its denominator. -/
theorem out_eq (h : Fin 8) (j : S256x128.Idx) :
    out0_A_3 (F := F) c i arg2 harg2 arg3 harg3 arg4 harg4 arg5 harg5 arg6 harg6 arg7 harg7 arg8 harg8 x0 x1 x2 ((rO h).emb j) = outHead (last i x0 x1 x2 h).a (last i x0 x1 x2 h).l j := by
  unfold out0_A_3
  rw [pieces_eq, View.read_writes_junk_eq_canon]
  have h0 := congrFun (rd_map_mem (F := F) (e := .bf16) rO (fun h => outHead (last i x0 x1 x2 h).a (last i x0 x1 x2 h).l) [] rO_disj h heads (mem_heads h)) j
  rw [List.append_nil] at h0
  exact h0

end Cert.AttnOut

end
-- ==== Proof.Flash.lean ====
/- Softmax over extended reals, taken in chunks: the running maximum, denominator and numerator, rescaled at each chunk, are those of the chunks together, and their quotient is the softmax average. -/
module

public import Idealize.ShloMosaic.PureOps.Ideal.Laws

@[expose] public section

noncomputable section

namespace Cert.Flash

open Idealize.ShloMosaic

/-- What exponents are taken relative to at running maximum `m`: `m`, or zero at `−∞`. -/
def base (m : EReal) : EReal := if m = ⊥ then 0 else m

theorem base_coe {m : EReal} (hm : m ≠ ⊤) : ∃ r : ℝ, base m = r := by
  unfold base
  split_ifs with h
  · exact ⟨0, rfl⟩
  · exact ⟨m.toReal, (EReal.coe_toReal hm h).symm⟩

theorem exp2_nonneg (x : EReal) : 0 ≤ Ideal.exp2 x := by
  induction x with
  | bot => simp
  | top => simp
  | coe r => rw [Ideal.exp2_coe]; exact EReal.coe_nonneg.mpr (Real.rpow_nonneg (by norm_num) r)

theorem exp2_ne_top {x : EReal} (hx : x ≠ ⊤) : Ideal.exp2 x ≠ ⊤ := by
  induction x with
  | bot => simp
  | top => exact absurd rfl hx
  | coe r => rw [Ideal.exp2_coe]; exact EReal.coe_ne_top _

theorem sub_ne_top {x : EReal} (hx : x ≠ ⊤) (r : ℝ) : x - (r : EReal) ≠ ⊤ := by
  induction x with
  | bot => simp
  | top => exact absurd rfl hx
  | coe s => rw [← EReal.coe_sub]; exact EReal.coe_ne_top _

/-- Rescaling one exponential from an earlier maximum to a later one. -/
theorem rescale {x m m' : EReal} (hm' : m' ≠ ⊤) (hxm : x ≤ m) (hmm : m ≤ m') :
    Ideal.exp2 (m - base m') * Ideal.exp2 (x - base m) = Ideal.exp2 (x - base m') := by
  have hm : m ≠ ⊤ := ne_top_of_le_ne_top hm' hmm
  have hx : x ≠ ⊤ := ne_top_of_le_ne_top hm hxm
  obtain ⟨b, hb⟩ := base_coe hm
  obtain ⟨b', hb'⟩ := base_coe hm'
  by_cases hx0 : x = ⊥
  · subst hx0; rw [hb, hb', EReal.bot_sub, EReal.bot_sub]; simp
  · have hm0 : m ≠ ⊥ := fun h => hx0 (le_bot_iff.mp (h ▸ hxm))
    have hbm : base m = m := if_neg hm0
    lift x to ℝ using ⟨hx, hx0⟩
    lift m to ℝ using ⟨hm, hm0⟩
    rw [hbm, hb', ← EReal.coe_sub, ← EReal.coe_sub, ← EReal.coe_sub, Ideal.exp2_coe, Ideal.exp2_coe, Ideal.exp2_coe, ← EReal.coe_mul]
    congr 1
    show (2 : ℝ) ^ (m - b') * 2 ^ (x - m) = 2 ^ (x - b')
    rw [← Real.rpow_add (by norm_num)]; congr 1; ring

/-- A nonnegative real factor goes into a sum. -/
theorem mul_sum_of_nonneg {ι : Type} (S : Finset ι) (f : ι → EReal) {c : EReal} (h0 : 0 ≤ c) (ht : c ≠ ⊤) : c * ∑ j ∈ S, f j = ∑ j ∈ S, c * f j := by
  classical
  induction S using Finset.induction_on with
  | empty => simp
  | insert a S ha ih => rw [Finset.sum_insert ha, Finset.sum_insert ha, EReal.left_distrib_of_nonneg_of_ne_top h0 ht, ih]

/-- A sum of weighted exponentials, rescaled from an earlier maximum to a later one. -/
theorem rescale_sum {ι : Type} (S : Finset ι) (w x : ι → EReal) {m m' : EReal} (hm' : m' ≠ ⊤) (hx : ∀ j ∈ S, x j ≤ m) (hmm : m ≤ m') :
    Ideal.exp2 (m - base m') * ∑ j ∈ S, w j * Ideal.exp2 (x j - base m) = ∑ j ∈ S, w j * Ideal.exp2 (x j - base m') := by
  obtain ⟨b', hb'⟩ := base_coe hm'
  rw [mul_sum_of_nonneg S _ (exp2_nonneg _) (exp2_ne_top (by rw [hb']; exact sub_ne_top (ne_top_of_le_ne_top hm' hmm) b'))]
  refine Finset.sum_congr rfl fun j hj => ?_
  rw [mul_left_comm, rescale hm' (hx j hj) hmm]

/-- The first `n` keys' weighted exponentials, relative to the first `n` keys' maximum. -/
def total (w x : ℕ → EReal) (n : ℕ) : EReal := ∑ j ∈ Finset.range n, w j * Ideal.exp2 (x j - base ((Finset.range n).sup x))

theorem sup_ne_top {x : ℕ → EReal} (hx : ∀ j, x j ≠ ⊤) (n : ℕ) : (Finset.range n).sup x ≠ ⊤ := by
  refine ne_of_lt ((Finset.sup_lt_iff bot_lt_top).mpr fun j _ => lt_top_iff_ne_top.mpr (hx j))

/-- The maximum over `n + k` keys. -/
theorem sup_add (x : ℕ → EReal) (n k : ℕ) : (Finset.range (n + k)).sup x = max ((Finset.range n).sup x) (Finset.univ.sup fun i : Fin k => x (n + i.val)) := by
  refine le_antisymm (Finset.sup_le fun j hj => ?_) (max_le ?_ ?_)
  · by_cases h : j < n
    · exact le_max_of_le_left (Finset.le_sup (f := x) (Finset.mem_range.mpr h))
    · have hj' := Finset.mem_range.mp hj
      refine le_max_of_le_right ?_
      have := Finset.le_sup (f := fun i : Fin k => x (n + i.val)) (Finset.mem_univ (⟨j - n, by omega⟩ : Fin k))
      have e : n + (j - n) = j := by omega
      simpa only [e] using this
  · exact Finset.sup_mono (Finset.range_mono (by omega))
  · exact Finset.sup_le fun i _ => Finset.le_sup (f := x) (Finset.mem_range.mpr (by have := i.isLt; omega))

/-- One chunk of `k` keys: the running sum rescaled, plus the chunk's own terms, is the sum over all the keys so far. -/
theorem total_step (w x : ℕ → EReal) (hx : ∀ j, x j ≠ ⊤) (n k : ℕ) :
    Ideal.exp2 ((Finset.range n).sup x - base ((Finset.range (n + k)).sup x)) * total w x n
      + ∑ i : Fin k, w (n + i.val) * Ideal.exp2 (x (n + i.val) - base ((Finset.range (n + k)).sup x)) = total w x (n + k) := by
  unfold total
  rw [rescale_sum _ _ _ (sup_ne_top hx _) (fun j hj => Finset.le_sup hj) (Finset.sup_mono (Finset.range_mono (by omega))), Finset.sum_range_add,
    Fin.sum_univ_eq_sum_range (fun i => w (n + i) * Ideal.exp2 (x (n + i) - base ((Finset.range (n + k)).sup x)))]

/-- Keys of score `−∞` after the first `n` change nothing: the maximum, -/
theorem sup_extend {x : ℕ → EReal} {n N : ℕ} (h : n ≤ N) (hx : ∀ j, n ≤ j → x j = ⊥) : (Finset.range n).sup x = (Finset.range N).sup x := by
  refine le_antisymm (Finset.sup_mono (Finset.range_mono h)) (Finset.sup_le fun j _ => ?_)
  by_cases hj : j < n
  · exact Finset.le_sup (f := x) (Finset.mem_range.mpr hj)
  · rw [hx j (by omega)]; exact bot_le

/-- and the sums. -/
theorem total_extend (w : ℕ → EReal) {x : ℕ → EReal} (hx : ∀ j, x j ≠ ⊤) {n N : ℕ} (h : n ≤ N) (hb : ∀ j, n ≤ j → x j = ⊥) :
    total w x n = total w x N := by
  unfold total
  rw [sup_extend h hb]
  obtain ⟨b, hb'⟩ := base_coe (sup_ne_top hx N)
  refine Finset.sum_subset (Finset.range_mono h) fun j _ hj => ?_
  rw [hb j (by simpa using hj), hb', EReal.bot_sub]; simp

/-- The exponentials in base two of the scores times `1/ln 2` are the exponentials of the scores. -/
theorem exp2_eq_exp {x : EReal} (hx : x ≠ ⊤) (M : ℝ) :
    Ideal.exp2 (x - (M : EReal)) = Ideal.exp (x * ((Real.log 2 : ℝ) : EReal) - ((M * Real.log 2 : ℝ) : EReal)) := by
  have hl : 0 < Real.log 2 := Real.log_pos (by norm_num)
  induction x with
  | bot => rw [EReal.bot_mul_coe_of_pos hl, EReal.bot_sub, EReal.bot_sub]; simp
  | top => exact absurd rfl hx
  | coe r =>
    rw [← EReal.coe_mul, ← EReal.coe_sub, ← EReal.coe_sub, Ideal.exp2_coe, Ideal.exp_coe]
    congr 1
    show (2 : ℝ) ^ (r - M) = _
    rw [Real.rpow_def_of_pos (by norm_num)]; congr 1; ring

theorem exp2_coe_of {x : EReal} (hx : x ≠ ⊤) (M : ℝ) : ∃ p : ℝ, 0 ≤ p ∧ Ideal.exp2 (x - (M : EReal)) = p := by
  induction x with
  | bot => exact ⟨0, le_rfl, by rw [EReal.bot_sub]; simp⟩
  | top => exact absurd rfl hx
  | coe r => exact ⟨(2 : ℝ) ^ (r - M), Real.rpow_nonneg (by norm_num) _, by rw [← EReal.coe_sub, Ideal.exp2_coe]; rfl⟩

theorem sum_coe {ι : Type} (S : Finset ι) (p : ι → ℝ) : (∑ j ∈ S, (p j : EReal)) = ((∑ j ∈ S, p j : ℝ) : EReal) := by
  classical
  induction S using Finset.induction_on with
  | empty => simp
  | insert a S ha ih => rw [Finset.sum_insert ha, Finset.sum_insert ha, ih, EReal.coe_add]

/-- Numerator over denominator is the softmax average of the values, over the keys' scores `y j = x j · ln 2`. -/
theorem quotient (v x : ℕ → EReal) (hx : ∀ j, x j ≠ ⊤) (N : ℕ) (j0 : ℕ) (hj0 : j0 < N) (hx0 : x j0 ≠ ⊥) :
    Ideal.div (total v x N) (total (fun _ => 1) x N) =
      ∑ j : Fin N, v j.val * Ideal.div (Ideal.exp (x j.val * ((Real.log 2 : ℝ) : EReal) - Finset.univ.sup fun i : Fin N => x i.val * ((Real.log 2 : ℝ) : EReal)))
        (∑ j : Fin N, Ideal.exp (x j.val * ((Real.log 2 : ℝ) : EReal) - Finset.univ.sup fun i : Fin N => x i.val * ((Real.log 2 : ℝ) : EReal))) := by
  have hl : 0 < Real.log 2 := Real.log_pos (by norm_num)
  have hle : x j0 ≤ (Finset.range N).sup x := Finset.le_sup (f := x) (Finset.mem_range.mpr hj0)
  have hMb : (Finset.range N).sup x ≠ ⊥ := fun h => hx0 (le_bot_iff.mp (h ▸ hle))
  obtain ⟨M, hM⟩ : ∃ M : ℝ, (Finset.range N).sup x = M := ⟨_, (EReal.coe_toReal (sup_ne_top hx N) hMb).symm⟩
  have hbase : base ((Finset.range N).sup x) = (M : EReal) := by unfold base; rw [if_neg hMb, hM]
  have hY : (Finset.univ.sup fun i : Fin N => x i.val * ((Real.log 2 : ℝ) : EReal)) = ((M * Real.log 2 : ℝ) : EReal) := by
    rw [EReal.coe_mul, ← hM]
    refine le_antisymm (Finset.sup_le fun i _ => mul_le_mul_of_nonneg_right (Finset.le_sup (f := x) (Finset.mem_range.mpr i.isLt)) (EReal.coe_nonneg.mpr hl.le)) ?_
    have hne : (Finset.range N).Nonempty := ⟨j0, Finset.mem_range.mpr hj0⟩
    obtain ⟨j, hj, hjM⟩ := Finset.exists_mem_eq_sup (Finset.range N) hne x
    rw [hjM]
    exact Finset.le_sup (f := fun i : Fin N => x i.val * ((Real.log 2 : ℝ) : EReal)) (Finset.mem_univ ⟨j, Finset.mem_range.mp hj⟩)
  rw [hY]
  unfold total
  rw [hbase]
  choose p hp0 hp using fun j => exp2_coe_of (hx j) M
  have hexp : ∀ j, Ideal.exp (x j * ((Real.log 2 : ℝ) : EReal) - ((M * Real.log 2 : ℝ) : EReal)) = p j := fun j => by rw [← exp2_eq_exp (hx j), hp]
  have hpos : 0 < ∑ j ∈ Finset.range N, p j := by
    refine Finset.sum_pos' (fun j _ => hp0 j) ⟨j0, Finset.mem_range.mpr hj0, ?_⟩
    have e := hp j0
    lift x j0 to ℝ using ⟨hx j0, hx0⟩ with r
    rw [← EReal.coe_sub, Ideal.exp2_coe] at e
    rw [← EReal.coe_eq_coe_iff.mp e]
    exact Real.rpow_pos_of_pos (by norm_num) _
  simp only [hexp, hp, one_mul]
  rw [sum_coe, sum_coe, Fin.sum_univ_eq_sum_range p N, Ideal.div_coe (ne_of_gt hpos), mul_comm,
    mul_sum_of_nonneg _ _ (EReal.coe_nonneg.mpr (by positivity)) (EReal.coe_ne_top _),
    Fin.sum_univ_eq_sum_range (fun j => v j * Ideal.div (p j : EReal) ((∑ j ∈ Finset.range N, p j : ℝ) : EReal)) N]
  refine Finset.sum_congr rfl fun j _ => ?_
  rw [Ideal.div_coe (ne_of_gt hpos), mul_left_comm, mul_comm (p j : EReal)]

end Cert.Flash

end
-- ==== Proof.AttnRead.lean ====
/- The step of one head of the dense attention, read at an element over the extended reals. -/
module

public import proofs.«01_k».proof.Proof.AttnHeads
public import proofs.«01_k».proof.Proof.Flash
public import Idealize.ShloMosaic.Lib.Pointwise
public import Idealize.ShloMosaic.PureOps.IdealRules

@[expose] public section

set_option maxRecDepth 16384

noncomputable section

namespace Cert.AttnRead

open Cert.AttnIdeal Cert.AttnIdeal.Gen Cert.AttnStep Cert.AttnHeads
open Idealize.ShloMosaic Idealize.ShloMosaic.TcCoe Idealize.ShloMosaic.Tactic

/-- The softmax scale with base-two exponentials: one over the square root of 192, times one over ln 2. -/
def scale : ℝ := (Real.sqrt 192)⁻¹ * (Real.log 2)⁻¹

theorem negInf : Ideal.ofBits .f32 0xFF800000#32 = ⊥ := by simp [Ideal.ofBits, Ideal.ieee]

theorem score_apply (k q : Vec Ideal S1x1x256x256 .bf16) (kk qq : Fin 256) :
    score k q (ix2 kk qq) = (∑ f : Fin 256, (k (ix4 0 0 kk f) : EReal) * q (ix4 0 0 qq f)) * (scale : EReal) := by
  have e : Named.named (F := Ideal) (φ := .f32) κ "scale_log2e" 0x3DD53B95#32 = (scale : EReal) := IdealRules.named_const.ideal_named_scalar _ _ _ _ rfl
  unfold score
  rw [e]
  pointwise

theorem fold_max_bot {ι : Type} (S : Finset ι) (f : ι → EReal) : S.fold max ⊥ f = S.sup f := rfl

theorem mRow_apply (x : FVec Ideal S256x256 .f32) (mo : Vec Ideal S1x1x256 .f32) (q : Fin 256) :
    mRow x mo (ix2 0 q) = max (mo (ix3 0 0 q) : EReal) (Finset.univ.sup fun kk : Fin 256 => (x (ix2 kk q) : EReal)) := by
  unfold mRow
  pointwise
  rw [negInf, fold_max_bot]

theorem mRef_apply (x : FVec Ideal S256x256 .f32) (mo : Vec Ideal S1x1x256 .f32) (q : Fin 256) :
    mRef x mo (ix2 0 q) = Flash.base (mRow x mo (ix2 0 q)) := by
  unfold mRef Flash.base
  generalize mRow x mo = y
  pointwise
  rw [negInf]

theorem alpha_apply (x : FVec Ideal S256x256 .f32) (mo : Vec Ideal S1x1x256 .f32) (q : Fin 256) :
    alpha x mo (ix2 0 q) = Ideal.exp2 ((mo (ix3 0 0 q) : EReal) - mRef x mo (ix2 0 q)) := by
  unfold alpha
  generalize mRef x mo = y
  pointwise
  rfl

theorem prob_apply (x : FVec Ideal S256x256 .f32) (mo : Vec Ideal S1x1x256 .f32) (kk q : Fin 256) :
    prob x mo (ix2 kk q) = Ideal.exp2 ((x (ix2 kk q) : EReal) - mRef x mo (ix2 0 q)) := by
  unfold prob
  generalize mRef x mo = y
  pointwise
  rfl

theorem mNew_apply (x : FVec Ideal S256x256 .f32) (mo : Vec Ideal S1x1x256 .f32) (q : Fin 256) :
    mNew x mo (ix3 0 0 q) = mRow x mo (ix2 0 q) := by
  unfold mNew
  generalize mRow x mo = y
  pointwise

theorem lNew_apply (x : FVec Ideal S256x256 .f32) (mo lo : Vec Ideal S1x1x256 .f32) (q : Fin 256) :
    lNew x mo lo (ix3 0 0 q) = alpha x mo (ix2 0 q) * (lo (ix3 0 0 q) : EReal) + ∑ kk : Fin 256, (prob x mo (ix2 kk q) : EReal) := by
  unfold lNew
  generalize alpha x mo = y
  generalize prob x mo = z
  pointwise

theorem aNew_apply (x : FVec Ideal S256x256 .f32) (mo : Vec Ideal S1x1x256 .f32) (ao : Vec Ideal S1x128x256 .f32) (v : Vec Ideal S1x1x1x128x256 .bf16)
    (d : Fin 128) (q : Fin 256) :
    aNew x mo ao v (ix3 0 d q) = alpha x mo (ix2 0 q) * (ao (ix3 0 d q) : EReal) + ∑ kk : Fin 256, (v (ix5 0 0 0 d kk) : EReal) * prob x mo (ix2 kk q) := by
  unfold aNew
  generalize alpha x mo = y
  generalize prob x mo = z
  pointwise

theorem outHead_apply (a : Vec Ideal S1x128x256 .f32) (l : Vec Ideal S1x1x256 .f32) (q : Fin 256) (d : Fin 128) :
    outHead a l (ix2 q d) = Ideal.div (a (ix3 0 d q)) (l (ix3 0 0 q)) := by
  unfold outHead
  pointwise

theorem sle_ofNat {a b : ℕ} (ha : a < 2 ^ 31) (hb : b < 2 ^ 31) :
    IntOp.cmpi .sle (BitVec.ofNat 32 a) (BitVec.ofNat 32 b) = if a ≤ b then 1#1 else 0#1 := by
  have ea : (BitVec.ofNat 32 a).toInt = a := by
    rw [BitVec.toInt_eq_toNat_of_lt (by rw [BitVec.toNat_ofNat]; omega), BitVec.toNat_ofNat, Nat.mod_eq_of_lt (by omega)]
  have eb : (BitVec.ofNat 32 b).toInt = b := by
    rw [BitVec.toInt_eq_toNat_of_lt (by rw [BitVec.toNat_ofNat]; omega), BitVec.toNat_ofNat, Nat.mod_eq_of_lt (by omega)]
  unfold IntOp.cmpi
  simp only [BitVec.sle, ea, eb, Nat.cast_le]
  by_cases h : a ≤ b <;> simp [h]

theorem word_row (c : Fin 8) (k : Fin 256) : IntOp.addi (Scalar.muli (BitVec.ofNat 32 c.val) 256#32) (BitVec.ofNat 32 k.val) = BitVec.ofNat 32 (256 * c.val + k.val) := by
  show BitVec.ofNat 32 c.val * 256#32 + BitVec.ofNat 32 k.val = _
  rw [BitVec.ofNat_add, BitVec.ofNat_mul, BitVec.mul_comm]

theorem masked_apply (i : grid0.Coords) (x : FVec Ideal S256x256 .f32) (kk q : Fin 256) :
    masked i x (ix2 kk q) = if kk.val ≤ q.val then (x (ix2 kk q) : EReal) else ⊥ := by
  unfold masked k0_pay179
  pointwise
  have e (k : Fin 256) := word_row (diag i) k
  have hi : (diag i).val < 8 := (diag i).isLt
  rw [negInf, show (i 1).val = (diag i).val from rfl, e kk, e q, sle_ofNat (by omega) (by omega)]
  by_cases h : kk.val ≤ q.val
  · rw [if_pos h, if_pos (by omega)]; rfl
  · rw [if_neg h, if_neg (by omega)]; rfl

theorem qWin_apply (x0 : S1x8x256x256.Idx → Ideal .bf16) (h : Fin 8) (q f : Fin 256) : qWin x0 h (ix4 0 0 q f) = x0 (ix4 0 h q f) := by
  refine congrArg x0 (funext fun a => Fin.ext ?_)
  fin_cases a
  · rfl
  · exact Nat.add_zero _
  · show 0 + 1 * q.val = q.val; omega
  · show 0 + 1 * f.val = f.val; omega

theorem kWin_apply (x1 : S1x8x2048x256.Idx → Ideal .bf16) (h c : Fin 8) (k f : Fin 256) :
    kWin x1 h c (ix4 0 0 k f) = x1 (ix4 0 h ⟨256 * c.val + k.val, by omega⟩ f) := by
  refine congrArg x1 (funext fun a => Fin.ext ?_)
  fin_cases a
  · rfl
  · exact Nat.add_zero _
  · show 256 * c.val + 1 * k.val = 256 * c.val + k.val; omega
  · show 0 + 1 * f.val = f.val; omega

theorem vWin_apply (x2 : S1x8x8x128x256.Idx → Ideal .bf16) (h c : Fin 8) (d : Fin 128) (k : Fin 256) :
    vWin x2 h c (ix5 0 0 0 d k) = x2 (ix5 0 h c d k) := by
  refine congrArg x2 (funext fun a => Fin.ext ?_)
  fin_cases a
  · rfl
  · exact Nat.add_zero _
  · exact Nat.add_zero _
  · show 0 + 1 * d.val = d.val; omega
  · show 0 + 1 * k.val = k.val; omega

/-! ## A head's state as sums over the keys -/

/-- The scaled score of key `j` against query `q` of head `h`. -/
def raw (x0 : S1x8x256x256.Idx → Ideal .bf16) (x1 : S1x8x2048x256.Idx → Ideal .bf16) (h : Fin 8) (q : Fin 256) (j : ℕ) : EReal :=
  if hj : j < 2048 then (∑ f : Fin 256, (x1 (ix4 0 h ⟨j, hj⟩ f) : EReal) * x0 (ix4 0 h q f)) * (scale : EReal) else ⊥

/-- The scaled score of key `j`, `−∞` after the query. -/
def causal (i : grid0.Coords) (x0 : S1x8x256x256.Idx → Ideal .bf16) (x1 : S1x8x2048x256.Idx → Ideal .bf16) (h : Fin 8) (q : Fin 256) (j : ℕ) : EReal :=
  if j ≤ 256 * (i 1).val + q.val then raw x0 x1 h q j else ⊥

/-- Feature `d` of the value of key `j`. -/
def val (x2 : S1x8x8x128x256.Idx → Ideal .bf16) (h : Fin 8) (d : Fin 128) (j : ℕ) : EReal :=
  if hj : j < 2048 then x2 (ix5 0 h ⟨j / 256, by omega⟩ d ⟨j % 256, by omega⟩) else 0

theorem score_raw (x0 : S1x8x256x256.Idx → Ideal .bf16) (x1 : S1x8x2048x256.Idx → Ideal .bf16) (h c : Fin 8) (k q : Fin 256) :
    score (kWin x1 h c) (qWin x0 h) (ix2 k q) = raw x0 x1 h q (256 * c.val + k.val) := by
  rw [score_apply, raw, dif_pos (by omega)]
  simp only [kWin_apply, qWin_apply]

theorem vWin_val (x2 : S1x8x8x128x256.Idx → Ideal .bf16) (h c : Fin 8) (d : Fin 128) (k : Fin 256) :
    vWin x2 h c (ix5 0 0 0 d k) = val x2 h d (256 * c.val + k.val) := by
  rw [vWin_apply, val, dif_pos (by omega)]
  have e1 : (⟨(256 * c.val + k.val) / 256, by omega⟩ : Fin 8) = c := Fin.ext (by show (256 * c.val + k.val) / 256 = c.val; omega)
  have e2 : (⟨(256 * c.val + k.val) % 256, by omega⟩ : Fin 256) = k := Fin.ext (by show (256 * c.val + k.val) % 256 = k.val; omega)
  rw [e1, e2]

/-- A head's state at query `q` and feature `d` is the maximum and the sums over the first `n` keys. -/
def Holds (s : Head Ideal) (X V : ℕ → EReal) (q : Fin 256) (d : Fin 128) (n : ℕ) : Prop :=
  s.m (ix3 0 0 q) = (Finset.range n).sup X ∧ s.l (ix3 0 0 q) = Flash.total (fun _ => 1) X n ∧ s.a (ix3 0 d q) = Flash.total V X n

/-- A step on a chunk of 256 keys carries the state to the keys so far. -/
theorem holds_step (s : Head Ideal) (X V : ℕ → EReal) (hX : ∀ j, X j ≠ ⊤) (q : Fin 256) (d : Fin 128) (n : ℕ) (hs : Holds s X V q d n)
    (x : FVec Ideal S256x256 .f32) (v : Vec Ideal S1x1x1x128x256 .bf16) (hx : ∀ k : Fin 256, x (ix2 k q) = X (n + k.val))
    (hv : ∀ k : Fin 256, v (ix5 0 0 0 d k) = V (n + k.val)) : Holds (s.step x v) X V q d (n + 256) := by
  obtain ⟨hm, hl, ha⟩ := hs
  have hrow : mRow x s.m (ix2 0 q) = (Finset.range (n + 256)).sup X := by
    rw [mRow_apply, hm, Flash.sup_add]
    simp only [hx]
  have hal : alpha x s.m (ix2 0 q) = Ideal.exp2 ((Finset.range n).sup X - Flash.base ((Finset.range (n + 256)).sup X)) := by
    rw [alpha_apply, mRef_apply, hrow, hm]
  have hpr (k : Fin 256) : prob x s.m (ix2 k q) = Ideal.exp2 (X (n + k.val) - Flash.base ((Finset.range (n + 256)).sup X)) := by
    rw [prob_apply, mRef_apply, hrow, hx]
  refine ⟨?_, ?_, ?_⟩
  · show mNew x s.m (ix3 0 0 q) = _
    rw [mNew_apply, hrow]
  · show lNew x s.m s.l (ix3 0 0 q) = _
    rw [lNew_apply, hal, hl, ← Flash.total_step _ _ hX n 256]
    simp only [hpr, one_mul]
  · show aNew x s.m s.a v (ix3 0 d q) = _
    rw [aNew_apply, hal, ha, ← Flash.total_step _ _ hX n 256]
    simp only [hpr, hv]

theorem holds_start (X V : ℕ → EReal) (q : Fin 256) (d : Fin 128) : Holds start X V q d 0 := by
  refine ⟨?_, ?_, ?_⟩
  · show Ideal.ofBits .f32 0xFF800000#32 = _
    rw [negInf]; rfl
  · show Ideal.ofBits .f32 0x00000000#32 = _
    rw [Ideal.ofBits_zero_f32]; rfl
  · show Ideal.ofBits .f32 0x00000000#32 = _
    rw [Ideal.ofBits_zero_f32]; rfl

variable (i : grid0.Coords) (x0 : S1x8x256x256.Idx → Ideal .bf16) (x1 : S1x8x2048x256.Idx → Ideal .bf16) (x2 : S1x8x8x128x256.Idx → Ideal .bf16)

/-- The chunks before the diagonal one are seen whole. -/
theorem holds_after (h : Fin 8) (q : Fin 256) (d : Fin 128) (hX : ∀ j, causal i x0 x1 h q j ≠ ⊤) :
    ∀ n ≤ (i 1).val, Holds (after x0 x1 x2 h n) (causal i x0 x1 h q) (val x2 h d) q d (256 * n)
  | 0, _ => holds_start _ _ _ _
  | n + 1, hn => by
    have hn8 : n < 8 := by have : (i 1).val < 8 := (i 1).isLt; omega
    rw [after, dif_pos hn8]
    refine holds_step _ _ _ hX q d (256 * n) (holds_after h q d hX n (by omega)) _ _ (fun k => ?_) (fun k => ?_)
    · rw [score_raw, causal, if_pos (by omega)]
    · rw [vWin_val]

/-- The last state covers all 2048 keys, those after the query counting for nothing. -/
theorem holds_last (h : Fin 8) (q : Fin 256) (d : Fin 128) (hX : ∀ j, causal i x0 x1 h q j ≠ ⊤) :
    Holds (last i x0 x1 x2 h) (causal i x0 x1 h q) (val x2 h d) q d 2048 := by
  have hi : (i 1).val < 8 := (i 1).isLt
  have key : Holds (last i x0 x1 x2 h) (causal i x0 x1 h q) (val x2 h d) q d (256 * (i 1).val + 256) := by
    refine holds_step _ _ _ hX q d (256 * (i 1).val) (holds_after i x0 x1 x2 h q d hX _ le_rfl) _ _ (fun k => ?_) (fun k => ?_)
    · rw [masked_apply, score_raw, causal]
      by_cases hk : k.val ≤ q.val
      · rw [if_pos hk, if_pos (by omega)]; rfl
      · rw [if_neg hk, if_neg (by omega)]
    · rw [vWin_val]; rfl
  have hb : ∀ j, 256 * (i 1).val + 256 ≤ j → causal i x0 x1 h q j = ⊥ := fun j hj => by rw [causal, if_neg (by omega)]
  obtain ⟨hm, hl, ha⟩ := key
  exact ⟨hm.trans (Flash.sup_extend (by omega) hb), hl.trans (Flash.total_extend _ hX (by omega) hb), ha.trans (Flash.total_extend _ hX (by omega) hb)⟩

/-- What the body writes for head `h` at query `q` and feature `d`: the softmax average of the values over the causal scores. -/
theorem out_softmax (h : Fin 8) (q : Fin 256) (d : Fin 128) (hX : ∀ j, causal i x0 x1 h q j ≠ ⊤) (hq : causal i x0 x1 h q (256 * (i 1).val + q.val) ≠ ⊥) :
    outHead (F := Ideal) (last i x0 x1 x2 h).a (last i x0 x1 x2 h).l (ix2 q d) =
      (∑ j : Fin 2048, val x2 h d j.val * Ideal.div (Ideal.exp (causal i x0 x1 h q j.val * ((Real.log 2 : ℝ) : EReal)
          - Finset.univ.sup fun i' : Fin 2048 => causal i x0 x1 h q i'.val * ((Real.log 2 : ℝ) : EReal)))
        (∑ j : Fin 2048, Ideal.exp (causal i x0 x1 h q j.val * ((Real.log 2 : ℝ) : EReal)
          - Finset.univ.sup fun i' : Fin 2048 => causal i x0 x1 h q i'.val * ((Real.log 2 : ℝ) : EReal))) : EReal) := by
  obtain ⟨-, hl, ha⟩ := holds_last i x0 x1 x2 h q d hX
  have hi : (i 1).val < 8 := (i 1).isLt
  rw [outHead_apply, hl, ha, Flash.quotient _ _ hX 2048 (256 * (i 1).val + q.val) (by omega) hq]

end Cert.AttnRead

end
-- ==== Proof.AttnRef.lean ====
module

public import proofs.«01_k».proof.Proof.AttnRead
public import proofs.«01_k».proof.Proof.Gen.AttnRefIdeal.Read
public import proofs.«01_k».proof.Proof.Gen.Pre_finite_qk
public import Idealize.ShloMosaic.PureOps.Reduce

/-!
# The reference read at one element

The plain causal softmax attention, read over the extended reals: the masked score of a query and a key, and the output row
as the softmax average of the values.  And what the precondition says: no element of the queries or keys is infinite.
-/

@[expose] public section

set_option maxRecDepth 16384

open Idealize.ShloMosaic
open Cert.AttnRefIdeal Cert.AttnRefIdeal.Gen Cert.AttnRefIdeal.Read

noncomputable section

namespace Cert.AttnRef

variable (q k : (⟨S4x8x2048x256, .bf16⟩ : BufTy).Contents (Elt Ideal)) (v : (⟨S4x8x8x128x256, .bf16⟩ : BufTy).Contents (Elt Ideal))

/-- The product of query `t` with key `j`. -/
def dot (b : Fin 4) (h : Fin 8) (t j : Fin 2048) : EReal := ∑ f : Fin 256, (q (ix4 b h t f) : EReal) * k (ix4 b h j f)

/-- The causal score of query `t` and key `j`. -/
def cscore (b : Fin 4) (h : Fin 8) (t j : Fin 2048) : EReal :=
  if j.val ≤ t.val then dot q k b h t j * (((Real.sqrt 192)⁻¹ : ℝ) : EReal) else ⊥

theorem sqrt192 : Ideal.sqrt (Ideal.ofBits .f32 0x43400000#32) = ((Real.sqrt 192 : ℝ) : EReal) := by
  have e : Ideal.ofBits .f32 0x43400000#32 = ((192 : ℝ) : EReal) := by
    simp [Ideal.ofBits, Ideal.ieee, -EReal.coe_mul]; norm_num
  rw [e, Ideal.sqrt_coe, if_neg (by norm_num)]

theorem v5_at (b : Fin 4) (h : Fin 8) (t j : Fin 2048) : val_main_v5 (F := Ideal) q k (ix4 b h t j) = dot q k b h t j := by
  rw [val_main_v5_apply, dot]
  refine Finset.sum_congr rfl fun f _ => ?_
  rw [val_main_v3_apply, val_main_v4_apply]
  have e1 : lidx_main_v5 (ix4 b h t j) f = ix4 b h t f := funext fun a => by fin_cases a <;> rfl
  have e2 : ridx_main_v5 (ix4 b h t j) f = ix4 b h j f := funext fun a => by fin_cases a <;> rfl
  rw [e1, e2]; rfl

theorem v15_at (b : Fin 4) (h : Fin 8) (t j : Fin 2048) : val_main_v15 (F := Ideal) q k (ix4 b h t j) = cscore q k b h t j := by
  rw [val_main_v15_apply, val_main_call0_v1_apply, val_main_v14_apply, val_main_v12_apply, val_main_v10_apply, val_main_v9_apply,
    val_main_v13_apply, val_main_v11_apply, val_main_v9_apply, val_main_v8_apply, v5_at, val_main_v7_apply, val_main_v6_apply,
    val_main_cst_apply, val_main_call0_v2_apply, val_main_call0_v0_apply, val_main_cst_0_apply, cscore]
  have ec : IntOp.cmpi .sle (BitVec.ofNat 32 j.val) (BitVec.ofNat 32 t.val) = if j.val ≤ t.val then 1#1 else 0#1 :=
    Cert.AttnRead.sle_ofNat (by omega) (by omega)
  have e8 : FloatOps.hostDivf (F := Ideal) (φ := .f32) (dot q k b h t j) (FloatOps.hostUnary .sqrt (FloatOps.ofBits .f32 0x43400000#32))
      = dot q k b h t j * (((Real.sqrt 192)⁻¹ : ℝ) : EReal) := by
    rw [Ideal.hostDivf_def, Ideal.hostUnary_sqrt_def]
    refine (congrArg (Ideal.div (dot q k b h t j)) sqrt192).trans ?_
    rw [Ideal.div_coe (by positivity), one_div]
  rw [e8]
  refine (congrArg (fun w => Scalar.select w _ _) ec).trans ?_
  by_cases hjt : j.val ≤ t.val
  · rw [if_pos hjt, if_pos hjt]; rfl
  · rw [if_neg hjt, if_neg hjt]; exact Cert.AttnRead.negInf

theorem reduces_row : S4x8x2048x2048.Reduces [3] S4x8x2048 := by decide

theorem v16_at (b : Fin 4) (h : Fin 8) (t : Fin 2048) :
    val_main_v16 (F := Ideal) q k (ix3 b h t) = Finset.univ.sup fun j : Fin 2048 => cscore q k b h t j := by
  unfold val_main_v16
  rw [Host.reduce_eq_fold_single (f := (FloatOps.maximumf (F := Ideal) (φ := .f32))) _ _ _ reduces_row]
  have e : (val_main_v15 (F := Ideal) q k ∘ reduces_row.lift (ix3 b h t)) = fun j : Fin 2048 => cscore q k b h t j := by
    funext j
    refine Eq.trans ?_ (v15_at q k b h t j)
    refine congrArg (val_main_v15 (F := Ideal) q k) (funext fun a => Fin.ext ?_)
    fin_cases a <;> rfl
  rw [e, val_main_cst_1_apply]
  refine (congrArg (fun w => Finset.fold (FloatOps.maximumf (F := Ideal) (φ := .f32)) w _ _) (Cert.AttnRead.negInf)).trans ?_
  rfl

/-- The exponentials of the reference, before the division. -/
def pexp (b : Fin 4) (h : Fin 8) (t j : Fin 2048) : EReal :=
  Ideal.exp (cscore q k b h t j - Finset.univ.sup fun j' : Fin 2048 => cscore q k b h t j')

theorem v22_at (b : Fin 4) (h : Fin 8) (t j : Fin 2048) : val_main_v22 (F := Ideal) q k (ix4 b h t j) = pexp q k b h t j := by
  rw [val_main_v22_apply, val_main_v21_apply, v15_at, val_main_v20_apply, val_main_v19_apply, val_main_v18_apply, val_main_v17_apply, val_main_cst_2_apply]
  have e : idx_main_v19 (idx_main_v20 (ix4 b h t j)) = ix3 b h t := funext fun a => by fin_cases a <;> rfl
  rw [e, v16_at, pexp, Ideal.hostUnary_exp_def]
  have e2 : FloatOps.maximumf (F := Ideal) (φ := .f32) (FloatOps.ofBits .f32 0xFF800000#32) (Finset.univ.sup fun j : Fin 2048 => cscore q k b h t j)
      = Finset.univ.sup fun j : Fin 2048 => cscore q k b h t j := by
    refine (congrArg (fun w : EReal => max w _) Cert.AttnRead.negInf).trans ?_
    exact max_eq_right bot_le
  rw [e2]; rfl

theorem v26_at (b : Fin 4) (h : Fin 8) (t j : Fin 2048) :
    val_main_v26 (F := Ideal) q k (ix4 b h t j) = Ideal.div (pexp q k b h t j) (∑ j' : Fin 2048, pexp q k b h t j') := by
  rw [val_main_v26_apply, v22_at, val_main_v25_apply, val_main_v24_apply, val_main_v23_apply, val_main_cst_3_apply, Ideal.hostDivf_def]
  refine congrArg (Ideal.div _) ?_
  refine (congrArg (· + _) (Ideal.ofBits_zero_f32)).trans ((zero_add _).trans (Finset.sum_congr rfl fun j' _ => ?_))
  rw [← v22_at]
  exact congrArg (val_main_v22 (F := Ideal) q k) (funext fun a => by fin_cases a <;> rfl)

theorem v2_at (b : Fin 4) (h : Fin 8) (j : Fin 2048) (d : Fin 128) :
    val_main_v2 (F := Ideal) v (ix4 b h j d) = v (ix5 b h (⟨j.val / 256, by omega⟩ : Fin 8) d (⟨j.val % 256, by omega⟩ : Fin 256)) := by
  rw [val_main_v2_apply, val_main_v1_apply, val_main_v0_apply, Ideal.extf_def]
  refine congrArg v (funext fun a => Fin.ext ?_)
  have hb := b.isLt; have hh := h.isLt; have hj := j.isLt; have hd := d.isLt
  fin_cases a
  · show (((b.val * 8 + h.val) * 2048 + j.val) * 128 + d.val) / 2097152 = b.val; omega
  · show (((b.val * 8 + h.val) * 2048 + j.val) * 128 + d.val) / 262144 % 8 = h.val; omega
  · show (((b.val * 8 + h.val) * 2048 + j.val) * 128 + d.val) / 32768 % 8 = j.val / 256; omega
  · show (((b.val * 8 + h.val) * 2048 + j.val) * 128 + d.val) % 128 = d.val; omega
  · show (((b.val * 8 + h.val) * 2048 + j.val) * 128 + d.val) / 128 % 256 = j.val % 256; omega

/-- The reference's result at row `2048 b + t`, column `128 h + d`. -/
theorem result_at (b : Fin 4) (h : Fin 8) (t : Fin 2048) (d : Fin 128) (r : Fin 8192) (col : Fin 1024) (hr : r.val = 2048 * b.val + t.val) (hc : col.val = 128 * h.val + d.val) :
    val_main_v30 (F := Ideal) q k v (ix2 r col) =
      ∑ j : Fin 2048, v (ix5 b h (⟨j.val / 256, by omega⟩ : Fin 8) d (⟨j.val % 256, by omega⟩ : Fin 256))
        * Ideal.div (pexp q k b h t j) (∑ j' : Fin 2048, pexp q k b h t j') := by
  rw [val_main_v30_apply, val_main_v29_apply, val_main_v28_apply]
  have e : idx_main_v28 (idx_main_v29 (ix2 r col)) = ix4 b h d t := by
    have hb := b.isLt; have hh := h.isLt; have ht := t.isLt; have hd := d.isLt
    funext a; refine Fin.ext ?_
    fin_cases a
    · show (r.val * 1024 + col.val) / 2097152 = b.val; omega
    · show (r.val * 1024 + col.val) / 128 % 8 = h.val; omega
    · show (r.val * 1024 + col.val) % 128 = d.val; omega
    · show (r.val * 1024 + col.val) / 1024 % 2048 = t.val; omega
  rw [e, val_main_v27_apply]
  rw [Ideal.truncf_def]
  refine Finset.sum_congr rfl fun j _ => ?_
  have e1 : lidx_main_v27 (ix4 b h d t) j = ix4 b h j d := funext fun a => by fin_cases a <;> rfl
  have e2 : ridx_main_v27 (ix4 b h d t) j = ix4 b h t j := funext fun a => by fin_cases a <;> rfl
  rw [e1, e2, v2_at, v26_at]

/-! ## The precondition -/

theorem fold_andi {ι : Type} [DecidableEq ι] (s : Finset ι) (f : ι → BitVec 1) (w : BitVec 1) (h : s.fold IntOp.andi w f = 1#1) : ∀ i ∈ s, f i = 1#1 := by
  induction s using Finset.induction_on with
  | empty => intro i hi; exact absurd hi (Finset.notMem_empty i)
  | insert a s ha ih =>
    rw [Finset.fold_insert ha] at h
    have h2 := IntOp.andi_eq_one.1 h
    intro i hi
    rcases Finset.mem_insert.1 hi with rfl | hi
    · exact h2.1
    · exact ih h2.2 i hi

theorem finite_of_lt (x : EReal) (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  refine ⟨?_, ?_⟩ <;> rintro rfl <;> simp [Ideal.cmp] at h

theorem fold_finite (x : (⟨S4x8x2048x256, .bf16⟩ : BufTy).Contents (Elt Ideal))
    (h : Host.reduce IntOp.andi (cmpf .olt (Host.absf (extf (F := Ideal) .f32 x Pre_finite_qk.Gen.facts.bitsLt_bf16_f32))
      (broadcastInDim S4x8x2048x256 ![] Pre_finite_qk.Gen.facts.bcast_S_S4x8x2048x256 (constant S_ .f32 0x7F800000#32))) (constantI S_ 1 1#1)
      Pre_finite_qk.Gen.facts.reducesTo_S4x8x2048x256_S_d0_1_2_3 Pre_finite_qk.Gen.facts.h_S_ = fun _ => 1#1) (i : S4x8x2048x256.Idx) : (x i : EReal) ≠ ⊤ ∧ (x i : EReal) ≠ ⊥ := by
  have h1 := congrFun h (fun a => a.elim0)
  rw [Host.reduce_eq_fold] at h1
  have h2 := fold_andi _ _ _ h1 i (Finset.mem_filter.2 ⟨Finset.mem_univ _, funext fun a => a.elim0⟩)
  exact finite_of_lt _ h2

/-- The precondition: no query or key element is infinite. -/
theorem finite_of_pre (h : Cert.Pre_finite_qk.fn (F := Ideal) q k v = fun _ => 1#1) (i : S4x8x2048x256.Idx) :
    ((q i : EReal) ≠ ⊤ ∧ (q i : EReal) ≠ ⊥) ∧ ((k i : EReal) ≠ ⊤ ∧ (k i : EReal) ≠ ⊥) := by
  have hs : ∀ j, _ := fun j => IntOp.andi_eq_one.1 (congrFun h j)
  exact ⟨fold_finite q (funext fun j => (hs j).1) i, fold_finite k (funext fun j => (hs j).2) i⟩

theorem sum_real {n : ℕ} (f g : Fin n → EReal) (hf : ∀ i, f i ≠ ⊤ ∧ f i ≠ ⊥) (hg : ∀ i, g i ≠ ⊤ ∧ g i ≠ ⊥) : ∃ r : ℝ, ∑ i, f i * g i = (r : EReal) := by
  refine ⟨∑ i, (f i).toReal * (g i).toReal, ?_⟩
  rw [← Flash.sum_coe]
  refine Finset.sum_congr rfl fun i _ => ?_
  rw [EReal.coe_mul, EReal.coe_toReal (hf i).1 (hf i).2, EReal.coe_toReal (hg i).1 (hg i).2]

end Cert.AttnRef

end
-- ==== Proof.AttnFinal.lean ====
module

public import proofs.«01_k».proof.Proof.AttnOut
public import proofs.«01_k».proof.Proof.AttnRef
public import proofs.«01_k».proof.Proof.Gen.AttnIdeal.Value

/-!
# The attention kernel computes the reference

Each grid point takes one block of 256 queries of one batch, with all the keys and values of that batch.  Its blocks are read
off the argument arrays, what it writes back is its block of the reference's result, and the 32 blocks tile the result.
-/

@[expose] public section

set_option maxRecDepth 16384

noncomputable section

namespace Cert.AttnFinal

open Cert.AttnIdeal Cert.AttnIdeal.Gen Cert.AttnIdeal.Value Cert.AttnStep Cert.AttnHeads Cert.AttnRead Cert.AttnRef
open Idealize.ShloMosaic Idealize.ShloMosaic.TcCoe Idealize.SL.Sem
open Idealize.ShloMosaic.Pipeline (Dat)

/-! ## The blocks -/

theorem index0 : ∀ t : Fin cfg0.N, win0_0.index t (0 : Fin 4) = t.val / 8 ∧ win0_0.index t (1 : Fin 4) = 0 ∧ win0_0.index t (2 : Fin 4) = t.val % 8 ∧ win0_0.index t (3 : Fin 4) = 0 :=
  (by decide +kernel : ∀ t : Fin grid0.N, _)
theorem index1 : ∀ t : Fin cfg0.N, win0_1.index t (0 : Fin 4) = t.val / 8 ∧ win0_1.index t (1 : Fin 4) = 0 ∧ win0_1.index t (2 : Fin 4) = 0 ∧ win0_1.index t (3 : Fin 4) = 0 :=
  (by decide +kernel : ∀ t : Fin grid0.N, _)
theorem index2 : ∀ t : Fin cfg0.N, win0_2.index t (0 : Fin 5) = t.val / 8 ∧ win0_2.index t (1 : Fin 5) = 0 ∧ win0_2.index t (2 : Fin 5) = 0 ∧ win0_2.index t (3 : Fin 5) = 0 ∧ win0_2.index t (4 : Fin 5) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem coord1 : ∀ t : Fin cfg0.N, (grid0.coords t 1).val = t.val % 8 := (by decide +kernel : ∀ t : Fin grid0.N, _)

theorem lt32 (t : Fin cfg0.N) : t.val < 32 := t.isLt

/-- The batch of a grid point, and its query block. -/
def batch (t : Fin cfg0.N) : Fin 4 := ⟨t.val / 8, by have := lt32 t; omega⟩
def qblock (t : Fin cfg0.N) : Fin 8 := ⟨t.val % 8, by omega⟩
/-- The position of query `q` of the block. -/
def pos (t : Fin cfg0.N) (q : Fin 256) : Fin 2048 := ⟨256 * (t.val % 8) + q.val, by omega⟩

variable (m : (ℓ : Loc nD τ sig) → Buf (Elt Ideal) ℓ) (ρ : Dev nD → PrngReg) (c : Dev nD)

abbrev qArr : (⟨AttnRefIdeal.S4x8x2048x256, .bf16⟩ : BufTy).Contents (Elt Ideal) := m ((c : Thread nD τ).loc main_arg0)
abbrev kArr : (⟨AttnRefIdeal.S4x8x2048x256, .bf16⟩ : BufTy).Contents (Elt Ideal) := m ((c : Thread nD τ).loc main_arg1)
abbrev vArr : (⟨AttnRefIdeal.S4x8x8x128x256, .bf16⟩ : BufTy).Contents (Elt Ideal) := m ((c : Thread nD τ).loc main_arg2)

theorem qblk (t : Fin cfg0.N) (h : Fin 8) (q f : Fin 256) : iblk m c 0 t (ix4 0 h q f) = qArr m c (ix4 (batch t) h (pos t q) f) := by
  obtain ⟨e0, e1, e2, e3⟩ := index0 t
  show V m c main_arg0 (((cfg0.win 0).blk t).view.emb (ix4 0 h q f)) = _
  refine congrArg (V m c main_arg0) (funext fun a => Fin.ext ?_)
  match a with
  | ⟨0, _⟩ => show win0_0.index t (0 : Fin 4) * 1 + 1 * 0 = t.val / 8; omega
  | ⟨1, _⟩ => show win0_0.index t (1 : Fin 4) * 8 + 1 * h.val = h.val; omega
  | ⟨2, _⟩ => show win0_0.index t (2 : Fin 4) * 256 + 1 * q.val = 256 * (t.val % 8) + q.val; omega
  | ⟨3, _⟩ => show win0_0.index t (3 : Fin 4) * 256 + 1 * f.val = f.val; omega

theorem kblk (t : Fin cfg0.N) (h : Fin 8) (j : Fin 2048) (f : Fin 256) : iblk m c 1 t (ix4 0 h j f) = kArr m c (ix4 (batch t) h j f) := by
  obtain ⟨e0, e1, e2, e3⟩ := index1 t
  show V m c main_arg1 (((cfg0.win 1).blk t).view.emb (ix4 0 h j f)) = _
  refine congrArg (V m c main_arg1) (funext fun a => Fin.ext ?_)
  match a with
  | ⟨0, _⟩ => show win0_1.index t (0 : Fin 4) * 1 + 1 * 0 = t.val / 8; omega
  | ⟨1, _⟩ => show win0_1.index t (1 : Fin 4) * 8 + 1 * h.val = h.val; omega
  | ⟨2, _⟩ => show win0_1.index t (2 : Fin 4) * 2048 + 1 * j.val = j.val; omega
  | ⟨3, _⟩ => show win0_1.index t (3 : Fin 4) * 256 + 1 * f.val = f.val; omega

theorem vblk (t : Fin cfg0.N) (h n : Fin 8) (d : Fin 128) (k : Fin 256) : iblk m c 2 t (ix5 0 h n d k) = vArr m c (ix5 (batch t) h n d k) := by
  obtain ⟨e0, e1, e2, e3, e4⟩ := index2 t
  show V m c main_arg2 (((cfg0.win 2).blk t).view.emb (ix5 0 h n d k)) = _
  refine congrArg (V m c main_arg2) (funext fun a => Fin.ext ?_)
  match a with
  | ⟨0, _⟩ => show win0_2.index t (0 : Fin 5) * 1 + 1 * 0 = t.val / 8; omega
  | ⟨1, _⟩ => show win0_2.index t (1 : Fin 5) * 8 + 1 * h.val = h.val; omega
  | ⟨2, _⟩ => show win0_2.index t (2 : Fin 5) * 8 + 1 * n.val = n.val; omega
  | ⟨3, _⟩ => show win0_2.index t (3 : Fin 5) * 128 + 1 * d.val = d.val; omega
  | ⟨4, _⟩ => show win0_2.index t (4 : Fin 5) * 256 + 1 * k.val = k.val; omega

theorem oblk (t : Fin cfg0.N) (q : Fin 256) (col : Fin 1024) :
    ((cfg0.win 3).blk t).view.emb (ix2 q col) = ix2 (⟨256 * t.val + q.val, by have := lt32 t; omega⟩ : Fin 8192) col := by
  obtain ⟨e0, e1⟩ := index3 t
  refine funext fun a => Fin.ext ?_
  match a with
  | ⟨0, _⟩ => show win0_3.index t (0 : Fin 2) * 256 + 1 * q.val = 256 * t.val + q.val; omega
  | ⟨1, _⟩ => show win0_3.index t (1 : Fin 2) * 1024 + 1 * col.val = col.val; omega

/-! ## The scores -/

/-- All query and key elements are real numbers. -/
def RealQK : Prop := ∀ i, ((qArr m c i : EReal) ≠ ⊤ ∧ (qArr m c i : EReal) ≠ ⊥) ∧ ((kArr m c i : EReal) ≠ ⊤ ∧ (kArr m c i : EReal) ≠ ⊥)

theorem raw_eq (t : Fin cfg0.N) (h : Fin 8) (q : Fin 256) (j : Fin 2048) :
    raw (iblk m c 0 t) (iblk m c 1 t) h q j.val = dot (qArr m c) (kArr m c) (batch t) h (pos t q) j * (scale : EReal) := by
  rw [raw, dif_pos j.isLt, dot]
  refine congrArg (· * _) (Finset.sum_congr rfl fun f _ => ?_)
  rw [mul_comm]
  exact congrArg₂ (· * ·) (qblk m c t h q f) (kblk m c t h j f)

theorem raw_real (hr : RealQK m c) (t : Fin cfg0.N) (h : Fin 8) (q : Fin 256) (j : Fin 2048) :
    ∃ r : ℝ, raw (iblk m c 0 t) (iblk m c 1 t) h q j.val = (r : EReal) := by
  obtain ⟨r, e⟩ := sum_real (fun f : Fin 256 => (qArr m c (ix4 (batch t) h (pos t q) f) : EReal)) (fun f => kArr m c (ix4 (batch t) h j f))
    (fun f => (hr _).1) (fun f => (hr _).2)
  refine ⟨r * scale, ?_⟩
  rw [raw_eq, dot, EReal.coe_mul]
  exact congrArg (· * _) e

theorem causal_ne_top (hr : RealQK m c) (t : Fin cfg0.N) (h : Fin 8) (q : Fin 256) (j : ℕ) :
    causal (grid0.coords t) (iblk m c 0 t) (iblk m c 1 t) h q j ≠ ⊤ := by
  rw [causal]
  split
  · by_cases hj : j < 2048
    · obtain ⟨r, e⟩ := raw_real m c hr t h q ⟨j, hj⟩
      rw [e]; exact EReal.coe_ne_top r
    · rw [raw, dif_neg hj]; exact bot_ne_top
  · exact bot_ne_top

theorem causal_own (hr : RealQK m c) (t : Fin cfg0.N) (h : Fin 8) (q : Fin 256) :
    causal (grid0.coords t) (iblk m c 0 t) (iblk m c 1 t) h q (256 * (grid0.coords t 1).val + q.val) ≠ ⊥ := by
  rw [causal, if_pos le_rfl]
  have hc := coord1 t
  obtain ⟨r, e⟩ := raw_real m c hr t h q ⟨256 * (grid0.coords t 1).val + q.val, by omega⟩
  rw [e]; exact EReal.coe_ne_bot r

/-- In base-two exponents times ln 2, the kernel's scores are the reference's. -/
theorem causal_log (t : Fin cfg0.N) (h : Fin 8) (q : Fin 256) (j : Fin 2048) :
    causal (grid0.coords t) (iblk m c 0 t) (iblk m c 1 t) h q j.val * ((Real.log 2 : ℝ) : EReal) = cscore (qArr m c) (kArr m c) (batch t) h (pos t q) j := by
  have hlog : 0 < Real.log 2 := Real.log_pos (by norm_num)
  rw [causal, cscore, coord1 t]
  by_cases hj : j.val ≤ 256 * (t.val % 8) + q.val
  · rw [if_pos hj, if_pos (show j.val ≤ (pos t q).val from hj), raw_eq, mul_assoc, ← EReal.coe_mul, scale, mul_assoc, inv_mul_cancel₀ hlog.ne', mul_one]
  · rw [if_neg hj, if_neg (show ¬ j.val ≤ (pos t q).val from hj)]
    exact EReal.bot_mul_coe_of_pos hlog

/-- What grid point `t` writes for head `h`, query `q`, feature `d` is the reference's element. -/
theorem out_ref (hr : RealQK m c) (t : Fin cfg0.N) (h : Fin 8) (q : Fin 256) (d : Fin 128) (r : Fin 8192) (col : Fin 1024)
    (er : r.val = 256 * t.val + q.val) (ec : col.val = 128 * h.val + d.val) :
    outHead (F := Ideal) (last (F := Ideal) (grid0.coords t) (iblk m c 0 t) (iblk m c 1 t) (iblk m c 2 t) h).a (last (F := Ideal) (grid0.coords t) (iblk m c 0 t) (iblk m c 1 t) (iblk m c 2 t) h).l (ix2 q d)
      = AttnRefIdeal.Read.val_main_v30 (F := Ideal) (qArr m c) (kArr m c) (vArr m c) (ix2 r col) := by
  rw [out_softmax _ _ _ _ h q d (causal_ne_top m c hr t h q) (causal_own m c hr t h q),
    result_at (qArr m c) (kArr m c) (vArr m c) (batch t) h (pos t q) d r col (by show r.val = 2048 * (t.val / 8) + (256 * (t.val % 8) + q.val); omega) ec]
  simp only [causal_log, pexp]
  refine Finset.sum_congr rfl fun j _ => congrArg (· * _) ?_
  rw [val, dif_pos j.isLt]
  exact vblk m c t h _ d _

/-! ## The result -/

/-- The reference's result from the kernel's arguments. -/
abbrev G : S8192x1024.Idx → Elt Ideal .bf16 := AttnRefIdeal.Read.val_main_v30 (F := Ideal) (qArr m c) (kArr m c) (vArr m c)

theorem flushed3_eq (hr : RealQK m c) (t : Fin cfg0.N) : (dats m 0 c).flushed 3 t = ((cfg0.win 3).blk t).view.read (Elt Ideal) (G m c) := by
  rw [flushed3_A]
  funext (y : S256x1024.Idx)
  have hy0 : (y 0).val < 256 := (y 0).isLt
  have hy1 : (y 1).val < 1024 := (y 1).isLt
  obtain ⟨q, hq⟩ : ∃ q : Fin 256, q = y 0 := ⟨_, rfl⟩
  obtain ⟨col, hcol⟩ : ∃ col : Fin 1024, col = y 1 := ⟨_, rfl⟩
  have ey : y = ix2 q col := funext fun a => by fin_cases a; exacts [hq.symm, hcol.symm]
  obtain ⟨h, hh⟩ : ∃ h : Fin 8, h.val = col.val / 128 := ⟨⟨col.val / 128, by omega⟩, rfl⟩
  obtain ⟨d, hd⟩ : ∃ d : Fin 128, d.val = col.val % 128 := ⟨⟨col.val % 128, by omega⟩, rfl⟩
  have er : y = (AttnOut.rO h).emb (ix2 q d) := by
    rw [ey]
    refine funext fun a => Fin.ext ?_
    match a with
    | ⟨0, _⟩ => show q.val = 0 + 1 * q.val; omega
    | ⟨1, _⟩ => show col.val = 128 * h.val + 1 * d.val; omega
  show out0_A_3 _ _ _ _ _ _ _ _ _ _ _ _ _ _ _ _ _ _ _ y = G m c (((cfg0.win 3).blk t).view.emb y)
  rw [er, AttnOut.out_eq, ← er, ey, oblk]
  exact out_ref m c hr t h q d _ col rfl (by omega)

theorem covered3 (i : S8192x1024.Idx) : ∃ t : Fin cfg0.N, (cfg0.win 3).flush t = true ∧ i ∈ ((cfg0.win 3).blk t).view.set := by
  have h0 : (i 0).val < 8192 := (i 0).isLt
  have ht : (i 0).val / 256 < 32 := by omega
  have h : ((cfg0.win 3).blk (⟨(i 0).val / 256, ht⟩ : Fin cfg0.N)).view.emb (ix2 (⟨(i 0).val % 256, by omega⟩ : Fin 256) (⟨(i 1).val, (i 1).isLt⟩ : Fin 1024))
      ∈ ((cfg0.win 3).blk (⟨(i 0).val / 256, ht⟩ : Fin cfg0.N)).view.set := View.emb_mem_set _ _
  rw [oblk] at h
  refine ⟨(⟨(i 0).val / 256, ht⟩ : Fin cfg0.N), flush0_3 _, ?_⟩
  have e : (ix2 (⟨256 * ((i 0).val / 256) + (i 0).val % 256, by omega⟩ : Fin 8192) (⟨(i 1).val, (i 1).isLt⟩ : Fin 1024) : S8192x1024.Idx) = i := by
    refine funext fun a => Fin.ext ?_
    match a with
    | ⟨0, _⟩ => show 256 * ((i 0).val / 256) + (i 0).val % 256 = (i 0).val; omega
    | ⟨1, _⟩ => rfl
  exact (congrArg (· ∈ ((cfg0.win 3).blk (⟨(i 0).val / 256, ht⟩ : Fin cfg0.N)).view.set) e).mp h

/-- The kernel's result array ends at the reference's result. -/
theorem final3 (hr : RealQK m c) : (dats m 0 c).arrAt 3 cfg0.N = G m c :=
  (dats m 0 c).arrAt_eq_of_cover 3 (G m c) (fun t _ => flushed3_eq m c hr t) covered3

/-- The kernel's run: the result at the reference's function of the arguments, the arguments unchanged. -/
theorem run (hr : ∀ c, RealQK m c) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c (hr c)), (h c).2⟩) (run_blocks m ρ)

end Cert.AttnFinal

end
-- ==== Proof.MergeFinal.lean ====
module

public import proofs.«01_k».proof.Defs
public import Idealize.ShloMosaic.Lib.Pointwise
public import Idealize.ShloMosaic.Lib.Pipeline.ValueKit.Tiles
public import proofs.«01_k».proof.Proof.Gen.MergeIdeal.Value
public import proofs.«01_k».proof.Proof.Gen.MergeRefIdeal.Read

/-!
# The gated merge of the three branches

Each grid point takes a block of 512 rows and a block of 512 columns: for each branch the sigmoid of the gate product times the
branch product, the three terms added. The blocks tile the result.
-/

@[expose] public section

set_option maxRecDepth 16384

noncomputable section

namespace Cert.MergeFinal

open Cert.MergeIdeal Cert.MergeIdeal.Gen Cert.MergeIdeal.Value
open Idealize.ShloMosaic Idealize.ShloMosaic.TcCoe Idealize.SL.Sem
open Idealize.ShloMosaic.Pipeline (Dat)

/-- The gate of branch `n` in a block, and the branch's product. -/
abbrev gateB (x0 : Vec Ideal S512x2048 .bf16) (x4 : Vec Ideal S3x512x2048 .bf16) (n : Fin 3) (p q : Fin 512) : EReal :=
  Ideal.logistic (∑ k : Fin 2048, (x0 (ix2 p k) : EReal) * x4 (ix3 n q k))
abbrev prodB (x : Vec Ideal S512x1024 .bf16) (x5 : Vec Ideal S3x1024x512 .bf16) (n : Fin 3) (p q : Fin 512) : EReal :=
  ∑ k : Fin 1024, (x (ix2 p k) : EReal) * x5 (ix3 n k q)

theorem pay4_at (v : Vec Ideal S1x1024x512 .bf16) (k : Fin 1024) (q : Fin 512) : k0_pay4 v (ix2 k q) = v (ix3 0 k q) := by
  unfold k0_pay4
  pointwise
theorem pay3_at (x0 : Vec Ideal S512x2048 .bf16) (v : Vec Ideal S1x512x2048 .bf16) (p q : Fin 512) :
    k0_pay3 x0 v (ix2 p q) = Ideal.logistic (∑ k : Fin 2048, (x0 (ix2 p k) : EReal) * v (ix3 0 q k)) := by
  unfold k0_pay3
  pointwise
theorem pay2_at (x0 : Vec Ideal S512x2048 .bf16) (v1 : Vec Ideal S1x512x2048 .bf16) (x1 : Vec Ideal S512x1024 .bf16) (v6 : Vec Ideal S1x1024x512 .bf16)
    (v10 : Vec Ideal S1x512x2048 .bf16) (x2 : Vec Ideal S512x1024 .bf16) (v15 : Vec Ideal S1x1024x512 .bf16) (p q : Fin 512) :
    k0_pay2 x0 v1 x1 v6 v10 x2 v15 (ix2 p q)
      = Ideal.logistic (∑ k : Fin 2048, (x0 (ix2 p k) : EReal) * v1 (ix3 0 q k)) * (∑ k : Fin 1024, (x1 (ix2 p k) : EReal) * v6 (ix3 0 k q))
        + Ideal.logistic (∑ k : Fin 2048, (x0 (ix2 p k) : EReal) * v10 (ix3 0 q k)) * (∑ k : Fin 1024, (x2 (ix2 p k) : EReal) * v15 (ix3 0 k q)) := by
  unfold k0_pay2
  pointwise
theorem pay1_at (a b : FVec Ideal S512x512 .f32) (x3 : Vec Ideal S512x1024 .bf16) (w : FVec Ideal S1024x512 .bf16) (p q : Fin 512) :
    k0_pay1 a b x3 w (ix2 p q) = (a (ix2 p q) : EReal) + b (ix2 p q) * ∑ k : Fin 1024, (x3 (ix2 p k) : EReal) * w (ix2 k q) := by
  unfold k0_pay1
  pointwise

/-- Branch `n`'s slab of the gate weights' block, and of the branch weights' block. -/
def slabG (x : Vec Ideal S3x512x2048 .bf16) (n : Fin 3) : Vec Ideal S1x512x2048 .bf16 := fun y => x (ix3 n (y 1) (y 2))
def slabW (x : Vec Ideal S3x1024x512 .bf16) (n : Fin 3) : Vec Ideal S1x1024x512 .bf16 := fun y => x (ix3 n (y 1) (y 2))

theorem ld1 (x : Vec Ideal S3x512x2048 .bf16) : View.ld x r0_1 = slabG x 0 := by
  refine funext fun (y : S1x512x2048.Idx) => congrArg x (funext fun a => Fin.ext ?_)
  have hy : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld4 (x : Vec Ideal S3x512x2048 .bf16) : View.ld x r0_4 = slabG x 1 := by
  refine funext fun (y : S1x512x2048.Idx) => congrArg x (funext fun a => Fin.ext ?_)
  have hy : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega
theorem ld6 (x : Vec Ideal S3x512x2048 .bf16) : View.ld x r0_6 = slabG x 2 := by
  refine funext fun (y : S1x512x2048.Idx) => congrArg x (funext fun a => Fin.ext ?_)
  have hy : (y 0).val < 1 := (y 0).isLt
  match a with
  | ⟨0, _⟩ => show 2 + 1 * (y 0).val = 2; omega
  | ⟨1, _⟩ => show 0 + 1 * (y 1).val = (y 1).val; omega
  | ⟨2, _⟩ => show 0 + 1 * (y 2).val = (y 2).val; omega
theorem ld3 (x : Vec Ideal S3x1024x512 .bf16) : View.ld x r0_3 = slabW x 0 := by
  refine funext fun (y : S1x1024x512.Idx) => congrArg x (funext fun a => Fin.ext ?_)
  have hy : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld5 (x : Vec Ideal S3x1024x512 .bf16) : View.ld x r0_5 = slabW x 1 := by
  refine funext fun (y : S1x1024x512.Idx) => congrArg x (funext fun a => Fin.ext ?_)
  have hy : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega
theorem ld7 (x : Vec Ideal S3x1024x512 .bf16) : View.ld x r0_7 = slabW x 2 := by
  refine funext fun (y : S1x1024x512.Idx) => congrArg x (funext fun a => Fin.ext ?_)
  have hy : (y 0).val < 1 := (y 0).isLt
  match a with
  | ⟨0, _⟩ => show 2 + 1 * (y 0).val = 2; omega
  | ⟨1, _⟩ => show 0 + 1 * (y 1).val = (y 1).val; omega
  | ⟨2, _⟩ => show 0 + 1 * (y 2).val = (y 2).val; omega

/-- The block of the result a grid point computes. -/
theorem out_at (x0 : Vec Ideal S512x2048 .bf16) (x1 x2 x3 : Vec Ideal S512x1024 .bf16) (x4 : Vec Ideal S3x512x2048 .bf16) (x5 : Vec Ideal S3x1024x512 .bf16)
    (p q : Fin 512) :
    out0_6 x0 x1 x2 x3 x4 x5 (ix2 p q) = gateB x0 x4 0 p q * prodB x1 x5 0 p q + gateB x0 x4 1 p q * prodB x2 x5 1 p q + gateB x0 x4 2 p q * prodB x3 x5 2 p q := by
  have hz : (![0, 0] : Fin 2 → Nat) = fun _ => 0 := by funext a; fin_cases a <;> rfl
  unfold out0_6
  rw [View.canon_unit_zero hz, View.ld_unit_zero hz, View.ld_unit_zero hz, View.ld_unit_zero hz, View.ld_unit_zero hz, ld1, ld3, ld4, ld5, ld6, ld7, pay1_at, pay2_at, pay3_at]
  simp only [pay4_at]
  rfl

theorem ltN (t : Fin cfg0.N) : t.val < 64 := t.isLt

/-- The row and the column of the result at place `p`, `q` of grid point `t`'s block. -/
def row (t : Fin cfg0.N) (p : Fin 512) : Fin 8192 := ⟨512 * (t.val / 4) + p.val, by have := ltN t; omega⟩
def col (t : Fin cfg0.N) (q : Fin 512) : Fin 2048 := ⟨512 * (t.val % 4) + q.val, by omega⟩

variable (m : (ℓ : Loc nD τ sig) → Buf (Elt Ideal) ℓ) (ρ : Dev nD → PrngReg) (c : Dev nD)

abbrev hnArr : (⟨MergeRefIdeal.S8192x2048, .bf16⟩ : BufTy).Contents (Elt Ideal) := m ((c : Thread nD τ).loc main_arg0)
abbrev aArr : (⟨MergeRefIdeal.S8192x1024, .bf16⟩ : BufTy).Contents (Elt Ideal) := m ((c : Thread nD τ).loc main_arg1)
abbrev bArr : (⟨MergeRefIdeal.S8192x1024, .bf16⟩ : BufTy).Contents (Elt Ideal) := m ((c : Thread nD τ).loc main_arg2)
abbrev cArr : (⟨MergeRefIdeal.S8192x1024, .bf16⟩ : BufTy).Contents (Elt Ideal) := m ((c : Thread nD τ).loc main_arg3)
abbrev gArr : (⟨MergeRefIdeal.S3x2048x2048, .bf16⟩ : BufTy).Contents (Elt Ideal) := m ((c : Thread nD τ).loc main_arg4)
abbrev wArr : (⟨MergeRefIdeal.S3x1024x2048, .bf16⟩ : BufTy).Contents (Elt Ideal) := m ((c : Thread nD τ).loc main_arg5)

theorem index0 : ∀ t : Fin cfg0.N, win0_0.index t (0 : Fin 2) = t.val / 4 ∧ win0_0.index t (1 : Fin 2) = 0 :=
  (by decide +kernel : ∀ t : Fin grid0.N, _)
theorem hnblk (t : Fin cfg0.N) (p : Fin 512) (k : Fin 2048) : iblk m c 0 t (ix2 p k) = hnArr m c (ix2 (row t p) k) := by
  obtain ⟨e0, e1⟩ := index0 t
  show V m c main_arg0 (((cfg0.win 0).blk t).view.emb (ix2 p k)) = _
  refine congrArg (V m c main_arg0) (funext fun a => Fin.ext ?_)
  match a with
  | ⟨0, _⟩ => show win0_0.index t (0 : Fin 2) * 512 + 1 * p.val = 512 * (t.val / 4) + p.val; omega
  | ⟨1, _⟩ => show win0_0.index t (1 : Fin 2) * 2048 + 1 * k.val = k.val; omega

theorem index1 : ∀ t : Fin cfg0.N, win0_1.index t (0 : Fin 2) = t.val / 4 ∧ win0_1.index t (1 : Fin 2) = 0 :=
  (by decide +kernel : ∀ t : Fin grid0.N, _)
theorem ablk (t : Fin cfg0.N) (p : Fin 512) (k : Fin 1024) : iblk m c 1 t (ix2 p k) = aArr m c (ix2 (row t p) k) := by
  obtain ⟨e0, e1⟩ := index1 t
  show V m c main_arg1 (((cfg0.win 1).blk t).view.emb (ix2 p k)) = _
  refine congrArg (V m c main_arg1) (funext fun a => Fin.ext ?_)
  match a with
  | ⟨0, _⟩ => show win0_1.index t (0 : Fin 2) * 512 + 1 * p.val = 512 * (t.val / 4) + p.val; omega
  | ⟨1, _⟩ => show win0_1.index t (1 : Fin 2) * 1024 + 1 * k.val = k.val; omega

theorem index2 : ∀ t : Fin cfg0.N, win0_2.index t (0 : Fin 2) = t.val / 4 ∧ win0_2.index t (1 : Fin 2) = 0 :=
  (by decide +kernel : ∀ t : Fin grid0.N, _)
theorem bblk (t : Fin cfg0.N) (p : Fin 512) (k : Fin 1024) : iblk m c 2 t (ix2 p k) = bArr m c (ix2 (row t p) k) := by
  obtain ⟨e0, e1⟩ := index2 t
  show V m c main_arg2 (((cfg0.win 2).blk t).view.emb (ix2 p k)) = _
  refine congrArg (V m c main_arg2) (funext fun a => Fin.ext ?_)
  match a with
  | ⟨0, _⟩ => show win0_2.index t (0 : Fin 2) * 512 + 1 * p.val = 512 * (t.val / 4) + p.val; omega
  | ⟨1, _⟩ => show win0_2.index t (1 : Fin 2) * 1024 + 1 * k.val = k.val; omega

theorem index3 : ∀ t : Fin cfg0.N, win0_3.index t (0 : Fin 2) = t.val / 4 ∧ win0_3.index t (1 : Fin 2) = 0 :=
  (by decide +kernel : ∀ t : Fin grid0.N, _)
theorem cblk (t : Fin cfg0.N) (p : Fin 512) (k : Fin 1024) : iblk m c 3 t (ix2 p k) = cArr m c (ix2 (row t p) k) := by
  obtain ⟨e0, e1⟩ := index3 t
  show V m c main_arg3 (((cfg0.win 3).blk t).view.emb (ix2 p k)) = _
  refine congrArg (V m c main_arg3) (funext fun a => Fin.ext ?_)
  match a with
  | ⟨0, _⟩ => show win0_3.index t (0 : Fin 2) * 512 + 1 * p.val = 512 * (t.val / 4) + p.val; omega
  | ⟨1, _⟩ => show win0_3.index t (1 : Fin 2) * 1024 + 1 * k.val = k.val; omega

theorem index4 : ∀ t : Fin cfg0.N, win0_4.index t (0 : Fin 3) = 0 ∧ win0_4.index t (1 : Fin 3) = t.val % 4 ∧ win0_4.index t (2 : Fin 3) = 0 :=
  (by decide +kernel : ∀ t : Fin grid0.N, _)
theorem gblk (t : Fin cfg0.N) (n : Fin 3) (q : Fin 512) (k : Fin 2048) : iblk m c 4 t (ix3 n q k) = gArr m c (ix3 n (col t q) k) := by
  obtain ⟨e0, e1, e2⟩ := index4 t
  show V m c main_arg4 (((cfg0.win 4).blk t).view.emb (ix3 n q k)) = _
  refine congrArg (V m c main_arg4) (funext fun a => Fin.ext ?_)
  match a with
  | ⟨0, _⟩ => show win0_4.index t (0 : Fin 3) * 3 + 1 * n.val = n.val; omega
  | ⟨1, _⟩ => show win0_4.index t (1 : Fin 3) * 512 + 1 * q.val = 512 * (t.val % 4) + q.val; omega
  | ⟨2, _⟩ => show win0_4.index t (2 : Fin 3) * 2048 + 1 * k.val = k.val; omega

theorem index5 : ∀ t : Fin cfg0.N, win0_5.index t (0 : Fin 3) = 0 ∧ win0_5.index t (1 : Fin 3) = 0 ∧ win0_5.index t (2 : Fin 3) = t.val % 4 :=
  (by decide +kernel : ∀ t : Fin grid0.N, _)
theorem wblk (t : Fin cfg0.N) (n : Fin 3) (k : Fin 1024) (q : Fin 512) : iblk m c 5 t (ix3 n k q) = wArr m c (ix3 n k (col t q)) := by
  obtain ⟨e0, e1, e2⟩ := index5 t
  show V m c main_arg5 (((cfg0.win 5).blk t).view.emb (ix3 n k q)) = _
  refine congrArg (V m c main_arg5) (funext fun a => Fin.ext ?_)
  match a with
  | ⟨0, _⟩ => show win0_5.index t (0 : Fin 3) * 3 + 1 * n.val = n.val; omega
  | ⟨1, _⟩ => show win0_5.index t (1 : Fin 3) * 1024 + 1 * k.val = k.val; omega
  | ⟨2, _⟩ => show win0_5.index t (2 : Fin 3) * 512 + 1 * q.val = 512 * (t.val % 4) + q.val; omega

theorem index6 : ∀ t : Fin cfg0.N, win0_6.index t (0 : Fin 2) = t.val / 4 ∧ win0_6.index t (1 : Fin 2) = t.val % 4 :=
  (by decide +kernel : ∀ t : Fin grid0.N, _)
theorem oblk (t : Fin cfg0.N) (p : Fin 512) (q : Fin 512) : ((cfg0.win 6).blk t).view.emb (ix2 p q) = ix2 (row t p) (col t q) := by
  obtain ⟨e0, e1⟩ := index6 t
  refine funext fun a => Fin.ext ?_
  match a with
  | ⟨0, _⟩ => show win0_6.index t (0 : Fin 2) * 512 + 1 * p.val = 512 * (t.val / 4) + p.val; omega
  | ⟨1, _⟩ => show win0_6.index t (1 : Fin 2) * 512 + 1 * q.val = 512 * (t.val % 4) + q.val; omega

/-- The reference's result from the kernel's arguments. -/
abbrev G : S8192x2048.Idx → Elt Ideal .bf16 := MergeRefIdeal.Read.val_main_v19 (F := Ideal) (hnArr m c) (aArr m c) (bArr m c) (cArr m c) (gArr m c) (wArr m c)

theorem one_bits : Ideal.ofBits .f32 0x3F800000#32 = 1 := by
  simp [Ideal.ofBits, Ideal.ieee]
  rw [← EReal.coe_mul]
  norm_num
theorem zero_bits : Ideal.ofBits .f32 0x00000000#32 = 0 := by simp [Ideal.ofBits, Ideal.ieee]

/-- An element of the reference's gate of branch `n`. -/
theorem gate_at (r : Fin 8192) (n : Fin 3) (s : Fin 2048) : MergeRefIdeal.Read.val_main_v8 (F := Ideal) (hnArr m c) (gArr m c) (ix3 r n s)
    = Ideal.logistic (∑ k : Fin 2048, (hnArr m c (ix2 r k) : EReal) * gArr m c (ix3 n s k)) := by
  have e : MergeRefIdeal.Read.val_main_v2 (F := Ideal) (hnArr m c) (gArr m c) (ix3 r n s) = ∑ k : Fin 2048, (hnArr m c (ix2 r k) : EReal) * gArr m c (ix3 n s k) := by
    refine (MergeRefIdeal.Read.val_main_v2_apply _ _ _).trans (Finset.sum_congr rfl fun k _ => ?_)
    rw [MergeRefIdeal.Read.val_main_v0_apply, MergeRefIdeal.Read.val_main_v1_apply, Ideal.extf_def, Ideal.extf_def]
    refine congrArg₂ (· * ·) (congrArg (hnArr m c) (funext fun a => ?_)) (congrArg (gArr m c) (funext fun a => ?_))
    · match a with
      | ⟨0, _⟩ => rfl
      | ⟨1, _⟩ => rfl
    · match a with
      | ⟨0, _⟩ => rfl
      | ⟨1, _⟩ => rfl
      | ⟨2, _⟩ => rfl
  rw [MergeRefIdeal.Read.val_main_v8_apply, MergeRefIdeal.Read.val_main_v7_apply, MergeRefIdeal.Read.val_main_v6_apply, MergeRefIdeal.Read.val_main_v5_apply,
    MergeRefIdeal.Read.val_main_v4_apply, MergeRefIdeal.Read.val_main_v3_apply, MergeRefIdeal.Read.val_main_cst_apply, MergeRefIdeal.Read.val_main_cst_0_apply, e]
  show Ideal.div (Ideal.ofBits .f32 0x3F800000#32) (Ideal.ofBits .f32 0x3F800000#32 + Ideal.exp (-_)) = _
  rw [one_bits]
  rfl

/-- The branch outputs by number. -/
def brArr (n : Fin 3) : (⟨MergeRefIdeal.S8192x1024, .bf16⟩ : BufTy).Contents (Elt Ideal) :=
  match n with
  | 0 => aArr m c
  | 1 => bArr m c
  | 2 => cArr m c

/-- The stacked branch outputs, read at branch `n`. -/
theorem stack_at (r : Fin 8192) (n : Fin 3) (k : Fin 1024) :
    MergeRefIdeal.Read.val_main_v12 (F := Ideal) (aArr m c) (bArr m c) (cArr m c) (ix3 r n k) = brArr m c n (ix2 r k) := by
  unfold MergeRefIdeal.Read.val_main_v12
  refine concatenate_unit_eq 1 _ _ _ _ rfl ⟨?_, ?_, ?_, trivial⟩
  · intro hn _ i _ hi
    obtain rfl : n = 0 := Fin.ext hn
    refine (MergeRefIdeal.Read.val_main_v9_apply _ _).trans (congrArg (aArr m c) (funext fun a => Fin.ext ?_))
    match a with
    | ⟨0, _⟩ => exact hi 0 (by decide)
    | ⟨1, _⟩ => exact hi 2 (by decide)
  · intro hn _ i _ hi
    obtain rfl : n = 1 := Fin.ext hn
    refine (MergeRefIdeal.Read.val_main_v10_apply _ _).trans (congrArg (bArr m c) (funext fun a => Fin.ext ?_))
    match a with
    | ⟨0, _⟩ => exact hi 0 (by decide)
    | ⟨1, _⟩ => exact hi 2 (by decide)
  · intro hn _ i _ hi
    obtain rfl : n = 2 := Fin.ext hn
    refine (MergeRefIdeal.Read.val_main_v11_apply _ _).trans (congrArg (cArr m c) (funext fun a => Fin.ext ?_))
    match a with
    | ⟨0, _⟩ => exact hi 0 (by decide)
    | ⟨1, _⟩ => exact hi 2 (by decide)

/-- An element of the reference's product of branch `n`. -/
theorem prod_at (r : Fin 8192) (n : Fin 3) (s : Fin 2048) :
    MergeRefIdeal.Read.val_main_v16 (F := Ideal) (aArr m c) (bArr m c) (cArr m c) (wArr m c) (ix3 r n s)
      = ∑ k : Fin 1024, (brArr m c n (ix2 r k) : EReal) * wArr m c (ix3 n k s) := by
  rw [MergeRefIdeal.Read.val_main_v16_apply]
  refine (MergeRefIdeal.Read.val_main_v15_apply _ _ _ _ _).trans (Finset.sum_congr rfl fun k _ => ?_)
  rw [MergeRefIdeal.Read.val_main_v13_apply, MergeRefIdeal.Read.val_main_v14_apply, Ideal.extf_def, Ideal.extf_def, mul_comm]
  refine congrArg₂ (· * ·) ((congrArg (MergeRefIdeal.Read.val_main_v12 (F := Ideal) (aArr m c) (bArr m c) (cArr m c)) (funext fun a => ?_)).trans (stack_at m c r n k)) (congrArg (wArr m c) (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- An element of the reference's result. -/
theorem ref_at (r : Fin 8192) (s : Fin 2048) : G m c (ix2 r s)
    = ∑ n : Fin 3, Ideal.logistic (∑ k : Fin 2048, (hnArr m c (ix2 r k) : EReal) * gArr m c (ix3 n s k)) * ∑ k : Fin 1024, (brArr m c n (ix2 r k) : EReal) * wArr m c (ix3 n k s) := by
  refine (MergeRefIdeal.Read.val_main_v19_apply _ _ _ _ _ _ _).trans ?_
  rw [Ideal.truncf_def]
  refine (MergeRefIdeal.Read.val_main_v18_apply _ _ _ _ _ _ _).trans ?_
  rw [MergeRefIdeal.Read.val_main_cst_1_apply]
  refine (congrArg (· + _) zero_bits).trans ((zero_add _).trans (Finset.sum_congr rfl fun n _ => ?_))
  refine (MergeRefIdeal.Read.val_main_v17_apply _ _ _ _ _ _ _).trans (congrArg₂ (· * ·) ?_ ?_)
  · refine (congrArg (MergeRefIdeal.Read.val_main_v8 (F := Ideal) (hnArr m c) (gArr m c)) (funext fun a => ?_)).trans (gate_at m c r n s)
    match a with
    | ⟨0, _⟩ => rfl
    | ⟨1, _⟩ => rfl
    | ⟨2, _⟩ => rfl
  · refine (congrArg (MergeRefIdeal.Read.val_main_v16 (F := Ideal) (aArr m c) (bArr m c) (cArr m c) (wArr m c)) (funext fun a => ?_)).trans (prod_at m c r n s)
    match a with
    | ⟨0, _⟩ => rfl
    | ⟨1, _⟩ => rfl
    | ⟨2, _⟩ => rfl

theorem flushed6_eq (t : Fin cfg0.N) : (dats m 0 c).flushed 6 t = ((cfg0.win 6).blk t).view.read (Elt Ideal) (G m c) := by
  rw [flushed6]
  funext (y : S512x512.Idx)
  obtain ⟨p, hp⟩ : ∃ p : Fin 512, p = y 0 := ⟨_, rfl⟩
  obtain ⟨q, hq⟩ : ∃ q : Fin 512, q = y 1 := ⟨_, rfl⟩
  have ey : y = ix2 p q := funext fun a => by fin_cases a; exacts [hp.symm, hq.symm]
  show out0_6 _ _ _ _ _ _ y = G m c (((cfg0.win 6).blk t).view.emb y)
  rw [ey, oblk, ref_at, out_at]
  rw [Fin.sum_univ_three]
  have hg : ∀ n : Fin 3, gateB (iblk m c 0 t) (iblk m c 4 t) n p q
      = Ideal.logistic (∑ k : Fin 2048, (hnArr m c (ix2 (row t p) k) : EReal) * gArr m c (ix3 n (col t q) k)) := fun n =>
    congrArg Ideal.logistic (Finset.sum_congr rfl fun k _ => congrArg₂ (· * ·) (hnblk m c t p k) (gblk m c t n q k))
  rw [hg, hg, hg]
  refine congrArg₂ (· + ·) (congrArg₂ (· + ·) (congrArg _ (Finset.sum_congr rfl fun k _ => ?_)) (congrArg _ (Finset.sum_congr rfl fun k _ => ?_)))
    (congrArg _ (Finset.sum_congr rfl fun k _ => ?_))
  · exact congrArg₂ (· * ·) (ablk m c t p k) (wblk m c t 0 k q)
  · exact congrArg₂ (· * ·) (bblk m c t p k) (wblk m c t 1 k q)
  · exact congrArg₂ (· * ·) (cblk m c t p k) (wblk m c t 2 k q)

theorem covered6 (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  obtain ⟨t, ht⟩ : ∃ t : Fin cfg0.N, t.val = (i 0).val / 512 * 4 + (i 1).val / 512 := ⟨⟨_, by show _ < 64; omega⟩, rfl⟩
  have h : ((cfg0.win 6).blk t).view.emb (ix2 (⟨(i 0).val % 512, by omega⟩ : Fin 512) (⟨(i 1).val % 512, by omega⟩ : Fin 512))
      ∈ ((cfg0.win 6).blk t).view.set := View.emb_mem_set _ _
  rw [oblk] at h
  refine ⟨t, flush0_6 _, ?_⟩
  have e : (ix2 (row t ⟨(i 0).val % 512, by omega⟩) (col t ⟨(i 1).val % 512, by omega⟩) : S8192x2048.Idx) = i := by
    refine funext fun a => Fin.ext ?_
    match a with
    | ⟨0, _⟩ => show 512 * (t.val / 4) + (i 0).val % 512 = (i 0).val; omega
    | ⟨1, _⟩ => show 512 * (t.val % 4) + (i 1).val % 512 = (i 1).val; omega
  exact (congrArg (· ∈ ((cfg0.win 6).blk t).view.set) e).mp h

/-- The kernel's result array ends at the reference's result. -/
theorem final : (dats m 0 c).arrAt 6 cfg0.N = G m c :=
  (dats m 0 c).arrAt_eq_of_cover 6 (G m c) (fun t _ => flushed6_eq m c t) covered6

/-- From arguments that agree, the kernel and the reference end with the same result. -/
theorem value : Cert.algebraic_MergeIdeal_MergeRefIdeal := by
  intro m g m' g' _ hag
  refine ⟨fun c => G m c, (θ_run _ _ _).mono (fun _ h c => ⟨(h c).1.trans (final m c), (h c).2⟩) (run_blocks m g), ?_⟩
  refine (θ_run (Cert.MergeRefIdeal.defs (F := Ideal)) _ _).mono (fun r h c => ?_) (Cert.MergeRefIdeal.Value.run (F := Ideal) m' g')
  refine ⟨(h c).1.trans ((MergeRefIdeal.Read.val_main_v19_eq _ _ _ _ _ _ ).trans ?_), (h c).2⟩
  rw [(hag c).1, (hag c).2.1, (hag c).2.2.1, (hag c).2.2.2.1, (hag c).2.2.2.2.1, (hag c).2.2.2.2.2]

/-- The reference runs, keeps its arguments, and declares no semaphore. -/
theorem ref_frame : Cert.quiescent_MergeRefIdeal := fun m ρ _ =>
  (θ_run (Cert.MergeRefIdeal.defs (F := Ideal)) _ _).mono (fun r h => ⟨fun c => (h c).2, sem_eq_zero_of_no_sems (by decide) r.2⟩)
    (Cert.MergeRefIdeal.Value.run (F := Ideal) m ρ)

end Cert.MergeFinal

end
-- ==== Proof.InMainFinal.lean ====
module

public import proofs.«01_k».proof.Defs
public import Idealize.ShloMosaic.Lib.Pointwise
public import proofs.«01_k».proof.Proof.Gen.InMainIdeal.Value
public import proofs.«01_k».proof.Proof.Gen.InMainRefIdeal.Read

/-!
# The main input projection

Each grid point takes a block of 1024 rows and a block of 1024 columns and contracts the whole inner axis; the blocks tile the
result.
-/

@[expose] public section

set_option maxRecDepth 16384

noncomputable section

namespace Cert.InMainFinal

open Cert.InMainIdeal Cert.InMainIdeal.Gen Cert.InMainIdeal.Value
open Idealize.ShloMosaic Idealize.ShloMosaic.TcCoe Idealize.SL.Sem
open Idealize.ShloMosaic.Pipeline (Dat)

/-- The block of the result a grid point computes: rows of the first operand against rows of the second. -/
theorem out_at (x0 : Vec Ideal S1024x2048 .bf16) (x1 : Vec Ideal S1024x2048 .bf16) (p : Fin 1024) (q : Fin 1024) :
    out0_2 x0 x1 (ix2 p q) = ∑ k : Fin 2048, (x0 (ix2 p k) : EReal) * x1 (ix2 q k) := by
  have hz : (![0, 0] : Fin 2 → Nat) = fun _ => 0 := by funext a; fin_cases a <;> rfl
  unfold out0_2
  rw [View.canon_unit_zero hz, View.ld_unit_zero hz, View.ld_unit_zero hz]
  unfold k0_pay1
  pointwise

variable (m : (ℓ : Loc nD τ sig) → Buf (Elt Ideal) ℓ) (ρ : Dev nD → PrngReg) (c : Dev nD)

abbrev xArr : (⟨InMainRefIdeal.S8192x2048, .bf16⟩ : BufTy).Contents (Elt Ideal) := m ((c : Thread nD τ).loc main_arg0)
abbrev wArr : (⟨InMainRefIdeal.S4096x2048, .bf16⟩ : BufTy).Contents (Elt Ideal) := m ((c : Thread nD τ).loc main_arg1)

theorem index0 : ∀ t : Fin cfg0.N, win0_0.index t (0 : Fin 2) = t.val / 4 ∧ win0_0.index t (1 : Fin 2) = 0 :=
  (by decide +kernel : ∀ t : Fin grid0.N, _)
theorem index1 : ∀ t : Fin cfg0.N, win0_1.index t (0 : Fin 2) = t.val % 4 ∧ win0_1.index t (1 : Fin 2) = 0 :=
  (by decide +kernel : ∀ t : Fin grid0.N, _)
theorem index2 : ∀ t : Fin cfg0.N, win0_2.index t (0 : Fin 2) = t.val / 4 ∧ win0_2.index t (1 : Fin 2) = t.val % 4 :=
  (by decide +kernel : ∀ t : Fin grid0.N, _)
theorem ltN (t : Fin cfg0.N) : t.val < 32 := t.isLt

/-- The row and the column of the result at place `p`, `q` of grid point `t`'s block. -/
def row (t : Fin cfg0.N) (p : Fin 1024) : Fin 8192 := ⟨1024 * (t.val / 4) + p.val, by have := ltN t; omega⟩
def col (t : Fin cfg0.N) (q : Fin 1024) : Fin 4096 := ⟨1024 * (t.val % 4) + q.val, by omega⟩

theorem xblk (t : Fin cfg0.N) (p : Fin 1024) (k : Fin 2048) : iblk m c 0 t (ix2 p k) = xArr m c (ix2 (row t p) k) := by
  obtain ⟨e0, e1⟩ := index0 t
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = 1024 * (t.val / 4) + p.val; omega
  | ⟨1, _⟩ => show win0_0.index t (1 : Fin 2) * 2048 + 1 * k.val = k.val; omega

theorem wblk (t : Fin cfg0.N) (q : Fin 1024) (k : Fin 2048) : iblk m c 1 t (ix2 q k) = wArr m c (ix2 (col t q) k) := by
  obtain ⟨e0, e1⟩ := index1 t
  show V m c main_arg1 (((cfg0.win 1).blk t).view.emb (ix2 q k)) = _
  refine congrArg (V m c main_arg1) (funext fun a => Fin.ext ?_)
  match a with
  | ⟨0, _⟩ => show win0_1.index t (0 : Fin 2) * 1024 + 1 * q.val = 1024 * (t.val % 4) + q.val; omega
  | ⟨1, _⟩ => show win0_1.index t (1 : Fin 2) * 2048 + 1 * k.val = k.val; omega

theorem oblk (t : Fin cfg0.N) (p : Fin 1024) (q : Fin 1024) : ((cfg0.win 2).blk t).view.emb (ix2 p q) = ix2 (row t p) (col t q) := by
  obtain ⟨e0, e1⟩ := index2 t
  refine funext fun a => Fin.ext ?_
  match a with
  | ⟨0, _⟩ => show win0_2.index t (0 : Fin 2) * 1024 + 1 * p.val = 1024 * (t.val / 4) + p.val; omega
  | ⟨1, _⟩ => show win0_2.index t (1 : Fin 2) * 1024 + 1 * q.val = 1024 * (t.val % 4) + q.val; omega

/-- The reference's result from the kernel's arguments. -/
abbrev G : S8192x4096.Idx → Elt Ideal .f32 := InMainRefIdeal.Read.val_main_v3 (F := Ideal) (xArr m c) (wArr m c)

/-- An element of the reference's product. -/
theorem ref_at (r : Fin 8192) (s : Fin 4096) : G m c (ix2 r s) = ∑ k : Fin 2048, (xArr m c (ix2 r k) : EReal) * wArr m c (ix2 s k) := by
  refine (InMainRefIdeal.Read.val_main_v3_apply _ _ _).trans (Finset.sum_congr rfl fun k _ => ?_)
  rw [InMainRefIdeal.Read.val_main_v2_apply, InMainRefIdeal.Read.val_main_v0_apply, InMainRefIdeal.Read.val_main_v1_apply, Ideal.extf_def, Ideal.extf_def]
  refine congrArg₂ (· * ·) (congrArg (xArr m c) (funext fun a => ?_)) (congrArg (wArr m c) (funext fun a => ?_))
  · match a with
    | ⟨0, _⟩ => rfl
    | ⟨1, _⟩ => rfl
  · match a with
    | ⟨0, _⟩ => rfl
    | ⟨1, _⟩ => rfl

theorem flushed2_eq (t : Fin cfg0.N) : (dats m 0 c).flushed 2 t = ((cfg0.win 2).blk t).view.read (Elt Ideal) (G m c) := by
  rw [flushed2]
  funext (y : S1024x1024.Idx)
  obtain ⟨p, hp⟩ : ∃ p : Fin 1024, p = y 0 := ⟨_, rfl⟩
  obtain ⟨q, hq⟩ : ∃ q : Fin 1024, q = y 1 := ⟨_, rfl⟩
  have ey : y = ix2 p q := funext fun a => by fin_cases a; exacts [hp.symm, hq.symm]
  show out0_2 _ _ y = G m c (((cfg0.win 2).blk t).view.emb y)
  rw [ey, oblk, ref_at, out_at]
  exact Finset.sum_congr rfl fun k _ => congrArg₂ (· * ·) (xblk m c t p k) (wblk m c t q k)

theorem covered2 (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  obtain ⟨t, ht⟩ : ∃ t : Fin cfg0.N, t.val = (i 0).val / 1024 * 4 + (i 1).val / 1024 := ⟨⟨_, by show _ < 32; omega⟩, rfl⟩
  have h : ((cfg0.win 2).blk t).view.emb (ix2 (⟨(i 0).val % 1024, by omega⟩ : Fin 1024) (⟨(i 1).val % 1024, by omega⟩ : Fin 1024))
      ∈ ((cfg0.win 2).blk t).view.set := View.emb_mem_set _ _
  rw [oblk] at h
  refine ⟨t, flush0_2 _, ?_⟩
  have e : (ix2 (row t ⟨(i 0).val % 1024, by omega⟩) (col t ⟨(i 1).val % 1024, by omega⟩) : S8192x4096.Idx) = i := by
    refine funext fun a => Fin.ext ?_
    match a with
    | ⟨0, _⟩ => show 1024 * (t.val / 4) + (i 0).val % 1024 = (i 0).val; omega
    | ⟨1, _⟩ => show 1024 * (t.val % 4) + (i 1).val % 1024 = (i 1).val; omega
  exact (congrArg (· ∈ ((cfg0.win 2).blk t).view.set) e).mp h

/-- The kernel's result array ends at the reference's product. -/
theorem final : (dats m 0 c).arrAt 2 cfg0.N = G m c :=
  (dats m 0 c).arrAt_eq_of_cover 2 (G m c) (fun t _ => flushed2_eq m c t) covered2

/-- From arguments that agree, the kernel and the reference end with the same product. -/
theorem value : Cert.algebraic_InMainIdeal_InMainRefIdeal := by
  intro m g m' g' _ hag
  refine ⟨fun c => Cert.InMainFinal.G m c,
    (θ_run _ _ _).mono (fun _ h c => ⟨(h c).1.trans (Cert.InMainFinal.final m c), (h c).2⟩) (Cert.InMainIdeal.Value.run_blocks m g), ?_⟩
  refine (θ_run (Cert.InMainRefIdeal.defs (F := Ideal)) _ _).mono (fun r h c => ?_) (Cert.InMainRefIdeal.Value.run (F := Ideal) m' g')
  refine ⟨(h c).1.trans ((Cert.InMainRefIdeal.Read.val_main_v3_eq _ _).trans ?_), (h c).2⟩
  rw [(hag c).1, (hag c).2]

/-- The reference runs, keeps its arguments, and declares no semaphore. -/
theorem ref_frame : Cert.quiescent_InMainRefIdeal := fun m ρ _ =>
  (θ_run (Cert.InMainRefIdeal.defs (F := Ideal)) _ _).mono (fun r h => ⟨fun c => (h c).2, sem_eq_zero_of_no_sems (by decide) r.2⟩)
    (Cert.InMainRefIdeal.Value.run (F := Ideal) m ρ)

end Cert.InMainFinal

end
-- ==== Proof.InIdxFinal.lean ====
module

public import proofs.«01_k».proof.Defs
public import Idealize.ShloMosaic.Lib.Pointwise
public import proofs.«01_k».proof.Proof.Gen.InIdxIdeal.Value
public import proofs.«01_k».proof.Proof.Gen.InIdxRefIdeal.Read

/-!
# The input projection of the sparse attention's indexer

Each grid point takes a block of 1024 rows and a block of 1152 columns and contracts the whole inner axis; the blocks tile the
result.
-/

@[expose] public section

set_option maxRecDepth 16384

noncomputable section

namespace Cert.InIdxFinal

open Cert.InIdxIdeal Cert.InIdxIdeal.Gen Cert.InIdxIdeal.Value
open Idealize.ShloMosaic Idealize.ShloMosaic.TcCoe Idealize.SL.Sem
open Idealize.ShloMosaic.Pipeline (Dat)

/-- The block of the result a grid point computes: rows of the first operand against rows of the second. -/
theorem out_at (x0 : Vec Ideal S1024x2048 .bf16) (x1 : Vec Ideal S1152x2048 .bf16) (p : Fin 1024) (q : Fin 1152) :
    out0_2 x0 x1 (ix2 p q) = ∑ k : Fin 2048, (x0 (ix2 p k) : EReal) * x1 (ix2 q k) := by
  have hz : (![0, 0] : Fin 2 → Nat) = fun _ => 0 := by funext a; fin_cases a <;> rfl
  unfold out0_2
  rw [View.canon_unit_zero hz, View.ld_unit_zero hz, View.ld_unit_zero hz]
  unfold k0_pay1
  pointwise

variable (m : (ℓ : Loc nD τ sig) → Buf (Elt Ideal) ℓ) (ρ : Dev nD → PrngReg) (c : Dev nD)

abbrev xArr : (⟨InIdxRefIdeal.S8192x2048, .bf16⟩ : BufTy).Contents (Elt Ideal) := m ((c : Thread nD τ).loc main_arg0)
abbrev wArr : (⟨InIdxRefIdeal.S1152x2048, .bf16⟩ : BufTy).Contents (Elt Ideal) := m ((c : Thread nD τ).loc main_arg1)

theorem index0 : ∀ t : Fin cfg0.N, win0_0.index t (0 : Fin 2) = t.val / 1 ∧ win0_0.index t (1 : Fin 2) = 0 :=
  (by decide +kernel : ∀ t : Fin grid0.N, _)
theorem index1 : ∀ t : Fin cfg0.N, win0_1.index t (0 : Fin 2) = t.val % 1 ∧ win0_1.index t (1 : Fin 2) = 0 :=
  (by decide +kernel : ∀ t : Fin grid0.N, _)
theorem index2 : ∀ t : Fin cfg0.N, win0_2.index t (0 : Fin 2) = t.val / 1 ∧ win0_2.index t (1 : Fin 2) = t.val % 1 :=
  (by decide +kernel : ∀ t : Fin grid0.N, _)
theorem ltN (t : Fin cfg0.N) : t.val < 8 := t.isLt

/-- The row and the column of the result at place `p`, `q` of grid point `t`'s block. -/
def row (t : Fin cfg0.N) (p : Fin 1024) : Fin 8192 := ⟨1024 * (t.val / 1) + p.val, by have := ltN t; omega⟩
def col (t : Fin cfg0.N) (q : Fin 1152) : Fin 1152 := ⟨1152 * (t.val % 1) + q.val, by omega⟩

theorem xblk (t : Fin cfg0.N) (p : Fin 1024) (k : Fin 2048) : iblk m c 0 t (ix2 p k) = xArr m c (ix2 (row t p) k) := by
  obtain ⟨e0, e1⟩ := index0 t
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = 1024 * (t.val / 1) + p.val; omega
  | ⟨1, _⟩ => show win0_0.index t (1 : Fin 2) * 2048 + 1 * k.val = k.val; omega

theorem wblk (t : Fin cfg0.N) (q : Fin 1152) (k : Fin 2048) : iblk m c 1 t (ix2 q k) = wArr m c (ix2 (col t q) k) := by
  obtain ⟨e0, e1⟩ := index1 t
  show V m c main_arg1 (((cfg0.win 1).blk t).view.emb (ix2 q k)) = _
  refine congrArg (V m c main_arg1) (funext fun a => Fin.ext ?_)
  match a with
  | ⟨0, _⟩ => show win0_1.index t (0 : Fin 2) * 1152 + 1 * q.val = 1152 * (t.val % 1) + q.val; omega
  | ⟨1, _⟩ => show win0_1.index t (1 : Fin 2) * 2048 + 1 * k.val = k.val; omega

theorem oblk (t : Fin cfg0.N) (p : Fin 1024) (q : Fin 1152) : ((cfg0.win 2).blk t).view.emb (ix2 p q) = ix2 (row t p) (col t q) := by
  obtain ⟨e0, e1⟩ := index2 t
  refine funext fun a => Fin.ext ?_
  match a with
  | ⟨0, _⟩ => show win0_2.index t (0 : Fin 2) * 1024 + 1 * p.val = 1024 * (t.val / 1) + p.val; omega
  | ⟨1, _⟩ => show win0_2.index t (1 : Fin 2) * 1152 + 1 * q.val = 1152 * (t.val % 1) + q.val; omega

/-- The reference's result from the kernel's arguments. -/
abbrev G : S8192x1152.Idx → Elt Ideal .f32 := InIdxRefIdeal.Read.val_main_v3 (F := Ideal) (xArr m c) (wArr m c)

/-- An element of the reference's product. -/
theorem ref_at (r : Fin 8192) (s : Fin 1152) : G m c (ix2 r s) = ∑ k : Fin 2048, (xArr m c (ix2 r k) : EReal) * wArr m c (ix2 s k) := by
  refine (InIdxRefIdeal.Read.val_main_v3_apply _ _ _).trans (Finset.sum_congr rfl fun k _ => ?_)
  rw [InIdxRefIdeal.Read.val_main_v2_apply, InIdxRefIdeal.Read.val_main_v0_apply, InIdxRefIdeal.Read.val_main_v1_apply, Ideal.extf_def, Ideal.extf_def]
  refine congrArg₂ (· * ·) (congrArg (xArr m c) (funext fun a => ?_)) (congrArg (wArr m c) (funext fun a => ?_))
  · match a with
    | ⟨0, _⟩ => rfl
    | ⟨1, _⟩ => rfl
  · match a with
    | ⟨0, _⟩ => rfl
    | ⟨1, _⟩ => rfl

theorem flushed2_eq (t : Fin cfg0.N) : (dats m 0 c).flushed 2 t = ((cfg0.win 2).blk t).view.read (Elt Ideal) (G m c) := by
  rw [flushed2]
  funext (y : S1024x1152.Idx)
  obtain ⟨p, hp⟩ : ∃ p : Fin 1024, p = y 0 := ⟨_, rfl⟩
  obtain ⟨q, hq⟩ : ∃ q : Fin 1152, q = y 1 := ⟨_, rfl⟩
  have ey : y = ix2 p q := funext fun a => by fin_cases a; exacts [hp.symm, hq.symm]
  show out0_2 _ _ y = G m c (((cfg0.win 2).blk t).view.emb y)
  rw [ey, oblk, ref_at, out_at]
  exact Finset.sum_congr rfl fun k _ => congrArg₂ (· * ·) (xblk m c t p k) (wblk m c t q k)

theorem covered2 (i : S8192x1152.Idx) : ∃ t : Fin cfg0.N, (cfg0.win 2).flush t = true ∧ i ∈ ((cfg0.win 2).blk t).view.set := by
  have h0 : (i 0).val < 8192 := (i 0).isLt
  have h1 : (i 1).val < 1152 := (i 1).isLt
  obtain ⟨t, ht⟩ : ∃ t : Fin cfg0.N, t.val = (i 0).val / 1024 * 1 + (i 1).val / 1152 := ⟨⟨_, by show _ < 8; omega⟩, rfl⟩
  have h : ((cfg0.win 2).blk t).view.emb (ix2 (⟨(i 0).val % 1024, by omega⟩ : Fin 1024) (⟨(i 1).val % 1152, by omega⟩ : Fin 1152))
      ∈ ((cfg0.win 2).blk t).view.set := View.emb_mem_set _ _
  rw [oblk] at h
  refine ⟨t, flush0_2 _, ?_⟩
  have e : (ix2 (row t ⟨(i 0).val % 1024, by omega⟩) (col t ⟨(i 1).val % 1152, by omega⟩) : S8192x1152.Idx) = i := by
    refine funext fun a => Fin.ext ?_
    match a with
    | ⟨0, _⟩ => show 1024 * (t.val / 1) + (i 0).val % 1024 = (i 0).val; omega
    | ⟨1, _⟩ => show 1152 * (t.val % 1) + (i 1).val % 1152 = (i 1).val; omega
  exact (congrArg (· ∈ ((cfg0.win 2).blk t).view.set) e).mp h

/-- The kernel's result array ends at the reference's product. -/
theorem final : (dats m 0 c).arrAt 2 cfg0.N = G m c :=
  (dats m 0 c).arrAt_eq_of_cover 2 (G m c) (fun t _ => flushed2_eq m c t) covered2

/-- From arguments that agree, the kernel and the reference end with the same product. -/
theorem value : Cert.algebraic_InIdxIdeal_InIdxRefIdeal := by
  intro m g m' g' _ hag
  refine ⟨fun c => Cert.InIdxFinal.G m c,
    (θ_run _ _ _).mono (fun _ h c => ⟨(h c).1.trans (Cert.InIdxFinal.final m c), (h c).2⟩) (Cert.InIdxIdeal.Value.run_blocks m g), ?_⟩
  refine (θ_run (Cert.InIdxRefIdeal.defs (F := Ideal)) _ _).mono (fun r h c => ?_) (Cert.InIdxRefIdeal.Value.run (F := Ideal) m' g')
  refine ⟨(h c).1.trans ((Cert.InIdxRefIdeal.Read.val_main_v3_eq _ _).trans ?_), (h c).2⟩
  rw [(hag c).1, (hag c).2]

/-- The reference runs, keeps its arguments, and declares no semaphore. -/
theorem ref_frame : Cert.quiescent_InIdxRefIdeal := fun m ρ _ =>
  (θ_run (Cert.InIdxRefIdeal.defs (F := Ideal)) _ _).mono (fun r h => ⟨fun c => (h c).2, sem_eq_zero_of_no_sems (by decide) r.2⟩)
    (Cert.InIdxRefIdeal.Value.run (F := Ideal) m ρ)

end Cert.InIdxFinal

end
-- ==== Proof.InMlaFinal.lean ====
module

public import proofs.«01_k».proof.Defs
public import Idealize.ShloMosaic.Lib.Pointwise
public import proofs.«01_k».proof.Proof.Gen.InMlaIdeal.Value
public import proofs.«01_k».proof.Proof.Gen.InMlaRefIdeal.Read

/-!
# The input projection of the latent attention

Each grid point takes a block of 1024 rows and a block of 1408 columns and contracts the whole inner axis; the blocks tile the
result.
-/

@[expose] public section

set_option maxRecDepth 16384

noncomputable section

namespace Cert.InMlaFinal

open Cert.InMlaIdeal Cert.InMlaIdeal.Gen Cert.InMlaIdeal.Value
open Idealize.ShloMosaic Idealize.ShloMosaic.TcCoe Idealize.SL.Sem
open Idealize.ShloMosaic.Pipeline (Dat)

/-- The block of the result a grid point computes: rows of the first operand against rows of the second. -/
theorem out_at (x0 : Vec Ideal S1024x2048 .bf16) (x1 : Vec Ideal S1408x2048 .bf16) (p : Fin 1024) (q : Fin 1408) :
    out0_2 x0 x1 (ix2 p q) = ∑ k : Fin 2048, (x0 (ix2 p k) : EReal) * x1 (ix2 q k) := by
  have hz : (![0, 0] : Fin 2 → Nat) = fun _ => 0 := by funext a; fin_cases a <;> rfl
  unfold out0_2
  rw [View.canon_unit_zero hz, View.ld_unit_zero hz, View.ld_unit_zero hz]
  unfold k0_pay1
  pointwise

variable (m : (ℓ : Loc nD τ sig) → Buf (Elt Ideal) ℓ) (ρ : Dev nD → PrngReg) (c : Dev nD)

abbrev xArr : (⟨InMlaRefIdeal.S8192x2048, .bf16⟩ : BufTy).Contents (Elt Ideal) := m ((c : Thread nD τ).loc main_arg0)
abbrev wArr : (⟨InMlaRefIdeal.S1408x2048, .bf16⟩ : BufTy).Contents (Elt Ideal) := m ((c : Thread nD τ).loc main_arg1)

theorem index0 : ∀ t : Fin cfg0.N, win0_0.index t (0 : Fin 2) = t.val / 1 ∧ win0_0.index t (1 : Fin 2) = 0 :=
  (by decide +kernel : ∀ t : Fin grid0.N, _)
theorem index1 : ∀ t : Fin cfg0.N, win0_1.index t (0 : Fin 2) = t.val % 1 ∧ win0_1.index t (1 : Fin 2) = 0 :=
  (by decide +kernel : ∀ t : Fin grid0.N, _)
theorem index2 : ∀ t : Fin cfg0.N, win0_2.index t (0 : Fin 2) = t.val / 1 ∧ win0_2.index t (1 : Fin 2) = t.val % 1 :=
  (by decide +kernel : ∀ t : Fin grid0.N, _)
theorem ltN (t : Fin cfg0.N) : t.val < 8 := t.isLt

/-- The row and the column of the result at place `p`, `q` of grid point `t`'s block. -/
def row (t : Fin cfg0.N) (p : Fin 1024) : Fin 8192 := ⟨1024 * (t.val / 1) + p.val, by have := ltN t; omega⟩
def col (t : Fin cfg0.N) (q : Fin 1408) : Fin 1408 := ⟨1408 * (t.val % 1) + q.val, by omega⟩

theorem xblk (t : Fin cfg0.N) (p : Fin 1024) (k : Fin 2048) : iblk m c 0 t (ix2 p k) = xArr m c (ix2 (row t p) k) := by
  obtain ⟨e0, e1⟩ := index0 t
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = 1024 * (t.val / 1) + p.val; omega
  | ⟨1, _⟩ => show win0_0.index t (1 : Fin 2) * 2048 + 1 * k.val = k.val; omega

theorem wblk (t : Fin cfg0.N) (q : Fin 1408) (k : Fin 2048) : iblk m c 1 t (ix2 q k) = wArr m c (ix2 (col t q) k) := by
  obtain ⟨e0, e1⟩ := index1 t
  show V m c main_arg1 (((cfg0.win 1).blk t).view.emb (ix2 q k)) = _
  refine congrArg (V m c main_arg1) (funext fun a => Fin.ext ?_)
  match a with
  | ⟨0, _⟩ => show win0_1.index t (0 : Fin 2) * 1408 + 1 * q.val = 1408 * (t.val % 1) + q.val; omega
  | ⟨1, _⟩ => show win0_1.index t (1 : Fin 2) * 2048 + 1 * k.val = k.val; omega

theorem oblk (t : Fin cfg0.N) (p : Fin 1024) (q : Fin 1408) : ((cfg0.win 2).blk t).view.emb (ix2 p q) = ix2 (row t p) (col t q) := by
  obtain ⟨e0, e1⟩ := index2 t
  refine funext fun a => Fin.ext ?_
  match a with
  | ⟨0, _⟩ => show win0_2.index t (0 : Fin 2) * 1024 + 1 * p.val = 1024 * (t.val / 1) + p.val; omega
  | ⟨1, _⟩ => show win0_2.index t (1 : Fin 2) * 1408 + 1 * q.val = 1408 * (t.val % 1) + q.val; omega

/-- The reference's result from the kernel's arguments. -/
abbrev G : S8192x1408.Idx → Elt Ideal .f32 := InMlaRefIdeal.Read.val_main_v3 (F := Ideal) (xArr m c) (wArr m c)

/-- An element of the reference's product. -/
theorem ref_at (r : Fin 8192) (s : Fin 1408) : G m c (ix2 r s) = ∑ k : Fin 2048, (xArr m c (ix2 r k) : EReal) * wArr m c (ix2 s k) := by
  refine (InMlaRefIdeal.Read.val_main_v3_apply _ _ _).trans (Finset.sum_congr rfl fun k _ => ?_)
  rw [InMlaRefIdeal.Read.val_main_v2_apply, InMlaRefIdeal.Read.val_main_v0_apply, InMlaRefIdeal.Read.val_main_v1_apply, Ideal.extf_def, Ideal.extf_def]
  refine congrArg₂ (· * ·) (congrArg (xArr m c) (funext fun a => ?_)) (congrArg (wArr m c) (funext fun a => ?_))
  · match a with
    | ⟨0, _⟩ => rfl
    | ⟨1, _⟩ => rfl
  · match a with
    | ⟨0, _⟩ => rfl
    | ⟨1, _⟩ => rfl

theorem flushed2_eq (t : Fin cfg0.N) : (dats m 0 c).flushed 2 t = ((cfg0.win 2).blk t).view.read (Elt Ideal) (G m c) := by
  rw [flushed2]
  funext (y : S1024x1408.Idx)
  obtain ⟨p, hp⟩ : ∃ p : Fin 1024, p = y 0 := ⟨_, rfl⟩
  obtain ⟨q, hq⟩ : ∃ q : Fin 1408, q = y 1 := ⟨_, rfl⟩
  have ey : y = ix2 p q := funext fun a => by fin_cases a; exacts [hp.symm, hq.symm]
  show out0_2 _ _ y = G m c (((cfg0.win 2).blk t).view.emb y)
  rw [ey, oblk, ref_at, out_at]
  exact Finset.sum_congr rfl fun k _ => congrArg₂ (· * ·) (xblk m c t p k) (wblk m c t q k)

theorem covered2 (i : S8192x1408.Idx) : ∃ t : Fin cfg0.N, (cfg0.win 2).flush t = true ∧ i ∈ ((cfg0.win 2).blk t).view.set := by
  have h0 : (i 0).val < 8192 := (i 0).isLt
  have h1 : (i 1).val < 1408 := (i 1).isLt
  obtain ⟨t, ht⟩ : ∃ t : Fin cfg0.N, t.val = (i 0).val / 1024 * 1 + (i 1).val / 1408 := ⟨⟨_, by show _ < 8; omega⟩, rfl⟩
  have h : ((cfg0.win 2).blk t).view.emb (ix2 (⟨(i 0).val % 1024, by omega⟩ : Fin 1024) (⟨(i 1).val % 1408, by omega⟩ : Fin 1408))
      ∈ ((cfg0.win 2).blk t).view.set := View.emb_mem_set _ _
  rw [oblk] at h
  refine ⟨t, flush0_2 _, ?_⟩
  have e : (ix2 (row t ⟨(i 0).val % 1024, by omega⟩) (col t ⟨(i 1).val % 1408, by omega⟩) : S8192x1408.Idx) = i := by
    refine funext fun a => Fin.ext ?_
    match a with
    | ⟨0, _⟩ => show 1024 * (t.val / 1) + (i 0).val % 1024 = (i 0).val; omega
    | ⟨1, _⟩ => show 1408 * (t.val % 1) + (i 1).val % 1408 = (i 1).val; omega
  exact (congrArg (· ∈ ((cfg0.win 2).blk t).view.set) e).mp h

/-- The kernel's result array ends at the reference's product. -/
theorem final : (dats m 0 c).arrAt 2 cfg0.N = G m c :=
  (dats m 0 c).arrAt_eq_of_cover 2 (G m c) (fun t _ => flushed2_eq m c t) covered2

/-- From arguments that agree, the kernel and the reference end with the same product. -/
theorem value : Cert.algebraic_InMlaIdeal_InMlaRefIdeal := by
  intro m g m' g' _ hag
  refine ⟨fun c => Cert.InMlaFinal.G m c,
    (θ_run _ _ _).mono (fun _ h c => ⟨(h c).1.trans (Cert.InMlaFinal.final m c), (h c).2⟩) (Cert.InMlaIdeal.Value.run_blocks m g), ?_⟩
  refine (θ_run (Cert.InMlaRefIdeal.defs (F := Ideal)) _ _).mono (fun r h c => ?_) (Cert.InMlaRefIdeal.Value.run (F := Ideal) m' g')
  refine ⟨(h c).1.trans ((Cert.InMlaRefIdeal.Read.val_main_v3_eq _ _).trans ?_), (h c).2⟩
  rw [(hag c).1, (hag c).2]

/-- The reference runs, keeps its arguments, and declares no semaphore. -/
theorem ref_frame : Cert.quiescent_InMlaRefIdeal := fun m ρ _ =>
  (θ_run (Cert.InMlaRefIdeal.defs (F := Ideal)) _ _).mono (fun r h => ⟨fun c => (h c).2, sem_eq_zero_of_no_sems (by decide) r.2⟩)
    (Cert.InMlaRefIdeal.Value.run (F := Ideal) m ρ)

end Cert.InMlaFinal

end
-- ==== Proof.OutFinal.lean ====
module

public import proofs.«01_k».proof.Defs
public import Idealize.ShloMosaic.Lib.Pointwise
public import proofs.«01_k».proof.Proof.Gen.OutIdeal.Value
public import proofs.«01_k».proof.Proof.Gen.OutRefIdeal.Read

/-!
# The output projection, added to the residual stream

Each grid point takes a block of 1024 rows and a block of 1024 columns and contracts the whole inner axis; the blocks tile the
result.
-/

@[expose] public section

set_option maxRecDepth 16384

noncomputable section

namespace Cert.OutFinal

open Cert.OutIdeal Cert.OutIdeal.Gen Cert.OutIdeal.Value
open Idealize.ShloMosaic Idealize.ShloMosaic.TcCoe Idealize.SL.Sem
open Idealize.ShloMosaic.Pipeline (Dat)

/-- The block of the result a grid point computes. -/
theorem out_at (x0 : Vec Ideal S1024x2048 .bf16) (x1 : Vec Ideal S2048x1024 .bf16) (x2 : Vec Ideal S1024x1024 .f32) (p q : Fin 1024) :
    out0_3 x0 x1 x2 (ix2 p q) = (x2 (ix2 p q) : EReal) + ∑ k : Fin 2048, (x0 (ix2 p k) : EReal) * x1 (ix2 k q) := by
  have hz : (![0, 0] : Fin 2 → Nat) = fun _ => 0 := by funext a; fin_cases a <;> rfl
  unfold out0_3
  rw [View.canon_unit_zero hz, View.ld_unit_zero hz, View.ld_unit_zero hz, View.ld_unit_zero hz]
  unfold k0_pay1
  pointwise

theorem ltN (t : Fin cfg0.N) : t.val < 16 := t.isLt

/-- The row and the column of the result at place `p`, `q` of grid point `t`'s block. -/
def row (t : Fin cfg0.N) (p : Fin 1024) : Fin 8192 := ⟨1024 * (t.val / 2) + p.val, by have := ltN t; omega⟩
def col (t : Fin cfg0.N) (q : Fin 1024) : Fin 2048 := ⟨1024 * (t.val % 2) + q.val, by omega⟩

variable (m : (ℓ : Loc nD τ sig) → Buf (Elt Ideal) ℓ) (ρ : Dev nD → PrngReg) (c : Dev nD)

abbrev xArr : (⟨OutRefIdeal.S8192x2048, .bf16⟩ : BufTy).Contents (Elt Ideal) := m ((c : Thread nD τ).loc main_arg0)
abbrev wArr : (⟨OutRefIdeal.S2048x2048, .bf16⟩ : BufTy).Contents (Elt Ideal) := m ((c : Thread nD τ).loc main_arg1)
abbrev hArr : (⟨OutRefIdeal.S8192x2048, .f32⟩ : BufTy).Contents (Elt Ideal) := m ((c : Thread nD τ).loc main_arg2)

theorem index0 : ∀ t : Fin cfg0.N, win0_0.index t (0 : Fin 2) = t.val / 2 ∧ win0_0.index t (1 : Fin 2) = 0 :=
  (by decide +kernel : ∀ t : Fin grid0.N, _)
theorem xblk (t : Fin cfg0.N) (p : Fin 1024) (k : Fin 2048) : iblk m c 0 t (ix2 p k) = xArr m c (ix2 (row t p) k) := by
  obtain ⟨e0, e1⟩ := index0 t
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = 1024 * (t.val / 2) + p.val; omega
  | ⟨1, _⟩ => show win0_0.index t (1 : Fin 2) * 2048 + 1 * k.val = k.val; omega

theorem index1 : ∀ t : Fin cfg0.N, win0_1.index t (0 : Fin 2) = 0 ∧ win0_1.index t (1 : Fin 2) = t.val % 2 :=
  (by decide +kernel : ∀ t : Fin grid0.N, _)
theorem wblk (t : Fin cfg0.N) (k : Fin 2048) (q : Fin 1024) : iblk m c 1 t (ix2 k q) = wArr m c (ix2 k (col t q)) := by
  obtain ⟨e0, e1⟩ := index1 t
  show V m c main_arg1 (((cfg0.win 1).blk t).view.emb (ix2 k q)) = _
  refine congrArg (V m c main_arg1) (funext fun a => Fin.ext ?_)
  match a with
  | ⟨0, _⟩ => show win0_1.index t (0 : Fin 2) * 2048 + 1 * k.val = k.val; omega
  | ⟨1, _⟩ => show win0_1.index t (1 : Fin 2) * 1024 + 1 * q.val = 1024 * (t.val % 2) + q.val; omega

theorem index2 : ∀ t : Fin cfg0.N, win0_2.index t (0 : Fin 2) = t.val / 2 ∧ win0_2.index t (1 : Fin 2) = t.val % 2 :=
  (by decide +kernel : ∀ t : Fin grid0.N, _)
theorem hblk (t : Fin cfg0.N) (p : Fin 1024) (q : Fin 1024) : iblk m c 2 t (ix2 p q) = hArr m c (ix2 (row t p) (col t q)) := by
  obtain ⟨e0, e1⟩ := index2 t
  show V m c main_arg2 (((cfg0.win 2).blk t).view.emb (ix2 p q)) = _
  refine congrArg (V m c main_arg2) (funext fun a => Fin.ext ?_)
  match a with
  | ⟨0, _⟩ => show win0_2.index t (0 : Fin 2) * 1024 + 1 * p.val = 1024 * (t.val / 2) + p.val; omega
  | ⟨1, _⟩ => show win0_2.index t (1 : Fin 2) * 1024 + 1 * q.val = 1024 * (t.val % 2) + q.val; omega

theorem index3 : ∀ t : Fin cfg0.N, win0_3.index t (0 : Fin 2) = t.val / 2 ∧ win0_3.index t (1 : Fin 2) = t.val % 2 :=
  (by decide +kernel : ∀ t : Fin grid0.N, _)
theorem oblk (t : Fin cfg0.N) (p : Fin 1024) (q : Fin 1024) : ((cfg0.win 3).blk t).view.emb (ix2 p q) = ix2 (row t p) (col t q) := by
  obtain ⟨e0, e1⟩ := index3 t
  refine funext fun a => Fin.ext ?_
  match a with
  | ⟨0, _⟩ => show win0_3.index t (0 : Fin 2) * 1024 + 1 * p.val = 1024 * (t.val / 2) + p.val; omega
  | ⟨1, _⟩ => show win0_3.index t (1 : Fin 2) * 1024 + 1 * q.val = 1024 * (t.val % 2) + q.val; omega

/-- The reference's result from the kernel's arguments. -/
abbrev G : S8192x2048.Idx → Elt Ideal .f32 := OutRefIdeal.Read.val_main_v3 (F := Ideal) (xArr m c) (wArr m c) (hArr m c)

/-- An element of the reference's result. -/
theorem ref_at (r : Fin 8192) (s : Fin 2048) :
    G m c (ix2 r s) = (hArr m c (ix2 r s) : EReal) + ∑ k : Fin 2048, (xArr m c (ix2 r k) : EReal) * wArr m c (ix2 k s) := by
  refine (OutRefIdeal.Read.val_main_v3_apply _ _ _ _).trans (congrArg (hArr m c (ix2 r s) + ·) ?_)
  refine (OutRefIdeal.Read.val_main_v2_apply _ _ _).trans (Finset.sum_congr rfl fun k _ => ?_)
  rw [OutRefIdeal.Read.val_main_v0_apply, OutRefIdeal.Read.val_main_v1_apply, Ideal.extf_def, Ideal.extf_def]
  refine congrArg₂ (· * ·) (congrArg (xArr m c) (funext fun a => ?_)) (congrArg (wArr m c) (funext fun a => ?_))
  · match a with
    | ⟨0, _⟩ => rfl
    | ⟨1, _⟩ => rfl
  · match a with
    | ⟨0, _⟩ => rfl
    | ⟨1, _⟩ => rfl

theorem flushed3_eq (t : Fin cfg0.N) : (dats m 0 c).flushed 3 t = ((cfg0.win 3).blk t).view.read (Elt Ideal) (G m c) := by
  rw [flushed3]
  funext (y : S1024x1024.Idx)
  obtain ⟨p, hp⟩ : ∃ p : Fin 1024, p = y 0 := ⟨_, rfl⟩
  obtain ⟨q, hq⟩ : ∃ q : Fin 1024, q = y 1 := ⟨_, rfl⟩
  have ey : y = ix2 p q := funext fun a => by fin_cases a; exacts [hp.symm, hq.symm]
  show out0_3 _ _ _ y = G m c (((cfg0.win 3).blk t).view.emb y)
  rw [ey, oblk, ref_at, out_at]
  rw [hblk]
  exact congrArg _ (Finset.sum_congr rfl fun k _ => congrArg₂ (· * ·) (xblk m c t p k) (wblk m c t k q))

theorem covered3 (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  obtain ⟨t, ht⟩ : ∃ t : Fin cfg0.N, t.val = (i 0).val / 1024 * 2 + (i 1).val / 1024 := ⟨⟨_, by show _ < 16; omega⟩, rfl⟩
  have h : ((cfg0.win 3).blk t).view.emb (ix2 (⟨(i 0).val % 1024, by omega⟩ : Fin 1024) (⟨(i 1).val % 1024, by omega⟩ : Fin 1024))
      ∈ ((cfg0.win 3).blk t).view.set := View.emb_mem_set _ _
  rw [oblk] at h
  refine ⟨t, flush0_3 _, ?_⟩
  have e : (ix2 (row t ⟨(i 0).val % 1024, by omega⟩) (col t ⟨(i 1).val % 1024, by omega⟩) : S8192x2048.Idx) = i := by
    refine funext fun a => Fin.ext ?_
    match a with
    | ⟨0, _⟩ => show 1024 * (t.val / 2) + (i 0).val % 1024 = (i 0).val; omega
    | ⟨1, _⟩ => show 1024 * (t.val % 2) + (i 1).val % 1024 = (i 1).val; omega
  exact (congrArg (· ∈ ((cfg0.win 3).blk t).view.set) e).mp h

/-- The kernel's result array ends at the reference's result. -/
theorem final : (dats m 0 c).arrAt 3 cfg0.N = G m c :=
  (dats m 0 c).arrAt_eq_of_cover 3 (G m c) (fun t _ => flushed3_eq m c t) covered3

/-- From arguments that agree, the kernel and the reference end with the same result. -/
theorem value : Cert.algebraic_OutIdeal_OutRefIdeal := by
  intro m g m' g' _ hag
  refine ⟨fun c => G m c, (θ_run _ _ _).mono (fun _ h c => ⟨(h c).1.trans (final m c), (h c).2⟩) (run_blocks m g), ?_⟩
  refine (θ_run (Cert.OutRefIdeal.defs (F := Ideal)) _ _).mono (fun r h c => ?_) (Cert.OutRefIdeal.Value.run (F := Ideal) m' g')
  refine ⟨(h c).1.trans ((OutRefIdeal.Read.val_main_v3_eq _ _ _ ).trans ?_), (h c).2⟩
  rw [(hag c).1, (hag c).2.1, (hag c).2.2]

/-- The reference runs, keeps its arguments, and declares no semaphore. -/
theorem ref_frame : Cert.quiescent_OutRefIdeal := fun m ρ _ =>
  (θ_run (Cert.OutRefIdeal.defs (F := Ideal)) _ _).mono (fun r h => ⟨fun c => (h c).2, sem_eq_zero_of_no_sems (by decide) r.2⟩)
    (Cert.OutRefIdeal.Value.run (F := Ideal) m ρ)

end Cert.OutFinal

end
-- ==== Proof.PleFinal.lean ====
module

public import proofs.«01_k».proof.Defs
public import Idealize.ShloMosaic.Lib.Pointwise
public import proofs.«01_k».proof.Proof.Gen.PleIdeal.Value
public import proofs.«01_k».proof.Proof.Gen.PleRefIdeal.Read

/-!
# The gated per-layer embedding, added to the residual stream

Each grid point takes a block of 1024 rows and a block of 1024 columns and contracts the whole inner axis; the blocks tile the
result.
-/

@[expose] public section

set_option maxRecDepth 16384

noncomputable section

namespace Cert.PleFinal

open Cert.PleIdeal Cert.PleIdeal.Gen Cert.PleIdeal.Value
open Idealize.ShloMosaic Idealize.ShloMosaic.TcCoe Idealize.SL.Sem
open Idealize.ShloMosaic.Pipeline (Dat)

/-- The block of the result a grid point computes. -/
theorem out_at (x0 : Vec Ideal S1024x1024 .f32) (x1 : Vec Ideal S1024x2048 .bf16) (x2 : Vec Ideal S1024x256 .f32) (x3 : Vec Ideal S2048x1024 .bf16)
    (x4 : Vec Ideal S256x1024 .bf16) (p q : Fin 1024) :
    out0_5 x0 x1 x2 x3 x4 (ix2 p q) = (x0 (ix2 p q) : EReal) + (∑ k : Fin 256, (x2 (ix2 p k) : EReal) * x4 (ix2 k q))
      * Ideal.logistic (∑ k : Fin 2048, (x1 (ix2 p k) : EReal) * x3 (ix2 k q)) := by
  have hz : (![0, 0] : Fin 2 → Nat) = fun _ => 0 := by funext a; fin_cases a <;> rfl
  unfold out0_5
  rw [View.canon_unit_zero hz, View.ld_unit_zero hz, View.ld_unit_zero hz, View.ld_unit_zero hz, View.ld_unit_zero hz, View.ld_unit_zero hz]
  unfold k0_pay1
  pointwise

theorem ltN (t : Fin cfg0.N) : t.val < 16 := t.isLt

/-- The row and the column of the result at place `p`, `q` of grid point `t`'s block. -/
def row (t : Fin cfg0.N) (p : Fin 1024) : Fin 8192 := ⟨1024 * (t.val / 2) + p.val, by have := ltN t; omega⟩
def col (t : Fin cfg0.N) (q : Fin 1024) : Fin 2048 := ⟨1024 * (t.val % 2) + q.val, by omega⟩

variable (m : (ℓ : Loc nD τ sig) → Buf (Elt Ideal) ℓ) (ρ : Dev nD → PrngReg) (c : Dev nD)

abbrev hArr : (⟨PleRefIdeal.S8192x2048, .f32⟩ : BufTy).Contents (Elt Ideal) := m ((c : Thread nD τ).loc main_arg0)
abbrev nArr : (⟨PleRefIdeal.S8192x2048, .bf16⟩ : BufTy).Contents (Elt Ideal) := m ((c : Thread nD τ).loc main_arg1)
abbrev pArr : (⟨PleRefIdeal.S8192x256, .f32⟩ : BufTy).Contents (Elt Ideal) := m ((c : Thread nD τ).loc main_arg2)
abbrev gArr : (⟨PleRefIdeal.S2048x2048, .bf16⟩ : BufTy).Contents (Elt Ideal) := m ((c : Thread nD τ).loc main_arg3)
abbrev wArr : (⟨PleRefIdeal.S256x2048, .bf16⟩ : BufTy).Contents (Elt Ideal) := m ((c : Thread nD τ).loc main_arg4)

theorem index0 : ∀ t : Fin cfg0.N, win0_0.index t (0 : Fin 2) = t.val / 2 ∧ win0_0.index t (1 : Fin 2) = t.val % 2 :=
  (by decide +kernel : ∀ t : Fin grid0.N, _)
theorem hblk (t : Fin cfg0.N) (p : Fin 1024) (q : Fin 1024) : iblk m c 0 t (ix2 p q) = hArr m c (ix2 (row t p) (col t q)) := by
  obtain ⟨e0, e1⟩ := index0 t
  show V m c main_arg0 (((cfg0.win 0).blk t).view.emb (ix2 p q)) = _
  refine congrArg (V m c main_arg0) (funext fun a => Fin.ext ?_)
  match a with
  | ⟨0, _⟩ => show win0_0.index t (0 : Fin 2) * 1024 + 1 * p.val = 1024 * (t.val / 2) + p.val; omega
  | ⟨1, _⟩ => show win0_0.index t (1 : Fin 2) * 1024 + 1 * q.val = 1024 * (t.val % 2) + q.val; omega

theorem index1 : ∀ t : Fin cfg0.N, win0_1.index t (0 : Fin 2) = t.val / 2 ∧ win0_1.index t (1 : Fin 2) = 0 :=
  (by decide +kernel : ∀ t : Fin grid0.N, _)
theorem nblk (t : Fin cfg0.N) (p : Fin 1024) (k : Fin 2048) : iblk m c 1 t (ix2 p k) = nArr m c (ix2 (row t p) k) := by
  obtain ⟨e0, e1⟩ := index1 t
  show V m c main_arg1 (((cfg0.win 1).blk t).view.emb (ix2 p k)) = _
  refine congrArg (V m c main_arg1) (funext fun a => Fin.ext ?_)
  match a with
  | ⟨0, _⟩ => show win0_1.index t (0 : Fin 2) * 1024 + 1 * p.val = 1024 * (t.val / 2) + p.val; omega
  | ⟨1, _⟩ => show win0_1.index t (1 : Fin 2) * 2048 + 1 * k.val = k.val; omega

theorem index2 : ∀ t : Fin cfg0.N, win0_2.index t (0 : Fin 2) = t.val / 2 ∧ win0_2.index t (1 : Fin 2) = 0 :=
  (by decide +kernel : ∀ t : Fin grid0.N, _)
theorem pblk (t : Fin cfg0.N) (p : Fin 1024) (k : Fin 256) : iblk m c 2 t (ix2 p k) = pArr m c (ix2 (row t p) k) := by
  obtain ⟨e0, e1⟩ := index2 t
  show V m c main_arg2 (((cfg0.win 2).blk t).view.emb (ix2 p k)) = _
  refine congrArg (V m c main_arg2) (funext fun a => Fin.ext ?_)
  match a with
  | ⟨0, _⟩ => show win0_2.index t (0 : Fin 2) * 1024 + 1 * p.val = 1024 * (t.val / 2) + p.val; omega
  | ⟨1, _⟩ => show win0_2.index t (1 : Fin 2) * 256 + 1 * k.val = k.val; omega

theorem index3 : ∀ t : Fin cfg0.N, win0_3.index t (0 : Fin 2) = 0 ∧ win0_3.index t (1 : Fin 2) = t.val % 2 :=
  (by decide +kernel : ∀ t : Fin grid0.N, _)
theorem gblk (t : Fin cfg0.N) (k : Fin 2048) (q : Fin 1024) : iblk m c 3 t (ix2 k q) = gArr m c (ix2 k (col t q)) := by
  obtain ⟨e0, e1⟩ := index3 t
  show V m c main_arg3 (((cfg0.win 3).blk t).view.emb (ix2 k q)) = _
  refine congrArg (V m c main_arg3) (funext fun a => Fin.ext ?_)
  match a with
  | ⟨0, _⟩ => show win0_3.index t (0 : Fin 2) * 2048 + 1 * k.val = k.val; omega
  | ⟨1, _⟩ => show win0_3.index t (1 : Fin 2) * 1024 + 1 * q.val = 1024 * (t.val % 2) + q.val; omega

theorem index4 : ∀ t : Fin cfg0.N, win0_4.index t (0 : Fin 2) = 0 ∧ win0_4.index t (1 : Fin 2) = t.val % 2 :=
  (by decide +kernel : ∀ t : Fin grid0.N, _)
theorem wblk (t : Fin cfg0.N) (k : Fin 256) (q : Fin 1024) : iblk m c 4 t (ix2 k q) = wArr m c (ix2 k (col t q)) := by
  obtain ⟨e0, e1⟩ := index4 t
  show V m c main_arg4 (((cfg0.win 4).blk t).view.emb (ix2 k q)) = _
  refine congrArg (V m c main_arg4) (funext fun a => Fin.ext ?_)
  match a with
  | ⟨0, _⟩ => show win0_4.index t (0 : Fin 2) * 256 + 1 * k.val = k.val; omega
  | ⟨1, _⟩ => show win0_4.index t (1 : Fin 2) * 1024 + 1 * q.val = 1024 * (t.val % 2) + q.val; omega

theorem index5 : ∀ t : Fin cfg0.N, win0_5.index t (0 : Fin 2) = t.val / 2 ∧ win0_5.index t (1 : Fin 2) = t.val % 2 :=
  (by decide +kernel : ∀ t : Fin grid0.N, _)
theorem oblk (t : Fin cfg0.N) (p : Fin 1024) (q : Fin 1024) : ((cfg0.win 5).blk t).view.emb (ix2 p q) = ix2 (row t p) (col t q) := by
  obtain ⟨e0, e1⟩ := index5 t
  refine funext fun a => Fin.ext ?_
  match a with
  | ⟨0, _⟩ => show win0_5.index t (0 : Fin 2) * 1024 + 1 * p.val = 1024 * (t.val / 2) + p.val; omega
  | ⟨1, _⟩ => show win0_5.index t (1 : Fin 2) * 1024 + 1 * q.val = 1024 * (t.val % 2) + q.val; omega

/-- The reference's result from the kernel's arguments. -/
abbrev G : S8192x2048.Idx → Elt Ideal .f32 := PleRefIdeal.Read.val_main_v12 (F := Ideal) (hArr m c) (nArr m c) (pArr m c) (gArr m c) (wArr m c)

theorem one_bits : Ideal.ofBits .f32 0x3F800000#32 = 1 := by
  simp [Ideal.ofBits, Ideal.ieee]
  rw [← EReal.coe_mul]
  norm_num

/-- An element of the reference's embedding product. -/
theorem emb_at (r : Fin 8192) (s : Fin 2048) : PleRefIdeal.Read.val_main_v10 (F := Ideal) (pArr m c) (wArr m c) (ix2 r s)
    = ∑ k : Fin 256, (pArr m c (ix2 r k) : EReal) * wArr m c (ix2 k s) := by
  refine (PleRefIdeal.Read.val_main_v10_apply _ _ _).trans (Finset.sum_congr rfl fun k _ => ?_)
  rw [PleRefIdeal.Read.val_main_v9_apply, Ideal.extf_def]
  refine congrArg₂ (· * ·) (congrArg (pArr m c) (funext fun a => ?_)) (congrArg (wArr m c) (funext fun a => ?_))
  · match a with
    | ⟨0, _⟩ => rfl
    | ⟨1, _⟩ => rfl
  · match a with
    | ⟨0, _⟩ => rfl
    | ⟨1, _⟩ => rfl

/-- An element of the reference's gate before its sigmoid. -/
theorem gate_at (r : Fin 8192) (s : Fin 2048) : PleRefIdeal.Read.val_main_v2 (F := Ideal) (nArr m c) (gArr m c) (ix2 r s)
    = ∑ k : Fin 2048, (nArr m c (ix2 r k) : EReal) * gArr m c (ix2 k s) := by
  refine (PleRefIdeal.Read.val_main_v2_apply _ _ _).trans (Finset.sum_congr rfl fun k _ => ?_)
  rw [PleRefIdeal.Read.val_main_v0_apply, PleRefIdeal.Read.val_main_v1_apply, Ideal.extf_def, Ideal.extf_def]
  refine congrArg₂ (· * ·) (congrArg (nArr m c) (funext fun a => ?_)) (congrArg (gArr m c) (funext fun a => ?_))
  · match a with
    | ⟨0, _⟩ => rfl
    | ⟨1, _⟩ => rfl
  · match a with
    | ⟨0, _⟩ => rfl
    | ⟨1, _⟩ => rfl

/-- The reference's sigmoid, written out with an exponential, is the logistic function. -/
theorem sigmoid_at (i : S8192x2048.Idx) : PleRefIdeal.Read.val_main_v8 (F := Ideal) (nArr m c) (gArr m c) i
    = Ideal.logistic (PleRefIdeal.Read.val_main_v2 (F := Ideal) (nArr m c) (gArr m c) i) := by
  rw [PleRefIdeal.Read.val_main_v8_apply, PleRefIdeal.Read.val_main_v7_apply, PleRefIdeal.Read.val_main_v6_apply, PleRefIdeal.Read.val_main_v5_apply,
    PleRefIdeal.Read.val_main_v4_apply, PleRefIdeal.Read.val_main_v3_apply, PleRefIdeal.Read.val_main_cst_apply, PleRefIdeal.Read.val_main_cst_0_apply]
  show Ideal.div (Ideal.ofBits .f32 0x3F800000#32) (Ideal.ofBits .f32 0x3F800000#32 + Ideal.exp (-_)) = _
  rw [one_bits]
  rfl

/-- An element of the reference's result. -/
theorem ref_at (r : Fin 8192) (s : Fin 2048) :
    G m c (ix2 r s) = (hArr m c (ix2 r s) : EReal) + (∑ k : Fin 256, (pArr m c (ix2 r k) : EReal) * wArr m c (ix2 k s))
      * Ideal.logistic (∑ k : Fin 2048, (nArr m c (ix2 r k) : EReal) * gArr m c (ix2 k s)) := by
  refine (PleRefIdeal.Read.val_main_v12_apply _ _ _ _ _ _).trans (congrArg (hArr m c (ix2 r s) + ·) ?_)
  refine (PleRefIdeal.Read.val_main_v11_apply _ _ _ _ _).trans (congrArg₂ (· * ·) (emb_at m c r s) ?_)
  rw [sigmoid_at, gate_at]

theorem flushed5_eq (t : Fin cfg0.N) : (dats m 0 c).flushed 5 t = ((cfg0.win 5).blk t).view.read (Elt Ideal) (G m c) := by
  rw [flushed5]
  funext (y : S1024x1024.Idx)
  obtain ⟨p, hp⟩ : ∃ p : Fin 1024, p = y 0 := ⟨_, rfl⟩
  obtain ⟨q, hq⟩ : ∃ q : Fin 1024, q = y 1 := ⟨_, rfl⟩
  have ey : y = ix2 p q := funext fun a => by fin_cases a; exacts [hp.symm, hq.symm]
  show out0_5 _ _ _ _ _ y = G m c (((cfg0.win 5).blk t).view.emb y)
  rw [ey, oblk, ref_at, out_at]
  rw [hblk]
  refine congrArg₂ (fun u v => _ + u * Ideal.logistic v) (Finset.sum_congr rfl fun k _ => ?_) (Finset.sum_congr rfl fun k _ => ?_)
  · exact congrArg₂ (· * ·) (pblk m c t p k) (wblk m c t k q)
  · exact congrArg₂ (· * ·) (nblk m c t p k) (gblk m c t k q)

theorem covered5 (i : S8192x2048.Idx) : ∃ t : Fin cfg0.N, (cfg0.win 5).flush t = true ∧ i ∈ ((cfg0.win 5).blk t).view.set := by
  have h0 : (i 0).val < 8192 := (i 0).isLt
  have h1 : (i 1).val < 2048 := (i 1).isLt
  obtain ⟨t, ht⟩ : ∃ t : Fin cfg0.N, t.val = (i 0).val / 1024 * 2 + (i 1).val / 1024 := ⟨⟨_, by show _ < 16; omega⟩, rfl⟩
  have h : ((cfg0.win 5).blk t).view.emb (ix2 (⟨(i 0).val % 1024, by omega⟩ : Fin 1024) (⟨(i 1).val % 1024, by omega⟩ : Fin 1024))
      ∈ ((cfg0.win 5).blk t).view.set := View.emb_mem_set _ _
  rw [oblk] at h
  refine ⟨t, flush0_5 _, ?_⟩
  have e : (ix2 (row t ⟨(i 0).val % 1024, by omega⟩) (col t ⟨(i 1).val % 1024, by omega⟩) : S8192x2048.Idx) = i := by
    refine funext fun a => Fin.ext ?_
    match a with
    | ⟨0, _⟩ => show 1024 * (t.val / 2) + (i 0).val % 1024 = (i 0).val; omega
    | ⟨1, _⟩ => show 1024 * (t.val % 2) + (i 1).val % 1024 = (i 1).val; omega
  exact (congrArg (· ∈ ((cfg0.win 5).blk t).view.set) e).mp h

/-- The kernel's result array ends at the reference's result. -/
theorem final : (dats m 0 c).arrAt 5 cfg0.N = G m c :=
  (dats m 0 c).arrAt_eq_of_cover 5 (G m c) (fun t _ => flushed5_eq m c t) covered5

/-- From arguments that agree, the kernel and the reference end with the same result. -/
theorem value : Cert.algebraic_PleIdeal_PleRefIdeal := by
  intro m g m' g' _ hag
  refine ⟨fun c => G m c, (θ_run _ _ _).mono (fun _ h c => ⟨(h c).1.trans (final m c), (h c).2⟩) (run_blocks m g), ?_⟩
  refine (θ_run (Cert.PleRefIdeal.defs (F := Ideal)) _ _).mono (fun r h c => ?_) (Cert.PleRefIdeal.Value.run (F := Ideal) m' g')
  refine ⟨(h c).1.trans ((PleRefIdeal.Read.val_main_v12_eq _ _ _ _ _ ).trans ?_), (h c).2⟩
  rw [(hag c).1, (hag c).2.1, (hag c).2.2.1, (hag c).2.2.2.1, (hag c).2.2.2.2]

/-- The reference runs, keeps its arguments, and declares no semaphore. -/
theorem ref_frame : Cert.quiescent_PleRefIdeal := fun m ρ _ =>
  (θ_run (Cert.PleRefIdeal.defs (F := Ideal)) _ _).mono (fun r h => ⟨fun c => (h c).2, sem_eq_zero_of_no_sems (by decide) r.2⟩)
    (Cert.PleRefIdeal.Value.run (F := Ideal) m ρ)

end Cert.PleFinal

end
-- ==== Proof.MoeIdealRun.lean ====
module

public import proofs.«01_k».proof.Proof.Gen.MoeIdeal.Launch
public import proofs.«01_k».proof.Proof.Gen.MoeIdeal.Skeleton
public import Idealize.ShloMosaic.Lib.Pipeline.FrameBody
public import Idealize.ShloMosaic.Lib.Pipeline.TableIdle
public import Idealize.ShloMosaic.Lib.Pipeline.ValueKit.Basic
public import Idealize.ShloMosaic.Lib.VecWindow
public import Idealize.ShloMosaic.Lib.Ring
public import Idealize.ShloMosaic.Lib.Tactic
public import Idealize.ShloMosaic.Lib.WordCmp
public import Idealize.ShloMosaic.Lib.Claim

/-!
# The run of the grouped feed-forward call

Two integer tables are read before the grid starts: the expert of each row block, and the number of row blocks in use. A
grid point `(i, j)` clears the result's block when `j = 0`, and, when row block `i` is in use, adds to it the product of
slice `j` of the expert. A point with `j ≠ 0` of an unused row block touches nothing. The blocks read depend on the tables,
so the run is stated for every contents of the tables whose blocks lie inside their arrays (`Ok`).
-/

@[expose] public section

set_option maxRecDepth 16384

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- What a core's buffers hold when the call is entered. -/
abbrev V (c : Dev nD) (b : Ref sig .tc) : Buf (Elt F) ((c : Thread nD τ).loc b) := m ((c : Thread nD τ).loc b)

theorem enter : Pipeline.HMainP (Ix := Unit) (Name := ℕ) (U := UR sig nD τ) (Lvl := ℕ) pcfgs 0 defs₀ Variants.none m (main (F := F)) (V m) :=
  Pipeline.hmainP_region pcfgs 0 defs₀ Variants.none m main fun c => (main_chain c).trans rfl

/-- The contents of the two tables. -/
def tbl : pre0.Contents (Elt F) := fun j => V m (0 : Dev nD) (pre0.ref j)
theorem tbl_eq (c : Dev nD) (j : Fin 2) : V m c (pre0.ref j) = tbl m j := by
  obtain rfl : c = 0 := Subsingleton.elim _ _; rfl
/-- Every block the tables name lies inside its array. -/
abbrev Ok : Prop := ok0 (F := F) (tbl m)
abbrev tabs (hO : Ok m) : (pcfg0 (F := F)).Adm := ⟨tbl m, hO⟩
abbrev cfgM (hO : Ok m) : Pipeline.Cfg sig Λ₀ := cfg0 (tabs m hO)

/-- The tables as the body is handed them. -/
abbrev tabE : Memref sig .tc .smem S30 .i32 := Memref.whole main_arg4
abbrev htabE : tabE.IsWhole := Memref.isWhole_whole _
abbrev tabN : Memref sig .tc .smem S1 .i32 := Memref.whole main_arg5
abbrev htabN : tabN.IsWhole := Memref.isWhole_whole _
abbrev TabBuf (c : Dev nD) {S : Shape} {e : EltTy} (M : Memref sig .tc .smem S e) : Type := Buf (Elt F) (M.view.loc (c : Thread nD τ))
/-- A table held, for reading. -/
abbrev tabPt (c : Dev nD) {S : Shape} {e : EltTy} (M : Memref sig .tc .smem S e) (f : TabBuf (F := F) c M) : sProp 𝕄 :=
  M.view.loc (c : Thread nD τ) ↦{fullShare.right} f

theorem tabs_held (c : Dev nD) : (Pipeline.ΦT pre0 (tbl m) c : sProp 𝕄) = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The word the body reads in the second table: how many row blocks are in use. -/
abbrev wordN (c : Dev nD) (xt : TabBuf (F := F) c tabN) : BitVec 32 :=
  tabN.view.readAt (Elt F) (Rect.unit (s := S1) ![0] S1.size inb_S1_S1_0).toLoadRect xt (Shape.Idx.first (numel1_S1.symm ▸ Nat.one_pos))
abbrev used : BitVec 32 := wordN (F := F) 0 (tbl m 1)

theorem wordN_eq (c : Dev nD) : wordN (F := F) c (tbl m 1) = used m := by
  obtain rfl : c = 0 := Subsingleton.elim _ _; rfl

theorem used_eq : (tbl m).atD 1 ![0] = used m := by
  have h : ∀ a, (![0] : Fin 1 → ℕ) a + 1 ≤ ((pre0.ref 1).ty.shape).size a := by
    intro a; fin_cases a; decide
  refine (dif_pos h).trans ?_
  show _ = tbl m 1 _
  refine congrArg (tbl m 1) (funext fun a => Fin.ext ?_)
  match a with
  | ⟨0, _⟩ => rfl

/-! ## The body, case by case -/

/-- The block a live point leaves, from the blocks it reads and what the result's block held. -/
abbrev step (x0 : Vec F S768x2048 .f32) (x1 x2 : Vec F S1x2048x512 .f32) (x3 : Vec F S1x512x2048 .f32) (acc : Vec F S768x2048 .f32) : Vec F S768x2048 .f32 :=
  k0_pay2 x0 x1 x2 acc x3

theorem off2 : (![0, 0] : Fin 2 → Nat) = fun _ => 0 := by funext a; fin_cases a <;> rfl
theorem off3 : (![0, 0, 0] : Fin 3 → Nat) = fun _ => 0 := by funext a; fin_cases a <;> rfl

section Cases
variable (c : Dev nD) (i : grid0.Coords) (arg4 : Memref sig .tc .vmem S768x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x512x2048 .f32) (harg7 : arg7.IsWhole) (arg8 : Memref sig .tc .vmem S768x2048 .f32) (harg8 : arg8.IsWhole)
  (x0 : Vec F S768x2048 .f32) (x1 : Vec F S1x2048x512 .f32) (x2 : Vec F S1x2048x512 .f32) (x3 : Vec F S1x512x2048 .f32) (xt0 : TabBuf (F := F) c tabE) (xt1 : TabBuf (F := F) c tabN) (xo : Vec F S768x2048 .f32)

/-- The body's triple: the result's block goes from `xo` to `X`, everything else is handed back. -/
abbrev Triple (X : Vec F S768x2048 .f32) : Prop :=
  ∀ (E : Set ℕ) (K : PUnit → sProp 𝕄),
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo ∗ tabPt c tabE xt0 ∗ tabPt c tabN xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare X ∗ tabPt c tabE xt0 ∗ tabPt c tabN xt1) -∗ K ⟨⟩))
      ⊢ wp frame (wpE (defs₀ (F := F)) Variants.none c none) E (cc0_swiglu i tabE htabE tabN htabN arg4 harg4 arg5 harg5 arg6 harg6 arg7 harg7 arg8 harg8) K

set_option maxHeartbeats 1000000 in
/-- `j = 0`, row block in use: the block is cleared, then the product added. -/
theorem run_first_live (hc0 : k0_cond1 i = 1#1) (hc1 : k0_cond2 i (wordN c xt1) = 1#1) :
    Triple c i arg4 harg4 arg5 harg5 arg6 harg6 arg7 harg7 arg8 harg8 x0 x1 x2 x3 xt0 xt1 xo (step x0 x1 x2 x3 (k0_pay1 (F := F))) := by
  intro E K
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, HT0, HT1, Hk⟩
  obtain rfl := harg4.eq_unread hf0; obtain rfl := harg5.eq_unread hf1; obtain rfl := harg6.eq_unread hf2; obtain rfl := harg7.eq_unread hf3; obtain rfl := harg8.eq_unread hf4
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [View.read_writes_full]
    unfold run_first_live.sl.v21 run_first_live.sl.H4_1
    rw [View.readCov_full, View.readAt_full, View.readAt_full, View.readAt_full, View.readAt_full, harg4.read_unread, harg5.read_unread, harg6.read_unread, harg7.read_unread]
  isplitl [HT0]; · iexact HT0
  iexact HT1

set_option maxHeartbeats 1000000 in
/-- `j = 0`, row block not in use: the block is cleared. -/
theorem run_first_idle (hc0 : k0_cond1 i = 1#1) (hc1 : ¬ k0_cond2 i (wordN c xt1) = 1#1) :
    Triple c i arg4 harg4 arg5 harg5 arg6 harg6 arg7 harg7 arg8 harg8 x0 x1 x2 x3 xt0 xt1 xo (k0_pay1 (F := F)) := by
  intro E K
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, HT0, HT1, Hk⟩
  obtain rfl := harg4.eq_unread hf0; obtain rfl := harg5.eq_unread hf1; obtain rfl := harg6.eq_unread hf2; obtain rfl := harg7.eq_unread hf3; obtain rfl := harg8.eq_unread hf4
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    exact View.read_writes_full _ _ _ _ _
  isplitl [HT0]; · iexact HT0
  iexact HT1

set_option maxHeartbeats 1000000 in
/-- `j ≠ 0`, row block in use: the product is added. -/
theorem run_later_live (hc0 : ¬ k0_cond1 i = 1#1) (hc1 : k0_cond2 i (wordN c xt1) = 1#1) :
    Triple c i arg4 harg4 arg5 harg5 arg6 harg6 arg7 harg7 arg8 harg8 x0 x1 x2 x3 xt0 xt1 xo (step x0 x1 x2 x3 xo) := by
  intro E K
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, HT0, HT1, Hk⟩
  obtain rfl := harg4.eq_unread hf0; obtain rfl := harg5.eq_unread hf1; obtain rfl := harg6.eq_unread hf2; obtain rfl := harg7.eq_unread hf3; obtain rfl := harg8.eq_unread hf4
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [View.read_writes_full]
    rw [View.readAt_full, View.readAt_full, View.readAt_full, View.readAt_full, View.readAt_full, harg4.read_unread, harg5.read_unread, harg6.read_unread, harg7.read_unread, harg8.read_unread]
  isplitl [HT0]; · iexact HT0
  iexact HT1

set_option maxHeartbeats 1000000 in
/-- `j ≠ 0`, row block not in use: nothing is touched. -/
theorem run_later_idle (hc0 : ¬ k0_cond1 i = 1#1) (hc1 : ¬ k0_cond2 i (wordN c xt1) = 1#1) :
    Triple c i arg4 harg4 arg5 harg5 arg6 harg6 arg7 harg7 arg8 harg8 x0 x1 x2 x3 xt0 xt1 xo (xo) := by
  intro E K
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, HT0, HT1, Hk⟩
  obtain rfl := harg4.eq_unread hf0; obtain rfl := harg5.eq_unread hf1; obtain rfl := harg6.eq_unread hf2; obtain rfl := harg7.eq_unread hf3; obtain rfl := harg8.eq_unread hf4
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    exact hf4
  isplitl [HT0]; · iexact HT0
  iexact HT1

/-- What a point makes of the result's block, in the four cases at once. -/
def next (w : BitVec 32) : Vec F S768x2048 .f32 :=
  if k0_cond2 i w = 1#1 then step x0 x1 x2 x3 (if k0_cond1 i = 1#1 then k0_pay1 (F := F) else xo)
  else if k0_cond1 i = 1#1 then k0_pay1 (F := F) else xo

theorem run_next : Triple c i arg4 harg4 arg5 harg5 arg6 harg6 arg7 harg7 arg8 harg8 x0 x1 x2 x3 xt0 xt1 xo (next i x0 x1 x2 x3 xo (wordN c xt1)) := by
  unfold next
  by_cases hc1 : k0_cond2 i (wordN c xt1) = 1#1 <;> by_cases hc0 : k0_cond1 i = 1#1
  · rw [if_pos hc1, if_pos hc0]
    exact run_first_live c i arg4 harg4 arg5 harg5 arg6 harg6 arg7 harg7 arg8 harg8 x0 x1 x2 x3 xt0 xt1 xo hc0 hc1
  · rw [if_pos hc1, if_neg hc0]
    exact run_later_live c i arg4 harg4 arg5 harg5 arg6 harg6 arg7 harg7 arg8 harg8 x0 x1 x2 x3 xt0 xt1 xo hc0 hc1
  · rw [if_neg hc1, if_pos hc0]
    exact run_first_idle c i arg4 harg4 arg5 harg5 arg6 harg6 arg7 harg7 arg8 harg8 x0 x1 x2 x3 xt0 xt1 xo hc0 hc1
  · rw [if_neg hc1, if_neg hc0]
    exact run_later_idle c i arg4 harg4 arg5 harg5 arg6 harg6 arg7 harg7 arg8 harg8 x0 x1 x2 x3 xt0 xt1 xo hc0 hc1

end Cases

/-! ## The schedule -/

/-- A point's coordinates: `j` is `t % 14`, `i` is `t / 14`. -/
theorem coord0 (t : Fin grid0.N) : (grid0.coords t 0).val = t.val / 14 := by
  have ht : t.val < 420 := Nat.lt_of_lt_of_eq t.isLt N_0
  have e0 : (grid0.coords t 0).val = t.val / 14 % 30 := Pipeline.Grid.coords_val t 0 (by decide) rfl
  omega
theorem coord1 (t : Fin grid0.N) : (grid0.coords t 1).val = t.val % 14 := by
  have e1 : (grid0.coords t 1).val = t.val / 1 % 14 := Pipeline.Grid.coords_val t 1 (by decide) rfl
  omega

theorem first_iff : ∀ t : Fin grid0.N, k0_cond1 (grid0.coords t) = 1#1 ↔ t.val % 14 = 0 := fun t => by
  have ht : t.val < 420 := Nat.lt_of_lt_of_eq t.isLt N_0
  simp only [k0_cond1, coord1]
  word_cmp

/-- The result's block is written back after the last `j`. -/
theorem flush4 (a : (pcfg0 (F := F)).Adm) : ∀ t : Fin (cfg0 a).N, ((cfg0 a).win 4).flush t = true ↔ t.val % 14 = 13 :=
  (fun t => Pipeline.Window.flushOf_reads cc0_transform_4 reads0_4 hreads0_4 0 (by decide) (by decide) (Pipeline.Window.sep_of_coord cc0_transform_4 0 0 (fun _ => rfl) (by decide)) (P := 14) (m := 13) (by decide) rfl t : ∀ t : Fin grid0.N, Pipeline.Window.flushOf grid0 true cc0_transform_4 t = true ↔ t.val % 14 = 13)

/-- The body at a point, on the buffers the pipeline hands it. -/
abbrev bodyAt (a : (pcfg0 (F := F)).Adm) (t : Fin (cfg0 a).N) : Prog (TpuEff nD τ sig (Elt F) Λ₀ .tc) PUnit :=
  cc0_swiglu (grid0.coords t) tabE htabE tabN htabN (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

abbrev st0 (hO : Ok m) (t : Fin (cfgM m hO).N) : Memref sig .tc .vmem S768x2048 .f32 := spec0_0.stage ((cfgM m hO).slots t 0)
abbrev st1 (hO : Ok m) (t : Fin (cfgM m hO).N) : Memref sig .tc .vmem S1x2048x512 .f32 := spec0_1.stage ((cfgM m hO).slots t 1)
abbrev st2 (hO : Ok m) (t : Fin (cfgM m hO).N) : Memref sig .tc .vmem S1x2048x512 .f32 := spec0_2.stage ((cfgM m hO).slots t 2)
abbrev st3 (hO : Ok m) (t : Fin (cfgM m hO).N) : Memref sig .tc .vmem S1x512x2048 .f32 := spec0_3.stage ((cfgM m hO).slots t 3)
abbrev st4 (hO : Ok m) (t : Fin (cfgM m hO).N) : Memref sig .tc .vmem S768x2048 .f32 := spec0_4.stage ((cfgM m hO).slots t 4)

/-! ## What the result's block holds, point by point -/

/-- Window `w`'s block at point `t`. -/
def blk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Point `t` run on a result's block holding `xo`. -/
def after (hO : Ok m) (c : Dev nD) (t : Fin (cfgM m hO).N) (xo : Vec F S768x2048 .f32) : Vec F S768x2048 .f32 :=
  next (grid0.coords t) (blk m hO c 0 t) (blk m hO c 1 t) (blk m hO c 2 t) (blk m hO c 3 t) xo (used m)

/-- The result's block after the body at position `n`. -/
def outs (hO : Ok m) (c : Dev nD) : (n : ℕ) → n < (cfgM m hO).N → Vec F S768x2048 .f32
  | 0, hn => after m hO c ⟨0, hn⟩ (k0_pay1 (F := F))
  | n + 1, hn => after m hO c ⟨n + 1, hn⟩ (outs hO c n (Nat.lt_of_succ_lt hn))

/-- At `j = 0` the point makes the same of any contents. -/
theorem after_first (hO : Ok m) (c : Dev nD) (t : Fin (cfgM m hO).N) (h : t.val % 14 = 0) (x y : Vec F S768x2048 .f32) :
    after m hO c t x = after m hO c t y := by
  unfold after next
  rw [if_pos ((first_iff t).mpr h), if_pos ((first_iff t).mpr h)]

theorem outs_first (hO : Ok m) (c : Dev nD) (t : Fin (cfgM m hO).N) (h : t.val % 14 = 0) (x : Vec F S768x2048 .f32) :
    outs m hO c t.val t.isLt = after m hO c t x := by
  obtain ⟨n, hn⟩ := t
  cases n with
  | zero => exact after_first m hO c _ h _ _
  | succ n => exact after_first m hO c _ h _ _

theorem outs_later (hO : Ok m) (c : Dev nD) (t : Fin (cfgM m hO).N) (h : t.val ≠ 0) :
    outs m hO c t.val t.isLt = after m hO c t (outs m hO c (t.val - 1) (Nat.lt_of_le_of_lt (Nat.sub_le _ _) t.isLt)) := by
  obtain ⟨n, hn⟩ := t
  cases n with
  | zero => exact absurd rfl h
  | succ n => rfl

/-! ## The proof data -/

/-- The arrays as entered; each input's buffer left at its block, the result's at `outs`; the tables held throughout. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => blk m hO c 3 t
    | ⟨4, _⟩ => outs m hO c t.val t.isLt
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = blk m hO c 0 t := by dsimp only [dats]; try rfl
theorem after1 (hO : Ok m) (c : Dev nD) (t : Fin (cfgM m hO).N) : (dats m hO 0 c).after 1 t = blk m hO c 1 t := by dsimp only [dats]; try rfl
theorem after2 (hO : Ok m) (c : Dev nD) (t : Fin (cfgM m hO).N) : (dats m hO 0 c).after 2 t = blk m hO c 2 t := by dsimp only [dats]; try rfl
theorem after3 (hO : Ok m) (c : Dev nD) (t : Fin (cfgM m hO).N) : (dats m hO 0 c).after 3 t = blk m hO c 3 t := by dsimp only [dats]; try rfl
theorem after4 (hO : Ok m) (c : Dev nD) (t : Fin (cfgM m hO).N) : (dats m hO 0 c).after 4 t = outs m hO c t.val t.isLt := by dsimp only [dats]; try rfl

/-- Each input's buffer holds its block when the body runs. -/
theorem before0 (hO : Ok m) (c : Dev nD) (t : Fin (cfgM m hO).N) (d) : (dats m hO 0 c).before 0 t d = blk m hO c 0 t :=
  ((dats m hO 0 c).before_in_eq_fetched 0 rfl (fun _ => rfl) (fun _ _ _ => rfl) (fun t => by rw [after0]; unfold Dat.blockOf blk; rw [A_eq]; try rfl) t d).trans
    (by unfold Dat.fetched Dat.blockOf blk; rw [A_eq]; try rfl)
theorem before1 (hO : Ok m) (c : Dev nD) (t : Fin (cfgM m hO).N) (d) : (dats m hO 0 c).before 1 t d = blk m hO c 1 t :=
  ((dats m hO 0 c).before_in_eq_fetched 1 rfl (fun _ => rfl) (fun _ _ _ => rfl) (fun t => by rw [after1]; unfold Dat.blockOf blk; rw [A_eq]; try rfl) t d).trans
    (by unfold Dat.fetched Dat.blockOf blk; rw [A_eq]; try rfl)
theorem before2 (hO : Ok m) (c : Dev nD) (t : Fin (cfgM m hO).N) (d) : (dats m hO 0 c).before 2 t d = blk m hO c 2 t :=
  ((dats m hO 0 c).before_in_eq_fetched 2 rfl (fun _ => rfl) (fun _ _ _ => rfl) (fun t => by rw [after2]; unfold Dat.blockOf blk; rw [A_eq]; try rfl) t d).trans
    (by unfold Dat.fetched Dat.blockOf blk; rw [A_eq]; try rfl)
theorem before3 (hO : Ok m) (c : Dev nD) (t : Fin (cfgM m hO).N) (d) : (dats m hO 0 c).before 3 t d = blk m hO c 3 t :=
  ((dats m hO 0 c).before_in_eq_fetched 3 rfl (fun _ => rfl) (fun _ _ _ => rfl) (fun t => by rw [after3]; unfold Dat.blockOf blk; rw [A_eq]; try rfl) t d).trans
    (by unfold Dat.fetched Dat.blockOf blk; rw [A_eq]; try rfl)

/-- The result's window is idle exactly where the body touches nothing. -/
theorem idle_iff (hO : Ok m) (t : Fin (cfgM m hO).N) :
    (cfgM m hO).idle 4 (grid0.coords t) = true ↔ (¬ t.val % 14 = 0 ∧ ¬ k0_cond2 (grid0.coords t) (used m) = 1#1) := by
  show (!(k0_cond1 (grid0.coords t) == 1#1) && !(k0_cond2 (grid0.coords t) ((tbl m).atD 1 ![0]) == 1#1)) = true ↔ _
  rw [used_eq, Bool.and_eq_true, Bool.not_eq_true', Bool.not_eq_true', beq_eq_false_iff_ne, beq_eq_false_iff_ne, ne_eq, ne_eq, first_iff]

/-- At an idle point the block stays what it was. -/
theorem outs_idle (hO : Ok m) (c : Dev nD) (t : Fin (cfgM m hO).N) (h : (cfgM m hO).idle 4 (grid0.coords t) = true) (ht : t.val ≠ 0) :
    outs m hO c t.val t.isLt = outs m hO c (t.val - 1) (Nat.lt_of_le_of_lt (Nat.sub_le _ _) t.isLt) := by
  obtain ⟨h0, h1⟩ := (idle_iff m hO t).mp h
  rw [outs_later m hO c t ht]
  unfold after next
  rw [if_neg h1, if_neg (fun h => h0 ((first_iff t).mp h))]

/-- Past `j = 0` the result's buffer has been filled. -/
theorem filled (hO : Ok m) : ∀ n, n < (cfgM m hO).N → n % 14 ≠ 0 → (cfgM m hO).fresh 4 n = false
  | 0, _, h => absurd rfl h
  | n + 1, hn, h => by
    have hn' : n < (cfgM m hO).N := Nat.lt_of_succ_lt hn
    rw [Cfg.fresh_succ _ 4 n hn', Bool.or_eq_false_iff]
    refine ⟨Bool.eq_false_iff.mpr fun hf => ?_, ?_⟩
    · have := (flush4 (tabs m hO) ⟨n, hn'⟩).mp hf
      dsimp only at this
      omega
    · by_cases h0 : n % 14 = 0
      · rw [Bool.and_eq_false_iff]
        exact .inl (Bool.eq_false_iff.mpr fun hi => ((idle_iff m hO ⟨n, hn'⟩).mp hi).1 h0)
      · rw [filled hO n hn' h0, Bool.and_false]

/-- Past `j = 0` the body finds in the result's buffer what the point before left there. -/
theorem before4 (hO : Ok m) (c : Dev nD) (t : Fin (cfgM m hO).N) (h : ¬ t.val % 14 = 0) (d) :
    (dats m hO 0 c).before 4 t d = outs m hO c (t.val - 1) (Nat.lt_of_le_of_lt (Nat.sub_le _ _) t.isLt) := by
  rw [(dats m hO 0 c).before_out_traj 4 rfl (fun _ _ => rfl) (fun s hs hi _ => by
      rw [after4, after4]; exact outs_idle m hO c s hi hs) t.val t rfl d, filled m hO t.val t.isLt h, if_neg Bool.false_ne_true, after4]

/-- Whatever the body finds, it leaves `outs`. -/
theorem after_before (hO : Ok m) (c : Dev nD) (t : Fin (cfgM m hO).N) (d) :
    next (grid0.coords t) (blk m hO c 0 t) (blk m hO c 1 t) (blk m hO c 2 t) (blk m hO c 3 t) ((dats m hO 0 c).before 4 t d) (wordN (F := F) c (tbl m 1)) = outs m hO c t.val t.isLt := by
  rw [wordN_eq]
  show after m hO c t ((dats m hO 0 c).before 4 t d) = _
  by_cases h : t.val % 14 = 0
  · exact (outs_first m hO c t h _).symm
  · rw [before4 m hO c t h d, ← outs_later m hO c t (fun h0 => h (by rw [h0]))]

/-! ## The body's obligation -/

/-- What the body is handed at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d)))
/-- and what it hands back. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ (dats m hO 0 c).leavesExact 4 t)

/-- The result's buffer at `outs` is what the point must leave, idle or not. -/
theorem leave4 (hO : Ok m) (c : Dev nD) (t : Fin (cfgM m hO).N) :
    (owns (c : Thread nD τ) (st4 m hO t) fullShare (outs m hO c t.val t.isLt) : sProp 𝕄) ⊢ (dats m hO 0 c).leavesExact 4 t := by
  unfold Dat.leavesExact
  cases hi : (cfgM m hO).idle 4 ((cfgM m hO).grid.coords t)
  · dsimp only
    rw [after4]
    exact .rfl
  · have h := (idle_iff m hO t).mp hi
    have ht : t.val ≠ 0 := fun h0 => h.1 (by rw [h0])
    cases hf : ((cfgM m hO).win 4).flush t
    · dsimp only
      iintro H
      iexists (fun _ => Classical.arbitrary _)
      rw [before4 m hO c t h.1, ← outs_idle m hO c t hi ht]
      iexact H
    · dsimp only
      rw [after4]
      exact .rfl

set_option maxHeartbeats 1600000 in
theorem body_at (hO : Ok m) (c : Dev nD) (t : Fin (cfgM m hO).N) :
    bodyPre m hO c t ⊢ wp frame (wpE (defs₀ (F := F)) Variants.none c none) Set.univ (bodyAt (tabs m hO) t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl,
    after0, after1, after2, after3]
  rw [show (dats m hO 0 c).Φ t.castSucc = iprop(Pipeline.ΦA spec0 c ∗ Pipeline.ΦT pre0 (tbl m) c) from rfl, tabs_held]
  iintro ⟨⟨HΦ, ⟨HT0, HT1⟩⟩, Ho, ⟨%d0, H0⟩, ⟨%d1, H1⟩, ⟨%d2, H2⟩, ⟨%d3, H3⟩, ⟨%d4, H4⟩⟩
  iapply (run_next c (grid0.coords t) _ _ _ _ _ _ _ _ _ _ (blk m hO c 0 t) (blk m hO c 1 t) (blk m hO c 2 t) (blk m hO c 3 t) (tbl m 0) (tbl m 1) _ Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iapply (leave4 m hO c t)
  rw [← after_before m hO c t d4]
  iexact H4

theorem body_row (hO : Ok m) (t : Fin (cfgM m hO).N) :
    defs₀ (F := F) .tc (cfgM m hO).body ((cfgM m hO).bodyArgs t ((cfgM m hO).slots t)) = bodyAt (tabs m hO) t := by
  unfold defs₀; rw [Defs.onTc_tc]

theorem obligation (hO : Ok m) (c : Dev nD) : BodyObligation (dats (F := F) m hO 0 c) (defs₀ (F := F)) Variants.none () Set.univ := fun t => by
  rw [bigSep_W0, bigSep_W0, body_row m hO]
  exact triple_restated (body_at m hO c t) rfl .rfl fun _ => .rfl

/-! ## The run -/

set_option backward.isDefEq.respectTransparency.types false in
/-- Every execution ends, with the arrays at what the proof data say and every semaphore at zero. -/
theorem run_ends (hO : Ok m) : θ_run defs (onTc (τ := τ) (main (F := F))) (s₀ m ρ) (fun r => (Pipeline.FramePost (Pipeline.pin pcfgs fun _ => tabs m hO) (dats m hO) 0 (V m)) r ∧ r.2.sem = fun _ => 0) :=
  Pipeline.θ_run_frameP (Q' := _) pcfgs (fun _ => tabs m hO) (dats m hO) (0 : Fin 1) launch0 defs₀ Variants.none m ρ main
    (hbody := fun c => (obligation m hO c).loose) (hshare := fun c => (dats m hO 0 c).share_full fun _ => rfl)
    (howed := fun _ _ => rfl) (V := V m) (hmain := enter m) (hA := A_eq m hO) (hpf := tbl_eq m)
    (hΦ := fun _ _ => rfl)

theorem run_main (hO : Ok m) : θ_run defs (onTc (τ := τ) (main (F := F))) (s₀ m ρ) (Pipeline.FramePost (Pipeline.pin pcfgs fun _ => tabs m hO) (dats m hO) 0 (V m)) :=
  (θ_run defs _ _).mono (fun _ h => h.1) (run_ends m ρ hO)

/-- What a final state of the run holds in the argument arrays: what they held. -/
theorem args_kept (hO : Ok m) (r) (h : Pipeline.FramePost (Pipeline.pin pcfgs fun _ => tabs m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m hO 0 c).arrAt_in 0 rfl _).trans (A_eq m hO c 0)),
    ((h c).1 1).trans (((dats m hO 0 c).arrAt_in 1 rfl _).trans (A_eq m hO c 1)),
    ((h c).1 2).trans (((dats m hO 0 c).arrAt_in 2 rfl _).trans (A_eq m hO c 2)),
    ((h c).1 3).trans (((dats m hO 0 c).arrAt_in 3 rfl _).trans (A_eq m hO c 3)),
    (h c).2 main_arg4 (by decide : main_arg4 ∈ Pipeline.restRefs sig spec0),
    (h c).2 main_arg5 (by decide : main_arg5 ∈ Pipeline.restRefs sig spec0)⟩

/-- The program ends, leaves its arguments as they were, and no semaphore counting. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_kept m hO r h.1, h.2⟩) (run_ends m ρ hO)

end Cert.MoeIdeal.Hand

end
-- ==== Proof.MoeIdealOk.lean ====
module

public import proofs.«01_k».proof.Proof.MoeIdealRun
public import Idealize.ShloMosaic.Lib.ValueIdxCore

/-!
# Which blocks the tables name

Row block `i` reads the weights of the expert its table word names, slice `j` of it when the row block is in use and the last
slice otherwise. When every word of the table is below 8 all these blocks lie inside the weights.
-/

@[expose] public section

set_option maxRecDepth 16384

noncomputable section

namespace Cert.MoeIdeal.Hand

open Cert.MoeIdeal Cert.MoeIdeal.Gen
open Idealize.ShloMosaic Idealize.ShloMosaic.TcCoe

variable {F : FTy → Type} [FloatOps F]
variable (m : (ℓ : Loc nD τ sig) → Buf (Elt F) ℓ)

/-- The word naming row block `i`'s expert. -/
def word (i : Fin 30) : BitVec 32 := tbl m 0 (ValueIdx.ix1 i)

/-- The slice of the expert point `i` reads. -/
def slice (i : grid0.Coords) : BitVec 32 :=
  Scalar.select (IntOp.cmpi .slt (BitVec.ofNat 32 (i 0).val) (used m)) (BitVec.ofNat 32 (i 1).val) 13#32

theorem coord_lt0 (i : grid0.Coords) : (i 0).val < 30 := (i 0).isLt
theorem coord_lt1 (i : grid0.Coords) : (i 1).val < 14 := (i 1).isLt

theorem word_at (i : grid0.Coords) : (tbl m).at 0 (Rect.unit (s := S30) (k0_off1 i) S1.size (k0_off1_inb i)) numel1_S1 = word m (i 0) := by
  show tbl m 0 _ = tbl m 0 _
  refine congrArg (tbl m 0) (funext fun a => Fin.ext ?_)
  have h := coord_lt0 i
  match a with
  | ⟨0, _⟩ =>
    show (BitVec.ofNat 32 (i 0).val).toNat + 1 * 0 = (i 0).val
    rw [BitVec.toNat_ofNat]; omega

theorem used_at : (tbl m).at 1 (Rect.unit (s := S1) ![0] S1.size inb_S1_S1_0) numel1_S1 = used m := by
  show tbl m 1 _ = tbl m 1 _
  refine congrArg (tbl m 1) (funext fun a => Fin.ext ?_)
  match a with
  | ⟨0, _⟩ => rfl

theorem index1 (i : grid0.Coords) : cc0_transform_1 k0_off1_inb numel1_S1 inb_S1_S1_0 (tbl m) i = ![(word m (i 0)).toNat, 0, (slice m i).toNat] := by
  rw [← word_at m i]; unfold slice; rw [← used_at m]; rfl
theorem index2 (i : grid0.Coords) : cc0_transform_2 k0_off1_inb numel1_S1 inb_S1_S1_0 (tbl m) i = ![(word m (i 0)).toNat, 0, (slice m i).toNat] := by
  rw [← word_at m i]; unfold slice; rw [← used_at m]; rfl
theorem index3 (i : grid0.Coords) : cc0_transform_3 k0_off1_inb numel1_S1 inb_S1_S1_0 (tbl m) i = ![(word m (i 0)).toNat, (slice m i).toNat, 0] := by
  rw [← word_at m i]; unfold slice; rw [← used_at m]; rfl

theorem slice_le (i : grid0.Coords) : (slice m i).toNat ≤ 13 := by
  have h := coord_lt1 i
  unfold slice Scalar.select
  split
  · rw [BitVec.toNat_ofNat]; omega
  · decide

/-- Of a row block in use, point `j` reads slice `j`. -/
theorem slice_live (i : grid0.Coords) (h : IntOp.cmpi .slt (BitVec.ofNat 32 (i 0).val) (used m) = 1#1) : (slice m i).toNat = (i 1).val := by
  have h1 := coord_lt1 i
  unfold slice
  rw [h]
  show (BitVec.ofNat 32 (i 1).val).toNat = _
  rw [BitVec.toNat_ofNat]; omega

/-- With every word below 8, every block lies inside its array. -/
theorem ok_of_lt (h : ∀ i : Fin 30, (word m i).toNat < 8) : Ok m := by
  refine ⟨fun i => ⟨?_, .inl rfl⟩, fun i => ⟨?_, .inl rfl⟩, fun i => ⟨?_, .inl rfl⟩⟩
  · rw [index1]
    have h0 := h (i 0); have h1 := slice_le m i
    intro a
    match a with
    | ⟨0, _⟩ => show ((word m (i 0)).toNat + 1) * 1 ≤ 8; omega
    | ⟨1, _⟩ => show (0 + 1) * 2048 ≤ 2048; omega
    | ⟨2, _⟩ => show ((slice m i).toNat + 1) * 512 ≤ 7168; omega
  · rw [index2]
    have h0 := h (i 0); have h1 := slice_le m i
    intro a
    match a with
    | ⟨0, _⟩ => show ((word m (i 0)).toNat + 1) * 1 ≤ 8; omega
    | ⟨1, _⟩ => show (0 + 1) * 2048 ≤ 2048; omega
    | ⟨2, _⟩ => show ((slice m i).toNat + 1) * 512 ≤ 7168; omega
  · rw [index3]
    have h0 := h (i 0); have h1 := slice_le m i
    intro a
    match a with
    | ⟨0, _⟩ => show ((word m (i 0)).toNat + 1) * 1 ≤ 8; omega
    | ⟨1, _⟩ => show ((slice m i).toNat + 1) * 512 ≤ 7168; omega
    | ⟨2, _⟩ => show (0 + 1) * 2048 ≤ 2048; omega

end Cert.MoeIdeal.Hand

end
-- ==== Proof.Experts.lean ====
module

public import proofs.«01_k».proof.Defs
public import proofs.«01_k».proof.Proof.Gen.Pre_experts_exist
public import proofs.«01_k».proof.Proof.MoeOk
public import proofs.«01_k».proof.Proof.MoeIdealOk
public import Idealize.ShloMosaic.Lib.ReduceAll

/-!
# The precondition of the grouped feed-forward call, read

Every word of the expert table names one of the eight experts.
-/

@[expose] public section

noncomputable section

namespace Cert.Experts

open Idealize.ShloMosaic Idealize.ShloMosaic.TcCoe Idealize.SL.Sem

open Cert.Pre_experts_exist in
/-- The condition says that every word of the expert table is below 8. -/
theorem decode {F : FTy → Type} [FloatOps F] (x0 : FVec F S23040x2048 .f32) (x1 x2 : FVec F S8x2048x7168 .f32) (x3 : FVec F S8x7168x2048 .f32)
    (x4 : IVec S30 32) (x5 : IVec S1 32) (h : Cert.Pre_experts_exist.fn (F := F) x0 x1 x2 x3 x4 x5 = fun _ => 1#1) (i : S30.Idx) : (x4 i).toNat < 8 := by
  have hs : Subsingleton S_.Idx := ⟨fun a b => funext fun d => d.elim0⟩
  have e := congrFun h (fun d => d.elim0)
  simp only [Cert.Pre_experts_exist.fn, andi] at e
  obtain ⟨e0, e1⟩ := IntOp.andi_eq_one.1 e
  have h0 := IntOp.cmpi_sge.1 (Host.reduce_andi_all _ _ _ _ _ e0 i)
  have h1 := IntOp.cmpi_slt.1 (Host.reduce_andi_all _ _ _ _ _ e1 i)
  have h0' : (0 : Int) ≤ (x4 i).toInt := h0
  have h1' : (x4 i).toInt < 8 := h1
  rw [BitVec.toInt_eq_toNat_cond] at h0' h1'
  have := (x4 i).isLt
  split at h0' <;> omega

theorem word_lt (m : (ℓ : Loc Cert.MoeIdeal.nD Cert.MoeIdeal.τ Cert.MoeIdeal.sig) → Buf (Elt Ideal) ℓ) (h : Cert.Pre_MoeIdeal m) (i : Fin 30) :
    (Cert.MoeIdeal.Hand.word m i).toNat < 8 := decode _ _ _ _ _ _ (h 0) _

theorem ok (m : (ℓ : Loc Cert.MoeIdeal.nD Cert.MoeIdeal.τ Cert.MoeIdeal.sig) → Buf (Elt Ideal) ℓ) (h : Cert.Pre_MoeIdeal m) : Cert.MoeIdeal.Hand.Ok m :=
  Cert.MoeIdeal.Hand.ok_of_lt m (word_lt m h)

theorem ok_bits (m : (ℓ : Loc Cert.Moe.nD Cert.Moe.τ Cert.Moe.sig) → Buf (Elt Bits) ℓ) (h : Cert.Pre_Moe m) : Cert.Moe.Hand.Ok m :=
  Cert.Moe.Hand.ok_of_lt m fun i => decode _ _ _ _ _ _ (h 0) _

/-- The call runs and keeps its arguments, in words and in the reals. -/
theorem frame_bits : Cert.quiescent_Moe := fun m ρ h => Cert.Moe.Hand.frame m ρ (ok_bits m h)
theorem frame_ideal : Cert.quiescent_MoeIdeal := fun m ρ h => Cert.MoeIdeal.Hand.frame m ρ (ok m h)

end Cert.Experts

end
-- ==== Proof.MoeRef.lean ====
module

public import Idealize.ShloMosaic.Lib.ValueIdxCore
public import Idealize.ShloMosaic.Lib.WordCmp
public import proofs.«01_k».proof.Proof.Gen.MoeRefIdeal.Read

/-!
# The plain grouped feed-forward, read at an element

Row `r` of the result is 0 when its row block is not in use; otherwise it is the sum over the hidden positions `f` of
`silu (x·gate) · (x·up)` at `f` times the down weight at `f`, all three weights those of the row block's expert.
-/

@[expose] public section

set_option maxRecDepth 16384

noncomputable section

namespace Cert.MoeRef

open Cert.MoeRefIdeal Cert.MoeRefIdeal.Gen Cert.MoeRefIdeal.Read
open Idealize.ShloMosaic Idealize.ShloMosaic.ValueIdx

/-- The dimension numbers of a gather of whole slices along the first of three axes. -/
abbrev sliceDims (E A B R : Nat) (wf : GatherDims.WF ⟨3, ![E, A, B]⟩ ⟨2, ![R, 1]⟩ ⟨3, ![R, A, B]⟩ [1, 2] [0] [] [0] [] 1 ![1, A, B]) :
    GatherDims ⟨3, ![E, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Such a gather at `(i, a, b)`: the slice its index names, clamped to the slices there are. -/
theorem gather_slice {α : Type} {E A B R w : Nat} (hE : 0 < E)
    (wf : GatherDims.WF ⟨3, ![E, A, B]⟩ ⟨2, ![R, 1]⟩ ⟨3, ![R, A, B]⟩ [1, 2] [0] [] [0] [] 1 ![1, A, B])
    (x : (⟨3, ![E, A, B]⟩ : Shape).Idx → α) (idx : IVec ⟨2, ![R, 1]⟩ w) (i : Fin R) (a : Fin A) (b : Fin B) :
    Host.gather (sliceDims E A B R wf) x idx (ix3 i a b) = x (ix3 ⟨min (idx (ix2 i 0)).toInt.toNat (E - 1), by omega⟩ a b) := by
  unfold Host.gather
  congr 1
  funext d
  refine Fin.ext ?_
  show (sliceDims E A B R wf).start (ix3 i a b) idx d + (sliceDims E A B R wf).batchCoord (ix3 i a b) d + (sliceDims E A B R wf).offCoord (ix3 i a b) d = _
  rw [GatherDims.batchCoord_eq_zero _ _ _ List.not_mem_nil, Nat.add_zero]
  have hd : d = 0 ∨ d = 1 ∨ d = 2 := by
    match d with
    | ⟨0, _⟩ => exact .inl rfl
    | ⟨1, _⟩ => exact .inr (.inl rfl)
    | ⟨2, _⟩ => exact .inr (.inr rfl)
  rcases hd with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (sliceDims E A B R wf).startIndexMap from List.mem_singleton.mpr rfl)]
    have hsi : (sliceDims E A B R wf).siIdx (ix3 i a b) ⟨List.idxOf (0 : Fin 3) (sliceDims E A B R wf).startIndexMap,
        List.idxOf_lt_length_iff.2 (List.mem_singleton.mpr rfl)⟩ = ix2 i 0 := by
      funext b; refine Fin.ext ?_
      match b with
      | ⟨0, _⟩ => rfl
      | ⟨1, _⟩ => rfl
    rw [hsi]
    rfl
  · unfold GatherDims.start
    rw [dif_neg (fun h => absurd (List.mem_singleton.mp h) (by decide : (1 : Fin 3) ≠ 0)), Nat.zero_add]
    rfl
  · unfold GatherDims.start
    rw [dif_neg (fun h => absurd (List.mem_singleton.mp h) (by decide : (2 : Fin 3) ≠ 0)), Nat.zero_add]
    rfl

variable (x0 : (⟨S23040x2048, .f32⟩ : BufTy).Contents (Elt Ideal)) (x1 x2 : (⟨S8x2048x7168, .f32⟩ : BufTy).Contents (Elt Ideal))
  (x3 : (⟨S8x7168x2048, .f32⟩ : BufTy).Contents (Elt Ideal)) (x4 : (⟨S30, .i32⟩ : BufTy).Contents (Elt Ideal)) (x5 : (⟨S1, .i32⟩ : BufTy).Contents (Elt Ideal))

/-- A word of the table that is below 8 is the index the gather uses. -/
theorem wrap (i : S30.Idx) (h : (x4 i).toNat < 8) : val_main_v5 (F := Ideal) x4 i = x4 i := by
  rw [val_main_v5_apply, val_main_v2_apply]
  have e : IntOp.cmpi .slt (x4 i) (val_main_v1 (F := Ideal) i) ≠ 1#1 := by
    rw [val_main_v1_apply, val_main_c_apply]
    intro h'
    have := IntOp.cmpi_slt.1 h'
    have e0 : (0#32 : BitVec 32).toInt = 0 := rfl
    rw [e0, WordCmp.toInt_eq_toNat_of_lt_half (by show (x4 i).toNat < 2 ^ 31; omega)] at this
    omega
  exact if_neg e

theorem clamp (w : BitVec 32) (h : w.toNat < 8) : min w.toInt.toNat (8 - 1) = w.toNat := by
  rw [WordCmp.toInt_eq_toNat_of_lt_half (by show w.toNat < 2 ^ 31; omega)]
  omega

theorem gate_weight (h : ∀ i, (x4 i).toNat < 8) (i : Fin 30) (k : Fin 2048) (f : Fin 7168) :
    val_main_v7 (F := Ideal) x1 x4 (ix3 i k f) = x1 (ix3 ⟨(x4 (ix1 i)).toNat, h _⟩ k f) := by
  unfold val_main_v7
  refine (gather_slice (by decide) _ x1 _ i k f).trans (congrArg x1 (congrArg (fun e => ix3 e k f) (Fin.ext ?_)))
  show min (val_main_v6 (F := Ideal) x4 (ix2 i 0)).toInt.toNat (8 - 1) = (x4 (ix1 i)).toNat
  have e : val_main_v6 (F := Ideal) x4 (ix2 i 0) = x4 (ix1 i) := by
    rw [val_main_v6_apply, wrap x4 _ (h _)]
    exact congrArg x4 (funext fun a => match a with | ⟨0, _⟩ => rfl)
  rw [e, clamp _ (h _)]

theorem up_weight (h : ∀ i, (x4 i).toNat < 8) (i : Fin 30) (k : Fin 2048) (f : Fin 7168) :
    val_main_v15 (F := Ideal) x2 x4 (ix3 i k f) = x2 (ix3 ⟨(x4 (ix1 i)).toNat, h _⟩ k f) := gate_weight x2 x4 h i k f

theorem down_weight (h : ∀ i, (x4 i).toNat < 8) (i : Fin 30) (f : Fin 7168) (q : Fin 2048) :
    val_main_v25 (F := Ideal) x3 x4 (ix3 i f q) = x3 (ix3 ⟨(x4 (ix1 i)).toNat, h _⟩ f q) := by
  unfold val_main_v25
  refine (gather_slice (by decide) _ x3 _ i f q).trans (congrArg x3 (congrArg (fun e => ix3 e f q) (Fin.ext ?_)))
  show min (val_main_v6 (F := Ideal) x4 (ix2 i 0)).toInt.toNat (8 - 1) = (x4 (ix1 i)).toNat
  have e : val_main_v6 (F := Ideal) x4 (ix2 i 0) = x4 (ix1 i) := by
    rw [val_main_v6_apply, wrap x4 _ (h _)]
    exact congrArg x4 (funext fun a => match a with | ⟨0, _⟩ => rfl)
  rw [e, clamp _ (h _)]

/-- The product of row `r` with column `f` of expert `e`'s weight. -/
abbrev into (x0 : (⟨2, ![23040, 2048]⟩ : Shape).Idx → EReal) (w : (⟨3, ![8, 2048, 7168]⟩ : Shape).Idx → EReal) (e : Fin 8) (r : Fin 23040) (f : Fin 7168) : EReal :=
  ∑ k : Fin 2048, x0 (ix2 r k) * w (ix3 e k f)

/-- The hidden value of row `r` at position `f`, in expert `e`. -/
abbrev hidden (x0 : (⟨2, ![23040, 2048]⟩ : Shape).Idx → EReal) (x1 x2 : (⟨3, ![8, 2048, 7168]⟩ : Shape).Idx → EReal) (e : Fin 8) (r : Fin 23040) (f : Fin 7168) : EReal :=
  into x0 x1 e r f * Ideal.logistic (into x0 x1 e r f) * into x0 x2 e r f

abbrev rowOf (i : Fin 30) (p : Fin 768) : Fin 23040 := ⟨i.val * 768 + p.val, by omega⟩

theorem one_bits : Ideal.ofBits .f32 0x3F800000#32 = 1 := by
  simp [Ideal.ofBits, Ideal.ieee]
  rw [← EReal.coe_mul]
  norm_num
theorem zero_bits : Ideal.ofBits .f32 0x00000000#32 = 0 := by simp [Ideal.ofBits, Ideal.ieee]

theorem rows_at (i : Fin 30) (p : Fin 768) (k : Fin 2048) : val_main_v0 (F := Ideal) x0 (ix3 i p k) = x0 (ix2 (rowOf i p) k) := by
  rw [val_main_v0_apply]
  refine congrArg x0 (funext fun a => Fin.ext ?_)
  match a with
  | ⟨0, _⟩ => show ((i.val * 768 + p.val) * 2048 + k.val) / 2048 = i.val * 768 + p.val; omega
  | ⟨1, _⟩ => show ((i.val * 768 + p.val) * 2048 + k.val) % 2048 = k.val; omega

theorem gate_at (h : ∀ i, (x4 i).toNat < 8) (i : Fin 30) (p : Fin 768) (f : Fin 7168) :
    val_main_v8 (F := Ideal) x0 x1 x4 (ix3 i p f) = into x0 x1 ⟨(x4 (ix1 i)).toNat, h _⟩ (rowOf i p) f := by
  refine (val_main_v8_apply _ _ _ _).trans (Finset.sum_congr rfl fun k _ => congrArg₂ (· * ·) ?_ ?_)
  · have e : lidx_main_v8 (ix3 i p f) k = ix3 i p k := funext fun a => match a with | ⟨0, _⟩ => rfl | ⟨1, _⟩ => rfl | ⟨2, _⟩ => rfl
    rw [e, rows_at]
  · have e : ridx_main_v8 (ix3 i p f) k = ix3 i k f := funext fun a => match a with | ⟨0, _⟩ => rfl | ⟨1, _⟩ => rfl | ⟨2, _⟩ => rfl
    rw [e, gate_weight x1 x4 h]

theorem up_at (h : ∀ i, (x4 i).toNat < 8) (i : Fin 30) (p : Fin 768) (f : Fin 7168) :
    val_main_v16 (F := Ideal) x0 x2 x4 (ix3 i p f) = into x0 x2 ⟨(x4 (ix1 i)).toNat, h _⟩ (rowOf i p) f := gate_at x0 x2 x4 h i p f

theorem hidden_at (h : ∀ i, (x4 i).toNat < 8) (i : Fin 30) (p : Fin 768) (f : Fin 7168) :
    val_main_v18 (F := Ideal) x0 x1 x2 x4 (ix3 i p f) = hidden x0 x1 x2 ⟨(x4 (ix1 i)).toNat, h _⟩ (rowOf i p) f := by
  show (val_main_v8 (F := Ideal) x0 x1 x4 (ix3 i p f) * Ideal.div (Ideal.ofBits .f32 0x3F800000#32) (Ideal.ofBits .f32 0x3F800000#32 + Ideal.exp (-(val_main_v8 (F := Ideal) x0 x1 x4 (ix3 i p f)))) : EReal)
    * val_main_v16 (F := Ideal) x0 x2 x4 (ix3 i p f) = _
  rw [one_bits, gate_at x0 x1 x4 h, up_at x0 x2 x4 h]
  rfl

/-- Whether row block `i` is in use: `i` below the number of row blocks in use, as words. -/
abbrev Live (n : BitVec 32) (i : Fin 30) : Prop := IntOp.cmpi .slt (BitVec.ofNat 32 i.val) n = 1#1

theorem ref_at (h : ∀ i, (x4 i).toNat < 8) (i : Fin 30) (p : Fin 768) (q : Fin 2048) :
    val_main_v33 (F := Ideal) x0 x1 x2 x3 x4 x5 (ix2 (rowOf i p) q)
      = if Live (x5 (ix1 0)) i then ∑ f : Fin 7168, hidden x0 x1 x2 ⟨(x4 (ix1 i)).toNat, h _⟩ (rowOf i p) f * x3 (ix3 ⟨(x4 (ix1 i)).toNat, h _⟩ f q) else (0 : EReal) := by
  rw [val_main_v33_apply]
  have ei : idx_main_v33 (ix2 (rowOf i p) q) = ix3 i p q := by
    refine funext fun a => Fin.ext ?_
    match a with
    | ⟨0, _⟩ => show ((i.val * 768 + p.val) * 2048 + q.val) / 1572864 = i.val; omega
    | ⟨1, _⟩ => show ((i.val * 768 + p.val) * 2048 + q.val) / 2048 % 768 = p.val; omega
    | ⟨2, _⟩ => show ((i.val * 768 + p.val) * 2048 + q.val) % 2048 = q.val; omega
  rw [ei, val_main_v32_apply]
  have ec : val_main_call1_v1 (F := Ideal) x5 (ix3 i p q) = IntOp.cmpi .slt (BitVec.ofNat 32 i.val) (x5 (ix1 0)) := by
    rw [val_main_call1_v1_apply, val_main_v31_apply, val_main_v30_apply, val_main_v27_apply, val_main_v29_apply]
    refine congrArg₂ (IntOp.cmpi .slt) rfl ?_
    unfold val_main_v28
    exact shapeCast_apply x5 shapeCasts_S1_S_ _ (ix1 0) (by rfl)
  have ez : val_main_call1_v2 (F := Ideal) (ix3 i p q) = (0 : EReal) := by
    rw [val_main_call1_v2_apply]
    exact zero_bits
  rw [ec, ez]
  unfold Scalar.select
  refine if_congr Iff.rfl ?_ rfl
  refine (val_main_v26_apply _ _ _ _ _ _).trans (Finset.sum_congr rfl fun f _ => congrArg₂ (· * ·) ?_ ?_)
  · have e : lidx_main_v26 (ix3 i p q) f = ix3 i p f := funext fun a => match a with | ⟨0, _⟩ => rfl | ⟨1, _⟩ => rfl | ⟨2, _⟩ => rfl
    rw [e, hidden_at x0 x1 x2 x4 h]
  · have e : ridx_main_v26 (ix3 i p q) f = ix3 i f q := funext fun a => match a with | ⟨0, _⟩ => rfl | ⟨1, _⟩ => rfl | ⟨2, _⟩ => rfl
    rw [e, down_weight x3 x4 h]

end Cert.MoeRef

end
-- ==== Proof.MoeFinal.lean ====
module

public import proofs.«01_k».proof.Defs
public import Idealize.ShloMosaic.Lib.Pointwise
public import Idealize.ShloMosaic.Lib.Pipeline.ValueKit.Tiles
public import proofs.«01_k».proof.Proof.Experts
public import proofs.«01_k».proof.Proof.MoeRef

/-!
# The grouped feed-forward call and the plain one end with the same result

Of a row block in use, the result's block holds after point `j` the sum over the slices `0 … j` of the expert's hidden positions;
after the last point it is the sum over all of them. A row block not in use holds 0 throughout. The blocks written back, one per
row block, are the whole result.
-/

@[expose] public section

set_option maxRecDepth 16384

noncomputable section

namespace Cert.MoeFinal

open Cert.MoeIdeal Cert.MoeIdeal.Gen Cert.MoeIdeal.Hand
open Cert.MoeRef (into hidden rowOf Live)
open Idealize.ShloMosaic Idealize.ShloMosaic.TcCoe Idealize.SL.Sem
open Idealize.ShloMosaic.Pipeline (Dat)

/-! ## One point's arithmetic -/

abbrev intoB (x0 : Vec Ideal S768x2048 .f32) (w : Vec Ideal S1x2048x512 .f32) (p : Fin 768) (f : Fin 512) : EReal :=
  ∑ k : Fin 2048, (x0 (ix2 p k) : EReal) * w (ix3 0 k f)

theorem step_at (x0 : Vec Ideal S768x2048 .f32) (x1 x2 : Vec Ideal S1x2048x512 .f32) (acc : Vec Ideal S768x2048 .f32) (x3 : Vec Ideal S1x512x2048 .f32)
    (p : Fin 768) (q : Fin 2048) :
    k0_pay2 x0 x1 x2 acc x3 (ix2 p q)
      = (acc (ix2 p q) : EReal) + ∑ f : Fin 512, intoB x0 x1 p f * Ideal.logistic (intoB x0 x1 p f) * intoB x0 x2 p f * x3 (ix3 0 f q) := by
  unfold k0_pay2
  pointwise

theorem zero_at (p : Fin 768) (q : Fin 2048) : k0_pay1 (F := Ideal) (ix2 p q) = (0 : EReal) := by
  unfold k0_pay1
  exact Cert.MoeRef.zero_bits

theorem cond2_iff (i : grid0.Coords) (w : BitVec 32) : k0_cond2 i w = 1#1 ↔ Live w (i 0) := by
  have hb : ∀ b : BitVec 1, Scalar.cmpi .ne (Scalar.extui b : BitVec 32) 0#32 = b := by decide
  have e : k0_cond2 i w = IntOp.cmpi .slt (BitVec.ofNat 32 (i 0).val) w := hb _
  rw [e]

variable (m : (ℓ : Loc nD τ sig) → Buf (Elt Ideal) ℓ) (ρ : Dev nD → PrngReg) (hO : Ok m) (hw : ∀ i : Fin 30, (word m i).toNat < 8) (c : Dev nD)

abbrev xArr : (⟨2, ![23040, 2048]⟩ : Shape).Idx → EReal := m ((c : Thread nD τ).loc main_arg0)
abbrev gArr : (⟨3, ![8, 2048, 7168]⟩ : Shape).Idx → EReal := m ((c : Thread nD τ).loc main_arg1)
abbrev uArr : (⟨3, ![8, 2048, 7168]⟩ : Shape).Idx → EReal := m ((c : Thread nD τ).loc main_arg2)
abbrev dArr : (⟨3, ![8, 7168, 2048]⟩ : Shape).Idx → EReal := m ((c : Thread nD τ).loc main_arg3)

/-! ## The blocks -/

theorem lt_N (t : Fin grid0.N) : t.val < 420 := Nat.lt_of_lt_of_eq t.isLt N_0

/-- The row block of point `t`, and its slice's hidden positions. -/
def rb (t : Fin grid0.N) : Fin 30 := ⟨t.val / 14, by have := lt_N t; omega⟩
def col (j : ℕ) (f : Fin 512) : Fin 7168 := ⟨(512 * j + f.val) % 7168, Nat.mod_lt _ (by decide)⟩
/-- The expert of row block `i`. -/
def expert (i : Fin 30) : Fin 8 := ⟨(word m i).toNat, hw i⟩

theorem coords0 (t : Fin grid0.N) : grid0.coords t 0 = rb t := Fin.ext (coord0 t)

theorem at0 (t : Fin grid0.N) : cc0_transform_0 (grid0.coords t) = ![(rb t).val, 0] := by
  have e : cc0_transform_0 (grid0.coords t) = ![(BitVec.ofNat 32 (grid0.coords t 0).val).toNat, 0] := rfl
  have h := (rb t).isLt
  rw [e, coords0, BitVec.toNat_ofNat, Nat.mod_eq_of_lt (by omega)]

theorem xblk (t : Fin grid0.N) (p : Fin 768) (k : Fin 2048) : blk m hO c 0 t (ix2 p k) = xArr m c (ix2 (rowOf (rb t) p) k) := by
  show V m c main_arg0 ((((cfgM m hO).win 0).blk t).view.emb (ix2 p k)) = _
  refine congrArg (V m c main_arg0) (funext fun a => Fin.ext ?_)
  have e := at0 t
  match a with
  | ⟨0, _⟩ => show cc0_transform_0 (grid0.coords t) (0 : Fin 2) * 768 + 1 * p.val = (rb t).val * 768 + p.val; rw [e]; show (rb t).val * 768 + 1 * p.val = _; omega
  | ⟨1, _⟩ => show cc0_transform_0 (grid0.coords t) (1 : Fin 2) * 2048 + 1 * k.val = k.val; rw [e]; show 0 * 2048 + 1 * k.val = _; omega

theorem at_live (t : Fin grid0.N) (h : Live (used m) (rb t)) : (slice m (grid0.coords t)).toNat = t.val % 14 := by
  rw [slice_live m _ (by rw [coords0]; exact h), coord1]

theorem gblk (t : Fin grid0.N) (h : Live (used m) (rb t)) (k : Fin 2048) (f : Fin 512) :
    blk m hO c 1 t (ix3 0 k f) = gArr m c (ix3 (expert m hw (rb t)) k (col (t.val % 14) f)) := by
  show V m c main_arg1 ((((cfgM m hO).win 1).blk t).view.emb (ix3 0 k f)) = _
  refine congrArg (V m c main_arg1) (funext fun a => Fin.ext ?_)
  have e := index1 m (grid0.coords t)
  rw [coords0, at_live m t h] at e
  match a with
  | ⟨0, _⟩ =>
    show cc0_transform_1 k0_off1_inb numel1_S1 inb_S1_S1_0 (tbl m) (grid0.coords t) (0 : Fin 3) * 1 + 1 * 0 = (word m (rb t)).toNat
    rw [e]; show (word m (rb t)).toNat * 1 + 1 * 0 = _; omega
  | ⟨1, _⟩ =>
    show cc0_transform_1 k0_off1_inb numel1_S1 inb_S1_S1_0 (tbl m) (grid0.coords t) (1 : Fin 3) * 2048 + 1 * k.val = k.val
    rw [e]; show 0 * 2048 + 1 * k.val = _; omega
  | ⟨2, _⟩ =>
    show cc0_transform_1 k0_off1_inb numel1_S1 inb_S1_S1_0 (tbl m) (grid0.coords t) (2 : Fin 3) * 512 + 1 * f.val = (512 * (t.val % 14) + f.val) % 7168
    rw [e]; show t.val % 14 * 512 + 1 * f.val = _; omega

theorem ublk (t : Fin grid0.N) (h : Live (used m) (rb t)) (k : Fin 2048) (f : Fin 512) :
    blk m hO c 2 t (ix3 0 k f) = uArr m c (ix3 (expert m hw (rb t)) k (col (t.val % 14) f)) := by
  show V m c main_arg2 ((((cfgM m hO).win 2).blk t).view.emb (ix3 0 k f)) = _
  refine congrArg (V m c main_arg2) (funext fun a => Fin.ext ?_)
  have e := index2 m (grid0.coords t)
  rw [coords0, at_live m t h] at e
  match a with
  | ⟨0, _⟩ =>
    show cc0_transform_2 k0_off1_inb numel1_S1 inb_S1_S1_0 (tbl m) (grid0.coords t) (0 : Fin 3) * 1 + 1 * 0 = (word m (rb t)).toNat
    rw [e]; show (word m (rb t)).toNat * 1 + 1 * 0 = _; omega
  | ⟨1, _⟩ =>
    show cc0_transform_2 k0_off1_inb numel1_S1 inb_S1_S1_0 (tbl m) (grid0.coords t) (1 : Fin 3) * 2048 + 1 * k.val = k.val
    rw [e]; show 0 * 2048 + 1 * k.val = _; omega
  | ⟨2, _⟩ =>
    show cc0_transform_2 k0_off1_inb numel1_S1 inb_S1_S1_0 (tbl m) (grid0.coords t) (2 : Fin 3) * 512 + 1 * f.val = (512 * (t.val % 14) + f.val) % 7168
    rw [e]; show t.val % 14 * 512 + 1 * f.val = _; omega

theorem dblk (t : Fin grid0.N) (h : Live (used m) (rb t)) (f : Fin 512) (q : Fin 2048) :
    blk m hO c 3 t (ix3 0 f q) = dArr m c (ix3 (expert m hw (rb t)) (col (t.val % 14) f) q) := by
  show V m c main_arg3 ((((cfgM m hO).win 3).blk t).view.emb (ix3 0 f q)) = _
  refine congrArg (V m c main_arg3) (funext fun a => Fin.ext ?_)
  have e := index3 m (grid0.coords t)
  rw [coords0, at_live m t h] at e
  match a with
  | ⟨0, _⟩ =>
    show cc0_transform_3 k0_off1_inb numel1_S1 inb_S1_S1_0 (tbl m) (grid0.coords t) (0 : Fin 3) * 1 + 1 * 0 = (word m (rb t)).toNat
    rw [e]; show (word m (rb t)).toNat * 1 + 1 * 0 = _; omega
  | ⟨1, _⟩ =>
    show cc0_transform_3 k0_off1_inb numel1_S1 inb_S1_S1_0 (tbl m) (grid0.coords t) (1 : Fin 3) * 512 + 1 * f.val = (512 * (t.val % 14) + f.val) % 7168
    rw [e]; show t.val % 14 * 512 + 1 * f.val = _; omega
  | ⟨2, _⟩ =>
    show cc0_transform_3 k0_off1_inb numel1_S1 inb_S1_S1_0 (tbl m) (grid0.coords t) (2 : Fin 3) * 2048 + 1 * q.val = q.val
    rw [e]; show 0 * 2048 + 1 * q.val = _; omega

/-! ## The result's block, point by point -/

/-- The contribution of hidden position `f` to row `r`, column `q`, in expert `e`. -/
abbrev term (e : Fin 8) (r : Fin 23040) (q : Fin 2048) (f : Fin 7168) : EReal :=
  hidden (xArr m c) (gArr m c) (uArr m c) e r f * dArr m c (ix3 e f q)

/-- The sum over the slices below `n`. -/
abbrev upTo (e : Fin 8) (r : Fin 23040) (q : Fin 2048) (n : ℕ) : EReal :=
  ∑ j ∈ Finset.range n, ∑ f : Fin 512, term m c e r q (col j f)

theorem upTo_one (e : Fin 8) (r : Fin 23040) (q : Fin 2048) : upTo m c e r q 1 = ∑ f : Fin 512, term m c e r q (col 0 f) :=
  Finset.sum_range_one _

theorem after_live (t : Fin (cfgM m hO).N) (h : Live (used m) (rb t)) (xo : Vec Ideal S768x2048 .f32) (p : Fin 768) (q : Fin 2048) :
    after m hO c t xo (ix2 p q)
      = (if t.val % 14 = 0 then (0 : EReal) else xo (ix2 p q)) + ∑ f : Fin 512, term m c (expert m hw (rb t)) (rowOf (rb t) p) q (col (t.val % 14) f) := by
  unfold after next
  rw [if_pos ((cond2_iff _ _).mpr (by rw [coords0]; exact h))]
  refine (step_at _ _ _ _ _ p q).trans (congrArg₂ (· + ·) ?_ (Finset.sum_congr rfl fun f _ => ?_))
  · by_cases h0 : t.val % 14 = 0
    · rw [if_pos ((first_iff t).mpr h0), if_pos h0]; exact zero_at p q
    · rw [if_neg (fun e => h0 ((first_iff t).mp e)), if_neg h0]
  · have eg : intoB (blk m hO c 0 t) (blk m hO c 1 t) p f = into (xArr m c) (gArr m c) (expert m hw (rb t)) (rowOf (rb t) p) (col (t.val % 14) f) :=
      Finset.sum_congr rfl fun k _ => congrArg₂ (· * ·) (xblk m hO c t p k) (gblk m hO hw c t h k f)
    have eu : intoB (blk m hO c 0 t) (blk m hO c 2 t) p f = into (xArr m c) (uArr m c) (expert m hw (rb t)) (rowOf (rb t) p) (col (t.val % 14) f) :=
      Finset.sum_congr rfl fun k _ => congrArg₂ (· * ·) (xblk m hO c t p k) (ublk m hO hw c t h k f)
    rw [eg, eu]
    exact congrArg _ (dblk m hO hw c t h f q)

theorem after_not (t : Fin (cfgM m hO).N) (h : ¬ Live (used m) (rb t)) (xo : Vec Ideal S768x2048 .f32) (p : Fin 768) (q : Fin 2048) :
    after m hO c t xo (ix2 p q) = if t.val % 14 = 0 then (0 : EReal) else xo (ix2 p q) := by
  unfold after next
  rw [if_neg (fun e => h (by have := (cond2_iff _ _).mp e; rwa [coords0] at this))]
  by_cases h0 : t.val % 14 = 0
  · rw [if_pos ((first_iff t).mpr h0), if_pos h0]; exact zero_at p q
  · rw [if_neg (fun e => h0 ((first_iff t).mp e)), if_neg h0]

/-- The result's block after point `t`. -/
theorem outs_at : ∀ (n : ℕ) (hn : n < (cfgM m hO).N) (p : Fin 768) (q : Fin 2048),
    outs m hO c n hn (ix2 p q)
      = if Live (used m) (rb ⟨n, hn⟩) then upTo m c (expert m hw (rb ⟨n, hn⟩)) (rowOf (rb ⟨n, hn⟩) p) q (n % 14 + 1) else (0 : EReal) := by
  intro n
  induction n with
  | zero =>
    intro hn p q
    by_cases h : Live (used m) (rb ⟨0, hn⟩)
    · rw [if_pos h]
      refine (after_live m hO hw c ⟨0, hn⟩ h _ p q).trans ?_
      rw [if_pos (by rfl), zero_add]
      exact (upTo_one m c _ _ _).symm
    · rw [if_neg h]
      exact (after_not m hO c ⟨0, hn⟩ h _ p q).trans (if_pos (by rfl))
  | succ n ih =>
    intro hn p q
    have hn' : n < (cfgM m hO).N := Nat.lt_of_succ_lt hn
    show after m hO c ⟨n + 1, hn⟩ (outs m hO c n hn') (ix2 p q) = _
    by_cases h : Live (used m) (rb ⟨n + 1, hn⟩)
    · rw [if_pos h, after_live m hO hw c ⟨n + 1, hn⟩ h]
      show (if (n + 1) % 14 = 0 then (0 : EReal) else _) + _ = _
      by_cases h0 : (n + 1) % 14 = 0
      · rw [if_pos h0, zero_add, h0]
        exact (upTo_one m c _ _ _).symm
      · have er : rb ⟨n + 1, hn⟩ = rb ⟨n, hn'⟩ := Fin.ext (by show (n + 1) / 14 = n / 14; omega)
        have e1 : (n + 1) % 14 = n % 14 + 1 := by omega
        rw [if_neg h0, ih hn', ← er, if_pos h, e1]
        exact (Finset.sum_range_succ _ _).symm
    · rw [if_neg h, after_not m hO c ⟨n + 1, hn⟩ h]
      show (if (n + 1) % 14 = 0 then (0 : EReal) else _) = _
      by_cases h0 : (n + 1) % 14 = 0
      · rw [if_pos h0]
      · have er : rb ⟨n + 1, hn⟩ = rb ⟨n, hn'⟩ := Fin.ext (by show (n + 1) / 14 = n / 14; omega)
        rw [if_neg h0, ih hn', ← er, if_neg h]

/-- The fourteen slices together are all hidden positions. -/
theorem slices (g : Fin 7168 → EReal) : ∑ j ∈ Finset.range 14, ∑ f : Fin 512, g (col j f) = ∑ f : Fin 7168, g f := by
  rw [Finset.sum_range, ← Fintype.sum_prod_type']
  refine Fintype.sum_equiv (finProdFinEquiv (m := 14) (n := 512)) _ (fun f : Fin (14 * 512) => g f) fun x => congrArg g (Fin.ext ?_)
  obtain ⟨j, f⟩ := x
  show (512 * j.val + f.val) % 7168 = f.val + 512 * j.val
  omega

/-! ## The whole result -/

/-- The reference's result from the kernel's arguments. -/
abbrev G : S23040x2048.Idx → Elt Ideal .f32 :=
  MoeRefIdeal.Read.val_main_v33 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem used_word : used m = m ((c : Thread nD τ).loc main_arg5) (ValueIdx.ix1 0) := by
  obtain rfl : c = 0 := Subsingleton.elim _ _
  refine congrArg (m (((0 : Dev nD) : Thread nD τ).loc main_arg5)) (funext fun a => Fin.ext ?_)
  match a with
  | ⟨0, _⟩ => rfl

theorem word_eq (i : Fin 30) : m ((c : Thread nD τ).loc main_arg4) (ValueIdx.ix1 i) = word m i := by
  obtain rfl : c = 0 := Subsingleton.elim _ _
  rfl

theorem ref_eq (i : Fin 30) (p : Fin 768) (q : Fin 2048) :
    G m c (ix2 (rowOf i p) q) = if Live (used m) i then ∑ f : Fin 7168, term m c (expert m hw i) (rowOf i p) q f else (0 : EReal) := by
  have h : ∀ i : S30.Idx, (m ((c : Thread nD τ).loc main_arg4) i).toNat < 8 := fun i => by
    have e : m ((c : Thread nD τ).loc main_arg4) i = word m (i 0) := (congrArg (m ((c : Thread nD τ).loc main_arg4)) (ValueIdx.eq_ix1 i)).trans (word_eq m c (i 0))
    rw [e]; exact hw _
  refine (Cert.MoeRef.ref_at _ _ _ _ _ _ h i p q).trans ?_
  rw [used_word m c]
  have ee : (⟨(m ((c : Thread nD τ).loc main_arg4) (ValueIdx.ix1 i)).toNat, h _⟩ : Fin 8) = expert m hw i := Fin.ext (by
    show (m ((c : Thread nD τ).loc main_arg4) (ValueIdx.ix1 i)).toNat = (word m i).toNat
    rw [word_eq m c])
  rw [ee]
  exact if_congr Iff.rfl (Finset.sum_congr rfl fun f _ => by rfl) rfl

theorem oblk (t : Fin (cfgM m hO).N) (p : Fin 768) (q : Fin 2048) : (((cfgM m hO).win 4).blk t).view.emb (ix2 p q) = ix2 (rowOf (rb t) p) q := by
  refine funext fun a => Fin.ext ?_
  have e : cc0_transform_4 (grid0.coords t) = ![(rb t).val, 0] := at0 t
  match a with
  | ⟨0, _⟩ => show cc0_transform_4 (grid0.coords t) (0 : Fin 2) * 768 + 1 * p.val = (rb t).val * 768 + p.val; rw [e]; show (rb t).val * 768 + 1 * p.val = _; omega
  | ⟨1, _⟩ => show cc0_transform_4 (grid0.coords t) (1 : Fin 2) * 2048 + 1 * q.val = q.val; rw [e]; show 0 * 2048 + 1 * q.val = _; omega

include hw in
theorem flushed_eq (t : Fin (cfgM m hO).N) (ht : ((cfgM m hO).win 4).flush t = true) :
    (dats m hO 0 c).flushed 4 t = (((cfgM m hO).win 4).blk t).view.read (Elt Ideal) (G m c) := by
  have h13 : t.val % 14 = 13 := (flush4 _ t).mp ht
  show ((cfgM m hO).win 4).cut (grid0.coords t) ((dats m hO 0 c).after 4 t) = _
  rw [after4]
  funext (y : S768x2048.Idx)
  obtain ⟨p, hp⟩ : ∃ p : Fin 768, p = y 0 := ⟨_, rfl⟩
  obtain ⟨q, hq⟩ : ∃ q : Fin 2048, q = y 1 := ⟨_, rfl⟩
  have ey : y = ix2 p q := funext fun a => by fin_cases a; exacts [hp.symm, hq.symm]
  show outs m hO c t.val t.isLt y = G m c ((((cfgM m hO).win 4).blk t).view.emb y)
  rw [ey, oblk, ref_eq m hw, outs_at m hO hw, h13]
  exact if_congr Iff.rfl (slices _) rfl

theorem covered (i : S23040x2048.Idx) : ∃ t : Fin (cfgM m hO).N, ((cfgM m hO).win 4).flush t = true ∧ i ∈ (((cfgM m hO).win 4).blk t).view.set := by
  have h0 : (i 0).val < 23040 := (i 0).isLt
  have h1 : (i 1).val < 2048 := (i 1).isLt
  obtain ⟨t, ht⟩ : ∃ t : Fin (cfgM m hO).N, t.val = (i 0).val / 768 * 14 + 13 := ⟨⟨_, by show _ < grid0.N; rw [N_0]; omega⟩, rfl⟩
  have h : (((cfgM m hO).win 4).blk t).view.emb (ix2 (⟨(i 0).val % 768, by omega⟩ : Fin 768) (⟨(i 1).val, h1⟩ : Fin 2048)) ∈ (((cfgM m hO).win 4).blk t).view.set :=
    View.emb_mem_set _ _
  rw [oblk] at h
  refine ⟨t, (flush4 _ t).mpr (by omega), ?_⟩
  have e : (ix2 (rowOf (rb t) ⟨(i 0).val % 768, by omega⟩) (⟨(i 1).val, h1⟩ : Fin 2048) : S23040x2048.Idx) = i := by
    refine funext fun a => Fin.ext ?_
    match a with
    | ⟨0, _⟩ => show t.val / 14 * 768 + (i 0).val % 768 = (i 0).val; omega
    | ⟨1, _⟩ => rfl
  exact (congrArg (· ∈ (((cfgM m hO).win 4).blk t).view.set) e).mp h

include hw in
/-- The kernel's result array ends at the reference's result. -/
theorem final : (dats m hO 0 c).arrAt 4 (cfgM m hO).N = G m c :=
  (dats m hO 0 c).arrAt_eq_of_cover 4 (G m c) (fun t ht => flushed_eq m hO hw c t ht) (covered m hO)

/-- From arguments that agree, with a table naming experts there are, the kernel and the reference end with the same result. -/
theorem value : Cert.algebraic_MoeIdeal_MoeRefIdeal := by
  intro m g m' g' hpre hag
  have hO := Cert.Experts.ok m hpre
  refine ⟨fun c => G m c, (θ_run _ _ _).mono (fun r h c => ⟨((h c).1 4).trans (final m hO (Cert.Experts.word_lt m hpre) c), args_kept m hO r h c⟩) (run_main m g hO), ?_⟩
  refine (θ_run (Cert.MoeRefIdeal.defs (F := Ideal)) _ _).mono (fun r h c => ?_) (Cert.MoeRefIdeal.Value.run (F := Ideal) m' g')
  refine ⟨(h c).1.trans ((MoeRefIdeal.Read.val_main_v33_eq _ _ _ _ _ _).trans ?_), (h c).2⟩
  rw [(hag c).1, (hag c).2.1, (hag c).2.2.1, (hag c).2.2.2.1, (hag c).2.2.2.2.1, (hag c).2.2.2.2.2]

/-- The reference runs, keeps its arguments, and declares no semaphore. -/
theorem ref_frame : Cert.quiescent_MoeRefIdeal := fun m ρ _ =>
  (θ_run (Cert.MoeRefIdeal.defs (F := Ideal)) _ _).mono (fun r h => ⟨fun c => (h c).2, sem_eq_zero_of_no_sems (by decide) r.2⟩)
    (Cert.MoeRefIdeal.Value.run (F := Ideal) m ρ)

end Cert.MoeFinal

end
-- ==== Proof.DenseIdealRun.lean ====
module

public import proofs.«01_k».proof.Proof.Gen.DenseIdeal.Launch
public import proofs.«01_k».proof.Proof.Gen.DenseIdeal.Skeleton
public import Idealize.ShloMosaic.Lib.Pipeline.FrameBody
public import Idealize.ShloMosaic.Lib.Pipeline.TableIdle
public import Idealize.ShloMosaic.Lib.Pipeline.ValueKit.Basic
public import Idealize.ShloMosaic.Lib.VecWindow
public import Idealize.ShloMosaic.Lib.Ring
public import Idealize.ShloMosaic.Lib.Tactic
public import Idealize.ShloMosaic.Lib.WordCmp
public import Idealize.ShloMosaic.Lib.Claim

/-!
# The run of the dense feed-forward call

Before the grid starts the call makes two integer tables: a row of zeros (every row block reads the one set of weights), and the
number of row blocks, 16. So every row block is in use. A grid point `(i, j)` sets the result's block to the residual's when
`j = 0`, and adds to it the product of slice `j` of the hidden positions.
-/

@[expose] public section

set_option maxRecDepth 16384

noncomputable section

namespace Cert.DenseIdeal.Hand

open Cert.DenseIdeal Cert.DenseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- What a core's buffers hold when the call is entered: the two tables made, all else as launched. -/
abbrev V (c : Dev nD) (b : Ref sig .tc) : Buf (Elt F) ((c : Thread nD τ).loc b) := StableHlo.after hostOps0 (fun b => m (c, b)) b

theorem tables_fresh : (hostOps0 : List (HloOp τ sig (Elt F))).Forall fun op => op.fresh = ∅ := by
  simp only [List.Forall]; repeat' constructor

set_option maxHeartbeats 800000 in
theorem enter : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub tables_fresh main_chain

/-- Making the tables writes the tables and their two scalars only. -/
theorem V_kept (c : Dev nD) (b : Ref sig .tc) (h0 : b ≠ main_c) (h1 : b ≠ main_v0) (h2 : b ≠ main_c_0) (h3 : b ≠ main_v1) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, Finset.mem_singleton]
    exact ⟨StableHlo.devRef_ne_of_ne h0, StableHlo.devRef_ne_of_ne h1, StableHlo.devRef_ne_of_ne h2, StableHlo.devRef_ne_of_ne h3⟩))

theorem V_arg0 (c : Dev nD) : V m c main_arg0 = m ((c : Thread nD τ).loc main_arg0) := V_kept m c _ (by decide) (by decide) (by decide) (by decide)
theorem V_arg1 (c : Dev nD) : V m c main_arg1 = m ((c : Thread nD τ).loc main_arg1) := V_kept m c _ (by decide) (by decide) (by decide) (by decide)
theorem V_arg2 (c : Dev nD) : V m c main_arg2 = m ((c : Thread nD τ).loc main_arg2) := V_kept m c _ (by decide) (by decide) (by decide) (by decide)
theorem V_arg3 (c : Dev nD) : V m c main_arg3 = m ((c : Thread nD τ).loc main_arg3) := V_kept m c _ (by decide) (by decide) (by decide) (by decide)
theorem V_arg4 (c : Dev nD) : V m c main_arg4 = m ((c : Thread nD τ).loc main_arg4) := V_kept m c _ (by decide) (by decide) (by decide) (by decide)

/-- The first table is a row of zeros, -/
theorem V_zeros (c : Dev nD) (i : S16.Idx) : V m c main_v0 i = 0#32 := by
  show StableHlo.after hostOps0 (fun b => m (c, b)) (Proc.devRef .tc main_v0) i = _
  after_results_simp
  rfl
/-- the second holds the number of row blocks. -/
theorem V_blocks (c : Dev nD) (i : S1.Idx) : V m c main_v1 i = 16#32 := by
  show StableHlo.after hostOps0 (fun b => m (c, b)) (Proc.devRef .tc main_v1) i = _
  after_results_simp
  rfl

/-- The contents of the two tables. -/
def tbl : pre0.Contents (Elt F) := fun j => V m (0 : Dev nD) (pre0.ref j)
theorem tbl_eq (c : Dev nD) (j : Fin 2) : V m c (pre0.ref j) = tbl m j := by
  obtain rfl : c = 0 := Subsingleton.elim _ _; rfl
/-- Every block the tables name lies inside its array. -/
abbrev Ok : Prop := ok0 (F := F) (tbl m)
abbrev tabs (hO : Ok m) : (pcfg0 (F := F)).Adm := ⟨tbl m, hO⟩
abbrev cfgM (hO : Ok m) : Pipeline.Cfg sig Λ₀ := cfg0 (tabs m hO)

/-- The tables as the body is handed them. -/
abbrev tabE : Memref sig .tc .smem S16 .i32 := Memref.whole main_v0
abbrev htabE : tabE.IsWhole := Memref.isWhole_whole _
abbrev tabN : Memref sig .tc .smem S1 .i32 := Memref.whole main_v1
abbrev htabN : tabN.IsWhole := Memref.isWhole_whole _
abbrev TabBuf (c : Dev nD) {S : Shape} {e : EltTy} (M : Memref sig .tc .smem S e) : Type := Buf (Elt F) (M.view.loc (c : Thread nD τ))
/-- A table held, for reading. -/
abbrev tabPt (c : Dev nD) {S : Shape} {e : EltTy} (M : Memref sig .tc .smem S e) (f : TabBuf (F := F) c M) : sProp 𝕄 :=
  M.view.loc (c : Thread nD τ) ↦{fullShare.right} f

theorem tabs_held (c : Dev nD) : (Pipeline.ΦT pre0 (tbl m) c : sProp 𝕄) = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The word the body reads in the second table: how many row blocks are in use. -/
abbrev wordN (c : Dev nD) (xt : TabBuf (F := F) c tabN) : BitVec 32 :=
  tabN.view.readAt (Elt F) (Rect.unit (s := S1) ![0] S1.size inb_S1_S1_0).toLoadRect xt (Shape.Idx.first (numel1_S1.symm ▸ Nat.one_pos))
abbrev used : BitVec 32 := wordN (F := F) 0 (tbl m 1)

theorem wordN_eq (c : Dev nD) : wordN (F := F) c (tbl m 1) = used m := by
  obtain rfl : c = 0 := Subsingleton.elim _ _; rfl

theorem used_eq : (tbl m).atD 1 ![0] = used m := by
  have h : ∀ a, (![0] : Fin 1 → ℕ) a + 1 ≤ ((pre0.ref 1).ty.shape).size a := by
    intro a; fin_cases a; decide
  refine (dif_pos h).trans ?_
  show _ = tbl m 1 _
  refine congrArg (tbl m 1) (funext fun a => Fin.ext ?_)
  match a with
  | ⟨0, _⟩ => rfl

theorem used_is : used m = 16#32 := V_blocks m 0 _

/-! ## The body, case by case -/

/-- The block a point leaves, from the blocks it reads and what the result's block held before the product is added. -/
abbrev step (x0 : Vec F S512x2048 .bf16) (x1 x2 : Vec F S1x2048x512 .bf16) (x3 : Vec F S1x512x2048 .bf16) (acc : Vec F S512x2048 .f32) : Vec F S512x2048 .f32 :=
  k0_pay1 x0 x1 x2 acc x3

theorem off2 : (![0, 0] : Fin 2 → Nat) = fun _ => 0 := by funext a; fin_cases a <;> rfl
theorem off3 : (![0, 0, 0] : Fin 3 → Nat) = fun _ => 0 := by funext a; fin_cases a <;> rfl

section Cases
variable (c : Dev nD) (i : grid0.Coords) (arg4 : Memref sig .tc .vmem S512x2048 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x2048 .f32) (harg8 : arg8.IsWhole) (arg9 : Memref sig .tc .vmem S512x2048 .f32) (harg9 : arg9.IsWhole)
  (x0 : Vec F S512x2048 .bf16) (x1 : Vec F S1x2048x512 .bf16) (x2 : Vec F S1x2048x512 .bf16) (x3 : Vec F S1x512x2048 .bf16) (x4 : Vec F S512x2048 .f32) (xt0 : TabBuf (F := F) c tabE) (xt1 : TabBuf (F := F) c tabN) (xo : Vec F S512x2048 .f32)

/-- The body's triple: the result's block goes from `xo` to `X`, everything else is handed back. -/
abbrev Triple (X : Vec F S512x2048 .f32) : Prop :=
  ∀ (E : Set ℕ) (K : PUnit → sProp 𝕄),
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xo ∗ tabPt c tabE xt0 ∗ tabPt c tabN xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare X ∗ tabPt c tabE xt0 ∗ tabPt c tabN xt1) -∗ K ⟨⟩))
      ⊢ wp frame (wpE (defs₀ (F := F)) Variants.none c none) E (cc0_swiglu i tabE htabE tabN htabN arg4 harg4 arg5 harg5 arg6 harg6 arg7 harg7 arg8 harg8 arg9 harg9) K

set_option maxHeartbeats 1000000 in
/-- `j = 0`: the block is set to the residual's, then the product added. -/
theorem run_first (hc0 : k0_cond1 i = 1#1) (hc1 : k0_cond2 i (wordN c xt1) = 1#1) :
    Triple c i arg4 harg4 arg5 harg5 arg6 harg6 arg7 harg7 arg8 harg8 arg9 harg9 x0 x1 x2 x3 x4 xt0 xt1 xo (step x0 x1 x2 x3 x4) := by
  intro E K
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [View.read_writes_full]
    unfold run_first.sl.v18 run_first.sl.H5_1
    rw [View.readCov_full, View.readAt_full, View.readAt_full, View.readAt_full, View.readAt_full, View.readAt_full, harg4.read_unread, harg5.read_unread, harg6.read_unread, harg7.read_unread, harg8.read_unread]
  isplitl [HT0]; · iexact HT0
  iexact HT1

set_option maxHeartbeats 1000000 in
/-- `j ≠ 0`: the product is added. -/
theorem run_later (hc0 : ¬ k0_cond1 i = 1#1) (hc1 : k0_cond2 i (wordN c xt1) = 1#1) :
    Triple c i arg4 harg4 arg5 harg5 arg6 harg6 arg7 harg7 arg8 harg8 arg9 harg9 x0 x1 x2 x3 x4 xt0 xt1 xo (step x0 x1 x2 x3 xo) := by
  intro E K
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [View.read_writes_full]
    rw [View.readAt_full, View.readAt_full, View.readAt_full, View.readAt_full, View.readAt_full, harg4.read_unread, harg5.read_unread, harg6.read_unread, harg7.read_unread, harg9.read_unread]
  isplitl [HT0]; · iexact HT0
  iexact HT1

/-- What a point makes of the result's block, in both cases at once. -/
def next : Vec F S512x2048 .f32 := step x0 x1 x2 x3 (if k0_cond1 i = 1#1 then x4 else xo)

theorem next_first (hc0 : k0_cond1 i = 1#1) : next i x0 x1 x2 x3 x4 xo = step x0 x1 x2 x3 x4 := by unfold next; rw [if_pos hc0]
theorem next_later (hc0 : ¬ k0_cond1 i = 1#1) : next i x0 x1 x2 x3 x4 xo = step x0 x1 x2 x3 xo := by unfold next; rw [if_neg hc0]

theorem run_next (hc1 : k0_cond2 i (wordN c xt1) = 1#1) : Triple c i arg4 harg4 arg5 harg5 arg6 harg6 arg7 harg7 arg8 harg8 arg9 harg9 x0 x1 x2 x3 x4 xt0 xt1 xo (next i x0 x1 x2 x3 x4 xo) := by
  unfold next
  by_cases hc0 : k0_cond1 i = 1#1
  · rw [if_pos hc0]
    exact run_first c i arg4 harg4 arg5 harg5 arg6 harg6 arg7 harg7 arg8 harg8 arg9 harg9 x0 x1 x2 x3 x4 xt0 xt1 xo hc0 hc1
  · rw [if_neg hc0]
    exact run_later c i arg4 harg4 arg5 harg5 arg6 harg6 arg7 harg7 arg8 harg8 arg9 harg9 x0 x1 x2 x3 x4 xt0 xt1 xo hc0 hc1

end Cases

/-! ## The schedule -/

/-- A point's coordinates: `j` is `t % 11`, `i` is `t / 11`. -/
theorem coord0 (t : Fin grid0.N) : (grid0.coords t 0).val = t.val / 11 := by
  have ht : t.val < 176 := Nat.lt_of_lt_of_eq t.isLt N_0
  have e0 : (grid0.coords t 0).val = t.val / 11 % 16 := Pipeline.Grid.coords_val t 0 (by decide) rfl
  omega
theorem coord1 (t : Fin grid0.N) : (grid0.coords t 1).val = t.val % 11 := by
  have e1 : (grid0.coords t 1).val = t.val / 1 % 11 := Pipeline.Grid.coords_val t 1 (by decide) rfl
  omega

/-- Every row block is in use. -/
theorem live (t : Fin grid0.N) : k0_cond2 (grid0.coords t) (used m) = 1#1 := by
  have ht : t.val < 176 := Nat.lt_of_lt_of_eq t.isLt N_0
  rw [used_is]
  simp only [k0_cond2, coord0]
  word_cmp

theorem first_iff : ∀ t : Fin grid0.N, k0_cond1 (grid0.coords t) = 1#1 ↔ t.val % 11 = 0 := fun t => by
  have ht : t.val < 176 := Nat.lt_of_lt_of_eq t.isLt N_0
  simp only [k0_cond1, coord1]
  word_cmp

/-- The result's block is written back after the last `j`. -/
theorem flush5 (a : (pcfg0 (F := F)).Adm) : ∀ t : Fin (cfg0 a).N, ((cfg0 a).win 5).flush t = true ↔ t.val % 11 = 10 :=
  (fun t => Pipeline.Window.flushOf_reads cc0_transform_5 reads0_5 hreads0_5 0 (by decide) (by decide) (Pipeline.Window.sep_of_coord cc0_transform_5 0 0 (fun _ => rfl) (by decide)) (P := 11) (m := 10) (by decide) rfl t : ∀ t : Fin grid0.N, Pipeline.Window.flushOf grid0 true cc0_transform_5 t = true ↔ t.val % 11 = 10)

/-- The body at a point, on the buffers the pipeline hands it. -/
abbrev bodyAt (a : (pcfg0 (F := F)).Adm) (t : Fin (cfg0 a).N) : Prog (TpuEff nD τ sig (Elt F) Λ₀ .tc) PUnit :=
  cc0_swiglu (grid0.coords t) tabE htabE tabN htabN (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

abbrev st0 (hO : Ok m) (t : Fin (cfgM m hO).N) : Memref sig .tc .vmem S512x2048 .bf16 := spec0_0.stage ((cfgM m hO).slots t 0)
abbrev st1 (hO : Ok m) (t : Fin (cfgM m hO).N) : Memref sig .tc .vmem S1x2048x512 .bf16 := spec0_1.stage ((cfgM m hO).slots t 1)
abbrev st2 (hO : Ok m) (t : Fin (cfgM m hO).N) : Memref sig .tc .vmem S1x2048x512 .bf16 := spec0_2.stage ((cfgM m hO).slots t 2)
abbrev st3 (hO : Ok m) (t : Fin (cfgM m hO).N) : Memref sig .tc .vmem S1x512x2048 .bf16 := spec0_3.stage ((cfgM m hO).slots t 3)
abbrev st4 (hO : Ok m) (t : Fin (cfgM m hO).N) : Memref sig .tc .vmem S512x2048 .f32 := spec0_4.stage ((cfgM m hO).slots t 4)
abbrev st5 (hO : Ok m) (t : Fin (cfgM m hO).N) : Memref sig .tc .vmem S512x2048 .f32 := spec0_5.stage ((cfgM m hO).slots t 5)

/-! ## What the result's block holds, point by point -/

/-- Window `w`'s block at point `t`. -/
def blk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Point `t` run on a result's block holding `xo`. -/
def after (hO : Ok m) (c : Dev nD) (t : Fin (cfgM m hO).N) (xo : Vec F S512x2048 .f32) : Vec F S512x2048 .f32 :=
  next (grid0.coords t) (blk m hO c 0 t) (blk m hO c 1 t) (blk m hO c 2 t) (blk m hO c 3 t) (blk m hO c 4 t) xo

/-- The result's block after the body at position `n`. -/
def outs (hO : Ok m) (c : Dev nD) : (n : ℕ) → n < (cfgM m hO).N → Vec F S512x2048 .f32
  | 0, hn => after m hO c ⟨0, hn⟩ (blk m hO c 4 ⟨0, hn⟩)
  | n + 1, hn => after m hO c ⟨n + 1, hn⟩ (outs hO c n (Nat.lt_of_succ_lt hn))

/-- At `j = 0` the point makes the same of any contents. -/
theorem after_first (hO : Ok m) (c : Dev nD) (t : Fin (cfgM m hO).N) (h : t.val % 11 = 0) (x y : Vec F S512x2048 .f32) :
    after m hO c t x = after m hO c t y :=
  (next_first _ _ _ _ _ _ x ((first_iff t).mpr h)).trans (next_first _ _ _ _ _ _ y ((first_iff t).mpr h)).symm

theorem outs_first (hO : Ok m) (c : Dev nD) (t : Fin (cfgM m hO).N) (h : t.val % 11 = 0) (x : Vec F S512x2048 .f32) :
    outs m hO c t.val t.isLt = after m hO c t x := by
  obtain ⟨n, hn⟩ := t
  cases n with
  | zero => exact after_first m hO c _ h _ _
  | succ n => exact after_first m hO c _ h _ _

theorem outs_later (hO : Ok m) (c : Dev nD) (t : Fin (cfgM m hO).N) (h : t.val ≠ 0) :
    outs m hO c t.val t.isLt = after m hO c t (outs m hO c (t.val - 1) (Nat.lt_of_le_of_lt (Nat.sub_le _ _) t.isLt)) := by
  obtain ⟨n, hn⟩ := t
  cases n with
  | zero => exact absurd rfl h
  | succ n => rfl

/-! ## The proof data -/

/-- The arrays as entered; each input's buffer left at its block, the result's at `outs`; the tables held throughout. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => blk m hO c 3 t
    | ⟨4, _⟩ => blk m hO c 4 t
    | ⟨5, _⟩ => outs m hO c t.val t.isLt
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = blk m hO c 0 t := by dsimp only [dats]; try rfl
theorem after1 (hO : Ok m) (c : Dev nD) (t : Fin (cfgM m hO).N) : (dats m hO 0 c).after 1 t = blk m hO c 1 t := by dsimp only [dats]; try rfl
theorem after2 (hO : Ok m) (c : Dev nD) (t : Fin (cfgM m hO).N) : (dats m hO 0 c).after 2 t = blk m hO c 2 t := by dsimp only [dats]; try rfl
theorem after3 (hO : Ok m) (c : Dev nD) (t : Fin (cfgM m hO).N) : (dats m hO 0 c).after 3 t = blk m hO c 3 t := by dsimp only [dats]; try rfl
theorem after4 (hO : Ok m) (c : Dev nD) (t : Fin (cfgM m hO).N) : (dats m hO 0 c).after 4 t = blk m hO c 4 t := by dsimp only [dats]; try rfl
theorem after5 (hO : Ok m) (c : Dev nD) (t : Fin (cfgM m hO).N) : (dats m hO 0 c).after 5 t = outs m hO c t.val t.isLt := by dsimp only [dats]; try rfl

/-- Each input's buffer holds its block when the body runs. -/
theorem before0 (hO : Ok m) (c : Dev nD) (t : Fin (cfgM m hO).N) (d) : (dats m hO 0 c).before 0 t d = blk m hO c 0 t :=
  ((dats m hO 0 c).before_in_eq_fetched 0 rfl (fun _ => rfl) (fun _ _ _ => rfl) (fun t => by rw [after0]; unfold Dat.blockOf blk; rw [A_eq]; try rfl) t d).trans
    (by unfold Dat.fetched Dat.blockOf blk; rw [A_eq]; try rfl)
theorem before1 (hO : Ok m) (c : Dev nD) (t : Fin (cfgM m hO).N) (d) : (dats m hO 0 c).before 1 t d = blk m hO c 1 t :=
  ((dats m hO 0 c).before_in_eq_fetched 1 rfl (fun _ => rfl) (fun _ _ _ => rfl) (fun t => by rw [after1]; unfold Dat.blockOf blk; rw [A_eq]; try rfl) t d).trans
    (by unfold Dat.fetched Dat.blockOf blk; rw [A_eq]; try rfl)
theorem before2 (hO : Ok m) (c : Dev nD) (t : Fin (cfgM m hO).N) (d) : (dats m hO 0 c).before 2 t d = blk m hO c 2 t :=
  ((dats m hO 0 c).before_in_eq_fetched 2 rfl (fun _ => rfl) (fun _ _ _ => rfl) (fun t => by rw [after2]; unfold Dat.blockOf blk; rw [A_eq]; try rfl) t d).trans
    (by unfold Dat.fetched Dat.blockOf blk; rw [A_eq]; try rfl)
theorem before3 (hO : Ok m) (c : Dev nD) (t : Fin (cfgM m hO).N) (d) : (dats m hO 0 c).before 3 t d = blk m hO c 3 t :=
  ((dats m hO 0 c).before_in_eq_fetched 3 rfl (fun _ => rfl) (fun _ _ _ => rfl) (fun t => by rw [after3]; unfold Dat.blockOf blk; rw [A_eq]; try rfl) t d).trans
    (by unfold Dat.fetched Dat.blockOf blk; rw [A_eq]; try rfl)
theorem before4 (hO : Ok m) (c : Dev nD) (t : Fin (cfgM m hO).N) (d) : (dats m hO 0 c).before 4 t d = blk m hO c 4 t :=
  ((dats m hO 0 c).before_in_eq_fetched 4 rfl (fun _ => rfl) (fun _ _ _ => rfl) (fun t => by rw [after4]; unfold Dat.blockOf blk; rw [A_eq]; try rfl) t d).trans
    (by unfold Dat.fetched Dat.blockOf blk; rw [A_eq]; try rfl)

/-- The result's window is idle nowhere. -/
theorem not_idle (hO : Ok m) (t : Fin (cfgM m hO).N) : (cfgM m hO).idle 5 (grid0.coords t) = false := by
  show (!(k0_cond1 (grid0.coords t) == 1#1) && !(k0_cond2 (grid0.coords t) ((tbl m).atD 1 ![0]) == 1#1)) = false
  rw [used_eq, live m t]
  simp

/-- Past `j = 0` the result's buffer has been filled. -/
theorem filled (hO : Ok m) : ∀ n, n < (cfgM m hO).N → n % 11 ≠ 0 → (cfgM m hO).fresh 5 n = false
  | 0, _, h => absurd rfl h
  | n + 1, hn, h => by
    have hn' : n < (cfgM m hO).N := Nat.lt_of_succ_lt hn
    rw [Cfg.fresh_succ _ 5 n hn', Bool.or_eq_false_iff]
    refine ⟨Bool.eq_false_iff.mpr fun hf => ?_, ?_⟩
    · have := (flush5 (tabs m hO) ⟨n, hn'⟩).mp hf
      dsimp only at this
      omega
    · rw [Bool.and_eq_false_iff]
      exact .inl (not_idle m hO ⟨n, hn'⟩)

/-- Past `j = 0` the body finds in the result's buffer what the point before left there. -/
theorem before5 (hO : Ok m) (c : Dev nD) (t : Fin (cfgM m hO).N) (h : ¬ t.val % 11 = 0) (d) :
    (dats m hO 0 c).before 5 t d = outs m hO c (t.val - 1) (Nat.lt_of_le_of_lt (Nat.sub_le _ _) t.isLt) := by
  rw [(dats m hO 0 c).before_out_traj 5 rfl (fun _ _ => rfl) (fun s hs hi _ => by
      exact absurd hi (by rw [not_idle]; decide)) t.val t rfl d, filled m hO t.val t.isLt h, if_neg Bool.false_ne_true, after5]

/-- Whatever the body finds, it leaves `outs`. -/
theorem after_before (hO : Ok m) (c : Dev nD) (t : Fin (cfgM m hO).N) (d) :
    next (grid0.coords t) (blk m hO c 0 t) (blk m hO c 1 t) (blk m hO c 2 t) (blk m hO c 3 t) (blk m hO c 4 t) ((dats m hO 0 c).before 5 t d) = outs m hO c t.val t.isLt := by
  show after m hO c t ((dats m hO 0 c).before 5 t d) = _
  by_cases h : t.val % 11 = 0
  · exact (outs_first m hO c t h _).symm
  · rw [before5 m hO c t h d, ← outs_later m hO c t (fun h0 => h (by rw [h0]))]

/-! ## The body's obligation -/

/-- What the body is handed at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d))
    ∗ (∃ d, owns (c : Thread nD τ) (st5 m hO t) fullShare ((dats m hO 0 c).before 5 t d)))
/-- and what it hands back. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ owns (c : Thread nD τ) (st4 m hO t) fullShare ((dats m hO 0 c).after 4 t)
    ∗ (dats m hO 0 c).leavesExact 5 t)

/-- The result's buffer at `outs` is what the point must leave. -/
theorem leave5 (hO : Ok m) (c : Dev nD) (t : Fin (cfgM m hO).N) :
    (owns (c : Thread nD τ) (st5 m hO t) fullShare (outs m hO c t.val t.isLt) : sProp 𝕄) ⊢ (dats m hO 0 c).leavesExact 5 t := by
  unfold Dat.leavesExact
  rw [show (cfgM m hO).idle 5 ((cfgM m hO).grid.coords t) = false from not_idle m hO t]
  dsimp only
  rw [after5]
  exact .rfl

set_option maxHeartbeats 1600000 in
theorem body_at (hO : Ok m) (c : Dev nD) (t : Fin (cfgM m hO).N) :
    bodyPre m hO c t ⊢ wp frame (wpE (defs₀ (F := F)) Variants.none c none) Set.univ (bodyAt (tabs m hO) t) (fun _ => bodyPost m hO c t) := by
  unfold bodyPre bodyPost bodyAt
  simp only [before0, before1, before2, before3, before4]
  rw [show (dats m hO 0 c).Φ t.succ = (dats m hO 0 c).Φ t.castSucc from rfl,
    show (dats m hO 0 c).owesAt () t.succ = (dats m hO 0 c).owesAt () t.castSucc from rfl,
    after0, after1, after2, after3, after4]
  rw [show (dats m hO 0 c).Φ t.castSucc = iprop(Pipeline.ΦA spec0 c ∗ Pipeline.ΦT pre0 (tbl m) c) from rfl, tabs_held]
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (run_next c (grid0.coords t) _ _ _ _ _ _ _ _ _ _ _ _ (blk m hO c 0 t) (blk m hO c 1 t) (blk m hO c 2 t) (blk m hO c 3 t) (blk m hO c 4 t) (tbl m 0) (tbl m 1) _ (by rw [wordN_eq]; exact live m t) Set.univ _)
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iapply (leave5 m hO c t)
  rw [← after_before m hO c t d5]
  iexact H5

theorem body_row (hO : Ok m) (t : Fin (cfgM m hO).N) :
    defs₀ (F := F) .tc (cfgM m hO).body ((cfgM m hO).bodyArgs t ((cfgM m hO).slots t)) = bodyAt (tabs m hO) t := by
  unfold defs₀; rw [Defs.onTc_tc]

theorem obligation (hO : Ok m) (c : Dev nD) : BodyObligation (dats (F := F) m hO 0 c) (defs₀ (F := F)) Variants.none () Set.univ := fun t => by
  rw [bigSep_W0, bigSep_W0, body_row m hO]
  exact triple_restated (body_at m hO c t) rfl .rfl fun _ => .rfl

/-! ## The run -/

set_option backward.isDefEq.respectTransparency.types false in
/-- Every execution ends, with the arrays at what the proof data say and every semaphore at zero. -/
theorem run_ends (hO : Ok m) : θ_run defs (onTc (τ := τ) (main (F := F))) (s₀ m ρ) (fun r => (Pipeline.FramePost (Pipeline.pin pcfgs fun _ => tabs m hO) (dats m hO) 0 (V m)) r ∧ r.2.sem = fun _ => 0) :=
  Pipeline.θ_run_frameP (Q' := _) pcfgs (fun _ => tabs m hO) (dats m hO) (0 : Fin 1) launch0 defs₀ Variants.none m ρ main
    (hbody := fun c => (obligation m hO c).loose) (hshare := fun c => (dats m hO 0 c).share_full fun _ => rfl)
    (howed := fun _ _ => rfl) (V := V m) (hmain := enter m) (hA := A_eq m hO) (hpf := tbl_eq m)
    (hΦ := fun _ _ => rfl)

theorem run_main (hO : Ok m) : θ_run defs (onTc (τ := τ) (main (F := F))) (s₀ m ρ) (Pipeline.FramePost (Pipeline.pin pcfgs fun _ => tabs m hO) (dats m hO) 0 (V m)) :=
  (θ_run defs _ _).mono (fun _ h => h.1) (run_ends m ρ hO)

/-- What a final state of the run holds in the argument arrays: what they held. -/
theorem args_kept (hO : Ok m) (r) (h : Pipeline.FramePost (Pipeline.pin pcfgs fun _ => tabs m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m hO 0 c).arrAt_in 0 rfl _).trans ((A_eq m hO c 0).trans (V_arg0 m c))),
    ((h c).1 1).trans (((dats m hO 0 c).arrAt_in 1 rfl _).trans ((A_eq m hO c 1).trans (V_arg1 m c))),
    ((h c).1 2).trans (((dats m hO 0 c).arrAt_in 2 rfl _).trans ((A_eq m hO c 2).trans (V_arg2 m c))),
    ((h c).1 3).trans (((dats m hO 0 c).arrAt_in 3 rfl _).trans ((A_eq m hO c 3).trans (V_arg3 m c))),
    ((h c).1 4).trans (((dats m hO 0 c).arrAt_in 4 rfl _).trans ((A_eq m hO c 4).trans (V_arg4 m c)))⟩

/-- The program ends, leaves its arguments as they were, and no semaphore counting. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_kept m hO r h.1, h.2⟩) (run_ends m ρ hO)

end Cert.DenseIdeal.Hand

end
-- ==== Proof.DenseIdealOk.lean ====
module

public import proofs.«01_k».proof.Proof.DenseIdealRun
public import Idealize.ShloMosaic.Lib.ValueIdxCore

/-!
# Which blocks the tables name

The tables hold a row of zeros and the number of row blocks, so point `(i, j)` reads slice `j` of the one set of weights, and every
block lies inside its array.
-/

@[expose] public section

set_option maxRecDepth 16384

noncomputable section

namespace Cert.DenseIdeal.Hand

open Cert.DenseIdeal Cert.DenseIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem coord_lt0 (i : grid0.Coords) : (i 0).val < 16 := (i 0).isLt
theorem coord_lt1 (i : grid0.Coords) : (i 1).val < 11 := (i 1).isLt

theorem word_at (i : grid0.Coords) : (tbl m).at 0 (Rect.unit (s := S16) (k0_off1 i) S1.size (k0_off1_inb i)) numel1_S1 = 0#32 := V_zeros m 0 _

theorem used_at : (tbl m).at 1 (Rect.unit (s := S1) ![0] S1.size inb_S1_S1_0) numel1_S1 = 16#32 := V_blocks m 0 _

/-- The slice point `i` reads is its second coordinate. -/
theorem slice_eq (i : grid0.Coords) : (Scalar.select (Scalar.cmpi .slt (BitVec.ofNat 32 (i 0).val) 16#32) (BitVec.ofNat 32 (i 1).val) 10#32).toNat = (i 1).val := by
  have h0 := coord_lt0 i
  have h1 := coord_lt1 i
  have e : Scalar.cmpi .slt (BitVec.ofNat 32 (i 0).val) 16#32 = 1#1 := by word_cmp
  rw [e]
  show (BitVec.ofNat 32 (i 1).val).toNat = _
  rw [BitVec.toNat_ofNat]; omega

theorem index1 (i : grid0.Coords) : cc0_transform_1 k0_off1_inb numel1_S1 inb_S1_S1_0 (tbl m) i = ![0, 0, (i 1).val] := by
  have e : cc0_transform_1 k0_off1_inb numel1_S1 inb_S1_S1_0 (tbl m) i
    = ![((tbl m).at 0 (Rect.unit (s := S16) (k0_off1 i) S1.size (k0_off1_inb i)) numel1_S1).toNat, 0,
        (Scalar.select (Scalar.cmpi .slt (BitVec.ofNat 32 (i 0).val) ((tbl m).at 1 (Rect.unit (s := S1) ![0] S1.size inb_S1_S1_0) numel1_S1)) (BitVec.ofNat 32 (i 1).val) 10#32).toNat] := rfl
  rw [e, word_at, used_at, slice_eq]; rfl
theorem index2 (i : grid0.Coords) : cc0_transform_2 k0_off1_inb numel1_S1 inb_S1_S1_0 (tbl m) i = ![0, 0, (i 1).val] := index1 m i
theorem index3 (i : grid0.Coords) : cc0_transform_3 k0_off1_inb numel1_S1 inb_S1_S1_0 (tbl m) i = ![0, (i 1).val, 0] := by
  have e : cc0_transform_3 k0_off1_inb numel1_S1 inb_S1_S1_0 (tbl m) i
    = ![((tbl m).at 0 (Rect.unit (s := S16) (k0_off1 i) S1.size (k0_off1_inb i)) numel1_S1).toNat,
        (Scalar.select (Scalar.cmpi .slt (BitVec.ofNat 32 (i 0).val) ((tbl m).at 1 (Rect.unit (s := S1) ![0] S1.size inb_S1_S1_0) numel1_S1)) (BitVec.ofNat 32 (i 1).val) 10#32).toNat, 0] := rfl
  rw [e, word_at, used_at, slice_eq]; rfl

/-- Every block lies inside its array. -/
theorem ok : Ok m := by
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  · rw [index1]
    have h1 := coord_lt1 i
    intro a
    match a with
    | ⟨0, _⟩ => show (0 + 1) * 1 ≤ 1; omega
    | ⟨1, _⟩ => show (0 + 1) * 2048 ≤ 2048; omega
    | ⟨2, _⟩ => show ((i 1).val + 1) * 512 ≤ 5632; omega
  · rw [index2]
    have h1 := coord_lt1 i
    intro a
    match a with
    | ⟨0, _⟩ => show (0 + 1) * 1 ≤ 1; omega
    | ⟨1, _⟩ => show (0 + 1) * 2048 ≤ 2048; omega
    | ⟨2, _⟩ => show ((i 1).val + 1) * 512 ≤ 5632; omega
  · rw [index3]
    have h1 := coord_lt1 i
    intro a
    match a with
    | ⟨0, _⟩ => show (0 + 1) * 1 ≤ 1; omega
    | ⟨1, _⟩ => show ((i 1).val + 1) * 512 ≤ 5632; omega
    | ⟨2, _⟩ => show (0 + 1) * 2048 ≤ 2048; omega

end Cert.DenseIdeal.Hand

end
-- ==== Proof.DenseRef.lean ====
module

public import Idealize.ShloMosaic.Lib.ValueIdxCore
public import proofs.«01_k».proof.Proof.Gen.DenseRefIdeal.Read

/-!
# The plain dense feed-forward, read at an element

Row `r` of the result is the residual plus the sum over the hidden positions `f` of `silu (x·gate) · (x·up)` at `f` times the down
weight at `f`.
-/

@[expose] public section

set_option maxRecDepth 16384

noncomputable section

namespace Cert.DenseRef

open Cert.DenseRefIdeal Cert.DenseRefIdeal.Gen Cert.DenseRefIdeal.Read
open Idealize.ShloMosaic Idealize.ShloMosaic.ValueIdx

variable (x0 : (⟨S8192x2048, .bf16⟩ : BufTy).Contents (Elt Ideal)) (x1 x2 : (⟨S1x2048x5632, .bf16⟩ : BufTy).Contents (Elt Ideal))
  (x3 : (⟨S1x5632x2048, .bf16⟩ : BufTy).Contents (Elt Ideal)) (x4 : (⟨S8192x2048, .f32⟩ : BufTy).Contents (Elt Ideal))

/-- The product of row `r` with column `f` of a weight. -/
abbrev into (x0 : (⟨2, ![8192, 2048]⟩ : Shape).Idx → EReal) (w : (⟨3, ![1, 2048, 5632]⟩ : Shape).Idx → EReal) (r : Fin 8192) (f : Fin 5632) : EReal :=
  ∑ k : Fin 2048, x0 (ix2 r k) * w (ix3 0 k f)

/-- The hidden value of row `r` at position `f`. -/
abbrev hidden (x0 : (⟨2, ![8192, 2048]⟩ : Shape).Idx → EReal) (x1 x2 : (⟨3, ![1, 2048, 5632]⟩ : Shape).Idx → EReal) (r : Fin 8192) (f : Fin 5632) : EReal :=
  into x0 x1 r f * Ideal.logistic (into x0 x1 r f) * into x0 x2 r f

theorem one_bits : Ideal.ofBits .f32 0x3F800000#32 = 1 := by
  simp [Ideal.ofBits, Ideal.ieee]
  rw [← EReal.coe_mul]
  norm_num

theorem weight_at (k : Fin 2048) (f : Fin 5632) : val_main_v2 (F := Ideal) x1 (ix2 k f) = x1 (ix3 0 k f) := by
  rw [val_main_v2_apply]
  show val_main_v1 (F := Ideal) x1 (ix2 k f) = _
  rw [val_main_v1_apply]
  refine congrArg x1 (funext fun a => Fin.ext ?_)
  match a with
  | ⟨0, _⟩ => rfl
  | ⟨1, _⟩ => show (k.val * 5632 + f.val) / 5632 % 2048 = k.val; omega
  | ⟨2, _⟩ => show (k.val * 5632 + f.val) % 5632 = f.val; omega

theorem down_at (f : Fin 5632) (q : Fin 2048) : val_main_v10 (F := Ideal) x3 (ix2 f q) = x3 (ix3 0 f q) := by
  rw [val_main_v10_apply]
  show val_main_v9 (F := Ideal) x3 (ix2 f q) = _
  rw [val_main_v9_apply]
  refine congrArg x3 (funext fun a => Fin.ext ?_)
  match a with
  | ⟨0, _⟩ => rfl
  | ⟨1, _⟩ => show (f.val * 2048 + q.val) / 2048 % 5632 = f.val; omega
  | ⟨2, _⟩ => show (f.val * 2048 + q.val) % 2048 = q.val; omega

theorem gate_at (r : Fin 8192) (f : Fin 5632) : val_main_v3 (F := Ideal) x0 x1 (ix2 r f) = into x0 x1 r f := by
  refine (val_main_v3_apply _ _ _).trans (Finset.sum_congr rfl fun k _ => congrArg₂ (· * ·) ?_ ?_)
  · have e : lidx_main_v3 (ix2 r f) k = ix2 r k := funext fun a => match a with | ⟨0, _⟩ => rfl | ⟨1, _⟩ => rfl
    rw [e]; rfl
  · have e : ridx_main_v3 (ix2 r f) k = ix2 k f := funext fun a => match a with | ⟨0, _⟩ => rfl | ⟨1, _⟩ => rfl
    rw [e, weight_at]

theorem up_at (r : Fin 8192) (f : Fin 5632) : val_main_v7 (F := Ideal) x0 x2 (ix2 r f) = into x0 x2 r f := gate_at x0 x2 r f

theorem hidden_at (r : Fin 8192) (f : Fin 5632) : val_main_v8 (F := Ideal) x0 x1 x2 (ix2 r f) = hidden x0 x1 x2 r f := by
  show (val_main_v3 (F := Ideal) x0 x1 (ix2 r f) * Ideal.div (Ideal.ofBits .f32 0x3F800000#32) (Ideal.ofBits .f32 0x3F800000#32 + Ideal.exp (-(val_main_v3 (F := Ideal) x0 x1 (ix2 r f)))) : EReal)
    * val_main_v7 (F := Ideal) x0 x2 (ix2 r f) = _
  rw [one_bits, gate_at x0 x1, up_at x0 x2]
  rfl

/-- The result at row `r`, column `q`. -/
theorem ref_at (r : Fin 8192) (q : Fin 2048) :
    val_main_v12 (F := Ideal) x0 x1 x2 x3 x4 (ix2 r q) = (x4 (ix2 r q) : EReal) + ∑ f : Fin 5632, hidden x0 x1 x2 r f * x3 (ix3 0 f q) := by
  rw [val_main_v12_apply]
  refine congrArg₂ (fun a b : EReal => a + b) rfl ((val_main_v11_apply _ _ _ _ _).trans (Finset.sum_congr rfl fun f _ => congrArg₂ (· * ·) ?_ ?_))
  · have e : lidx_main_v11 (ix2 r q) f = ix2 r f := funext fun a => match a with | ⟨0, _⟩ => rfl | ⟨1, _⟩ => rfl
    rw [e, hidden_at]
  · have e : ridx_main_v11 (ix2 r q) f = ix2 f q := funext fun a => match a with | ⟨0, _⟩ => rfl | ⟨1, _⟩ => rfl
    rw [e, down_at]

end Cert.DenseRef

end
-- ==== Proof.DenseFinal.lean ====
module

public import proofs.«01_k».proof.Defs
public import Idealize.ShloMosaic.Lib.Pointwise
public import Idealize.ShloMosaic.Lib.Pipeline.ValueKit.Tiles
public import proofs.«01_k».proof.Proof.DenseOk
public import proofs.«01_k».proof.Proof.DenseIdealOk
public import proofs.«01_k».proof.Proof.DenseRef
public import proofs.«01_k».proof.Proof.Gen.DenseRefIdeal.Run

/-!
# The dense feed-forward call and the plain one end with the same result

Of each row block, the result's block holds after point `j` the residual plus the sum over the slices `0 … j` of the hidden positions;
after the last point the sum is over all of them. The blocks written back, one per row block, are the whole result.
-/

@[expose] public section

set_option maxRecDepth 16384

noncomputable section

namespace Cert.DenseFinal

open Cert.DenseIdeal Cert.DenseIdeal.Gen Cert.DenseIdeal.Hand
open Cert.DenseRef (into hidden)
open Idealize.ShloMosaic Idealize.ShloMosaic.TcCoe Idealize.SL.Sem
open Idealize.ShloMosaic.Pipeline (Dat)

/-! ## One point's arithmetic -/

abbrev intoB (x0 : Vec Ideal S512x2048 .bf16) (w : Vec Ideal S1x2048x512 .bf16) (p : Fin 512) (f : Fin 512) : EReal :=
  ∑ k : Fin 2048, (x0 (ix2 p k) : EReal) * w (ix3 0 k f)

theorem step_at (x0 : Vec Ideal S512x2048 .bf16) (x1 x2 : Vec Ideal S1x2048x512 .bf16) (acc : Vec Ideal S512x2048 .f32) (x3 : Vec Ideal S1x512x2048 .bf16)
    (p : Fin 512) (q : Fin 2048) :
    k0_pay1 x0 x1 x2 acc x3 (ix2 p q)
      = (acc (ix2 p q) : EReal) + ∑ f : Fin 512, intoB x0 x1 p f * Ideal.logistic (intoB x0 x1 p f) * intoB x0 x2 p f * x3 (ix3 0 f q) := by
  unfold k0_pay1
  pointwise

variable (m : (ℓ : Loc nD τ sig) → Buf (Elt Ideal) ℓ) (ρ : Dev nD → PrngReg) (hO : Ok m) (c : Dev nD)

abbrev xArr : (⟨2, ![8192, 2048]⟩ : Shape).Idx → EReal := m ((c : Thread nD τ).loc main_arg0)
abbrev gArr : (⟨3, ![1, 2048, 5632]⟩ : Shape).Idx → EReal := m ((c : Thread nD τ).loc main_arg1)
abbrev uArr : (⟨3, ![1, 2048, 5632]⟩ : Shape).Idx → EReal := m ((c : Thread nD τ).loc main_arg2)
abbrev dArr : (⟨3, ![1, 5632, 2048]⟩ : Shape).Idx → EReal := m ((c : Thread nD τ).loc main_arg3)
abbrev hArr : (⟨2, ![8192, 2048]⟩ : Shape).Idx → EReal := m ((c : Thread nD τ).loc main_arg4)

/-! ## The blocks -/

theorem lt_N (t : Fin grid0.N) : t.val < 176 := Nat.lt_of_lt_of_eq t.isLt N_0

/-- The row block of point `t`, its rows, and its slice's hidden positions. -/
def rb (t : Fin grid0.N) : Fin 16 := ⟨t.val / 11, by have := lt_N t; omega⟩
abbrev rowOf (i : Fin 16) (p : Fin 512) : Fin 8192 := ⟨i.val * 512 + p.val, by omega⟩
def col (j : ℕ) (f : Fin 512) : Fin 5632 := ⟨(512 * j + f.val) % 5632, Nat.mod_lt _ (by decide)⟩

theorem coords0 (t : Fin grid0.N) : grid0.coords t 0 = rb t := Fin.ext (coord0 t)

theorem at0 (t : Fin grid0.N) : cc0_transform_0 (grid0.coords t) = ![(rb t).val, 0] := by
  have e : cc0_transform_0 (grid0.coords t) = ![(BitVec.ofNat 32 (grid0.coords t 0).val).toNat, 0] := rfl
  have h := (rb t).isLt
  rw [e, coords0, BitVec.toNat_ofNat, Nat.mod_eq_of_lt (by omega)]

theorem xblk (t : Fin grid0.N) (p : Fin 512) (k : Fin 2048) : blk m hO c 0 t (ix2 p k) = xArr m c (ix2 (rowOf (rb t) p) k) := by
  show V m c main_arg0 ((((cfgM m hO).win 0).blk t).view.emb (ix2 p k)) = _
  refine (congrFun (V_arg0 m c) _).trans (congrArg (m ((c : Thread nD τ).loc main_arg0)) (funext fun a => Fin.ext ?_))
  have e := at0 t
  match a with
  | ⟨0, _⟩ => show cc0_transform_0 (grid0.coords t) (0 : Fin 2) * 512 + 1 * p.val = (rb t).val * 512 + p.val; rw [e]; show (rb t).val * 512 + 1 * p.val = _; omega
  | ⟨1, _⟩ => show cc0_transform_0 (grid0.coords t) (1 : Fin 2) * 2048 + 1 * k.val = k.val; rw [e]; show 0 * 2048 + 1 * k.val = _; omega

theorem hblk (t : Fin grid0.N) (p : Fin 512) (k : Fin 2048) : blk m hO c 4 t (ix2 p k) = hArr m c (ix2 (rowOf (rb t) p) k) := by
  show V m c main_arg4 ((((cfgM m hO).win 4).blk t).view.emb (ix2 p k)) = _
  refine (congrFun (V_arg4 m c) _).trans (congrArg (m ((c : Thread nD τ).loc main_arg4)) (funext fun a => Fin.ext ?_))
  have e : cc0_transform_4 (grid0.coords t) = ![(rb t).val, 0] := at0 t
  match a with
  | ⟨0, _⟩ => show cc0_transform_4 (grid0.coords t) (0 : Fin 2) * 512 + 1 * p.val = (rb t).val * 512 + p.val; rw [e]; show (rb t).val * 512 + 1 * p.val = _; omega
  | ⟨1, _⟩ => show cc0_transform_4 (grid0.coords t) (1 : Fin 2) * 2048 + 1 * k.val = k.val; rw [e]; show 0 * 2048 + 1 * k.val = _; omega

/-- Where the weights' blocks lie, for any contents of the tables. -/
theorem emb1 (pf : pre0.Contents (Elt Ideal)) (h : ok0 pf) (t : Fin grid0.N) (y : S1x2048x512.Idx) (a : Fin 3) :
    ((((cfg0 ⟨pf, h⟩).win 1).blk t).view.emb y a).val = cc0_transform_1 k0_off1_inb numel1_S1 inb_S1_S1_0 pf (grid0.coords t) a * S1x2048x512.size a + 1 * (y a).val := rfl
theorem emb2 (pf : pre0.Contents (Elt Ideal)) (h : ok0 pf) (t : Fin grid0.N) (y : S1x2048x512.Idx) (a : Fin 3) :
    ((((cfg0 ⟨pf, h⟩).win 2).blk t).view.emb y a).val = cc0_transform_2 k0_off1_inb numel1_S1 inb_S1_S1_0 pf (grid0.coords t) a * S1x2048x512.size a + 1 * (y a).val := rfl
theorem emb3 (pf : pre0.Contents (Elt Ideal)) (h : ok0 pf) (t : Fin grid0.N) (y : S1x512x2048.Idx) (a : Fin 3) :
    ((((cfg0 ⟨pf, h⟩).win 3).blk t).view.emb y a).val = cc0_transform_3 k0_off1_inb numel1_S1 inb_S1_S1_0 pf (grid0.coords t) a * S1x512x2048.size a + 1 * (y a).val := rfl

theorem gblk_idx (t : Fin grid0.N) (k : Fin 2048) (f : Fin 512) :
    (((cfgM m hO).win 1).blk t).view.emb (ix3 0 k f) = ix3 0 k (col (t.val % 11) f) := by
  refine funext fun a => Fin.ext ((emb1 (tbl m) hO t _ a).trans ?_)
  rw [index1, coord1]
  match a with
  | ⟨0, _⟩ => rfl
  | ⟨1, _⟩ =>
    show 0 * 2048 + 1 * k.val = k.val
    omega
  | ⟨2, _⟩ =>
    show t.val % 11 * 512 + 1 * f.val = (512 * (t.val % 11) + f.val) % 5632
    omega

theorem gblk (t : Fin grid0.N) (k : Fin 2048) (f : Fin 512) : blk m hO c 1 t (ix3 0 k f) = gArr m c (ix3 0 k (col (t.val % 11) f)) :=
  (congrFun (V_arg1 m c) _).trans (congrArg (m ((c : Thread nD τ).loc main_arg1)) (gblk_idx m hO t k f))

theorem ublk_idx (t : Fin grid0.N) (k : Fin 2048) (f : Fin 512) :
    (((cfgM m hO).win 2).blk t).view.emb (ix3 0 k f) = ix3 0 k (col (t.val % 11) f) := by
  refine funext fun a => Fin.ext ((emb2 (tbl m) hO t _ a).trans ?_)
  rw [index2, coord1]
  match a with
  | ⟨0, _⟩ => rfl
  | ⟨1, _⟩ =>
    show 0 * 2048 + 1 * k.val = k.val
    omega
  | ⟨2, _⟩ =>
    show t.val % 11 * 512 + 1 * f.val = (512 * (t.val % 11) + f.val) % 5632
    omega

theorem ublk (t : Fin grid0.N) (k : Fin 2048) (f : Fin 512) : blk m hO c 2 t (ix3 0 k f) = uArr m c (ix3 0 k (col (t.val % 11) f)) :=
  (congrFun (V_arg2 m c) _).trans (congrArg (m ((c : Thread nD τ).loc main_arg2)) (ublk_idx m hO t k f))

theorem dblk_idx (t : Fin grid0.N) (f : Fin 512) (q : Fin 2048) :
    (((cfgM m hO).win 3).blk t).view.emb (ix3 0 f q) = ix3 0 (col (t.val % 11) f) q := by
  refine funext fun a => Fin.ext ((emb3 (tbl m) hO t _ a).trans ?_)
  rw [index3, coord1]
  match a with
  | ⟨0, _⟩ => rfl
  | ⟨1, _⟩ =>
    show t.val % 11 * 512 + 1 * f.val = (512 * (t.val % 11) + f.val) % 5632
    omega
  | ⟨2, _⟩ =>
    show 0 * 2048 + 1 * q.val = q.val
    omega

theorem dblk (t : Fin grid0.N) (f : Fin 512) (q : Fin 2048) : blk m hO c 3 t (ix3 0 f q) = dArr m c (ix3 0 (col (t.val % 11) f) q) :=
  (congrFun (V_arg3 m c) _).trans (congrArg (m ((c : Thread nD τ).loc main_arg3)) (dblk_idx m hO t f q))

/-! ## The result's block, point by point -/

/-- The contribution of hidden position `f` to row `r`, column `q`. -/
abbrev term (r : Fin 8192) (q : Fin 2048) (f : Fin 5632) : EReal :=
  hidden (xArr m c) (gArr m c) (uArr m c) r f * dArr m c (ix3 0 f q)

/-- The sum over the slices below `n`. -/
abbrev upTo (r : Fin 8192) (q : Fin 2048) (n : ℕ) : EReal :=
  ∑ j ∈ Finset.range n, ∑ f : Fin 512, term m c r q (col j f)

theorem upTo_one (r : Fin 8192) (q : Fin 2048) : upTo m c r q 1 = ∑ f : Fin 512, term m c r q (col 0 f) := Finset.sum_range_one _

theorem after_at (t : Fin (cfgM m hO).N) (xo : Vec Ideal S512x2048 .f32) (p : Fin 512) (q : Fin 2048) :
    after m hO c t xo (ix2 p q)
      = (if t.val % 11 = 0 then hArr m c (ix2 (rowOf (rb t) p) q) else xo (ix2 p q)) + ∑ f : Fin 512, term m c (rowOf (rb t) p) q (col (t.val % 11) f) := by
  unfold after next
  refine (step_at _ _ _ _ _ p q).trans (congrArg₂ (· + ·) ?_ (Finset.sum_congr rfl fun f _ => ?_))
  · by_cases h0 : t.val % 11 = 0
    · exact (congrFun (if_pos ((first_iff t).mpr h0)) _).trans ((hblk m hO c t p q).trans (if_pos h0).symm)
    · exact (congrFun (if_neg (fun e => h0 ((first_iff t).mp e))) _).trans (if_neg h0).symm
  · have eg : intoB (blk m hO c 0 t) (blk m hO c 1 t) p f = into (xArr m c) (gArr m c) (rowOf (rb t) p) (col (t.val % 11) f) :=
      Finset.sum_congr rfl fun k _ => congrArg₂ (· * ·) (xblk m hO c t p k) (gblk m hO c t k f)
    have eu : intoB (blk m hO c 0 t) (blk m hO c 2 t) p f = into (xArr m c) (uArr m c) (rowOf (rb t) p) (col (t.val % 11) f) :=
      Finset.sum_congr rfl fun k _ => congrArg₂ (· * ·) (xblk m hO c t p k) (ublk m hO c t k f)
    rw [eg, eu]
    exact congrArg _ (dblk m hO c t f q)

/-- The first slice is added to the residual. -/
theorem start (t : Fin (cfgM m hO).N) (h0 : t.val % 11 = 0) (xo : Vec Ideal S512x2048 .f32) (p : Fin 512) (q : Fin 2048) :
    after m hO c t xo (ix2 p q) = hArr m c (ix2 (rowOf (rb t) p) q) + upTo m c (rowOf (rb t) p) q (t.val % 11 + 1) := by
  rw [after_at, if_pos h0, h0]
  exact congrArg _ (upTo_one m c _ _).symm

/-- The result's block after point `t`. -/
theorem outs_at : ∀ (n : ℕ) (hn : n < (cfgM m hO).N) (p : Fin 512) (q : Fin 2048),
    outs m hO c n hn (ix2 p q) = hArr m c (ix2 (rowOf (rb ⟨n, hn⟩) p) q) + upTo m c (rowOf (rb ⟨n, hn⟩) p) q (n % 11 + 1) := by
  intro n
  induction n with
  | zero =>
    intro hn p q
    exact start m hO c ⟨0, hn⟩ rfl _ p q
  | succ n ih =>
    intro hn p q
    have hn' : n < (cfgM m hO).N := Nat.lt_of_succ_lt hn
    show after m hO c ⟨n + 1, hn⟩ (outs m hO c n hn') (ix2 p q) = _
    by_cases h0 : (n + 1) % 11 = 0
    · exact start m hO c ⟨n + 1, hn⟩ h0 _ p q
    · have er : rb ⟨n + 1, hn⟩ = rb ⟨n, hn'⟩ := Fin.ext (by show (n + 1) / 11 = n / 11; omega)
      have e1 : (n + 1) % 11 = n % 11 + 1 := by omega
      rw [after_at]
      show (if (n + 1) % 11 = 0 then _ else outs m hO c n hn' (ix2 p q)) + (∑ f : Fin 512, term m c (rowOf (rb ⟨n + 1, hn⟩) p) q (col ((n + 1) % 11) f)) = _
      rw [if_neg h0, ih hn', ← er, e1, add_assoc]
      exact congrArg _ (Finset.sum_range_succ _ _).symm

/-- The eleven slices together are all hidden positions. -/
theorem slices (g : Fin 5632 → EReal) : ∑ j ∈ Finset.range 11, ∑ f : Fin 512, g (col j f) = ∑ f : Fin 5632, g f := by
  rw [Finset.sum_range, ← Fintype.sum_prod_type']
  refine Fintype.sum_equiv (finProdFinEquiv (m := 11) (n := 512)) _ (fun f : Fin (11 * 512) => g f) fun x => congrArg g (Fin.ext ?_)
  obtain ⟨j, f⟩ := x
  show (512 * j.val + f.val) % 5632 = f.val + 512 * j.val
  omega

/-! ## The whole result -/

/-- The reference's result from the kernel's arguments. -/
abbrev G : S8192x2048.Idx → Elt Ideal .f32 :=
  DenseRefIdeal.Read.val_main_v12 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

theorem ref_eq (r : Fin 8192) (q : Fin 2048) : G m c (ix2 r q) = hArr m c (ix2 r q) + ∑ f : Fin 5632, term m c r q f :=
  (Cert.DenseRef.ref_at _ _ _ _ _ r q).trans (congrArg₂ (· + ·) rfl (Finset.sum_congr rfl fun f _ => by rfl))

theorem oblk (t : Fin (cfgM m hO).N) (p : Fin 512) (q : Fin 2048) : (((cfgM m hO).win 5).blk t).view.emb (ix2 p q) = ix2 (rowOf (rb t) p) q := by
  refine funext fun a => Fin.ext ?_
  have e : cc0_transform_5 (grid0.coords t) = ![(rb t).val, 0] := at0 t
  match a with
  | ⟨0, _⟩ => show cc0_transform_5 (grid0.coords t) (0 : Fin 2) * 512 + 1 * p.val = (rb t).val * 512 + p.val; rw [e]; show (rb t).val * 512 + 1 * p.val = _; omega
  | ⟨1, _⟩ => show cc0_transform_5 (grid0.coords t) (1 : Fin 2) * 2048 + 1 * q.val = q.val; rw [e]; show 0 * 2048 + 1 * q.val = _; omega

theorem flushed_eq (t : Fin (cfgM m hO).N) (ht : ((cfgM m hO).win 5).flush t = true) :
    (dats m hO 0 c).flushed 5 t = (((cfgM m hO).win 5).blk t).view.read (Elt Ideal) (G m c) := by
  have h10 : t.val % 11 = 10 := (flush5 _ t).mp ht
  show ((cfgM m hO).win 5).cut (grid0.coords t) ((dats m hO 0 c).after 5 t) = _
  rw [after5]
  funext (y : S512x2048.Idx)
  obtain ⟨p, hp⟩ : ∃ p : Fin 512, p = y 0 := ⟨_, rfl⟩
  obtain ⟨q, hq⟩ : ∃ q : Fin 2048, q = y 1 := ⟨_, rfl⟩
  have ey : y = ix2 p q := funext fun a => by fin_cases a; exacts [hp.symm, hq.symm]
  show outs m hO c t.val t.isLt y = G m c ((((cfgM m hO).win 5).blk t).view.emb y)
  rw [ey, oblk, ref_eq m, outs_at m hO, h10]
  exact congrArg _ (slices _)

theorem covered (i : S8192x2048.Idx) : ∃ t : Fin (cfgM m hO).N, ((cfgM m hO).win 5).flush t = true ∧ i ∈ (((cfgM m hO).win 5).blk t).view.set := by
  have h0 : (i 0).val < 8192 := (i 0).isLt
  have h1 : (i 1).val < 2048 := (i 1).isLt
  obtain ⟨t, ht⟩ : ∃ t : Fin (cfgM m hO).N, t.val = (i 0).val / 512 * 11 + 10 := ⟨⟨_, by show _ < grid0.N; rw [N_0]; omega⟩, rfl⟩
  have h : (((cfgM m hO).win 5).blk t).view.emb (ix2 (⟨(i 0).val % 512, by omega⟩ : Fin 512) (⟨(i 1).val, h1⟩ : Fin 2048)) ∈ (((cfgM m hO).win 5).blk t).view.set :=
    View.emb_mem_set _ _
  rw [oblk] at h
  refine ⟨t, (flush5 _ t).mpr (by omega), ?_⟩
  have e : (ix2 (rowOf (rb t) ⟨(i 0).val % 512, by omega⟩) (⟨(i 1).val, h1⟩ : Fin 2048) : S8192x2048.Idx) = i := by
    refine funext fun a => Fin.ext ?_
    match a with
    | ⟨0, _⟩ => show t.val / 11 * 512 + (i 0).val % 512 = (i 0).val; omega
    | ⟨1, _⟩ => rfl
  exact (congrArg (· ∈ (((cfgM m hO).win 5).blk t).view.set) e).mp h

/-- The kernel's result array ends at the reference's result. -/
theorem final : (dats m hO 0 c).arrAt 5 (cfgM m hO).N = G m c :=
  (dats m hO 0 c).arrAt_eq_of_cover 5 (G m c) (fun t ht => flushed_eq m hO c t ht) (covered m hO)

/-- From arguments that agree, the kernel and the reference end with the same result. -/
theorem value : Cert.algebraic_DenseIdeal_DenseRefIdeal := by
  intro m g m' g' _ hag
  refine ⟨fun c => G m c, (θ_run _ _ _).mono (fun r h c => ⟨((h c).1 5).trans (final m (ok m) c), args_kept m (ok m) r h c⟩) (run_main m g (ok m)), ?_⟩
  refine (θ_run (Cert.DenseRefIdeal.defs (F := Ideal)) _ _).mono (fun r h c => ?_) (Cert.DenseRefIdeal.Value.run (F := Ideal) m' g')
  refine ⟨(h c).1.trans ((DenseRefIdeal.Read.val_main_v12_eq _ _ _ _ _).trans ?_), (h c).2⟩
  rw [(hag c).1, (hag c).2.1, (hag c).2.2.1, (hag c).2.2.2.1, (hag c).2.2.2.2]

/-- The call runs and keeps its arguments, in words and in the reals. -/
theorem frame_bits : Cert.quiescent_Dense := fun m ρ _ => Cert.Dense.Hand.frame m ρ (Cert.Dense.Hand.ok m)
theorem frame_ideal : Cert.quiescent_DenseIdeal := fun m ρ _ => frame m ρ (ok m)

/-- The reference runs, keeps its arguments, and declares no semaphore. -/
theorem ref_frame : Cert.quiescent_DenseRefIdeal := fun m ρ _ =>
  (θ_run (Cert.DenseRefIdeal.defs (F := Ideal)) _ _).mono (fun r h => ⟨fun c => (h c).2, sem_eq_zero_of_no_sems (by decide) r.2⟩)
    (Cert.DenseRefIdeal.Value.run (F := Ideal) m ρ)

end Cert.DenseFinal

end
-- ==== Proof.ValuesFinal.lean ====
module

public import proofs.«01_k».proof.Defs
public import Idealize.ShloMosaic.Lib.Pointwise
public import proofs.«01_k».proof.Proof.Gen.ValuesIdeal.Value
public import proofs.«01_k».proof.Proof.Gen.ValuesRefIdeal.Read

/-!
# The values projection

Each grid point takes a block of 256 rows of one batch and contracts it with all the weights; the product's rows are the
features of the eight heads, stored head by head.  The blocks tile the result.
-/

@[expose] public section

set_option maxRecDepth 16384

noncomputable section

namespace Cert.ValuesFinal

open Cert.ValuesIdeal Cert.ValuesIdeal.Gen Cert.ValuesIdeal.Value
open Idealize.ShloMosaic Idealize.ShloMosaic.TcCoe Idealize.SL.Sem
open Idealize.ShloMosaic.Pipeline (Dat)

/-- The product a grid point forms: rows of the weights against rows of the block. -/
theorem prod_at (w : Vec Ideal S1024x2048 .bf16) (x : Vec Ideal S256x2048 .bf16) (f : Fin 1024) (q : Fin 256) :
    k0_pay4 w x (ix2 f q) = ∑ k : Fin 2048, (w (ix2 f k) : EReal) * x (ix2 q k) := by
  unfold k0_pay4
  pointwise

/-- Feature `d` of head `h` among the rows of the weights. -/
def feat (h : Fin 8) (d : Fin 128) : Fin 1024 := ⟨h.val * 128 + d.val, by omega⟩

/-- The block of the result a grid point computes: for each head, its features by the rows of the block. -/
theorem out_at (x : Vec Ideal S256x2048 .bf16) (w : Vec Ideal S1024x2048 .bf16) (h : Fin 8) (d : Fin 128) (q : Fin 256) :
    out0_2 x w (ix5 0 h 0 d q) = ∑ k : Fin 2048, (w (ix2 (feat h d) k) : EReal) * x (ix2 q k) := by
  have hz : (![0, 0] : Fin 2 → Nat) = fun _ => 0 := by funext a; fin_cases a <;> rfl
  unfold out0_2 k0_pay10
  rw [View.ld_unit_zero hz, View.ld_unit_zero hz]
  have e : ix2_0 (ix5 0 h 0 d q) = ix2 (feat h d) q := funext fun a => by
    match a with
    | ⟨0, _⟩ => rfl
    | ⟨1, _⟩ => rfl
  exact (canon2_eq w x (ix5 0 h 0 d q)).trans ((congrArg (k0_pay4 w x) e).trans (prod_at w x (feat h d) q))

variable (m : (ℓ : Loc nD τ sig) → Buf (Elt Ideal) ℓ) (ρ : Dev nD → PrngReg) (c : Dev nD)

abbrev xArr : (⟨ValuesRefIdeal.S8192x2048, .bf16⟩ : BufTy).Contents (Elt Ideal) := m ((c : Thread nD τ).loc main_arg0)
abbrev wArr : (⟨ValuesRefIdeal.S1024x2048, .bf16⟩ : BufTy).Contents (Elt Ideal) := m ((c : Thread nD τ).loc main_arg1)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 5) = t.val / 8 ∧ win0_2.index t (1 : Fin 5) = 0
    ∧ win0_2.index t (2 : Fin 5) = t.val % 8 ∧ win0_2.index t (3 : Fin 5) = 0 ∧ win0_2.index t (4 : Fin 5) = 0 :=
  (by decide +kernel : ∀ t : Fin grid0.N, _)
theorem ltN (t : Fin cfg0.N) : t.val < 32 := t.isLt

/-- The row of the operand at place `q` of grid point `t`'s block, the batch of the point, and its chunk of positions. -/
def row (t : Fin cfg0.N) (q : Fin 256) : Fin 8192 := ⟨256 * t.val + q.val, by have := ltN t; omega⟩
def batch (t : Fin cfg0.N) : Fin 4 := ⟨t.val / 8, by have := ltN t; omega⟩
def chunk (t : Fin cfg0.N) : Fin 8 := ⟨t.val % 8, by omega⟩

theorem xblk (t : Fin cfg0.N) (q : Fin 256) (k : Fin 2048) : iblk m c 0 t (ix2 q k) = xArr m c (ix2 (row t q) k) := by
  obtain ⟨e0, e1⟩ := index0 t
  show V m c main_arg0 (((cfg0.win 0).blk t).view.emb (ix2 q k)) = _
  refine congrArg (V m c main_arg0) (funext fun a => Fin.ext ?_)
  match a with
  | ⟨0, _⟩ => show win0_0.index t (0 : Fin 2) * 256 + 1 * q.val = 256 * t.val + q.val; omega
  | ⟨1, _⟩ => show win0_0.index t (1 : Fin 2) * 2048 + 1 * k.val = k.val; omega

theorem wblk (t : Fin cfg0.N) (f : Fin 1024) (k : Fin 2048) : iblk m c 1 t (ix2 f k) = wArr m c (ix2 f k) := by
  obtain ⟨e0, e1⟩ := index1 t
  show V m c main_arg1 (((cfg0.win 1).blk t).view.emb (ix2 f k)) = _
  refine congrArg (V m c main_arg1) (funext fun a => Fin.ext ?_)
  match a with
  | ⟨0, _⟩ => show win0_1.index t (0 : Fin 2) * 1024 + 1 * f.val = f.val; omega
  | ⟨1, _⟩ => show win0_1.index t (1 : Fin 2) * 2048 + 1 * k.val = k.val; omega

theorem oblk (t : Fin cfg0.N) (h : Fin 8) (d : Fin 128) (q : Fin 256) :
    ((cfg0.win 2).blk t).view.emb (ix5 0 h 0 d q) = ix5 (batch t) h (chunk t) d q := by
  obtain ⟨e0, e1, e2, e3, e4⟩ := index2 t
  refine funext fun a => Fin.ext ?_
  match a with
  | ⟨0, _⟩ => show win0_2.index t (0 : Fin 5) * 1 + 1 * 0 = t.val / 8; omega
  | ⟨1, _⟩ => show win0_2.index t (1 : Fin 5) * 8 + 1 * h.val = h.val; omega
  | ⟨2, _⟩ => show win0_2.index t (2 : Fin 5) * 1 + 1 * 0 = t.val % 8; omega
  | ⟨3, _⟩ => show win0_2.index t (3 : Fin 5) * 128 + 1 * d.val = d.val; omega
  | ⟨4, _⟩ => show win0_2.index t (4 : Fin 5) * 256 + 1 * q.val = q.val; omega

/-- The reference's result from the kernel's arguments. -/
abbrev G : S4x8x8x128x256.Idx → Elt Ideal .bf16 := ValuesRefIdeal.Read.val_main_v6 (F := Ideal) (xArr m c) (wArr m c)

/-- An element of the reference's result: a row of the operand against the weights of one feature of one head. -/
theorem ref_at (t : Fin cfg0.N) (h : Fin 8) (d : Fin 128) (q : Fin 256) :
    G m c (ix5 (batch t) h (chunk t) d q) = ∑ k : Fin 2048, (xArr m c (ix2 (row t q) k) : EReal) * wArr m c (ix2 (feat h d) k) := by
  have hr := ltN t
  unfold G
  rw [ValuesRefIdeal.Read.val_main_v6_apply, ValuesRefIdeal.Read.val_main_v5_apply, ValuesRefIdeal.Read.val_main_v4_apply, Ideal.truncf_def]
  refine (ValuesRefIdeal.Read.val_main_v3_apply _ _ _).trans (Finset.sum_congr rfl fun k _ => ?_)
  rw [ValuesRefIdeal.Read.val_main_v2_apply, ValuesRefIdeal.Read.val_main_v0_apply, ValuesRefIdeal.Read.val_main_v1_apply, Ideal.extf_def, Ideal.extf_def]
  refine congrArg₂ (· * ·) (congrArg (xArr m c) (funext fun a => Fin.ext ?_)) (congrArg (wArr m c) (funext fun a => Fin.ext ?_))
  · match a with
    | ⟨0, _⟩ =>
      show ((((t.val / 8 * 8 + t.val % 8) * 256 + q.val) * 8 + h.val) * 128 + d.val) / 1024 = 256 * t.val + q.val
      omega
    | ⟨1, _⟩ => rfl
  · match a with
    | ⟨0, _⟩ =>
      show ((((t.val / 8 * 8 + t.val % 8) * 256 + q.val) * 8 + h.val) * 128 + d.val) % 1024 = h.val * 128 + d.val
      omega
    | ⟨1, _⟩ => rfl

theorem flushed2_eq (t : Fin cfg0.N) : (dats m 0 c).flushed 2 t = ((cfg0.win 2).blk t).view.read (Elt Ideal) (G m c) := by
  rw [flushed2]
  funext (y : S1x8x1x128x256.Idx)
  obtain ⟨h, hh⟩ : ∃ h : Fin 8, h = y 1 := ⟨_, rfl⟩
  obtain ⟨d, hd⟩ : ∃ d : Fin 128, d = y 3 := ⟨_, rfl⟩
  obtain ⟨q, hq⟩ : ∃ q : Fin 256, q = y 4 := ⟨_, rfl⟩
  have h0 : (y 0).val < 1 := (y 0).isLt
  have h2 : (y 2).val < 1 := (y 2).isLt
  have ey : y = ix5 0 h 0 d q := funext fun a => by
    match a with
    | ⟨0, _⟩ => exact Fin.ext (show (y 0).val = 0 by omega)
    | ⟨1, _⟩ => exact hh.symm
    | ⟨2, _⟩ => exact Fin.ext (show (y 2).val = 0 by omega)
    | ⟨3, _⟩ => exact hd.symm
    | ⟨4, _⟩ => exact hq.symm
  show out0_2 _ _ y = G m c (((cfg0.win 2).blk t).view.emb y)
  rw [ey, oblk, ref_at, out_at]
  exact Finset.sum_congr rfl fun k _ => (congrArg₂ (fun a b : EReal => a * b) (wblk m c t (feat h d) k) (xblk m c t q k)).trans (mul_comm _ _)

theorem covered2 (i : S4x8x8x128x256.Idx) : ∃ t : Fin cfg0.N, (cfg0.win 2).flush t = true ∧ i ∈ ((cfg0.win 2).blk t).view.set := by
  have h0 : (i 0).val < 4 := (i 0).isLt
  have h2 : (i 2).val < 8 := (i 2).isLt
  obtain ⟨t, ht⟩ : ∃ t : Fin cfg0.N, t.val = (i 0).val * 8 + (i 2).val := ⟨⟨_, by show _ < 32; omega⟩, rfl⟩
  obtain ⟨p, hp⟩ : ∃ p : Fin 8, p = i 1 := ⟨_, rfl⟩
  obtain ⟨d, hd⟩ : ∃ d : Fin 128, d = i 3 := ⟨_, rfl⟩
  obtain ⟨q, hq⟩ : ∃ q : Fin 256, q = i 4 := ⟨_, rfl⟩
  have h : ((cfg0.win 2).blk t).view.emb (ix5 0 p 0 d q) ∈ ((cfg0.win 2).blk t).view.set := View.emb_mem_set _ _
  rw [oblk] at h
  refine ⟨t, flush0_2 _, ?_⟩
  have e : (ix5 (batch t) p (chunk t) d q : S4x8x8x128x256.Idx) = i := by
    refine funext fun a => ?_
    match a with
    | ⟨0, _⟩ => exact Fin.ext (show t.val / 8 = (i 0).val by omega)
    | ⟨1, _⟩ => exact hp
    | ⟨2, _⟩ => exact Fin.ext (show t.val % 8 = (i 2).val by omega)
    | ⟨3, _⟩ => exact hd
    | ⟨4, _⟩ => exact hq
  exact (congrArg (· ∈ ((cfg0.win 2).blk t).view.set) e).mp h

/-- The kernel's result array ends at the reference's. -/
theorem final : (dats m 0 c).arrAt 2 cfg0.N = G m c :=
  (dats m 0 c).arrAt_eq_of_cover 2 (G m c) (fun t _ => flushed2_eq m c t) covered2

/-- From arguments that agree, the kernel and the reference end with the same values. -/
theorem value : Cert.algebraic_ValuesIdeal_ValuesRefIdeal := by
  intro m g m' g' _ hag
  refine ⟨fun c => Cert.ValuesFinal.G m c,
    (θ_run _ _ _).mono (fun _ h c => ⟨(h c).1.trans (Cert.ValuesFinal.final m c), (h c).2⟩) (Cert.ValuesIdeal.Value.run_blocks m g), ?_⟩
  refine (θ_run (Cert.ValuesRefIdeal.defs (F := Ideal)) _ _).mono (fun r h c => ?_) (Cert.ValuesRefIdeal.Value.run (F := Ideal) m' g')
  refine ⟨(h c).1.trans ((Cert.ValuesRefIdeal.Read.val_main_v6_eq _ _).trans ?_), (h c).2⟩
  rw [(hag c).1, (hag c).2]

/-- The reference runs, keeps its arguments, and declares no semaphore. -/
theorem ref_frame : Cert.quiescent_ValuesRefIdeal := fun m ρ _ =>
  (θ_run (Cert.ValuesRefIdeal.defs (F := Ideal)) _ _).mono (fun r h => ⟨fun c => (h c).2, sem_eq_zero_of_no_sems (by decide) r.2⟩)
    (Cert.ValuesRefIdeal.Value.run (F := Ideal) m ρ)

end Cert.ValuesFinal

end
-- ==== Proof.PrepBody.lean ====
module

public import proofs.«01_k».proof.Proof.AttnHeads
public import proofs.«01_k».proof.Proof.Gen.PrepIdeal.Value

/-!
# The latent attention preparation: what one grid point stores

A grid point takes 256 rows. For each of the eight heads it stores the 128 lanes without rotation and the 64 rotated lanes, which
the body keeps two heads to a vector of 128 lanes. The stores of all heads are the same few expressions, named here.
-/

@[expose] public section

set_option backward.proofsInPublic true
set_option maxRecDepth 16384

noncomputable section

namespace Cert.PrepBody

open Cert.PrepIdeal Cert.PrepIdeal.Gen
open Idealize.ShloMosaic Idealize.ShloMosaic.TcCoe

variable {F : FTy → Type} [FloatOps F] [Named F]

/-- The reciprocal root of a head's mean square: from its 128 plain lanes and the sum of squares of its rotated lanes. -/
def rsq (a : FVec F S256x128 .f32) (ss : FVec F S256x1 .f32) : FVec F S256x1 .f32 :=
  rsqrt (addf (mulf (addf (shapeCast S256x1 (multiReduction .add [1] S256 (mulf a a) 0x00000000#32 reduces_S256x128_S256 (.inl rfl) rfl) shapeCasts_S256_S256x1) ss)
    (broadcast S256x1 (Named.named κ "inv_mla_qk" 0x3BAAAAAB#32))) (broadcast S256x1 (Scalar.ofBits .f32 0x358637BD#32)))

/-- The sum of the squares of the left 64 lanes, -/
def ssL (r : FVec F S256x128 .f32) : FVec F S256x1 .f32 :=
  shapeCast S256x1 (multiReduction .add [1] S256 (select k0_pay8 (mulf r r) (broadcast S256x128 (Scalar.ofBits .f32 0x00000000#32))) 0x00000000#32 reduces_S256x128_S256 (.inl rfl) rfl) shapeCasts_S256_S256x1

/-- and of the right 64 lanes. -/
def ssR (r : FVec F S256x128 .f32) : FVec F S256x1 .f32 :=
  shapeCast S256x1 (multiReduction .add [1] S256 (select k0_pay8 (broadcast S256x128 (Scalar.ofBits .f32 0x00000000#32)) (mulf r r)) 0x00000000#32 reduces_S256x128_S256 (.inl rfl) rfl) shapeCasts_S256_S256x1

/-- Lanes scaled by a row's factor and by a lane's weight. -/
def scaled (a : FVec F S256x128 .f32) (n : FVec F S256x1 .f32) (g : FVec F S1x128 .f32) : FVec F S256x128 .f32 :=
  mulf (mulf a (broadcastTo S256x128 n broadcasts_S256x1_S256x128)) (broadcastTo S256x128 (shapeCast S1x128 g shapeCasts_S1x128_S1x128) broadcasts_S1x128_S256x128)

/-- The rotation of two heads' lanes. -/
def rope (x c s : FVec F S256x128 .f32) : FVec F S256x128 .f32 :=
  addf (mulf x c) (mulf (select k0_pay5 (dynamicRotate 1 96#32 none x rotates_S256x128_d1) (dynamicRotate 1 32#32 none x rotates_S256x128_d1)) s)

/-- The left 64 lanes, with zeros after them. -/
def keepL (x : FVec F S256x128 .f32) : FVec F S256x128 .f32 := select k0_pay8 x (broadcast S256x128 (Scalar.ofBits .f32 0x00000000#32))

/-- What is stored of 128 lanes. -/
def stored (x : FVec F S256x128 .f32) : FVec F S1x1x256x128 .bf16 := shapeCast S1x1x256x128 (truncf .bf16 x bitsLt_bf16_f32) shapeCasts_S256x128_S1x1x256x128

theorem slicesQ (h : Fin 8) : S256x1536.Slices ![0, 128 * h.val] S256x128 := by
  revert h; decide +kernel
theorem slicesR (j : Fin 4) : S256x1536.Slices ![0, 1024 + 128 * j.val] S256x128 := by
  revert j; decide +kernel
theorem slicesK (h : Fin 8) : S256x1024.Slices ![0, 128 * h.val] S256x128 := by
  revert h; decide +kernel

/-- Head `h`'s plain lanes of the queries, pair `j`'s rotated lanes, and head `h`'s plain lanes of the keys. -/
def qHead (QF : FVec F S256x1536 .f32) (h : Fin 8) : FVec F S256x128 .f32 := extractStridedSlice S256x128 ![0, 128 * h.val] QF (slicesQ h)
def qPair (QF : FVec F S256x1536 .f32) (j : Fin 4) : FVec F S256x128 .f32 := extractStridedSlice S256x128 ![0, 1024 + 128 * j.val] QF (slicesR j)
def kHead (KF : FVec F S256x1024 .f32) (h : Fin 8) : FVec F S256x128 .f32 := extractStridedSlice S256x128 ![0, 128 * h.val] KF (slicesK h)

/-- A pair of heads, which head of it, and whether its rotated lanes. -/
abbrev Key := Fin 4 × Bool × Bool

def hd (j : Fin 4) (o : Bool) : Fin 8 := ⟨2 * j.val + o.toNat, by have := j.isLt; cases o <;> simp <;> omega⟩

theorem inbP (k : Key) : ∀ a, (![0, (hd k.1 k.2.1).val, 0, 128 * k.2.2.toNat] : Fin 4 → ℕ) a + S1x1x256x128.size a ≤ S1x8x256x256.size a := by
  revert k; decide +kernel

/-- Where a head's lanes are stored. -/
def rP (k : Key) : Rect S1x8x256x256 := Rect.unit (s := S1x8x256x256) ![0, (hd k.1 k.2.1).val, 0, 128 * k.2.2.toNat] S1x1x256x128.size (inbP k)

/-- What is stored there of the queries, -/
def wq (QF : FVec F S256x1536 .f32) (c s : FVec F S256x128 .f32) (g8 g9 : FVec F S1x128 .f32) : Key → FVec F S1x1x256x128 .bf16
  | (j, false, false) => stored (scaled (qHead QF (hd j false)) (rsq (qHead QF (hd j false)) (ssL (qPair QF j))) g8)
  | (j, true, false) => stored (scaled (qHead QF (hd j true)) (rsq (qHead QF (hd j true)) (ssR (qPair QF j))) g8)
  | (j, false, true) => stored (keepL (rope (scaled (qPair QF j) (rsq (qHead QF (hd j false)) (ssL (qPair QF j))) g9) c s))
  | (j, true, true) => stored (keepL (dynamicRotate 1 64#32 none (rope (scaled (qPair QF j) (rsq (qHead QF (hd j true)) (ssR (qPair QF j))) g9) c s) rotates_S256x128_d1))

/-- The rotated lanes of the keys before their norm. -/
def kBase (KR : FVec F S256x128 .f32) (c s : FVec F S256x128 .f32) (g11 : FVec F S1x128 .f32) : FVec F S256x128 .f32 :=
  keepL (rope (mulf KR (broadcastTo S256x128 (shapeCast S1x128 g11 shapeCasts_S1x128_S1x128) broadcasts_S1x128_S256x128)) c s)

/-- and of the keys. -/
def wk (KF : FVec F S256x1024 .f32) (KR c s : FVec F S256x128 .f32) (g10 g11 : FVec F S1x128 .f32) : Key → FVec F S1x1x256x128 .bf16
  | (j, o, false) => stored (scaled (kHead KF (hd j o)) (rsq (kHead KF (hd j o)) (ssL KR)) g10)
  | (j, o, true) => stored (mulf (kBase KR c s g11) (broadcastTo S256x128 (rsq (kHead KF (hd j o)) (ssL KR)) broadcasts_S256x1_S256x128))

def keys : List Key :=
  [(3, true, true), (3, true, false), (3, false, true), (3, false, false), (2, true, true), (2, true, false), (2, false, true), (2, false, false),
   (1, true, true), (1, true, false), (1, false, true), (1, false, false), (0, true, true), (0, true, false), (0, false, true), (0, false, false)]

theorem mem_keys : ∀ k : Key, k ∈ keys := by decide +kernel

section Out

variable (x0 : Vec F S256x1408 .f32) (x1 : Vec F S256x1 .i32) (x2 : Vec F S1x128 .f32) (x3 : Vec F S1x768 .f32) (x4 : Vec F S1x512 .f32) (x5 : Vec F S768x1536 .bf16) (x6 : Vec F S512x1024 .bf16) (x7 : Vec F S1024x512 .bf16) (x8 x9 x10 x11 : Vec F S1x128 .f32)

theorem out12_eq : out0_12 x0 x1 x2 x3 x4 x5 x6 x7 x8 x9 x10 x11
    = View.canon (keys.map (fun k => ⟨rP k, wq (k0_pay12 (k0_pay9 (View.ld x0 r0_2) (View.ld x3 r0_3)) (View.ld x5 r0_7))
        (k0_pay6 (View.ld x1 r0_0) (View.ld x2 r0_1)) (k0_pay7 (View.ld x1 r0_0) (View.ld x2 r0_1)) (View.ld x8 r0_1) (View.ld x9 r0_1) k⟩) ++ []) := rfl

theorem out13_eq : out0_13 x0 x1 x2 x3 x4 x5 x6 x7 x8 x9 x10 x11
    = View.canon (keys.map (fun k => ⟨rP k, wk (k0_pay13 (View.ld x0 r0_4) (k0_pay10 (View.ld x0 r0_4)) (View.ld x4 r0_5) (View.ld x6 r0_8)) (View.ld x0 r0_6)
        (k0_pay6 (View.ld x1 r0_0) (View.ld x2 r0_1)) (k0_pay7 (View.ld x1 r0_0) (View.ld x2 r0_1)) (View.ld x10 r0_1) (View.ld x11 r0_1) k⟩) ++ []) := rfl

end Out

end Cert.PrepBody
-- ==== Proof.PrepMath.lean ====
module

public import Idealize.ShloMosaic.Lib.Pointwise

/-!
# The norm and the rotation of the latent attention's preparation, as extended-real arithmetic
-/

@[expose] public section

noncomputable section

namespace Cert.PrepMath

open Idealize.ShloMosaic

/-- The factor of a root-mean-square norm: from the sum of squares `S` over as many elements as the constant `b` says. -/
def nrm (b : BitVec 32) (S : EReal) : EReal := Ideal.rsqrt (Ideal.div S (Ideal.ofBits .f32 b) + Ideal.ofBits .f32 0x358637BD#32)

/-- A row under its root-mean-square norm with weights `g`. -/
def normed {n : ℕ} (b : BitVec 32) (a g : Fin n → EReal) (k : Fin n) : EReal := a k * nrm b (∑ k', a k' * a k') * g k

/-- The rotation of 64 lanes: lane `e` of the first half turns with lane `e + 32` by the angle `θ e`. -/
def rotated (x : Fin 64 → EReal) (θ : Fin 32 → EReal) (e : Fin 64) : EReal :=
  if h : e.val < 32 then x e * Ideal.cos (θ ⟨e.val, h⟩) - x ⟨e.val + 32, by omega⟩ * Ideal.sin (θ ⟨e.val, h⟩)
  else x e * Ideal.cos (θ ⟨e.val - 32, by omega⟩) + x ⟨e.val - 32, by omega⟩ * Ideal.sin (θ ⟨e.val - 32, by omega⟩)

theorem ofBits_192 : Ideal.ofBits .f32 0x43400000#32 = ((192 : ℝ) : EReal) := by
  simp [Ideal.ofBits, Ideal.ieee, -EReal.coe_mul]; norm_num

theorem eps_pos : 0 < Ideal.ofBits .f32 0x358637BD#32 := by
  simp [Ideal.ofBits, Ideal.ieee, -EReal.coe_mul]

/-- Dividing by 192 is multiplying by its reciprocal. -/
theorem div_192 (S : EReal) : Ideal.div S (Ideal.ofBits .f32 0x43400000#32) = S * ((192⁻¹ : ℝ) : EReal) := by
  rw [ofBits_192, Ideal.div, if_neg (by exact_mod_cast (by norm_num : (192 : ℝ) ≠ 0)), EReal.coe_inv]

theorem sq_nonneg (x : EReal) : 0 ≤ x * x := by
  rw [EReal.mul_nonneg_iff]
  rcases le_total 0 x with h | h
  · exact .inl ⟨h, h⟩
  · exact .inr ⟨h, h⟩

/-- The reciprocal root of a positive number is a non-negative real. -/
theorem rsqrt_pos (x : EReal) (h : 0 < x) : 0 ≤ Ideal.rsqrt x ∧ Ideal.rsqrt x ≠ ⊤ := by
  induction x using EReal.rec with
  | bot => exact absurd h (by simp)
  | top => simp
  | coe r =>
    have hr : 0 < r := by exact_mod_cast h
    rw [Ideal.rsqrt_coe, if_neg (by linarith), if_neg (by linarith)]
    exact ⟨by exact_mod_cast inv_nonneg.mpr (Real.sqrt_nonneg r), EReal.coe_ne_top _⟩

theorem nrm_real (S : EReal) (h : 0 ≤ S) : 0 ≤ nrm 0x43400000#32 S ∧ nrm 0x43400000#32 S ≠ ⊤ := by
  refine rsqrt_pos _ ?_
  rw [div_192]
  have h0 : 0 ≤ S * ((192⁻¹ : ℝ) : EReal) := EReal.mul_nonneg_iff.mpr (.inl ⟨h, by exact_mod_cast (by norm_num : (0 : ℝ) ≤ 192⁻¹)⟩)
  calc (0 : EReal) < Ideal.ofBits .f32 0x358637BD#32 := eps_pos
    _ = 0 + Ideal.ofBits .f32 0x358637BD#32 := (zero_add _).symm
    _ ≤ _ := add_le_add_left h0 _

/-- The rotation commutes with a factor that is a non-negative real. -/
theorem rotated_mul (x : Fin 64 → EReal) (θ : Fin 32 → EReal) (r : EReal) (h : 0 ≤ r) (h' : r ≠ ⊤) (e : Fin 64) :
    rotated x θ e * r = rotated (fun e => x e * r) θ e := by
  have sw (a b : EReal) : a * b * r = a * r * b := by rw [mul_assoc, mul_comm b, ← mul_assoc]
  unfold rotated
  split
  · rw [sub_eq_add_neg, sub_eq_add_neg, EReal.right_distrib_of_nonneg_of_ne_top h h', EReal.neg_mul, sw, sw]
  · rw [EReal.right_distrib_of_nonneg_of_ne_top h h', sw, sw]

/-- The rotation with the sign of the sine taken by lane. -/
theorem rotated_eq (x : Fin 64 → EReal) (θ : Fin 32 → EReal) (e : Fin 64) (c s y : EReal)
    (hc : c = Ideal.cos (θ ⟨e.val % 32, by omega⟩))
    (hs : s = if e.val < 32 then 0 - Ideal.sin (θ ⟨e.val % 32, by omega⟩) else Ideal.sin (θ ⟨e.val % 32, by omega⟩))
    (hy : y = if e.val < 32 then x ⟨(e.val + 32) % 64, by omega⟩ else x ⟨(e.val + 32) % 64, by omega⟩) :
    x e * c + y * s = rotated x θ e := by
  subst hc hs hy
  unfold rotated
  by_cases h : e.val < 32
  · have e1 : (⟨e.val % 32, by omega⟩ : Fin 32) = ⟨e.val, h⟩ := Fin.ext (by simp only; omega)
    have e2 : (⟨(e.val + 32) % 64, by omega⟩ : Fin 64) = ⟨e.val + 32, by omega⟩ := Fin.ext (by simp only; omega)
    rw [if_pos h, if_pos h, dif_pos h, e1, e2, zero_sub, mul_comm (x _) (-_), EReal.neg_mul, mul_comm (Ideal.sin _), sub_eq_add_neg]
  · have e1 : (⟨e.val % 32, by omega⟩ : Fin 32) = ⟨e.val - 32, by omega⟩ := Fin.ext (by simp only; omega)
    have e2 : (⟨(e.val + 32) % 64, by omega⟩ : Fin 64) = ⟨e.val - 32, by omega⟩ := Fin.ext (by simp only; omega)
    rw [if_neg h, if_neg h, dif_neg h, e1, e2]

/-- A sum over 128 lanes that keeps the left 64, -/
theorem sum_left (f : Fin 128 → EReal) : ∑ l : Fin 128, (if l.val < 64 then f l else 0) = ∑ e : Fin 64, f ⟨e.val, by omega⟩ := by
  rw [Fin.sum_univ_add (a := 64) (b := 64)]
  rw [Finset.sum_congr rfl (fun (i : Fin 64) _ => if_pos (show (Fin.castAdd 64 i).val < 64 from i.isLt)),
    Finset.sum_congr rfl (fun (i : Fin 64) _ => if_neg (show ¬ (Fin.natAdd 64 i).val < 64 by simp)), Finset.sum_const_zero, add_zero]
  rfl

/-- or the right 64. -/
theorem sum_right (f : Fin 128 → EReal) : ∑ l : Fin 128, (if l.val < 64 then 0 else f l) = ∑ e : Fin 64, f ⟨64 + e.val, by omega⟩ := by
  rw [Fin.sum_univ_add (a := 64) (b := 64)]
  rw [Finset.sum_congr rfl (fun (i : Fin 64) _ => if_pos (show (Fin.castAdd 64 i).val < 64 from i.isLt)),
    Finset.sum_congr rfl (fun (i : Fin 64) _ => if_neg (show ¬ (Fin.natAdd 64 i).val < 64 by simp)), Finset.sum_const_zero, zero_add]
  rfl

/-- A sum over 192 lanes as its first 128 and its last 64. -/
theorem sum_192 (f : Fin 192 → EReal) : ∑ l : Fin 192, f l = ∑ d : Fin 128, f ⟨d.val, by omega⟩ + ∑ e : Fin 64, f ⟨128 + e.val, by omega⟩ :=
  Fin.sum_univ_add (a := 128) (b := 64) f

end Cert.PrepMath
-- ==== Proof.PrepRead.lean ====
module

public import proofs.«01_k».proof.Proof.PrepBody
public import proofs.«01_k».proof.Proof.PrepMath

/-!
# The latent attention preparation: what one grid point stores, lane by lane
-/

@[expose] public section

set_option backward.proofsInPublic true
set_option maxRecDepth 16384

noncomputable section

namespace Cert.PrepRead

open Cert.PrepIdeal Cert.PrepIdeal.Gen Cert.PrepBody Cert.PrepMath
open Idealize.ShloMosaic Idealize.ShloMosaic.TcCoe

theorem pay8_at (q : Fin 256) (l : Fin 128) : k0_pay8 (ix2 q l) = if l.val < 64 then 1 else 0 := by
  unfold k0_pay8
  pointwise
  revert l; decide +kernel

theorem pay5_at (q : Fin 256) (l : Fin 128) : k0_pay5 (ix2 q l) = if l.val % 64 < 32 then 1 else 0 := by
  unfold k0_pay5
  pointwise
  revert l; decide +kernel

theorem sel8 (q : Fin 256) (l : Fin 128) (x y : EReal) : Scalar.select (k0_pay8 (ix2 q l)) x y = if l.val < 64 then x else y := by
  rw [pay8_at]
  show (if (if l.val < 64 then (1 : BitVec 1) else 0) = 1 then x else y) = _
  by_cases h : l.val < 64
  · simp [h]
  · simp [h]

theorem sel5 (q : Fin 256) (l : Fin 128) (x y : EReal) : Scalar.select (k0_pay5 (ix2 q l)) x y = if l.val % 64 < 32 then x else y := by
  rw [pay5_at]
  show (if (if l.val % 64 < 32 then (1 : BitVec 1) else 0) = 1 then x else y) = _
  by_cases h : l.val % 64 < 32
  · simp [h]
  · simp [h]

section Ops

variable (a x c s : FVec Ideal S256x128 .f32) (n ss : FVec Ideal S256x1 .f32) (g : FVec Ideal S1x128 .f32) (q : Fin 256) (l : Fin 128)

theorem rsq_at : rsq a ss (ix2 q 0) = nrm 0x43400000#32 (∑ d : Fin 128, (a (ix2 q d) : EReal) * a (ix2 q d) + ss (ix2 q 0)) := by
  have e : Named.named (F := Ideal) (φ := .f32) κ "inv_mla_qk" 0x3BAAAAAB#32 = ((192⁻¹ : ℝ) : EReal) := IdealRules.named_const.ideal_named_scalar _ _ _ _ rfl
  unfold rsq nrm
  rw [div_192, ← e]
  pointwise

theorem ssL_at : ssL a (ix2 q 0) = ∑ e : Fin 64, (a (ix2 q ⟨e.val, by omega⟩) : EReal) * a (ix2 q ⟨e.val, by omega⟩) := by
  refine Eq.trans ?_ (sum_left fun l => (a (ix2 q l) : EReal) * a (ix2 q l))
  have h : ssL a (ix2 q 0) = ∑ l : Fin 128, Scalar.select (k0_pay8 (ix2 q l)) ((a (ix2 q l) : EReal) * a (ix2 q l)) (0 : EReal) := by
    unfold ssL
    pointwise
  exact h.trans (Finset.sum_congr rfl fun l _ => sel8 q l _ _)

theorem ssR_at : ssR a (ix2 q 0) = ∑ e : Fin 64, (a (ix2 q ⟨64 + e.val, by omega⟩) : EReal) * a (ix2 q ⟨64 + e.val, by omega⟩) := by
  refine Eq.trans ?_ (sum_right fun l => (a (ix2 q l) : EReal) * a (ix2 q l))
  have h : ssR a (ix2 q 0) = ∑ l : Fin 128, Scalar.select (k0_pay8 (ix2 q l)) (0) ((a (ix2 q l) : EReal) * a (ix2 q l) : EReal) := by
    unfold ssR
    pointwise
  exact h.trans (Finset.sum_congr rfl fun l _ => sel8 q l _ _)

theorem scaled_at : scaled a n g (ix2 q l) = (a (ix2 q l) : EReal) * n (ix2 q 0) * g (ix2 0 l) := by
  unfold scaled
  pointwise

theorem rope_at : rope x c s (ix2 q l) = (x (ix2 q l) * c (ix2 q l)
    + (if l.val % 64 < 32 then x (ix2 q ⟨(l.val + 128 - 96) % 128, by omega⟩) else x (ix2 q ⟨(l.val + 128 - 32) % 128, by omega⟩)) * s (ix2 q l) : EReal) := by
  unfold rope
  pointwise
  rw [sel5]

theorem rot64_at : dynamicRotate 1 64#32 none x rotates_S256x128_d1 (ix2 q l) = x (ix2 q ⟨(l.val + 128 - 64) % 128, by omega⟩) := by
  pointwise

theorem keepL_at : keepL x (ix2 q l) = if l.val < 64 then (x (ix2 q l) : EReal) else 0 := by
  unfold keepL
  pointwise
  rw [sel8]

theorem stored_at : stored x (ix4 0 0 q l) = x (ix2 q l) := by
  unfold stored
  pointwise

end Ops

/-- The angle of row `q` at rotated lane `i`. -/
def ang (x1 : FVec Ideal S256x1 .f32) (ν : Fin 32 → EReal) (q : Fin 256) (i : Fin 32) : EReal := x1 (ix2 q 0) * ν i

section Rope

variable (pos : Vec Ideal S256x1 .i32) (x2 : FVec Ideal S1x128 .f32) (ν : Fin 32 → EReal) (hν : ∀ l : Fin 128, x2 (ix2 0 l) = ν ⟨l.val % 32, by omega⟩)
include hν

theorem cos_at (q : Fin 256) (l : Fin 128) : k0_pay6 pos x2 (ix2 q l) = Ideal.cos (ang (sitofp .f32 pos) ν q ⟨l.val % 32, by omega⟩) := by
  rw [ang, ← hν]
  unfold k0_pay6 k0_pay4
  pointwise

theorem sin_at (q : Fin 256) (l : Fin 128) : k0_pay7 pos x2 (ix2 q l)
    = if l.val % 64 < 32 then 0 - Ideal.sin (ang (sitofp .f32 pos) ν q ⟨l.val % 32, by omega⟩) else Ideal.sin (ang (sitofp .f32 pos) ν q ⟨l.val % 32, by omega⟩) := by
  rw [ang, ← hν]
  unfold k0_pay7 k0_pay4
  pointwise
  rw [sel5]

/-- One head's lanes of the rotated pair: the rotation of its 64 lanes. -/
theorem rope_half (x : FVec Ideal S256x128 .f32) (q : Fin 256) (o : Bool) (e : Fin 64) :
    rope x (k0_pay6 pos x2) (k0_pay7 pos x2) (ix2 q ⟨64 * o.toNat + e.val, by cases o <;> simp <;> omega⟩)
      = rotated (fun e => x (ix2 q ⟨64 * o.toNat + e.val, by cases o <;> simp <;> omega⟩)) (ang (sitofp .f32 pos) ν q) e := by
  have ho : 64 * o.toNat + e.val < 128 := by cases o <;> simp <;> omega
  have h32 : (64 * o.toNat + e.val) % 32 = e.val % 32 := by cases o <;> simp <;> omega
  have h64 : (64 * o.toNat + e.val) % 64 = e.val := by cases o <;> simp <;> omega
  have i32 : (⟨(64 * o.toNat + e.val) % 32, by omega⟩ : Fin 32) = ⟨e.val % 32, by omega⟩ := Fin.ext h32
  rw [rope_at, cos_at pos x2 ν hν, sin_at pos x2 ν hν]
  refine rotated_eq (fun e => x (ix2 q ⟨64 * o.toNat + e.val, by cases o <;> simp <;> omega⟩)) (ang (sitofp .f32 pos) ν q) e _ _ _ ?_ ?_ ?_
  · exact congrArg (fun i => Ideal.cos (ang (sitofp .f32 pos) ν q i)) i32
  · simp only [i32, h64]
  · simp only [h64]
    by_cases h : e.val < 32
    · rw [if_pos h, if_pos h]
      exact congrArg (fun i => x (ix2 q i)) (Fin.ext (by cases o <;> simp <;> omega))
    · rw [if_neg h, if_neg h]
      exact congrArg (fun i => x (ix2 q i)) (Fin.ext (by cases o <;> simp <;> omega))

end Rope

section Slices

theorem qHead_at (QF : FVec Ideal S256x1536 .f32) (h : Fin 8) (q : Fin 256) (d : Fin 128) : qHead QF h (ix2 q d) = QF (ix2 q ⟨128 * h.val + d.val, by omega⟩) := by
  unfold qHead
  pointwise
theorem qPair_at (QF : FVec Ideal S256x1536 .f32) (j : Fin 4) (q : Fin 256) (d : Fin 128) : qPair QF j (ix2 q d) = QF (ix2 q ⟨1024 + 128 * j.val + d.val, by omega⟩) := by
  unfold qPair
  pointwise
theorem kHead_at (KF : FVec Ideal S256x1024 .f32) (h : Fin 8) (q : Fin 256) (d : Fin 128) : kHead KF h (ix2 q d) = KF (ix2 q ⟨128 * h.val + d.val, by omega⟩) := by
  unfold kHead
  pointwise

end Slices

/-- Lane `e` of pair `j`'s head `o` among the rotated columns. -/
theorem qPair_half (QF : FVec Ideal S256x1536 .f32) (j : Fin 4) (o : Bool) (q : Fin 256) (e : Fin 64) :
    qPair QF j (ix2 q ⟨64 * o.toNat + e.val, by cases o <;> simp <;> omega⟩) = QF (ix2 q ⟨1024 + 64 * (hd j o).val + e.val, by omega⟩) := by
  rw [qPair_at]
  exact congrArg (fun i => QF (ix2 q i)) (Fin.ext (by show 1024 + 128 * j.val + (64 * o.toNat + e.val) = 1024 + 64 * (2 * j.val + o.toNat) + e.val; omega))

/-- The sum of squares of a head's 192 lanes. -/
def ssq (QF : FVec Ideal S256x1536 .f32) (h : Fin 8) (q : Fin 256) : EReal :=
  ∑ d : Fin 128, (QF (ix2 q ⟨128 * h.val + d.val, by omega⟩) : EReal) * QF (ix2 q ⟨128 * h.val + d.val, by omega⟩)
    + ∑ e : Fin 64, (QF (ix2 q ⟨1024 + 64 * h.val + e.val, by omega⟩) : EReal) * QF (ix2 q ⟨1024 + 64 * h.val + e.val, by omega⟩)

theorem rsq_q (QF : FVec Ideal S256x1536 .f32) (j : Fin 4) (o : Bool) (q : Fin 256) :
    rsq (qHead QF (hd j o)) (match o with | false => ssL (qPair QF j) | true => ssR (qPair QF j)) (ix2 q 0) = nrm 0x43400000#32 (ssq QF (hd j o) q) := by
  rw [rsq_at]
  refine congrArg (nrm _) (congrArg₂ (fun a b : EReal => a + b) (Finset.sum_congr rfl fun d _ => by rw [qHead_at]) ?_)
  cases o
  · refine (ssL_at _ _).trans (Finset.sum_congr rfl fun e _ => ?_)
    have h := qPair_half QF j false q e
    simp only [Bool.toNat_false, mul_zero, zero_add] at h
    rw [h]
  · refine (ssR_at _ _).trans (Finset.sum_congr rfl fun e _ => ?_)
    have h := qPair_half QF j true q e
    simp only [Bool.toNat_true, mul_one] at h
    rw [h]

theorem wq_nope (QF : FVec Ideal S256x1536 .f32) (c s : FVec Ideal S256x128 .f32) (g8 g9 : FVec Ideal S1x128 .f32) (j : Fin 4) (o : Bool) (q : Fin 256) (d : Fin 128) :
    wq QF c s g8 g9 (j, o, false) (ix4 0 0 q d)
      = (QF (ix2 q ⟨128 * (hd j o).val + d.val, by omega⟩) * nrm 0x43400000#32 (ssq QF (hd j o) q) * g8 (ix2 0 d) : EReal) := by
  have h := rsq_q QF j o q
  cases o
  · show stored (scaled _ _ _) (ix4 0 0 q d) = _
    rw [stored_at, scaled_at, qHead_at]
    exact congrArg (fun r : EReal => QF _ * r * g8 (ix2 0 d)) h
  · show stored (scaled _ _ _) (ix4 0 0 q d) = _
    rw [stored_at, scaled_at, qHead_at]
    exact congrArg (fun r : EReal => QF _ * r * g8 (ix2 0 d)) h

section Rows

variable (pos : Vec Ideal S256x1 .i32) (x2 : FVec Ideal S1x128 .f32) (ν : Fin 32 → EReal) (hν : ∀ l : Fin 128, x2 (ix2 0 l) = ν ⟨l.val % 32, by omega⟩)
include hν

/-- The lanes of a head of the queries after its plain ones: the rotation of its normed lanes, then zeros. -/
theorem wq_rope (QF : FVec Ideal S256x1536 .f32) (g8 g9 : FVec Ideal S1x128 .f32) (γ : Fin 64 → EReal) (hγ : ∀ l : Fin 128, g9 (ix2 0 l) = γ ⟨l.val % 64, by omega⟩)
    (j : Fin 4) (o : Bool) (q : Fin 256) (d : Fin 128) :
    wq QF (k0_pay6 pos x2) (k0_pay7 pos x2) g8 g9 (j, o, true) (ix4 0 0 q d)
      = if h : d.val < 64 then rotated (fun e => QF (ix2 q ⟨1024 + 64 * (hd j o).val + e.val, by omega⟩) * nrm 0x43400000#32 (ssq QF (hd j o) q) * γ e) (ang (sitofp .f32 pos) ν q) ⟨d.val, h⟩
        else 0 := by
  have hr := rsq_q QF j o q
  have key (n : FVec Ideal S256x1 .f32) (hn : n (ix2 q 0) = nrm 0x43400000#32 (ssq QF (hd j o) q)) (h : d.val < 64) :
      rope (scaled (qPair QF j) n g9) (k0_pay6 pos x2) (k0_pay7 pos x2) (ix2 q ⟨64 * o.toNat + d.val, by cases o <;> simp <;> omega⟩)
        = rotated (fun e => QF (ix2 q ⟨1024 + 64 * (hd j o).val + e.val, by omega⟩) * nrm 0x43400000#32 (ssq QF (hd j o) q) * γ e) (ang (sitofp .f32 pos) ν q) ⟨d.val, h⟩ := by
    refine (rope_half pos x2 ν hν _ q o ⟨d.val, h⟩).trans (congrArg (fun f => rotated f (ang (sitofp .f32 pos) ν q) ⟨d.val, h⟩) (funext fun e => ?_))
    rw [scaled_at, qPair_half, hn, hγ]
    exact congrArg (fun i => (QF _ * nrm _ _ * γ i : EReal)) (Fin.ext (by cases o <;> simp <;> omega))
  cases o
  · show stored (keepL _) (ix4 0 0 q d) = _
    rw [stored_at, keepL_at]
    by_cases h : d.val < 64
    · rw [if_pos h, dif_pos h, ← key _ hr h]
      exact congrArg (fun i => rope _ _ _ (ix2 q i)) (Fin.ext (by simp))
    · rw [if_neg h, dif_neg h]
  · show stored (keepL _) (ix4 0 0 q d) = _
    rw [stored_at, keepL_at]
    by_cases h : d.val < 64
    · rw [if_pos h, dif_pos h, rot64_at, ← key _ hr h]
      exact congrArg (fun i => rope _ _ _ (ix2 q i)) (Fin.ext (by simp; omega))
    · rw [if_neg h, dif_neg h]

end Rows

/-- The sum of squares of a head's key: its 128 plain lanes and the 64 lanes all heads share. -/
def ssk (KF : FVec Ideal S256x1024 .f32) (KR : FVec Ideal S256x128 .f32) (h : Fin 8) (q : Fin 256) : EReal :=
  ∑ d : Fin 128, (KF (ix2 q ⟨128 * h.val + d.val, by omega⟩) : EReal) * KF (ix2 q ⟨128 * h.val + d.val, by omega⟩)
    + ∑ e : Fin 64, (KR (ix2 q ⟨e.val, by omega⟩) : EReal) * KR (ix2 q ⟨e.val, by omega⟩)

theorem ssk_nonneg (KF : FVec Ideal S256x1024 .f32) (KR : FVec Ideal S256x128 .f32) (h : Fin 8) (q : Fin 256) : 0 ≤ ssk KF KR h q :=
  add_nonneg (Finset.sum_nonneg fun _ _ => sq_nonneg _) (Finset.sum_nonneg fun _ _ => sq_nonneg _)

theorem rsq_k (KF : FVec Ideal S256x1024 .f32) (KR : FVec Ideal S256x128 .f32) (h : Fin 8) (q : Fin 256) :
    rsq (kHead KF h) (ssL KR) (ix2 q 0) = nrm 0x43400000#32 (ssk KF KR h q) := by
  rw [rsq_at]
  exact congrArg (nrm _) (congrArg₂ (fun a b : EReal => a + b) (Finset.sum_congr rfl fun d _ => by rw [kHead_at]) (ssL_at _ _))

theorem wk_nope (KF : FVec Ideal S256x1024 .f32) (KR c s : FVec Ideal S256x128 .f32) (g10 g11 : FVec Ideal S1x128 .f32) (j : Fin 4) (o : Bool) (q : Fin 256) (d : Fin 128) :
    wk KF KR c s g10 g11 (j, o, false) (ix4 0 0 q d)
      = (KF (ix2 q ⟨128 * (hd j o).val + d.val, by omega⟩) * nrm 0x43400000#32 (ssk KF KR (hd j o) q) * g10 (ix2 0 d) : EReal) := by
  show stored (scaled _ _ _) (ix4 0 0 q d) = _
  rw [stored_at, scaled_at, kHead_at, rsq_k]

section RowsK

variable (pos : Vec Ideal S256x1 .i32) (x2 : FVec Ideal S1x128 .f32) (ν : Fin 32 → EReal) (hν : ∀ l : Fin 128, x2 (ix2 0 l) = ν ⟨l.val % 32, by omega⟩)
include hν

/-- The lanes of a head of the keys after its plain ones: the rotation of its normed lanes, then zeros. -/
theorem wk_rope (KF : FVec Ideal S256x1024 .f32) (KR : FVec Ideal S256x128 .f32) (g10 g11 : FVec Ideal S1x128 .f32) (γ : Fin 64 → EReal)
    (hγ : ∀ l : Fin 128, g11 (ix2 0 l) = γ ⟨l.val % 64, by omega⟩) (j : Fin 4) (o : Bool) (q : Fin 256) (d : Fin 128) :
    wk KF KR (k0_pay6 pos x2) (k0_pay7 pos x2) g10 g11 (j, o, true) (ix4 0 0 q d)
      = if h : d.val < 64 then rotated (fun e => KR (ix2 q ⟨e.val, by omega⟩) * nrm 0x43400000#32 (ssk KF KR (hd j o) q) * γ e) (ang (sitofp .f32 pos) ν q) ⟨d.val, h⟩
        else 0 := by
  have hr := rsq_k KF KR (hd j o) q
  obtain ⟨h0, h1⟩ := nrm_real _ (ssk_nonneg KF KR (hd j o) q)
  show stored (mulf (kBase KR _ _ g11) _) (ix4 0 0 q d) = _
  rw [stored_at]
  have e : mulf (kBase KR (k0_pay6 pos x2) (k0_pay7 pos x2) g11) (broadcastTo S256x128 (rsq (kHead KF (hd j o)) (ssL KR)) broadcasts_S256x1_S256x128) (ix2 q d)
      = (kBase KR (k0_pay6 pos x2) (k0_pay7 pos x2) g11 (ix2 q d) * nrm 0x43400000#32 (ssk KF KR (hd j o) q) : EReal) := by
    rw [← hr]
    pointwise
  rw [e, kBase, keepL_at]
  by_cases h : d.val < 64
  · rw [if_pos h, dif_pos h]
    have hh := rope_half pos x2 ν hν (mulf KR (broadcastTo S256x128 (shapeCast S1x128 g11 shapeCasts_S1x128_S1x128) broadcasts_S1x128_S256x128)) q false ⟨d.val, h⟩
    have hi : (⟨64 * false.toNat + d.val, by simp only [Bool.toNat_false]; omega⟩ : Fin 128) = d := Fin.ext (by simp)
    rw [hi] at hh
    rw [hh, rotated_mul _ _ _ h0 h1]
    refine congrArg (fun f => rotated f (ang (sitofp .f32 pos) ν q) ⟨d.val, h⟩) (funext fun e => ?_)
    have hl : (⟨64 * false.toNat + e.val, by simp; omega⟩ : Fin 128) = ⟨e.val, by omega⟩ := Fin.ext (by simp)
    rw [hl]
    have e2 : mulf KR (broadcastTo S256x128 (shapeCast S1x128 g11 shapeCasts_S1x128_S1x128) broadcasts_S1x128_S256x128) (ix2 q (⟨e.val, by omega⟩ : Fin 128))
        = (KR (ix2 q ⟨e.val, by omega⟩) * g11 (ix2 0 ⟨e.val, by omega⟩) : EReal) := by pointwise
    rw [e2, hγ]
    have e3 : (⟨e.val % 64, by omega⟩ : Fin 64) = e := Fin.ext (by simp)
    rw [e3, mul_assoc, mul_comm (γ e), ← mul_assoc]
  · rw [if_neg h, dif_neg h, zero_mul]

end RowsK

/-! ## The products -/

theorem qf_at (x0 : FVec Ideal S256x768 .f32) (x3 : FVec Ideal S1x768 .f32) (w : FVec Ideal S768x1536 .bf16) (q : Fin 256) (f : Fin 1536) :
    k0_pay12 (F := Ideal) (k0_pay9 x0 x3) w (ix2 q f) = ∑ k : Fin 768, normed 0x44400000#32 (fun k => (x0 (ix2 q k) : EReal)) (fun k => x3 (ix2 0 k)) k * w (ix2 k f) := by
  unfold k0_pay12 k0_pay9 normed nrm
  pointwise

theorem kf_at (x0 : FVec Ideal S256x512 .f32) (x4 : FVec Ideal S1x512 .f32) (w : FVec Ideal S512x1024 .bf16) (q : Fin 256) (f : Fin 1024) :
    k0_pay13 (F := Ideal) x0 (k0_pay10 x0) x4 w (ix2 q f) = ∑ k : Fin 512, normed 0x44000000#32 (fun k => (x0 (ix2 q k) : EReal)) (fun k => x4 (ix2 0 k)) k * w (ix2 k f) := by
  unfold k0_pay13 k0_pay11 k0_pay10 normed nrm
  pointwise

theorem vf_at (x0 : FVec Ideal S256x512 .f32) (x4 : FVec Ideal S1x512 .f32) (w : FVec Ideal S1024x512 .bf16) (q : Fin 256) (f : Fin 1024) :
    k0_pay14 (F := Ideal) x0 (k0_pay10 x0) x4 w (ix2 f q) = ∑ k : Fin 512, normed 0x44000000#32 (fun k => (x0 (ix2 q k) : EReal)) (fun k => x4 (ix2 0 k)) k * w (ix2 f k) := by
  unfold k0_pay14 k0_pay11 k0_pay10 normed nrm
  pointwise
  exact Finset.sum_congr rfl fun k _ => mul_comm _ _

end Cert.PrepRead
-- ==== Proof.PrepHost.lean ====
module

public import proofs.«01_k».proof.Proof.Gen.PrepIdeal.Value
public import proofs.«01_k».proof.Proof.Gen.PrepRefIdeal.Read
public import Idealize.ShloMosaic.Lib.Pointwise

/-!
# The latent attention preparation: the operands the kernel's wrapper lays out

The columns of the two up-projections are regrouped so that all heads' plain lanes come first; the rotation frequencies and the norm
weights are repeated along 128 lanes. Each lemma reads one of them back to the argument it comes from.
-/

@[expose] public section

set_option maxRecDepth 16384

noncomputable section

namespace Cert.PrepHost

open Cert.PrepIdeal Cert.PrepIdeal.Gen
open Idealize.ShloMosaic Idealize.ShloMosaic.TcCoe Idealize.SL.Sem

variable (m : (ℓ : Loc nD τ sig) → Buf (Elt Ideal) ℓ) (c : Dev nD)

/-- The arguments. -/
abbrev mla : (⟨S8192x1408, .f32⟩ : BufTy).Contents (Elt Ideal) := m ((c : Thread nD τ).loc main_arg0)
abbrev pos : (⟨S8192x1, .i32⟩ : BufTy).Contents (Elt Ideal) := m ((c : Thread nD τ).loc main_arg1)
abbrev qa : (⟨S768, .f32⟩ : BufTy).Contents (Elt Ideal) := m ((c : Thread nD τ).loc main_arg2)
abbrev kva : (⟨S512, .f32⟩ : BufTy).Contents (Elt Ideal) := m ((c : Thread nD τ).loc main_arg3)
abbrev wuq : (⟨S768x1536, .f32⟩ : BufTy).Contents (Elt Ideal) := m ((c : Thread nD τ).loc main_arg4)
abbrev wukv : (⟨S512x2048, .f32⟩ : BufTy).Contents (Elt Ideal) := m ((c : Thread nD τ).loc main_arg5)
abbrev qn : (⟨S192, .f32⟩ : BufTy).Contents (Elt Ideal) := m ((c : Thread nD τ).loc main_arg6)
abbrev kn : (⟨S192, .f32⟩ : BufTy).Contents (Elt Ideal) := m ((c : Thread nD τ).loc main_arg7)

theorem V6 : V m c main_v6 = (truncf .bf16 (concatenate S768x1536 1
      [⟨S768x1024, shapeCast S768x1024 (extractStridedSlice S768x8x128 ![0, 0, 0] (shapeCast S768x8x192 (wuq m c) shapeCasts_S768x1536_S768x8x192) slices_S768x8x192_S768x8x128_0_0_0) shapeCasts_S768x8x128_S768x1024⟩,
       ⟨S768x512, shapeCast S768x512 (extractStridedSlice S768x8x64 ![0, 0, 128] (shapeCast S768x8x192 (wuq m c) shapeCasts_S768x1536_S768x8x192) slices_S768x8x192_S768x8x64_0_0_128) shapeCasts_S768x8x64_S768x512⟩]
      concatenates_S768x1024_S768x512_S768x1536_d1) bitsLt_bf16_f32 : FVec Ideal S768x1536 .bf16) := by
  show StableHlo.after hostOps0 _ main_v6 = _
  after_results_simp
  rfl

/-- A head's plain columns and its rotated columns of the query projection. -/
theorem wq_plain (k : Fin 768) (h : Fin 8) (d : Fin 128) : V m c main_v6 (ix2 k ⟨128 * h.val + d.val, by omega⟩) = wuq m c (ix2 k ⟨192 * h.val + d.val, by omega⟩) := by
  rw [V6]
  pointwise
  rw [dif_pos (by omega)]
  exact congrArg (fun i => wuq m c (ix2 k i)) (Fin.ext (by simp only; omega))

theorem wq_rope (k : Fin 768) (h : Fin 8) (e : Fin 64) : V m c main_v6 (ix2 k ⟨1024 + 64 * h.val + e.val, by omega⟩) = wuq m c (ix2 k ⟨192 * h.val + (128 + e.val), by omega⟩) := by
  rw [V6]
  pointwise
  rw [dif_neg (by omega)]
  exact congrArg (fun i => wuq m c (ix2 k i)) (Fin.ext (by simp only; omega))

theorem V10 : V m c main_v10 = (truncf .bf16 (shapeCast S512x1024 (extractStridedSlice S512x8x128 ![0, 0, 0] (shapeCast S512x8x256 (wukv m c) shapeCasts_S512x2048_S512x8x256)
      slices_S512x8x256_S512x8x128_0_0_0) shapeCasts_S512x8x128_S512x1024) bitsLt_bf16_f32 : FVec Ideal S512x1024 .bf16) := by
  show StableHlo.after hostOps0 _ main_v10 = _
  after_results_simp
  rfl

/-- A head's columns of the key and value projection: its keys, -/
theorem wk_plain (k : Fin 512) (h : Fin 8) (d : Fin 128) : V m c main_v10 (ix2 k ⟨128 * h.val + d.val, by omega⟩) = wukv m c (ix2 k ⟨256 * h.val + d.val, by omega⟩) := by
  rw [V10]
  pointwise
  exact congrArg (fun i => wukv m c (ix2 k i)) (Fin.ext (by simp only; omega))

theorem V14 : V m c main_v14 = (truncf .bf16 (transpose S1024x512 [1, 0] (shapeCast S512x1024 (extractStridedSlice S512x8x128 ![0, 0, 128] (shapeCast S512x8x256 (wukv m c) shapeCasts_S512x2048_S512x8x256)
      slices_S512x8x256_S512x8x128_0_0_128) shapeCasts_S512x8x128_S512x1024) transposes_S512x1024_S1024x512_1_0) bitsLt_bf16_f32 : FVec Ideal S1024x512 .bf16) := by
  show StableHlo.after hostOps0 _ main_v14 = _
  after_results_simp
  rfl

/-- and its values, turned round. -/
theorem wv_plain (k : Fin 512) (h : Fin 8) (d : Fin 128) : V m c main_v14 (ix2 ⟨128 * h.val + d.val, by omega⟩ k) = wukv m c (ix2 k ⟨256 * h.val + (128 + d.val), by omega⟩) := by
  rw [V14]
  pointwise
  exact congrArg (fun i => wukv m c (ix2 k i)) (Fin.ext (by simp only; omega))

theorem V29 : V m c main_v29 = (shapeCast S1x128 (shapeCast S128 (broadcastInDim S2x64 ![0, 1] bcast_S1x64_S2x64_0_1 (shapeCast S1x64
      (concatenate S64 0 [⟨S32, PrepRefIdeal.Read.val_main_v76 (F := Ideal)⟩, ⟨S32, PrepRefIdeal.Read.val_main_v76 (F := Ideal)⟩] concatenates_S32_S32_S64_d0) shapeCasts_S64_S1x64)) shapeCasts_S2x64_S128) shapeCasts_S128_S1x128
      : FVec Ideal S1x128 .f32) := by
  show StableHlo.after hostOps0 _ main_v29 = _
  after_results_simp
  rfl

/-- The rotation frequencies, one for every 32 lanes. -/
theorem freq (l : Fin 128) : V m c main_v29 (ix2 0 l) = PrepRefIdeal.Read.val_main_v76 (F := Ideal) (ix1 ⟨l.val % 32, by omega⟩) := by
  rw [V29]
  pointwise
  by_cases h : l.val % 64 < 32
  · rw [dif_pos h]
    exact congrArg (fun i => PrepRefIdeal.Read.val_main_v76 (F := Ideal) (ix1 i)) (Fin.ext (by simp only; omega))
  · rw [dif_neg h]
    exact congrArg (fun i => PrepRefIdeal.Read.val_main_v76 (F := Ideal) (ix1 i)) (Fin.ext (by simp only; omega))

theorem V30 : V m c main_v30 = (shapeCast S1x768 (qa m c) shapeCasts_S768_S1x768 : FVec Ideal S1x768 .f32) := by
  show StableHlo.after hostOps0 _ main_v30 = _
  after_results_simp
  rfl

/-- The norm weights before the projections, -/
theorem gain_q (k : Fin 768) : V m c main_v30 (ix2 0 k) = qa m c (ix1 k) := by
  rw [V30]
  pointwise

theorem V31 : V m c main_v31 = (shapeCast S1x512 (kva m c) shapeCasts_S512_S1x512 : FVec Ideal S1x512 .f32) := by
  show StableHlo.after hostOps0 _ main_v31 = _
  after_results_simp
  rfl

theorem gain_kv (k : Fin 512) : V m c main_v31 (ix2 0 k) = kva m c (ix1 k) := by
  rw [V31]
  pointwise

theorem V33 : V m c main_v33 = (shapeCast S1x128 (extractStridedSlice S128 ![0] (qn m c) slices_S192_S128_0) shapeCasts_S128_S1x128 : FVec Ideal S1x128 .f32) := by
  show StableHlo.after hostOps0 _ main_v33 = _
  after_results_simp
  rfl

/-- and after them: the plain lanes, and the rotated lanes twice. -/
theorem lanes_q (d : Fin 128) : V m c main_v33 (ix2 0 d) = qn m c (ix1 ⟨d.val, by omega⟩) := by
  rw [V33]
  pointwise

theorem V38 : V m c main_v38 = (shapeCast S1x128 (shapeCast S128 (broadcastInDim S2x64 ![0, 1] bcast_S1x64_S2x64_0_1 (shapeCast S1x64
      (extractStridedSlice S64 ![128] (qn m c) slices_S192_S64_128) shapeCasts_S64_S1x64)) shapeCasts_S2x64_S128) shapeCasts_S128_S1x128 : FVec Ideal S1x128 .f32) := by
  show StableHlo.after hostOps0 _ main_v38 = _
  after_results_simp
  rfl

theorem turned_q (l : Fin 128) : V m c main_v38 (ix2 0 l) = qn m c (ix1 ⟨128 + l.val % 64, by omega⟩) := by
  rw [V38]
  pointwise

theorem V40 : V m c main_v40 = (shapeCast S1x128 (extractStridedSlice S128 ![0] (kn m c) slices_S192_S128_0) shapeCasts_S128_S1x128 : FVec Ideal S1x128 .f32) := by
  show StableHlo.after hostOps0 _ main_v40 = _
  after_results_simp
  rfl

theorem lanes_k (d : Fin 128) : V m c main_v40 (ix2 0 d) = kn m c (ix1 ⟨d.val, by omega⟩) := by
  rw [V40]
  pointwise

theorem V45 : V m c main_v45 = (shapeCast S1x128 (shapeCast S128 (broadcastInDim S2x64 ![0, 1] bcast_S1x64_S2x64_0_1 (shapeCast S1x64
      (extractStridedSlice S64 ![128] (kn m c) slices_S192_S64_128) shapeCasts_S64_S1x64)) shapeCasts_S2x64_S128) shapeCasts_S128_S1x128 : FVec Ideal S1x128 .f32) := by
  show StableHlo.after hostOps0 _ main_v45 = _
  after_results_simp
  rfl

theorem turned_k (l : Fin 128) : V m c main_v45 (ix2 0 l) = kn m c (ix1 ⟨128 + l.val % 64, by omega⟩) := by
  rw [V45]
  pointwise

end Cert.PrepHost
-- ==== Proof.PrepRef.lean ====
module

public import proofs.«01_k».proof.Proof.PrepMath
public import proofs.«01_k».proof.Proof.Gen.PrepRefIdeal.Read

/-!
# The reference of the latent attention preparation, element by element
-/

@[expose] public section

set_option maxRecDepth 16384

noncomputable section

namespace Cert.PrepRef

open Cert.PrepRefIdeal Cert.PrepRefIdeal.Read Cert.PrepMath
open Idealize.ShloMosaic Idealize.ShloMosaic.TcCoe

variable (x0 : (⟨S8192x1408, .f32⟩ : BufTy).Contents (Elt Ideal)) (x1 : (⟨S8192x1, .i32⟩ : BufTy).Contents (Elt Ideal))
variable (x2 : (⟨S768, .f32⟩ : BufTy).Contents (Elt Ideal)) (x3 : (⟨S512, .f32⟩ : BufTy).Contents (Elt Ideal))
variable (x4 : (⟨S768x1536, .f32⟩ : BufTy).Contents (Elt Ideal)) (x5 : (⟨S512x2048, .f32⟩ : BufTy).Contents (Elt Ideal))
variable (x6 x7 : (⟨S192, .f32⟩ : BufTy).Contents (Elt Ideal))

/-- A row's queries before their norm, -/
def q0 (r : Fin 8192) (f : Fin 1536) : EReal :=
  ∑ k : Fin 768, normed 0x44400000#32 (fun k : Fin 768 => (x0 (ix2 r ⟨k.val, by omega⟩) : EReal)) (fun k => x2 (ix1 k)) k * x4 (ix2 k f)
/-- and its keys and values. -/
def kv0 (r : Fin 8192) (f : Fin 2048) : EReal :=
  ∑ k : Fin 512, normed 0x44000000#32 (fun k : Fin 512 => (x0 (ix2 r ⟨768 + k.val, by omega⟩) : EReal)) (fun k => x3 (ix1 k)) k * x5 (ix2 k f)

theorem v16_at (r : Fin 8192) (f : Fin 1536) : val_main_v16 (F := Ideal) x0 x2 x4 (ix2 r f) = q0 x0 x2 x4 r f := by
  unfold q0 normed nrm val_main_v16 val_main_v15 val_main_v14 val_main_v13 val_main_v12 val_main_v11 val_main_v10 val_main_v9 val_main_v8 val_main_cst_1 val_main_v7 val_main_v6 val_main_cst_0 val_main_v5 val_main_v4 val_main_cst val_main_v3 val_main_v0
  pointwise

theorem v31_at (r : Fin 8192) (f : Fin 2048) : val_main_v31 (F := Ideal) x0 x3 x5 (ix2 r f) = kv0 x0 x3 x5 r f := by
  unfold kv0 normed nrm val_main_v31 val_main_v30 val_main_v29 val_main_v28 val_main_v27 val_main_v26 val_main_v25 val_main_v24 val_main_v23 val_main_cst_4 val_main_v22 val_main_v21 val_main_cst_3 val_main_v20 val_main_v19 val_main_cst_2 val_main_v18 val_main_v1
  pointwise

/-- A head's 192 lanes of the queries, -/
theorem v17_at (r : Fin 8192) (h : Fin 8) (l : Fin 192) : val_main_v17 (F := Ideal) x0 x2 x4 (ix3 r h l) = q0 x0 x2 x4 r ⟨192 * h.val + l.val, by omega⟩ := by
  rw [← v16_at]
  unfold val_main_v17
  pointwise
  exact congrArg (fun i => val_main_v16 (F := Ideal) x0 x2 x4 (ix2 r i)) (Fin.ext (by simp only; omega))

theorem v50_at (r : Fin 8192) (h : Fin 8) (l : Fin 192) : val_main_v50 (F := Ideal) x0 x2 x4 x6 (ix3 r h l)
    = normed 0x43400000#32 (fun l : Fin 192 => q0 x0 x2 x4 r ⟨192 * h.val + l.val, by omega⟩) (fun l => x6 (ix1 l)) l := by
  unfold normed nrm
  simp only [← v17_at]
  unfold val_main_v50 val_main_v49 val_main_v48 val_main_v47 val_main_v46 val_main_v45 val_main_v44 val_main_v43 val_main_cst_7 val_main_v42 val_main_v41 val_main_cst_6 val_main_v40 val_main_v39 val_main_cst_5 val_main_v38
  pointwise

/-- and of the keys: its own 128, then the 64 all heads share. -/
def k0 (r : Fin 8192) (h : Fin 8) (l : Fin 192) : EReal :=
  if hl : l.val < 128 then kv0 x0 x3 x5 r ⟨256 * h.val + l.val, by omega⟩ else x0 (ix2 r ⟨1280 + (l.val - 128), by omega⟩)

theorem v33_at (r : Fin 8192) (h : Fin 8) (d : Fin 128) : val_main_v33 (F := Ideal) x0 x3 x5 (ix3 r h d) = kv0 x0 x3 x5 r ⟨256 * h.val + d.val, by omega⟩ := by
  rw [← v31_at]
  unfold val_main_v33 val_main_v32
  pointwise
  exact congrArg (fun i => val_main_v31 (F := Ideal) x0 x3 x5 (ix2 r i)) (Fin.ext (by simp only; omega))

theorem v34_at (r : Fin 8192) (h : Fin 8) (d : Fin 128) : val_main_v34 (F := Ideal) x0 x3 x5 (ix3 r h d) = kv0 x0 x3 x5 r ⟨256 * h.val + (128 + d.val), by omega⟩ := by
  rw [← v31_at]
  unfold val_main_v34 val_main_v32
  pointwise
  exact congrArg (fun i => val_main_v31 (F := Ideal) x0 x3 x5 (ix2 r i)) (Fin.ext (by simp only; omega))

theorem v37_at (r : Fin 8192) (h : Fin 8) (l : Fin 192) : val_main_v37 (F := Ideal) x0 x3 x5 (ix3 r h l) = k0 x0 x3 x5 r h l := by
  unfold k0
  simp only [← v33_at x0 x3 x5 r h ⟨_, _⟩]
  unfold val_main_v37 val_main_v36 val_main_v35 val_main_v2
  pointwise
  by_cases hl : l.val < 128
  · rw [dif_pos hl, dif_pos hl]
    exact v33_at x0 x3 x5 r h ⟨l.val, hl⟩
  · rw [dif_neg hl, dif_neg hl]

theorem v63_at (r : Fin 8192) (h : Fin 8) (l : Fin 192) : val_main_v63 (F := Ideal) x0 x3 x5 x7 (ix3 r h l)
    = normed 0x43400000#32 (k0 x0 x3 x5 r h) (fun l => x7 (ix1 l)) l := by
  unfold normed nrm
  simp only [← v37_at]
  unfold val_main_v63 val_main_v62 val_main_v61 val_main_v60 val_main_v59 val_main_v58 val_main_v57 val_main_v56 val_main_cst_10 val_main_v55 val_main_v54 val_main_cst_9 val_main_v53 val_main_v52 val_main_cst_8 val_main_v51
  pointwise

/-- The rotation angles of a row. -/
def ang (r : Fin 8192) (i : Fin 32) : EReal := (sitofp (F := Ideal) .f32 x1) (ix2 r 0) * val_main_v76 (F := Ideal) (ix1 i)

theorem v82_at (r : Fin 8192) (i : Fin 32) : val_main_v82 (F := Ideal) x1 (ix3 r 0 i) = ang x1 r i := by
  unfold ang val_main_v82 val_main_v81 val_main_v80 val_main_v79 val_main_v78 val_main_v77
  pointwise

theorem v116_at (r : Fin 8192) (i : Fin 32) : val_main_v116 (F := Ideal) x1 (ix3 r 0 i) = ang x1 r i := by
  have e : val_main_v110 (F := Ideal) = val_main_v76 (F := Ideal) := rfl
  unfold ang val_main_v116 val_main_v115 val_main_v114 val_main_v113 val_main_v112 val_main_v111
  rw [e]
  pointwise

theorem v97_at (r : Fin 8192) (h : Fin 8) (e : Fin 64) : val_main_v97 (F := Ideal) x0 x1 x2 x4 x6 (ix3 r h e)
    = rotated (fun e => val_main_v50 (F := Ideal) x0 x2 x4 x6 (ix3 r h ⟨128 + e.val, by omega⟩)) (ang x1 r) e := by
  unfold rotated
  simp only [← v82_at]
  unfold val_main_v97 val_main_v96 val_main_v95 val_main_v94 val_main_v93 val_main_v92 val_main_v91 val_main_v90 val_main_v89 val_main_v88 val_main_v87 val_main_v86 val_main_v85 val_main_v84 val_main_v83 val_main_v66
  pointwise
  by_cases h32 : e.val < 32
  · rw [dif_pos h32, dif_pos h32]
    exact congrArg (fun i => _ - val_main_v50 (F := Ideal) x0 x2 x4 x6 (ix3 r h i) * _) (Fin.ext (by simp only; omega))
  · rw [dif_neg h32, dif_neg h32]
    exact congrArg (fun i => val_main_v50 (F := Ideal) x0 x2 x4 x6 (ix3 r h i) * _ + _) (Fin.ext (by simp only; omega))

theorem v131_at (r : Fin 8192) (h : Fin 8) (e : Fin 64) : val_main_v131 (F := Ideal) x0 x1 x3 x5 x7 (ix3 r h e)
    = rotated (fun e => val_main_v63 (F := Ideal) x0 x3 x5 x7 (ix3 r h ⟨128 + e.val, by omega⟩)) (ang x1 r) e := by
  unfold rotated
  simp only [← v116_at]
  unfold val_main_v131 val_main_v130 val_main_v129 val_main_v128 val_main_v127 val_main_v126 val_main_v125 val_main_v124 val_main_v123 val_main_v122 val_main_v121 val_main_v120 val_main_v119 val_main_v118 val_main_v117 val_main_v100
  pointwise
  by_cases h32 : e.val < 32
  · rw [dif_pos h32, dif_pos h32]
    exact congrArg (fun i => _ - val_main_v63 (F := Ideal) x0 x3 x5 x7 (ix3 r h i) * _) (Fin.ext (by simp only; omega))
  · rw [dif_neg h32, dif_neg h32]
    exact congrArg (fun i => val_main_v63 (F := Ideal) x0 x3 x5 x7 (ix3 r h i) * _ + _) (Fin.ext (by simp only; omega))

end Cert.PrepRef
-- ==== Proof.PrepRefOut.lean ====
module

public import proofs.«01_k».proof.Proof.PrepRef
public import proofs.«01_k».proof.Proof.Gen.PrepRefIdeal.Read

/-!
# The reference of the latent attention preparation, its results
-/

@[expose] public section

set_option maxRecDepth 16384

noncomputable section

namespace Cert.PrepRef

open Cert.PrepRefIdeal Cert.PrepRefIdeal.Read Cert.PrepMath
open Idealize.ShloMosaic Idealize.ShloMosaic.TcCoe

variable (x0 : (⟨S8192x1408, .f32⟩ : BufTy).Contents (Elt Ideal)) (x1 : (⟨S8192x1, .i32⟩ : BufTy).Contents (Elt Ideal))
variable (x2 : (⟨S768, .f32⟩ : BufTy).Contents (Elt Ideal)) (x3 : (⟨S512, .f32⟩ : BufTy).Contents (Elt Ideal))
variable (x4 : (⟨S768x1536, .f32⟩ : BufTy).Contents (Elt Ideal)) (x5 : (⟨S512x2048, .f32⟩ : BufTy).Contents (Elt Ideal))
variable (x6 x7 : (⟨S192, .f32⟩ : BufTy).Contents (Elt Ideal))

theorem v98_at (r : Fin 8192) (h : Fin 8) (f : Fin 256) : val_main_v98 (F := Ideal) x0 x1 x2 x4 x6 (ix3 r h f)
    = if h1 : f.val < 128 then val_main_v50 (F := Ideal) x0 x2 x4 x6 (ix3 r h ⟨f.val, by omega⟩)
      else if h2 : f.val - 128 < 64 then val_main_v97 (F := Ideal) x0 x1 x2 x4 x6 (ix3 r h ⟨f.val - 128, h2⟩) else 0 := by
  unfold val_main_v98 val_main_v65 val_main_v64 val_main_cst_11
  pointwise

theorem v132_at (r : Fin 8192) (h : Fin 8) (f : Fin 256) : val_main_v132 (F := Ideal) x0 x1 x3 x5 x7 (ix3 r h f)
    = if h1 : f.val < 128 then val_main_v63 (F := Ideal) x0 x3 x5 x7 (ix3 r h ⟨f.val, by omega⟩)
      else if h2 : f.val - 128 < 64 then val_main_v131 (F := Ideal) x0 x1 x3 x5 x7 (ix3 r h ⟨f.val - 128, h2⟩) else 0 := by
  unfold val_main_v132 val_main_v99 val_main_v64 val_main_cst_11
  pointwise

theorem v135_at (b : Fin 4) (h : Fin 8) (t : Fin 2048) (f : Fin 256) : val_main_v135 (F := Ideal) x0 x1 x2 x4 x6 (ix4 b h t f)
    = val_main_v98 (F := Ideal) x0 x1 x2 x4 x6 (ix3 ⟨2048 * b.val + t.val, by omega⟩ h f) := by
  rw [val_main_v135_apply, Ideal.truncf_def, val_main_v134_apply, val_main_v133_apply]
  refine congrArg (val_main_v98 (F := Ideal) x0 x1 x2 x4 x6) (funext fun a => Fin.ext ?_)
  match a with
  | ⟨0, _⟩ => show (((b.val * 2048 + t.val) * 8 + h.val) * 256 + f.val) / 2048 = 2048 * b.val + t.val; omega
  | ⟨1, _⟩ => show (((b.val * 2048 + t.val) * 8 + h.val) * 256 + f.val) / 256 % 8 = h.val; omega
  | ⟨2, _⟩ => show (((b.val * 2048 + t.val) * 8 + h.val) * 256 + f.val) % 256 = f.val; omega

theorem v138_at (b : Fin 4) (h : Fin 8) (t : Fin 2048) (f : Fin 256) : val_main_v138 (F := Ideal) x0 x1 x3 x5 x7 (ix4 b h t f)
    = val_main_v132 (F := Ideal) x0 x1 x3 x5 x7 (ix3 ⟨2048 * b.val + t.val, by omega⟩ h f) := by
  rw [val_main_v138_apply, Ideal.truncf_def, val_main_v137_apply, val_main_v136_apply]
  refine congrArg (val_main_v132 (F := Ideal) x0 x1 x3 x5 x7) (funext fun a => Fin.ext ?_)
  match a with
  | ⟨0, _⟩ => show (((b.val * 2048 + t.val) * 8 + h.val) * 256 + f.val) / 2048 = 2048 * b.val + t.val; omega
  | ⟨1, _⟩ => show (((b.val * 2048 + t.val) * 8 + h.val) * 256 + f.val) / 256 % 8 = h.val; omega
  | ⟨2, _⟩ => show (((b.val * 2048 + t.val) * 8 + h.val) * 256 + f.val) % 256 = f.val; omega

theorem v141_pre (b : Fin 4) (h : Fin 8) (n : Fin 8) (d : Fin 128) (q : Fin 256) : val_main_v141 (F := Ideal) x0 x3 x5 (ix5 b h n d q)
    = val_main_v34 (F := Ideal) x0 x3 x5 (ix3 ⟨2048 * b.val + 256 * n.val + q.val, by omega⟩ h d) := by
  rw [val_main_v141_apply, Ideal.truncf_def, val_main_v140_apply, val_main_v139_apply]
  refine congrArg (val_main_v34 (F := Ideal) x0 x3 x5) (funext fun a => Fin.ext ?_)
  match a with
  | ⟨0, _⟩ => show ((((b.val * 8 + n.val) * 256 + q.val) * 8 + h.val) * 128 + d.val) / 1024 = 2048 * b.val + 256 * n.val + q.val; omega
  | ⟨1, _⟩ => show ((((b.val * 8 + n.val) * 256 + q.val) * 8 + h.val) * 128 + d.val) / 128 % 8 = h.val; omega
  | ⟨2, _⟩ => show ((((b.val * 8 + n.val) * 256 + q.val) * 8 + h.val) * 128 + d.val) % 128 = d.val; omega

theorem v141_at (b : Fin 4) (h : Fin 8) (n : Fin 8) (d : Fin 128) (q : Fin 256) : val_main_v141 (F := Ideal) x0 x3 x5 (ix5 b h n d q)
    = kv0 x0 x3 x5 ⟨2048 * b.val + 256 * n.val + q.val, by omega⟩ ⟨256 * h.val + (128 + d.val), by omega⟩ := by
  rw [v141_pre, v34_at]

end Cert.PrepRef
-- ==== Proof.PrepBlk.lean ====
module

public import proofs.«01_k».proof.Proof.PrepRead
public import proofs.«01_k».proof.Proof.PrepHost
public import proofs.«01_k».proof.Proof.PrepRefOut

/-!
# The latent attention preparation: a grid point's blocks
-/

@[expose] public section

set_option backward.proofsInPublic true
set_option maxRecDepth 16384

noncomputable section

namespace Cert.PrepBlk

open Cert.PrepIdeal Cert.PrepIdeal.Gen Cert.PrepIdeal.Value Cert.PrepHost Cert.PrepMath Cert.PrepBody Cert.PrepRead
open Idealize.ShloMosaic Idealize.ShloMosaic.TcCoe Idealize.SL.Sem

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem ltN (t : Fin cfg0.N) : t.val < 32 := t.isLt

/-- The row of the projections at place `q` of grid point `t`'s block. -/
def row (t : Fin cfg0.N) (q : Fin 256) : Fin 8192 := ⟨256 * t.val + q.val, by have := ltN t; omega⟩

variable (m : (ℓ : Loc nD τ sig) → Buf (Elt Ideal) ℓ) (c : Dev nD)

theorem V_arg0 : V m c main_arg0 = mla m c := by
  show StableHlo.after hostOps0 _ main_arg0 = _
  after_results_simp
theorem V_arg1 : V m c main_arg1 = pos m c := by
  show StableHlo.after hostOps0 _ main_arg1 = _
  after_results_simp

theorem blk0 (t : Fin cfg0.N) (q : Fin 256) (k : Fin 1408) : iblk m c 0 t (ix2 q k) = mla m c (ix2 (row t q) k) := by
  obtain ⟨e0, e1⟩ := index0 t
  rw [← V_arg0]
  show V m c main_arg0 (((cfg0.win 0).blk t).view.emb (ix2 q k)) = _
  refine congrArg (V m c main_arg0) (funext fun a => Fin.ext ?_)
  match a with
  | ⟨0, _⟩ => show win0_0.index t (0 : Fin 2) * 256 + 1 * q.val = 256 * t.val + q.val; omega
  | ⟨1, _⟩ => show win0_0.index t (1 : Fin 2) * 1408 + 1 * k.val = k.val; omega

theorem blk1 (t : Fin cfg0.N) (q : Fin 256) (k : Fin 1) : iblk m c 1 t (ix2 q k) = pos m c (ix2 (row t q) k) := by
  obtain ⟨e0, e1⟩ := index1 t
  rw [← V_arg1]
  show V m c main_arg1 (((cfg0.win 1).blk t).view.emb (ix2 q k)) = _
  refine congrArg (V m c main_arg1) (funext fun a => Fin.ext ?_)
  match a with
  | ⟨0, _⟩ => show win0_1.index t (0 : Fin 2) * 256 + 1 * q.val = 256 * t.val + q.val; omega
  | ⟨1, _⟩ => show win0_1.index t (1 : Fin 2) * 1 + 1 * k.val = k.val; omega

theorem blk2 (t : Fin cfg0.N) (q : Fin 1) (k : Fin 128) : iblk m c 2 t (ix2 q k) = V m c main_v29 (ix2 q k) := by
  obtain ⟨e0, e1⟩ := index2 t
  show V m c main_v29 (((cfg0.win 2).blk t).view.emb (ix2 q k)) = _
  refine congrArg (V m c main_v29) (funext fun a => Fin.ext ?_)
  match a with
  | ⟨0, _⟩ => show win0_2.index t (0 : Fin 2) * 1 + 1 * q.val = q.val; omega
  | ⟨1, _⟩ => show win0_2.index t (1 : Fin 2) * 128 + 1 * k.val = k.val; omega

theorem blk3 (t : Fin cfg0.N) (q : Fin 1) (k : Fin 768) : iblk m c 3 t (ix2 q k) = V m c main_v30 (ix2 q k) := by
  obtain ⟨e0, e1⟩ := index3 t
  show V m c main_v30 (((cfg0.win 3).blk t).view.emb (ix2 q k)) = _
  refine congrArg (V m c main_v30) (funext fun a => Fin.ext ?_)
  match a with
  | ⟨0, _⟩ => show win0_3.index t (0 : Fin 2) * 1 + 1 * q.val = q.val; omega
  | ⟨1, _⟩ => show win0_3.index t (1 : Fin 2) * 768 + 1 * k.val = k.val; omega

theorem blk4 (t : Fin cfg0.N) (q : Fin 1) (k : Fin 512) : iblk m c 4 t (ix2 q k) = V m c main_v31 (ix2 q k) := by
  obtain ⟨e0, e1⟩ := index4 t
  show V m c main_v31 (((cfg0.win 4).blk t).view.emb (ix2 q k)) = _
  refine congrArg (V m c main_v31) (funext fun a => Fin.ext ?_)
  match a with
  | ⟨0, _⟩ => show win0_4.index t (0 : Fin 2) * 1 + 1 * q.val = q.val; omega
  | ⟨1, _⟩ => show win0_4.index t (1 : Fin 2) * 512 + 1 * k.val = k.val; omega

theorem blk5 (t : Fin cfg0.N) (q : Fin 768) (k : Fin 1536) : iblk m c 5 t (ix2 q k) = V m c main_v6 (ix2 q k) := by
  obtain ⟨e0, e1⟩ := index5 t
  show V m c main_v6 (((cfg0.win 5).blk t).view.emb (ix2 q k)) = _
  refine congrArg (V m c main_v6) (funext fun a => Fin.ext ?_)
  match a with
  | ⟨0, _⟩ => show win0_5.index t (0 : Fin 2) * 768 + 1 * q.val = q.val; omega
  | ⟨1, _⟩ => show win0_5.index t (1 : Fin 2) * 1536 + 1 * k.val = k.val; omega

theorem blk6 (t : Fin cfg0.N) (q : Fin 512) (k : Fin 1024) : iblk m c 6 t (ix2 q k) = V m c main_v10 (ix2 q k) := by
  obtain ⟨e0, e1⟩ := index6 t
  show V m c main_v10 (((cfg0.win 6).blk t).view.emb (ix2 q k)) = _
  refine congrArg (V m c main_v10) (funext fun a => Fin.ext ?_)
  match a with
  | ⟨0, _⟩ => show win0_6.index t (0 : Fin 2) * 512 + 1 * q.val = q.val; omega
  | ⟨1, _⟩ => show win0_6.index t (1 : Fin 2) * 1024 + 1 * k.val = k.val; omega

theorem blk7 (t : Fin cfg0.N) (q : Fin 1024) (k : Fin 512) : iblk m c 7 t (ix2 q k) = V m c main_v14 (ix2 q k) := by
  obtain ⟨e0, e1⟩ := index7 t
  show V m c main_v14 (((cfg0.win 7).blk t).view.emb (ix2 q k)) = _
  refine congrArg (V m c main_v14) (funext fun a => Fin.ext ?_)
  match a with
  | ⟨0, _⟩ => show win0_7.index t (0 : Fin 2) * 1024 + 1 * q.val = q.val; omega
  | ⟨1, _⟩ => show win0_7.index t (1 : Fin 2) * 512 + 1 * k.val = k.val; omega

theorem blk8 (t : Fin cfg0.N) (q : Fin 1) (k : Fin 128) : iblk m c 8 t (ix2 q k) = V m c main_v33 (ix2 q k) := by
  obtain ⟨e0, e1⟩ := index8 t
  show V m c main_v33 (((cfg0.win 8).blk t).view.emb (ix2 q k)) = _
  refine congrArg (V m c main_v33) (funext fun a => Fin.ext ?_)
  match a with
  | ⟨0, _⟩ => show win0_8.index t (0 : Fin 2) * 1 + 1 * q.val = q.val; omega
  | ⟨1, _⟩ => show win0_8.index t (1 : Fin 2) * 128 + 1 * k.val = k.val; omega

theorem blk9 (t : Fin cfg0.N) (q : Fin 1) (k : Fin 128) : iblk m c 9 t (ix2 q k) = V m c main_v38 (ix2 q k) := by
  obtain ⟨e0, e1⟩ := index9 t
  show V m c main_v38 (((cfg0.win 9).blk t).view.emb (ix2 q k)) = _
  refine congrArg (V m c main_v38) (funext fun a => Fin.ext ?_)
  match a with
  | ⟨0, _⟩ => show win0_9.index t (0 : Fin 2) * 1 + 1 * q.val = q.val; omega
  | ⟨1, _⟩ => show win0_9.index t (1 : Fin 2) * 128 + 1 * k.val = k.val; omega

theorem blk10 (t : Fin cfg0.N) (q : Fin 1) (k : Fin 128) : iblk m c 10 t (ix2 q k) = V m c main_v40 (ix2 q k) := by
  obtain ⟨e0, e1⟩ := index10 t
  show V m c main_v40 (((cfg0.win 10).blk t).view.emb (ix2 q k)) = _
  refine congrArg (V m c main_v40) (funext fun a => Fin.ext ?_)
  match a with
  | ⟨0, _⟩ => show win0_10.index t (0 : Fin 2) * 1 + 1 * q.val = q.val; omega
  | ⟨1, _⟩ => show win0_10.index t (1 : Fin 2) * 128 + 1 * k.val = k.val; omega

theorem blk11 (t : Fin cfg0.N) (q : Fin 1) (k : Fin 128) : iblk m c 11 t (ix2 q k) = V m c main_v45 (ix2 q k) := by
  obtain ⟨e0, e1⟩ := index11 t
  show V m c main_v45 (((cfg0.win 11).blk t).view.emb (ix2 q k)) = _
  refine congrArg (V m c main_v45) (funext fun a => Fin.ext ?_)
  match a with
  | ⟨0, _⟩ => show win0_11.index t (0 : Fin 2) * 1 + 1 * q.val = q.val; omega
  | ⟨1, _⟩ => show win0_11.index t (1 : Fin 2) * 128 + 1 * k.val = k.val; omega

theorem hz : (![0, 0] : Fin 2 → Nat) = fun _ => 0 := by funext a; fin_cases a <;> rfl

theorem full0 (x : Vec Ideal S256x1 .i32) : View.ld x r0_0 = x := by
  unfold r0_0
  rw [View.ld_unit_zero hz]
theorem full1 (x : Vec Ideal S1x128 .f32) : View.ld x r0_1 = x := by
  unfold r0_1
  rw [View.ld_unit_zero hz]
theorem full3 (x : Vec Ideal S1x768 .f32) : View.ld x r0_3 = x := by
  unfold r0_3
  rw [View.ld_unit_zero hz]
theorem full5 (x : Vec Ideal S1x512 .f32) : View.ld x r0_5 = x := by
  unfold r0_5
  rw [View.ld_unit_zero hz]
theorem full7 (x : Vec Ideal S768x1536 .bf16) : View.ld x r0_7 = x := by
  unfold r0_7
  rw [View.ld_unit_zero hz]
theorem full8 (x : Vec Ideal S512x1024 .bf16) : View.ld x r0_8 = x := by
  unfold r0_8
  rw [View.ld_unit_zero hz]
theorem full9 (x : Vec Ideal S1024x512 .bf16) : View.ld x r0_9 = x := by
  unfold r0_9
  rw [View.ld_unit_zero hz]

/-- The block's query columns, its key and value columns, and its shared rotated key columns. -/
theorem ldq (t : Fin cfg0.N) (q : Fin 256) (k : Fin 768) : View.ld (iblk m c 0 t) r0_2 (ix2 q k) = mla m c (ix2 (row t q) ⟨k.val, by omega⟩) := by
  rw [← blk0]
  refine congrArg (iblk m c 0 t) (funext fun a => Fin.ext ?_)
  match a with
  | ⟨0, _⟩ => show 0 + 1 * q.val = q.val; omega
  | ⟨1, _⟩ => show 0 + 1 * k.val = k.val; omega

theorem ldkv (t : Fin cfg0.N) (q : Fin 256) (k : Fin 512) : View.ld (iblk m c 0 t) r0_4 (ix2 q k) = mla m c (ix2 (row t q) ⟨768 + k.val, by omega⟩) := by
  rw [← blk0]
  refine congrArg (iblk m c 0 t) (funext fun a => Fin.ext ?_)
  match a with
  | ⟨0, _⟩ => show 0 + 1 * q.val = q.val; omega
  | ⟨1, _⟩ => show 768 + 1 * k.val = 768 + k.val; omega

theorem ldkr (t : Fin cfg0.N) (q : Fin 256) (k : Fin 128) : View.ld (iblk m c 0 t) r0_6 (ix2 q k) = mla m c (ix2 (row t q) ⟨1280 + k.val, by omega⟩) := by
  rw [← blk0]
  refine congrArg (iblk m c 0 t) (funext fun a => Fin.ext ?_)
  match a with
  | ⟨0, _⟩ => show 0 + 1 * q.val = q.val; omega
  | ⟨1, _⟩ => show 1280 + 1 * k.val = 1280 + k.val; omega

/-- The products a grid point forms. -/
def QF (t : Fin cfg0.N) : FVec Ideal S256x1536 .f32 := k0_pay12 (k0_pay9 (View.ld (iblk m c 0 t) r0_2) (View.ld (iblk m c 3 t) r0_3)) (View.ld (iblk m c 5 t) r0_7)
def KF (t : Fin cfg0.N) : FVec Ideal S256x1024 .f32 := k0_pay13 (View.ld (iblk m c 0 t) r0_4) (k0_pay10 (View.ld (iblk m c 0 t) r0_4)) (View.ld (iblk m c 4 t) r0_5) (View.ld (iblk m c 6 t) r0_8)
def VF (t : Fin cfg0.N) : FVec Ideal S1024x256 .f32 := k0_pay14 (View.ld (iblk m c 0 t) r0_4) (k0_pay10 (View.ld (iblk m c 0 t) r0_4)) (View.ld (iblk m c 4 t) r0_5) (View.ld (iblk m c 7 t) r0_9)
def KR (t : Fin cfg0.N) : FVec Ideal S256x128 .f32 := View.ld (iblk m c 0 t) r0_6

theorem gq (t : Fin cfg0.N) (k : Fin 768) : View.ld (iblk m c 3 t) r0_3 (ix2 0 k) = qa m c (ix1 k) := by
  rw [full3, blk3, gain_q]
theorem gkv (t : Fin cfg0.N) (k : Fin 512) : View.ld (iblk m c 4 t) r0_5 (ix2 0 k) = kva m c (ix1 k) := by
  rw [full5, blk4, gain_kv]

abbrev q0 (r : Fin 8192) (f : Fin 1536) : EReal := PrepRef.q0 (mla m c) (qa m c) (wuq m c) r f
abbrev kv0 (r : Fin 8192) (f : Fin 2048) : EReal := PrepRef.kv0 (mla m c) (kva m c) (wukv m c) r f

theorem QF_plain (t : Fin cfg0.N) (q : Fin 256) (h : Fin 8) (d : Fin 128) : QF m c t (ix2 q ⟨128 * h.val + d.val, by omega⟩) = q0 m c (row t q) ⟨192 * h.val + d.val, by omega⟩ := by
  unfold QF
  rw [qf_at]
  simp only [ldq, gq]
  refine Finset.sum_congr rfl fun k _ => congrArg₂ (fun a b : EReal => a * b) rfl ?_
  rw [full7, blk5]
  exact wq_plain m c k h d

theorem QF_rope (t : Fin cfg0.N) (q : Fin 256) (h : Fin 8) (e : Fin 64) : QF m c t (ix2 q ⟨1024 + 64 * h.val + e.val, by omega⟩) = q0 m c (row t q) ⟨192 * h.val + (128 + e.val), by omega⟩ := by
  unfold QF
  rw [qf_at]
  simp only [ldq, gq]
  refine Finset.sum_congr rfl fun k _ => congrArg₂ (fun a b : EReal => a * b) rfl ?_
  rw [full7, blk5]
  exact PrepHost.wq_rope m c k h e

theorem KF_plain (t : Fin cfg0.N) (q : Fin 256) (h : Fin 8) (d : Fin 128) : KF m c t (ix2 q ⟨128 * h.val + d.val, by omega⟩) = kv0 m c (row t q) ⟨256 * h.val + d.val, by omega⟩ := by
  unfold KF
  rw [kf_at]
  simp only [ldkv, gkv]
  refine Finset.sum_congr rfl fun k _ => congrArg₂ (fun a b : EReal => a * b) rfl ?_
  rw [full8, blk6]
  exact wk_plain m c k h d

theorem VF_plain (t : Fin cfg0.N) (q : Fin 256) (h : Fin 8) (d : Fin 128) : VF m c t (ix2 ⟨128 * h.val + d.val, by omega⟩ q) = kv0 m c (row t q) ⟨256 * h.val + (128 + d.val), by omega⟩ := by
  unfold VF
  rw [vf_at]
  simp only [ldkv, gkv]
  refine Finset.sum_congr rfl fun k _ => congrArg₂ (fun a b : EReal => a * b) rfl ?_
  rw [full9, blk7]
  exact wv_plain m c k h d

/-- The sums of squares of a head are over its 192 lanes. -/
theorem ssq_eq (t : Fin cfg0.N) (q : Fin 256) (h : Fin 8) : ssq (QF m c t) h q
    = ∑ l : Fin 192, q0 m c (row t q) ⟨192 * h.val + l.val, by omega⟩ * q0 m c (row t q) ⟨192 * h.val + l.val, by omega⟩ := by
  rw [sum_192, ssq]
  simp only [QF_plain, QF_rope]

abbrev k0 (r : Fin 8192) (h : Fin 8) (l : Fin 192) : EReal := PrepRef.k0 (mla m c) (kva m c) (wukv m c) r h l

theorem k0_plain (r : Fin 8192) (h : Fin 8) (d : Fin 128) : k0 m c r h ⟨d.val, by omega⟩ = kv0 m c r ⟨256 * h.val + d.val, by omega⟩ := by
  unfold k0 PrepRef.k0
  rw [dif_pos (show d.val < 128 from d.isLt)]

theorem k0_rope (r : Fin 8192) (h : Fin 8) (e : Fin 64) : k0 m c r h ⟨128 + e.val, by omega⟩ = mla m c (ix2 r ⟨1280 + e.val, by omega⟩) := by
  unfold k0 PrepRef.k0
  rw [dif_neg (show ¬ 128 + e.val < 128 by omega)]
  exact congrArg (fun i => mla m c (ix2 r i)) (Fin.ext (by simp only; omega))

theorem ssk_eq (t : Fin cfg0.N) (q : Fin 256) (h : Fin 8) : ssk (KF m c t) (KR m c t) h q = ∑ l : Fin 192, k0 m c (row t q) h l * k0 m c (row t q) h l := by
  rw [sum_192, ssk]
  simp only [KF_plain, k0_plain, k0_rope]
  refine congrArg₂ (fun a b : EReal => a + b) rfl (Finset.sum_congr rfl fun e _ => ?_)
  have h := ldkr m c t q ⟨e.val, by omega⟩
  exact congrArg₂ (fun a b : EReal => a * b) h h

/-- The frequencies, the norm weights and the angles as a grid point reads them. -/
theorem freqs (t : Fin cfg0.N) (l : Fin 128) : View.ld (iblk m c 2 t) r0_1 (ix2 0 l) = PrepRefIdeal.Read.val_main_v76 (F := Ideal) (ix1 ⟨l.val % 32, by omega⟩) := by
  rw [full1, blk2, freq]
theorem g8 (t : Fin cfg0.N) (l : Fin 128) : View.ld (iblk m c 8 t) r0_1 (ix2 0 l) = qn m c (ix1 ⟨l.val, by omega⟩) := by
  rw [full1, blk8, lanes_q]
theorem g9 (t : Fin cfg0.N) (l : Fin 128) : View.ld (iblk m c 9 t) r0_1 (ix2 0 l) = qn m c (ix1 ⟨128 + l.val % 64, by omega⟩) := by
  rw [full1, blk9, turned_q]
theorem g10 (t : Fin cfg0.N) (l : Fin 128) : View.ld (iblk m c 10 t) r0_1 (ix2 0 l) = kn m c (ix1 ⟨l.val, by omega⟩) := by
  rw [full1, blk10, lanes_k]
theorem g11 (t : Fin cfg0.N) (l : Fin 128) : View.ld (iblk m c 11 t) r0_1 (ix2 0 l) = kn m c (ix1 ⟨128 + l.val % 64, by omega⟩) := by
  rw [full1, blk11, turned_k]

theorem angs (t : Fin cfg0.N) (q : Fin 256) : ang (sitofp .f32 (View.ld (iblk m c 1 t) r0_0)) (fun i => PrepRefIdeal.Read.val_main_v76 (F := Ideal) (ix1 i)) q = PrepRef.ang (pos m c) (row t q) := by
  funext i
  unfold ang PrepRef.ang
  refine congrArg₂ (fun a b : EReal => a * b) ?_ rfl
  rw [full0]
  exact congrArg (fun z => FloatOps.sitofp (F := Ideal) .f32 z) (blk1 m c t q 0)

end Cert.PrepBlk
-- ==== Proof.PrepFinal.lean ====
module

public import proofs.«01_k».proof.Defs
public import proofs.«01_k».proof.Proof.PrepBlk

/-!
# The latent attention preparation computes the reference

Each grid point takes 256 rows of the projections and writes their rows of the three results: the eight heads' queries and keys, normed,
the last lanes turned by the position, and the heads' values. The blocks tile the results.
-/

@[expose] public section

set_option maxRecDepth 16384

noncomputable section

namespace Cert.PrepFinal

open Cert.PrepIdeal Cert.PrepIdeal.Gen Cert.PrepIdeal.Value Cert.PrepHost Cert.PrepMath Cert.PrepBody Cert.PrepRead Cert.PrepBlk
open Idealize.ShloMosaic Idealize.ShloMosaic.TcCoe Idealize.SL.Sem
open Idealize.ShloMosaic.Pipeline (Dat)

theorem toNat_inj (o o' : Bool) : o.toNat = o'.toNat → o = o' := by revert o o'; decide

/-- The places of different heads' lanes do not meet. -/
theorem rP_disj (k k' : Key) (hne : k ≠ k') (j : (rP k).shape.Idx) : (rP k).emb j ∉ (rP k').set := by
  intro hm
  obtain ⟨j', hj'⟩ := (rP k').exists_idx_of_mem hm
  have h1 := congrArg Fin.val (congrFun hj' 1)
  have h3 := congrArg Fin.val (congrFun hj' 3)
  have b1 : (j' 1).val < 1 := (j' 1).isLt
  have b2 : (j 1).val < 1 := (j 1).isLt
  have b3 : (j' 3).val < 128 := (j' 3).isLt
  have b4 : (j 3).val < 128 := (j 3).isLt
  obtain ⟨a, o, r⟩ := k
  obtain ⟨a', o', r'⟩ := k'
  have e1 : 2 * a'.val + o'.toNat + 1 * (j' 1).val = 2 * a.val + o.toNat + 1 * (j 1).val := h1
  have e3 : 128 * r'.toNat + 1 * (j' 3).val = 128 * r.toNat + 1 * (j 3).val := h3
  have ho := Bool.toNat_lt o
  have ho' := Bool.toNat_lt o'
  have ha : a = a' := Fin.ext (by omega)
  have hoo : o = o' := toNat_inj o o' (by omega)
  have hr : r = r' := toNat_inj r r' (by omega)
  exact hne (by rw [ha, hoo, hr])

theorem heads_hd : ∀ h : Fin 8, ∃ (j : Fin 4) (o : Bool), hd j o = h := by decide +kernel

variable (m : (ℓ : Loc nD τ sig) → Buf (Elt Ideal) ℓ) (c : Dev nD)

/-- What a grid point stores of the queries and keys, place by place, and of the values. -/
abbrev O12 (t : Fin cfg0.N) := out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev O13 (t : Fin cfg0.N) := out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev O14 (t : Fin cfg0.N) := out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

abbrev cosT (t : Fin cfg0.N) : FVec Ideal S256x128 .f32 := k0_pay6 (View.ld (iblk m c 1 t) r0_0) (View.ld (iblk m c 2 t) r0_1)
abbrev sinT (t : Fin cfg0.N) : FVec Ideal S256x128 .f32 := k0_pay7 (View.ld (iblk m c 1 t) r0_0) (View.ld (iblk m c 2 t) r0_1)

theorem O12_key (t : Fin cfg0.N) (k : Key) (j : (rP k).shape.Idx) : O12 m c t ((rP k).emb j)
    = wq (QF m c t) (cosT m c t) (sinT m c t) (View.ld (iblk m c 8 t) r0_1) (View.ld (iblk m c 9 t) r0_1) k j := by
  unfold O12
  rw [out12_eq]
  exact congrFun (AttnHeads.rd_map_mem (F := Ideal) (e := .bf16) rP (wq (QF m c t) (cosT m c t) (sinT m c t) (View.ld (iblk m c 8 t) r0_1) (View.ld (iblk m c 9 t) r0_1)) [] rP_disj k keys (mem_keys k)) j

theorem O13_key (t : Fin cfg0.N) (k : Key) (j : (rP k).shape.Idx) : O13 m c t ((rP k).emb j)
    = wk (KF m c t) (KR m c t) (cosT m c t) (sinT m c t) (View.ld (iblk m c 10 t) r0_1) (View.ld (iblk m c 11 t) r0_1) k j := by
  unfold O13
  rw [out13_eq]
  exact congrFun (AttnHeads.rd_map_mem (F := Ideal) (e := .bf16) rP (wk (KF m c t) (KR m c t) (cosT m c t) (sinT m c t) (View.ld (iblk m c 10 t) r0_1) (View.ld (iblk m c 11 t) r0_1)) [] rP_disj k keys (mem_keys k)) j

/-- The place of a lane: a plain one, -/
theorem place_plain (j : Fin 4) (o : Bool) (q f : Fin 256) (hf : f.val < 128) : (ix4 0 (hd j o) q f : S1x8x256x256.Idx) = (rP (j, o, false)).emb (ix4 0 0 q ⟨f.val, hf⟩) := by
  refine funext fun a => Fin.ext ?_
  match a with
  | ⟨0, _⟩ => rfl
  | ⟨1, _⟩ => show (hd j o).val = (hd j o).val + 1 * 0; omega
  | ⟨2, _⟩ => show q.val = 0 + 1 * q.val; omega
  | ⟨3, _⟩ => show f.val = 128 * 0 + 1 * f.val; omega
/-- or one of the last 128. -/
theorem place_rope (j : Fin 4) (o : Bool) (q f : Fin 256) (hf : ¬ f.val < 128) : (ix4 0 (hd j o) q f : S1x8x256x256.Idx) = (rP (j, o, true)).emb (ix4 0 0 q ⟨f.val - 128, by omega⟩) := by
  refine funext fun a => Fin.ext ?_
  match a with
  | ⟨0, _⟩ => rfl
  | ⟨1, _⟩ => show (hd j o).val = (hd j o).val + 1 * 0; omega
  | ⟨2, _⟩ => show q.val = 0 + 1 * q.val; omega
  | ⟨3, _⟩ => show f.val = 128 * 1 + 1 * (f.val - 128); omega

/-- The reference's results from the kernel's arguments. -/
abbrev G12 : S4x8x2048x256.Idx → Elt Ideal .bf16 := PrepRefIdeal.Read.val_main_v135 (F := Ideal) (mla m c) (pos m c) (qa m c) (wuq m c) (qn m c)
abbrev G13 : S4x8x2048x256.Idx → Elt Ideal .bf16 := PrepRefIdeal.Read.val_main_v138 (F := Ideal) (mla m c) (pos m c) (kva m c) (wukv m c) (kn m c)
abbrev G14 : S4x8x8x128x256.Idx → Elt Ideal .bf16 := PrepRefIdeal.Read.val_main_v141 (F := Ideal) (mla m c) (kva m c) (wukv m c)

def batch (t : Fin cfg0.N) : Fin 4 := ⟨t.val / 8, by have := ltN t; omega⟩
def chunk (t : Fin cfg0.N) : Fin 8 := ⟨t.val % 8, by omega⟩
def at_ (t : Fin cfg0.N) (q : Fin 256) : Fin 2048 := ⟨256 * (t.val % 8) + q.val, by omega⟩

theorem row_eq (t : Fin cfg0.N) (q : Fin 256) : (⟨2048 * (batch t).val + (at_ t q).val, by omega⟩ : Fin 8192) = row t q :=
  Fin.ext (by show 2048 * (t.val / 8) + (256 * (t.val % 8) + q.val) = 256 * t.val + q.val; omega)

theorem out12 (t : Fin cfg0.N) (h : Fin 8) (q f : Fin 256) : O12 m c t (ix4 0 h q f) = G12 m c (ix4 (batch t) h (at_ t q) f) := by
  unfold G12
  rw [PrepRef.v135_at, row_eq, PrepRef.v98_at]
  obtain ⟨j, o, rfl⟩ := heads_hd h
  by_cases hf : f.val < 128
  · rw [dif_pos hf, place_plain j o q f hf]
    refine (O12_key m c t (j, o, false) _).trans ?_
    rw [wq_nope, PrepRef.v50_at, ssq_eq, QF_plain m c t q (hd j o) ⟨f.val, hf⟩, PrepBlk.g8]
    rfl
  · rw [dif_neg hf, place_rope j o q f hf]
    refine (O12_key m c t (j, o, true) _).trans ?_
    rw [PrepRead.wq_rope _ _ (fun i => PrepRefIdeal.Read.val_main_v76 (F := Ideal) (ix1 i)) (freqs m c t) (QF m c t) _ _ (fun e => qn m c (ix1 ⟨128 + e.val, by omega⟩)) (PrepBlk.g9 m c t)]
    by_cases h64 : f.val - 128 < 64
    · rw [dif_pos h64, dif_pos h64, PrepRef.v97_at, angs, ssq_eq]
      simp only [QF_rope, PrepRef.v50_at]
      rfl
    · rw [dif_neg h64, dif_neg h64]

theorem out13 (t : Fin cfg0.N) (h : Fin 8) (q f : Fin 256) : O13 m c t (ix4 0 h q f) = G13 m c (ix4 (batch t) h (at_ t q) f) := by
  unfold G13
  rw [PrepRef.v138_at, row_eq, PrepRef.v132_at]
  obtain ⟨j, o, rfl⟩ := heads_hd h
  by_cases hf : f.val < 128
  · rw [dif_pos hf, place_plain j o q f hf]
    refine (O13_key m c t (j, o, false) _).trans ?_
    rw [wk_nope, PrepRef.v63_at, ssk_eq, KF_plain m c t q (hd j o) ⟨f.val, hf⟩, PrepBlk.g10, ← k0_plain]
    rfl
  · rw [dif_neg hf, place_rope j o q f hf]
    refine (O13_key m c t (j, o, true) _).trans ?_
    rw [PrepRead.wk_rope _ _ (fun i => PrepRefIdeal.Read.val_main_v76 (F := Ideal) (ix1 i)) (freqs m c t) (KF m c t) (KR m c t) _ _ (fun e => kn m c (ix1 ⟨128 + e.val, by omega⟩)) (PrepBlk.g11 m c t)]
    by_cases h64 : f.val - 128 < 64
    · have hk (e : Fin 64) : KR m c t (ix2 q ⟨e.val, by omega⟩) = k0 m c (row t q) (hd j o) ⟨128 + e.val, by omega⟩ :=
        (ldkr m c t q ⟨e.val, by omega⟩).trans (k0_rope m c (row t q) (hd j o) e).symm
      rw [dif_pos h64, dif_pos h64, PrepRef.v131_at, angs, ssk_eq]
      simp only [hk, PrepRef.v63_at]
      rfl
    · rw [dif_neg h64, dif_neg h64]

theorem out14 (t : Fin cfg0.N) (h : Fin 8) (d : Fin 128) (q : Fin 256) : O14 m c t (ix5 0 h 0 d q) = G14 m c (ix5 (batch t) h (chunk t) d q) := by
  unfold G14
  have er : (⟨2048 * (batch t).val + 256 * (chunk t).val + q.val, by omega⟩ : Fin 8192) = row t q :=
    Fin.ext (by show 2048 * (t.val / 8) + 256 * (t.val % 8) + q.val = 256 * t.val + q.val; omega)
  rw [PrepRef.v141_at, er]
  refine Eq.trans ?_ (VF_plain m c t q h d)
  refine (canon14_eq (View.ld (iblk m c 0 t) r0_4) (View.ld (iblk m c 4 t) r0_5) (View.ld (iblk m c 7 t) r0_9) (ix5 0 h 0 d q)).trans ?_
  refine congrArg (VF m c t) (funext fun a => Fin.ext ?_)
  match a with
  | ⟨0, _⟩ => show h.val * 128 + d.val = 128 * h.val + d.val; omega
  | ⟨1, _⟩ => rfl

theorem index12 : ∀ t : Fin cfg0.N, win0_12.index t (0 : Fin 4) = t.val / 8 ∧ win0_12.index t (1 : Fin 4) = 0 ∧ win0_12.index t (2 : Fin 4) = t.val % 8 ∧ win0_12.index t (3 : Fin 4) = 0 :=
  (by decide +kernel : ∀ t : Fin grid0.N, _)

theorem oblk12 (t : Fin cfg0.N) (h : Fin 8) (q f : Fin 256) : ((cfg0.win 12).blk t).view.emb (ix4 0 h q f) = ix4 (batch t) h (at_ t q) f := by
  obtain ⟨e0, e1, e2, e3⟩ := index12 t
  refine funext fun a => Fin.ext ?_
  match a with
  | ⟨0, _⟩ => show win0_12.index t (0 : Fin 4) * 1 + 1 * 0 = t.val / 8; omega
  | ⟨1, _⟩ => show win0_12.index t (1 : Fin 4) * 8 + 1 * h.val = h.val; omega
  | ⟨2, _⟩ => show win0_12.index t (2 : Fin 4) * 256 + 1 * q.val = 256 * (t.val % 8) + q.val; omega
  | ⟨3, _⟩ => show win0_12.index t (3 : Fin 4) * 256 + 1 * f.val = f.val; omega

theorem cut12 (t : Fin cfg0.N) (x : Vec Ideal S1x8x256x256 .bf16) (y : S1x8x256x256.Idx) : (cfg0.win 12).cut (grid0.coords t) x y = x y := rfl

theorem read12 (t : Fin cfg0.N) (z : S4x8x2048x256.Idx → Elt Ideal .bf16) (y : S1x8x256x256.Idx) : ((cfg0.win 12).blk t).view.read (Elt Ideal) z y = z (((cfg0.win 12).blk t).view.emb y) := rfl

theorem flushed12_eq (t : Fin cfg0.N) : (dats m 0 c).flushed 12 t = ((cfg0.win 12).blk t).view.read (Elt Ideal) (G12 m c) := by
  rw [flushed12]
  funext (y : S1x8x256x256.Idx)
  obtain ⟨h, hh⟩ : ∃ h : Fin 8, h = y 1 := ⟨_, rfl⟩
  obtain ⟨q, hq⟩ : ∃ q : Fin 256, q = y 2 := ⟨_, rfl⟩
  obtain ⟨f, hf⟩ : ∃ f : Fin 256, f = y 3 := ⟨_, rfl⟩
  have h0 : (y 0).val < 1 := (y 0).isLt
  have ey : y = ix4 0 h q f := funext fun a => by
    match a with
    | ⟨0, _⟩ => exact Fin.ext (show (y 0).val = 0 by omega)
    | ⟨1, _⟩ => exact hh.symm
    | ⟨2, _⟩ => exact hq.symm
    | ⟨3, _⟩ => exact hf.symm
  refine (cut12 t (O12 m c t) y).trans ?_
  refine Eq.trans ?_ (read12 t (G12 m c) y).symm
  have e := (oblk12 t h q f).symm.trans (congrArg ((cfg0.win 12).blk t).view.emb ey.symm)
  exact (congrArg (O12 m c t) ey).trans ((out12 m c t h q f).trans (congrArg (G12 m c) e))

theorem covered12 (i : S4x8x2048x256.Idx) : ∃ t : Fin cfg0.N, (cfg0.win 12).flush t = true ∧ i ∈ ((cfg0.win 12).blk t).view.set := by
  have h0 : (i 0).val < 4 := (i 0).isLt
  have h2 : (i 2).val < 2048 := (i 2).isLt
  obtain ⟨t, ht⟩ : ∃ t : Fin cfg0.N, t.val = (i 0).val * 8 + (i 2).val / 256 := ⟨⟨_, by show _ < 32; omega⟩, rfl⟩
  obtain ⟨p, hp⟩ : ∃ p : Fin 8, p = i 1 := ⟨_, rfl⟩
  obtain ⟨q, hq⟩ : ∃ q : Fin 256, q.val = (i 2).val % 256 := ⟨⟨(i 2).val % 256, by omega⟩, rfl⟩
  obtain ⟨f, hf⟩ : ∃ f : Fin 256, f = i 3 := ⟨_, rfl⟩
  have h : ((cfg0.win 12).blk t).view.emb (ix4 0 p q f) ∈ ((cfg0.win 12).blk t).view.set := View.emb_mem_set _ _
  rw [oblk12] at h
  refine ⟨t, flush0_12 _, ?_⟩
  have e : (ix4 (batch t) p (at_ t q) f : S4x8x2048x256.Idx) = i := by
    refine funext fun a => ?_
    match a with
    | ⟨0, _⟩ => exact Fin.ext (show t.val / 8 = (i 0).val by omega)
    | ⟨1, _⟩ => exact hp
    | ⟨2, _⟩ => exact Fin.ext (show 256 * (t.val % 8) + q.val = (i 2).val by omega)
    | ⟨3, _⟩ => exact hf
  exact (congrArg (· ∈ ((cfg0.win 12).blk t).view.set) e).mp h

theorem index13 : ∀ t : Fin cfg0.N, win0_13.index t (0 : Fin 4) = t.val / 8 ∧ win0_13.index t (1 : Fin 4) = 0 ∧ win0_13.index t (2 : Fin 4) = t.val % 8 ∧ win0_13.index t (3 : Fin 4) = 0 :=
  (by decide +kernel : ∀ t : Fin grid0.N, _)

theorem oblk13 (t : Fin cfg0.N) (h : Fin 8) (q f : Fin 256) : ((cfg0.win 13).blk t).view.emb (ix4 0 h q f) = ix4 (batch t) h (at_ t q) f := by
  obtain ⟨e0, e1, e2, e3⟩ := index13 t
  refine funext fun a => Fin.ext ?_
  match a with
  | ⟨0, _⟩ => show win0_13.index t (0 : Fin 4) * 1 + 1 * 0 = t.val / 8; omega
  | ⟨1, _⟩ => show win0_13.index t (1 : Fin 4) * 8 + 1 * h.val = h.val; omega
  | ⟨2, _⟩ => show win0_13.index t (2 : Fin 4) * 256 + 1 * q.val = 256 * (t.val % 8) + q.val; omega
  | ⟨3, _⟩ => show win0_13.index t (3 : Fin 4) * 256 + 1 * f.val = f.val; omega

theorem cut13 (t : Fin cfg0.N) (x : Vec Ideal S1x8x256x256 .bf16) (y : S1x8x256x256.Idx) : (cfg0.win 13).cut (grid0.coords t) x y = x y := rfl

theorem read13 (t : Fin cfg0.N) (z : S4x8x2048x256.Idx → Elt Ideal .bf16) (y : S1x8x256x256.Idx) : ((cfg0.win 13).blk t).view.read (Elt Ideal) z y = z (((cfg0.win 13).blk t).view.emb y) := rfl

theorem flushed13_eq (t : Fin cfg0.N) : (dats m 0 c).flushed 13 t = ((cfg0.win 13).blk t).view.read (Elt Ideal) (G13 m c) := by
  rw [flushed13]
  funext (y : S1x8x256x256.Idx)
  obtain ⟨h, hh⟩ : ∃ h : Fin 8, h = y 1 := ⟨_, rfl⟩
  obtain ⟨q, hq⟩ : ∃ q : Fin 256, q = y 2 := ⟨_, rfl⟩
  obtain ⟨f, hf⟩ : ∃ f : Fin 256, f = y 3 := ⟨_, rfl⟩
  have h0 : (y 0).val < 1 := (y 0).isLt
  have ey : y = ix4 0 h q f := funext fun a => by
    match a with
    | ⟨0, _⟩ => exact Fin.ext (show (y 0).val = 0 by omega)
    | ⟨1, _⟩ => exact hh.symm
    | ⟨2, _⟩ => exact hq.symm
    | ⟨3, _⟩ => exact hf.symm
  refine (cut13 t (O13 m c t) y).trans ?_
  refine Eq.trans ?_ (read13 t (G13 m c) y).symm
  have e := (oblk13 t h q f).symm.trans (congrArg ((cfg0.win 13).blk t).view.emb ey.symm)
  exact (congrArg (O13 m c t) ey).trans ((out13 m c t h q f).trans (congrArg (G13 m c) e))

theorem covered13 (i : S4x8x2048x256.Idx) : ∃ t : Fin cfg0.N, (cfg0.win 13).flush t = true ∧ i ∈ ((cfg0.win 13).blk t).view.set := by
  have h0 : (i 0).val < 4 := (i 0).isLt
  have h2 : (i 2).val < 2048 := (i 2).isLt
  obtain ⟨t, ht⟩ : ∃ t : Fin cfg0.N, t.val = (i 0).val * 8 + (i 2).val / 256 := ⟨⟨_, by show _ < 32; omega⟩, rfl⟩
  obtain ⟨p, hp⟩ : ∃ p : Fin 8, p = i 1 := ⟨_, rfl⟩
  obtain ⟨q, hq⟩ : ∃ q : Fin 256, q.val = (i 2).val % 256 := ⟨⟨(i 2).val % 256, by omega⟩, rfl⟩
  obtain ⟨f, hf⟩ : ∃ f : Fin 256, f = i 3 := ⟨_, rfl⟩
  have h : ((cfg0.win 13).blk t).view.emb (ix4 0 p q f) ∈ ((cfg0.win 13).blk t).view.set := View.emb_mem_set _ _
  rw [oblk13] at h
  refine ⟨t, flush0_13 _, ?_⟩
  have e : (ix4 (batch t) p (at_ t q) f : S4x8x2048x256.Idx) = i := by
    refine funext fun a => ?_
    match a with
    | ⟨0, _⟩ => exact Fin.ext (show t.val / 8 = (i 0).val by omega)
    | ⟨1, _⟩ => exact hp
    | ⟨2, _⟩ => exact Fin.ext (show 256 * (t.val % 8) + q.val = (i 2).val by omega)
    | ⟨3, _⟩ => exact hf
  exact (congrArg (· ∈ ((cfg0.win 13).blk t).view.set) e).mp h

theorem index14 : ∀ t : Fin cfg0.N, win0_14.index t (0 : Fin 5) = t.val / 8 ∧ win0_14.index t (1 : Fin 5) = 0
    ∧ win0_14.index t (2 : Fin 5) = t.val % 8 ∧ win0_14.index t (3 : Fin 5) = 0 ∧ win0_14.index t (4 : Fin 5) = 0 :=
  (by decide +kernel : ∀ t : Fin grid0.N, _)

theorem oblk14 (t : Fin cfg0.N) (h : Fin 8) (d : Fin 128) (q : Fin 256) :
    ((cfg0.win 14).blk t).view.emb (ix5 0 h 0 d q) = ix5 (batch t) h (chunk t) d q := by
  obtain ⟨e0, e1, e2, e3, e4⟩ := index14 t
  refine funext fun a => Fin.ext ?_
  match a with
  | ⟨0, _⟩ => show win0_14.index t (0 : Fin 5) * 1 + 1 * 0 = t.val / 8; omega
  | ⟨1, _⟩ => show win0_14.index t (1 : Fin 5) * 8 + 1 * h.val = h.val; omega
  | ⟨2, _⟩ => show win0_14.index t (2 : Fin 5) * 1 + 1 * 0 = t.val % 8; omega
  | ⟨3, _⟩ => show win0_14.index t (3 : Fin 5) * 128 + 1 * d.val = d.val; omega
  | ⟨4, _⟩ => show win0_14.index t (4 : Fin 5) * 256 + 1 * q.val = q.val; omega

theorem cut14 (t : Fin cfg0.N) (x : Vec Ideal S1x8x1x128x256 .bf16) (y : S1x8x1x128x256.Idx) : (cfg0.win 14).cut (grid0.coords t) x y = x y := rfl

theorem read14 (t : Fin cfg0.N) (z : S4x8x8x128x256.Idx → Elt Ideal .bf16) (y : S1x8x1x128x256.Idx) : ((cfg0.win 14).blk t).view.read (Elt Ideal) z y = z (((cfg0.win 14).blk t).view.emb y) := rfl

theorem flushed14_eq (t : Fin cfg0.N) : (dats m 0 c).flushed 14 t = ((cfg0.win 14).blk t).view.read (Elt Ideal) (G14 m c) := by
  rw [flushed14]
  funext (y : S1x8x1x128x256.Idx)
  obtain ⟨h, hh⟩ : ∃ h : Fin 8, h = y 1 := ⟨_, rfl⟩
  obtain ⟨d, hd⟩ : ∃ d : Fin 128, d = y 3 := ⟨_, rfl⟩
  obtain ⟨q, hq⟩ : ∃ q : Fin 256, q = y 4 := ⟨_, rfl⟩
  have h0 : (y 0).val < 1 := (y 0).isLt
  have h2 : (y 2).val < 1 := (y 2).isLt
  have ey : y = ix5 0 h 0 d q := funext fun a => by
    match a with
    | ⟨0, _⟩ => exact Fin.ext (show (y 0).val = 0 by omega)
    | ⟨1, _⟩ => exact hh.symm
    | ⟨2, _⟩ => exact Fin.ext (show (y 2).val = 0 by omega)
    | ⟨3, _⟩ => exact hd.symm
    | ⟨4, _⟩ => exact hq.symm
  refine (cut14 t (O14 m c t) y).trans ?_
  refine Eq.trans ?_ (read14 t (G14 m c) y).symm
  have e := (oblk14 t h d q).symm.trans (congrArg ((cfg0.win 14).blk t).view.emb ey.symm)
  exact (congrArg (O14 m c t) ey).trans ((out14 m c t h d q).trans (congrArg (G14 m c) e))

theorem covered14 (i : S4x8x8x128x256.Idx) : ∃ t : Fin cfg0.N, (cfg0.win 14).flush t = true ∧ i ∈ ((cfg0.win 14).blk t).view.set := by
  have h0 : (i 0).val < 4 := (i 0).isLt
  have h2 : (i 2).val < 8 := (i 2).isLt
  obtain ⟨t, ht⟩ : ∃ t : Fin cfg0.N, t.val = (i 0).val * 8 + (i 2).val := ⟨⟨_, by show _ < 32; omega⟩, rfl⟩
  obtain ⟨p, hp⟩ : ∃ p : Fin 8, p = i 1 := ⟨_, rfl⟩
  obtain ⟨d, hd⟩ : ∃ d : Fin 128, d = i 3 := ⟨_, rfl⟩
  obtain ⟨q, hq⟩ : ∃ q : Fin 256, q = i 4 := ⟨_, rfl⟩
  have h : ((cfg0.win 14).blk t).view.emb (ix5 0 p 0 d q) ∈ ((cfg0.win 14).blk t).view.set := View.emb_mem_set _ _
  rw [oblk14] at h
  refine ⟨t, flush0_14 _, ?_⟩
  have e : (ix5 (batch t) p (chunk t) d q : S4x8x8x128x256.Idx) = i := by
    refine funext fun a => ?_
    match a with
    | ⟨0, _⟩ => exact Fin.ext (show t.val / 8 = (i 0).val by omega)
    | ⟨1, _⟩ => exact hp
    | ⟨2, _⟩ => exact Fin.ext (show t.val % 8 = (i 2).val by omega)
    | ⟨3, _⟩ => exact hd
    | ⟨4, _⟩ => exact hq
  exact (congrArg (· ∈ ((cfg0.win 14).blk t).view.set) e).mp h

theorem final12 : (dats m 0 c).arrAt 12 cfg0.N = G12 m c :=
  (dats m 0 c).arrAt_eq_of_cover 12 (G12 m c) (fun t _ => flushed12_eq m c t) covered12
theorem final13 : (dats m 0 c).arrAt 13 cfg0.N = G13 m c :=
  (dats m 0 c).arrAt_eq_of_cover 13 (G13 m c) (fun t _ => flushed13_eq m c t) covered13
theorem final14 : (dats m 0 c).arrAt 14 cfg0.N = G14 m c :=
  (dats m 0 c).arrAt_eq_of_cover 14 (G14 m c) (fun t _ => flushed14_eq m c t) covered14

/-- From arguments that agree, the kernel and the reference end with the same queries, keys and values. -/
theorem value : Cert.algebraic_PrepIdeal_PrepRefIdeal := by
  intro m g m' g' _ hag
  refine ⟨fun c => Cert.PrepFinal.G12 m c, fun c => Cert.PrepFinal.G13 m c, fun c => Cert.PrepFinal.G14 m c,
    (θ_run _ _ _).mono (fun _ h c => ⟨(h c).1.trans (final12 m c), (h c).2.1.trans (final13 m c), (h c).2.2.1.trans (final14 m c), (h c).2.2.2⟩)
      (Cert.PrepIdeal.Value.run_blocks m g), ?_⟩
  refine (θ_run (Cert.PrepRefIdeal.defs (F := Ideal)) _ _).mono (fun r h c => ?_) (Cert.PrepRefIdeal.Value.run (F := Ideal) m' g')
  obtain ⟨h0, h1, h2, h3, h4, h5, h6, h7⟩ := hag c
  refine ⟨(h c).1.trans ((Cert.PrepRefIdeal.Read.val_main_v135_eq m' c).trans ?_), (h c).2.1.trans ((Cert.PrepRefIdeal.Read.val_main_v138_eq m' c).trans ?_),
    (h c).2.2.1.trans ((Cert.PrepRefIdeal.Read.val_main_v141_eq _ _ _).trans ?_), (h c).2.2.2⟩
  · rw [h0, h1, h2, h4, h6]
  · rw [h0, h1, h3, h5, h7]
  · rw [h0, h3, h5]

/-- The reference runs, keeps its arguments, and declares no semaphore. -/
theorem ref_frame : Cert.quiescent_PrepRefIdeal := fun m ρ _ =>
  (θ_run (Cert.PrepRefIdeal.defs (F := Ideal)) _ _).mono (fun r h => ⟨fun c => (h c).2.2.2, sem_eq_zero_of_no_sems (by decide) r.2⟩)
    (Cert.PrepRefIdeal.Value.run (F := Ideal) m ρ)

end Cert.PrepFinal

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Pre_finite_qk
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.InMain
public import proofs.«01_k».proof.Proof.Gen.InMain.Skeleton
public import proofs.«01_k».proof.Proof.Gen.InMain.Launch
public import proofs.«01_k».proof.Proof.Gen.InMain.Points
public import proofs.«01_k».proof.Proof.Gen.InMain.Frame
public import proofs.«01_k».proof.Proof.Gen.InMainIdeal
public import proofs.«01_k».proof.Proof.Gen.InMainIdeal.Skeleton
public import proofs.«01_k».proof.Proof.Gen.InMainIdeal.Launch
public import proofs.«01_k».proof.Proof.Gen.InMainIdeal.Points
public import proofs.«01_k».proof.Proof.Gen.InMainIdeal.Frame
public import proofs.«01_k».proof.Proof.Gen.InMainIdeal.Value
public import proofs.«01_k».proof.Proof.Gen.InMainRefIdeal
public import proofs.«01_k».proof.Proof.Gen.InMainRefIdeal.Run
public import proofs.«01_k».proof.Proof.Gen.InMainRefIdeal.Read
public import proofs.«01_k».proof.Proof.Gen.InIdx
public import proofs.«01_k».proof.Proof.Gen.InIdx.Skeleton
public import proofs.«01_k».proof.Proof.Gen.InIdx.Launch
public import proofs.«01_k».proof.Proof.Gen.InIdx.Points
public import proofs.«01_k».proof.Proof.Gen.InIdx.Frame
public import proofs.«01_k».proof.Proof.Gen.InIdxIdeal
public import proofs.«01_k».proof.Proof.Gen.InIdxIdeal.Skeleton
public import proofs.«01_k».proof.Proof.Gen.InIdxIdeal.Launch
public import proofs.«01_k».proof.Proof.Gen.InIdxIdeal.Points
public import proofs.«01_k».proof.Proof.Gen.InIdxIdeal.Frame
public import proofs.«01_k».proof.Proof.Gen.InIdxIdeal.Value
public import proofs.«01_k».proof.Proof.Gen.InIdxRefIdeal
public import proofs.«01_k».proof.Proof.Gen.InIdxRefIdeal.Run
public import proofs.«01_k».proof.Proof.Gen.InIdxRefIdeal.Read
public import proofs.«01_k».proof.Proof.Gen.InMla
public import proofs.«01_k».proof.Proof.Gen.InMla.Skeleton
public import proofs.«01_k».proof.Proof.Gen.InMla.Launch
public import proofs.«01_k».proof.Proof.Gen.InMla.Points
public import proofs.«01_k».proof.Proof.Gen.InMla.Frame
public import proofs.«01_k».proof.Proof.Gen.InMlaIdeal
public import proofs.«01_k».proof.Proof.Gen.InMlaIdeal.Skeleton
public import proofs.«01_k».proof.Proof.Gen.InMlaIdeal.Launch
public import proofs.«01_k».proof.Proof.Gen.InMlaIdeal.Points
public import proofs.«01_k».proof.Proof.Gen.InMlaIdeal.Frame
public import proofs.«01_k».proof.Proof.Gen.InMlaIdeal.Value
public import proofs.«01_k».proof.Proof.Gen.InMlaRefIdeal
public import proofs.«01_k».proof.Proof.Gen.InMlaRefIdeal.Run
public import proofs.«01_k».proof.Proof.Gen.InMlaRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.PleRefIdeal.Read
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal
public import proofs.«01_k».proof.Proof.Gen.MoeRefIdeal.Run
public import proofs.«01_k».proof.Proof.Gen.MoeRefIdeal.Read
public import proofs.«01_k».proof.Proof.Gen.Dense
public import proofs.«01_k».proof.Proof.Gen.Dense.Skeleton
public import proofs.«01_k».proof.Proof.Gen.Dense.Launch
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseRefIdeal
public import proofs.«01_k».proof.Proof.Gen.DenseRefIdeal.Run
public import proofs.«01_k».proof.Proof.Gen.DenseRefIdeal.Read
public import proofs.«01_k».proof.Proof.Gen.Values
public import proofs.«01_k».proof.Proof.Gen.Values.Skeleton
public import proofs.«01_k».proof.Proof.Gen.Values.Launch
public import proofs.«01_k».proof.Proof.Gen.Values.Points
public import proofs.«01_k».proof.Proof.Gen.Values.Frame
public import proofs.«01_k».proof.Proof.Gen.ValuesIdeal
public import proofs.«01_k».proof.Proof.Gen.ValuesIdeal.Skeleton
public import proofs.«01_k».proof.Proof.Gen.ValuesIdeal.Launch
public import proofs.«01_k».proof.Proof.Gen.ValuesIdeal.Points
public import proofs.«01_k».proof.Proof.Gen.ValuesIdeal.Frame
public import proofs.«01_k».proof.Proof.Gen.ValuesIdeal.Value
public import proofs.«01_k».proof.Proof.Gen.ValuesRefIdeal
public import proofs.«01_k».proof.Proof.Gen.ValuesRefIdeal.Run
public import proofs.«01_k».proof.Proof.Gen.ValuesRefIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.AttnFinal
public import proofs.«01_k».proof.Proof.Gen.Pre_experts_exist
public import proofs.«01_k».proof.Proof.MergeFinal
public import proofs.«01_k».proof.Proof.InMainFinal
public import proofs.«01_k».proof.Proof.InIdxFinal
public import proofs.«01_k».proof.Proof.InMlaFinal
public import proofs.«01_k».proof.Proof.OutFinal
public import proofs.«01_k».proof.Proof.PleFinal
public import proofs.«01_k».proof.Proof.MoeFinal
public import proofs.«01_k».proof.Proof.DenseFinal
public import proofs.«01_k».proof.Proof.ValuesFinal
public import proofs.«01_k».proof.Proof.PrepFinal
public import Idealize.ShloMosaic.Adequacy
public import Idealize.ShloMosaic.Init

@[expose] public section

noncomputable section

namespace Cert.Proof

open Idealize.ShloMosaic Idealize.SL.Sem Cert.Attn

/-- From arguments that agree, with real queries and keys, the attention kernel and the plain softmax attention end with the same array. -/
theorem attention : Cert.algebraic_AttnIdeal_AttnRefIdeal_pre_finite_qk := by
  intro m g m' g' hpre hag
  have hr : ∀ c, Cert.AttnFinal.RealQK m c := fun c => Cert.AttnRef.finite_of_pre _ _ _ (hpre c)
  refine ⟨fun c => Cert.AttnFinal.G m c, Cert.AttnFinal.run m g hr, ?_⟩
  refine (θ_run (Cert.AttnRefIdeal.defs (F := Ideal)) _ _).mono (fun r h c => ?_) (Cert.AttnRefIdeal.Value.run (F := Ideal) m' g')
  refine ⟨(h c).1.trans ((Cert.AttnRefIdeal.Read.val_main_v30_eq m' c).trans ?_), (h c).2⟩
  rw [(hag c).1, (hag c).2.1, (hag c).2.2]

/-- The plain softmax attention runs, keeps its arguments, and declares no semaphore. -/
theorem attention_ref_frame : Cert.quiescent_AttnRefIdeal := fun m ρ _ =>
  (θ_run (Cert.AttnRefIdeal.defs (F := Ideal)) _ _).mono (fun r h => ⟨fun c => (h c).2, sem_eq_zero_of_no_sems (by decide) r.2⟩)
    (Cert.AttnRefIdeal.Value.run (F := Ideal) m ρ)

/-- Every claim of the certificate. -/
theorem claim : Cert.Claim := ⟨Cert.Attn.Gen.facts, Cert.AttnIdeal.Gen.facts, Cert.AttnRefIdeal.Gen.facts,
  Cert.Merge.Gen.facts, Cert.MergeIdeal.Gen.facts, Cert.MergeRefIdeal.Gen.facts,
  Cert.InMain.Gen.facts, Cert.InMainIdeal.Gen.facts, Cert.InMainRefIdeal.Gen.facts,
  Cert.InIdx.Gen.facts, Cert.InIdxIdeal.Gen.facts, Cert.InIdxRefIdeal.Gen.facts,
  Cert.InMla.Gen.facts, Cert.InMlaIdeal.Gen.facts, Cert.InMlaRefIdeal.Gen.facts,
  Cert.Out.Gen.facts, Cert.OutIdeal.Gen.facts, Cert.OutRefIdeal.Gen.facts,
  Cert.Ple.Gen.facts, Cert.PleIdeal.Gen.facts, Cert.PleRefIdeal.Gen.facts,
  Cert.Moe.Gen.facts, Cert.MoeIdeal.Gen.facts, Cert.MoeRefIdeal.Gen.facts,
  Cert.Dense.Gen.facts, Cert.DenseIdeal.Gen.facts, Cert.DenseRefIdeal.Gen.facts,
  Cert.Values.Gen.facts, Cert.ValuesIdeal.Gen.facts, Cert.ValuesRefIdeal.Gen.facts,
  Cert.Prep.Gen.facts, Cert.PrepIdeal.Gen.facts, Cert.PrepRefIdeal.Gen.facts,
  Cert.Pre_finite_qk.Gen.facts, Cert.Pre_experts_exist.Gen.facts,
  fun m ρ _ => Cert.Attn.Gen.frame m ρ, fun m ρ _ => Cert.AttnIdeal.Gen.frame m ρ, fun m ρ _ => Cert.AttnIdeal.Gen.frame m ρ,
  attention_ref_frame, fun m ρ _ => attention_ref_frame m ρ trivial,
  fun m ρ _ => Cert.Merge.Gen.frame m ρ, fun m ρ _ => Cert.MergeIdeal.Gen.frame m ρ, Cert.MergeFinal.ref_frame,
  fun m ρ _ => Cert.InMain.Gen.frame m ρ, fun m ρ _ => Cert.InMainIdeal.Gen.frame m ρ, Cert.InMainFinal.ref_frame,
  fun m ρ _ => Cert.InIdx.Gen.frame m ρ, fun m ρ _ => Cert.InIdxIdeal.Gen.frame m ρ, Cert.InIdxFinal.ref_frame,
  fun m ρ _ => Cert.InMla.Gen.frame m ρ, fun m ρ _ => Cert.InMlaIdeal.Gen.frame m ρ, Cert.InMlaFinal.ref_frame,
  fun m ρ _ => Cert.Out.Gen.frame m ρ, fun m ρ _ => Cert.OutIdeal.Gen.frame m ρ, Cert.OutFinal.ref_frame,
  fun m ρ _ => Cert.Ple.Gen.frame m ρ, fun m ρ _ => Cert.PleIdeal.Gen.frame m ρ, Cert.PleFinal.ref_frame,
  Cert.Experts.frame_bits, Cert.Experts.frame_ideal, Cert.MoeFinal.ref_frame, fun m ρ _ => Cert.MoeFinal.ref_frame m ρ trivial,
  Cert.DenseFinal.frame_bits, Cert.DenseFinal.frame_ideal, Cert.DenseFinal.ref_frame,
  fun m ρ _ => Cert.Values.Gen.frame m ρ, fun m ρ _ => Cert.ValuesIdeal.Gen.frame m ρ, Cert.ValuesFinal.ref_frame,
  fun m ρ _ => Cert.Prep.Gen.frame m ρ, fun m ρ _ => Cert.PrepIdeal.Gen.frame m ρ, Cert.PrepFinal.ref_frame,
  IdealRules.named_const.statement Cert.AttnIdeal.κ "scale_log2e" .f32 0x3DD53B95#32 _ rfl, attention,
  trivial, Cert.MergeFinal.value,
  trivial, Cert.InMainFinal.value,
  trivial, Cert.InIdxFinal.value,
  trivial, Cert.InMlaFinal.value,
  trivial, Cert.OutFinal.value,
  trivial, Cert.PleFinal.value,
  trivial, Cert.MoeFinal.value,
  trivial, Cert.DenseFinal.value,
  trivial, Cert.ValuesFinal.value,
  IdealRules.named_const.statement Cert.PrepIdeal.κ "inv_mla_qk" .f32 0x3BAAAAAB#32 _ rfl, Cert.PrepFinal.value⟩

end Cert.Proof

end
